-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gates [hPre_finite_gates : Cert.Pre_finite_gates.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gates [hPre_finite_gates : Cert.Pre_finite_gates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_out [hPre_finite_out : Cert.Pre_finite_out.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_out.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_out [hPre_finite_out : Cert.Pre_finite_out.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_out.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_prompt_gates [hPre_finite_prompt_gates : Cert.Pre_finite_prompt_gates.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_prompt_gates.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_prompt_gates [hPre_finite_prompt_gates : Cert.Pre_finite_prompt_gates.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_prompt_gates.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_prompt_out [hPre_finite_prompt_out : Cert.Pre_finite_prompt_out.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_prompt_out.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_prompt_out [hPre_finite_prompt_out : Cert.Pre_finite_prompt_out.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_prompt_out.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_mod [hPre_finite_mod : Cert.Pre_finite_mod.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_mod.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_mod [hPre_finite_mod : Cert.Pre_finite_mod.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_mod.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_table [hPre_finite_table : Cert.Pre_finite_table.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_table.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_table [hPre_finite_table : Cert.Pre_finite_table.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_table.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_hyena [hPre_finite_hyena : Cert.Pre_finite_hyena.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_hyena.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_hyena [hPre_finite_hyena : Cert.Pre_finite_hyena.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_hyena.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_sample_hyena [hPre_finite_sample_hyena : Cert.Pre_finite_sample_hyena.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_sample_hyena.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_sample_hyena [hPre_finite_sample_hyena : Cert.Pre_finite_sample_hyena.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_sample_hyena.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_gates [hKernelIdeal : Cert.KernelIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_gates [hReferenceIdeal : Cert.ReferenceIdeal.Facts] [hPre_finite_gates : Cert.Pre_finite_gates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite_out [hKernel2Ideal : Cert.Kernel2Ideal.Facts] [hPre_finite_out : Cert.Pre_finite_out.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_out m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite_out [hReference2Ideal : Cert.Reference2Ideal.Facts] [hPre_finite_out : Cert.Pre_finite_out.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_out m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Kernel4Ideal_pre_finite_prompt_gates [hKernel4Ideal : Cert.Kernel4Ideal.Facts] [hPre_finite_prompt_gates : Cert.Pre_finite_prompt_gates.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_prompt_gates m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Reference4Ideal_pre_finite_prompt_gates [hReference4Ideal : Cert.Reference4Ideal.Facts] [hPre_finite_prompt_gates : Cert.Pre_finite_prompt_gates.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_prompt_gates m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Kernel6Ideal_pre_finite_prompt_out [hKernel6Ideal : Cert.Kernel6Ideal.Facts] [hPre_finite_prompt_out : Cert.Pre_finite_prompt_out.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_prompt_out m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Reference6Ideal_pre_finite_prompt_out [hReference6Ideal : Cert.Reference6Ideal.Facts] [hPre_finite_prompt_out : Cert.Pre_finite_prompt_out.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_prompt_out m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite_mod [hKernel7Ideal : Cert.Kernel7Ideal.Facts] [hPre_finite_mod : Cert.Pre_finite_mod.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_mod m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite_mod [hReference7Ideal : Cert.Reference7Ideal.Facts] [hPre_finite_mod : Cert.Pre_finite_mod.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_mod m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Kernel8Ideal_pre_finite_table [hKernel8Ideal : Cert.Kernel8Ideal.Facts] [hPre_finite_table : Cert.Pre_finite_table.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_table m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Reference8Ideal_pre_finite_table [hReference8Ideal : Cert.Reference8Ideal.Facts] [hPre_finite_table : Cert.Pre_finite_table.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_table m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Kernel9Ideal_pre_finite_hyena [hKernel9Ideal : Cert.Kernel9Ideal.Facts] [hPre_finite_hyena : Cert.Pre_finite_hyena.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_hyena m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Reference9Ideal_pre_finite_hyena [hReference9Ideal : Cert.Reference9Ideal.Facts] [hPre_finite_hyena : Cert.Pre_finite_hyena.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_hyena m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Kernel10Ideal_pre_finite_sample_hyena [hKernel10Ideal : Cert.Kernel10Ideal.Facts] [hPre_finite_sample_hyena : Cert.Pre_finite_sample_hyena.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_sample_hyena m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Reference10Ideal_pre_finite_sample_hyena [hReference10Ideal : Cert.Reference10Ideal.Facts] [hPre_finite_sample_hyena : Cert.Pre_finite_sample_hyena.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_sample_hyena m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def preserves_Kernel_KernelIdeal : Prop :=
  True

def algebraic_KernelIdeal_ReferenceIdeal_pre_finite_gates [hKernelIdeal : Cert.KernelIdeal.Facts] [hReferenceIdeal : Cert.ReferenceIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal_pre_finite_out [hKernel2Ideal : Cert.Kernel2Ideal.Facts] [hReference2Ideal : Cert.Reference2Ideal.Facts] [hPre_finite_out : Cert.Pre_finite_out.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_out m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)) (v2 : (c : Dev Cert.Kernel2Ideal.nD) → Buf (Elt Ideal) ((c.tc : Thread Cert.Kernel2Ideal.nD Cert.Kernel2Ideal.τ).loc Cert.Kernel2Ideal.main_v14_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_v14_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_v57) = v1 c
          ∧ r.2.mem ((c.tc : Thread Cert.Reference2Ideal.nD Cert.Reference2Ideal.τ).loc Cert.Reference2Ideal.main_v59) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)) (v2 : (c : Dev Cert.Kernel3Ideal.nD) → Buf (Elt Ideal) ((c.tc : Thread Cert.Kernel3Ideal.nD Cert.Kernel3Ideal.τ).loc Cert.Kernel3Ideal.main_v12_2)) (v3 : (c : Dev Cert.Kernel3Ideal.nD) → Buf (Elt Ideal) ((c.tc : Thread Cert.Kernel3Ideal.nD Cert.Kernel3Ideal.τ).loc Cert.Kernel3Ideal.main_v12_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_v12_2) = v2 c
          ∧ r.2.mem ((c.tc : Thread Cert.Kernel3Ideal.nD Cert.Kernel3Ideal.τ).loc Cert.Kernel3Ideal.main_v12_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_v33) = v2 c
          ∧ r.2.mem ((c.tc : Thread Cert.Reference3Ideal.nD Cert.Reference3Ideal.τ).loc Cert.Reference3Ideal.main_v34) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite_prompt_gates [hKernel4Ideal : Cert.Kernel4Ideal.Facts] [hReference4Ideal : Cert.Reference4Ideal.Facts] [hPre_finite_prompt_gates : Cert.Pre_finite_prompt_gates.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_prompt_gates m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v12_0)) (v1 : (c : Dev Cert.Kernel5Ideal.nD) → Buf (Elt Ideal) ((c.tc : Thread Cert.Kernel5Ideal.nD Cert.Kernel5Ideal.τ).loc Cert.Kernel5Ideal.main_v12_1)) (v2 : (c : Dev Cert.Kernel5Ideal.nD) → Buf (Elt Ideal) ((c.tc : Thread Cert.Kernel5Ideal.nD Cert.Kernel5Ideal.τ).loc Cert.Kernel5Ideal.main_v12_2)) (v3 : (c : Dev Cert.Kernel5Ideal.nD) → Buf (Elt Ideal) ((c.tc : Thread Cert.Kernel5Ideal.nD Cert.Kernel5Ideal.τ).loc Cert.Kernel5Ideal.main_v12_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_0) = v0 c
          ∧ r.2.mem ((c.tc : Thread Cert.Kernel5Ideal.nD Cert.Kernel5Ideal.τ).loc Cert.Kernel5Ideal.main_v12_1) = v1 c
          ∧ r.2.mem ((c.tc : Thread Cert.Kernel5Ideal.nD Cert.Kernel5Ideal.τ).loc Cert.Kernel5Ideal.main_v12_2) = v2 c
          ∧ r.2.mem ((c.tc : Thread Cert.Kernel5Ideal.nD Cert.Kernel5Ideal.τ).loc Cert.Kernel5Ideal.main_v12_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_v31) = v1 c
          ∧ r.2.mem ((c.tc : Thread Cert.Reference5Ideal.nD Cert.Reference5Ideal.τ).loc Cert.Reference5Ideal.main_v33) = v2 c
          ∧ r.2.mem ((c.tc : Thread Cert.Reference5Ideal.nD Cert.Reference5Ideal.τ).loc Cert.Reference5Ideal.main_v34) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite_prompt_out [hKernel6Ideal : Cert.Kernel6Ideal.Facts] [hReference6Ideal : Cert.Reference6Ideal.Facts] [hPre_finite_prompt_out : Cert.Pre_finite_prompt_out.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_prompt_out m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v14_0)) (v1 : (c : Dev Cert.Kernel6Ideal.nD) → Buf (Elt Ideal) ((c.tc : Thread Cert.Kernel6Ideal.nD Cert.Kernel6Ideal.τ).loc Cert.Kernel6Ideal.main_v14_1)) (v2 : (c : Dev Cert.Kernel6Ideal.nD) → Buf (Elt Ideal) ((c.tc : Thread Cert.Kernel6Ideal.nD Cert.Kernel6Ideal.τ).loc Cert.Kernel6Ideal.main_v14_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14_0) = v0 c
          ∧ r.2.mem ((c.tc : Thread Cert.Kernel6Ideal.nD Cert.Kernel6Ideal.τ).loc Cert.Kernel6Ideal.main_v14_1) = v1 c
          ∧ r.2.mem ((c.tc : Thread Cert.Kernel6Ideal.nD Cert.Kernel6Ideal.τ).loc Cert.Kernel6Ideal.main_v14_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v56) = v0 c
          ∧ r.2.mem ((c.tc : Thread Cert.Reference6Ideal.nD Cert.Reference6Ideal.τ).loc Cert.Reference6Ideal.main_v57) = v1 c
          ∧ r.2.mem ((c.tc : Thread Cert.Reference6Ideal.nD Cert.Reference6Ideal.τ).loc Cert.Reference6Ideal.main_v59) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal_pre_finite_mod [hKernel7Ideal : Cert.Kernel7Ideal.Facts] [hReference7Ideal : Cert.Reference7Ideal.Facts] [hPre_finite_mod : Cert.Pre_finite_mod.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_mod m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite_table [hKernel8Ideal : Cert.Kernel8Ideal.Facts] [hReference8Ideal : Cert.Reference8Ideal.Facts] [hPre_finite_table : Cert.Pre_finite_table.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_table m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v10_0)) (v1 : (c : Dev Cert.Kernel8Ideal.nD) → Buf (Elt Ideal) ((c.tc : Thread Cert.Kernel8Ideal.nD Cert.Kernel8Ideal.τ).loc Cert.Kernel8Ideal.main_v10_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10_0) = v0 c
          ∧ r.2.mem ((c.tc : Thread Cert.Kernel8Ideal.nD Cert.Kernel8Ideal.τ).loc Cert.Kernel8Ideal.main_v10_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v95) = v0 c
          ∧ r.2.mem ((c.tc : Thread Cert.Reference8Ideal.nD Cert.Reference8Ideal.τ).loc Cert.Reference8Ideal.main_v98) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal_pre_finite_hyena [hKernel9Ideal : Cert.Kernel9Ideal.Facts] [hReference9Ideal : Cert.Reference9Ideal.Facts] [hPre_finite_hyena : Cert.Pre_finite_hyena.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_hyena m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v8)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v89) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal_pre_finite_sample_hyena [hKernel10Ideal : Cert.Kernel10Ideal.Facts] [hReference10Ideal : Cert.Reference10Ideal.Facts] [hPre_finite_sample_hyena : Cert.Pre_finite_sample_hyena.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_sample_hyena m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v8)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v89) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_gates : Cert.Pre_finite_gates.Facts) (hPre_finite_out : Cert.Pre_finite_out.Facts) (hPre_finite_prompt_gates : Cert.Pre_finite_prompt_gates.Facts) (hPre_finite_prompt_out : Cert.Pre_finite_prompt_out.Facts) (hPre_finite_mod : Cert.Pre_finite_mod.Facts) (hPre_finite_table : Cert.Pre_finite_table.Facts) (hPre_finite_hyena : Cert.Pre_finite_hyena.Facts) (hPre_finite_sample_hyena : Cert.Pre_finite_sample_hyena.Facts),
    quiescent_Kernel (hKernel := hKernel)
    ∧ quiescent_KernelIdeal (hKernelIdeal := hKernelIdeal)
    ∧ quiescent_KernelIdeal_pre_finite_gates (hKernelIdeal := hKernelIdeal) (hPre_finite_gates := hPre_finite_gates)
    ∧ quiescent_ReferenceIdeal (hReferenceIdeal := hReferenceIdeal)
    ∧ quiescent_ReferenceIdeal_pre_finite_gates (hReferenceIdeal := hReferenceIdeal) (hPre_finite_gates := hPre_finite_gates)
    ∧ quiescent_Kernel2 (hKernel2 := hKernel2)
    ∧ quiescent_Kernel2Ideal (hKernel2Ideal := hKernel2Ideal)
    ∧ quiescent_Kernel2Ideal_pre_finite_out (hKernel2Ideal := hKernel2Ideal) (hPre_finite_out := hPre_finite_out)
    ∧ quiescent_Reference2Ideal (hReference2Ideal := hReference2Ideal)
    ∧ quiescent_Reference2Ideal_pre_finite_out (hReference2Ideal := hReference2Ideal) (hPre_finite_out := hPre_finite_out)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_prompt_gates (hKernel4Ideal := hKernel4Ideal) (hPre_finite_prompt_gates := hPre_finite_prompt_gates)
    ∧ quiescent_Reference4Ideal (hReference4Ideal := hReference4Ideal)
    ∧ quiescent_Reference4Ideal_pre_finite_prompt_gates (hReference4Ideal := hReference4Ideal) (hPre_finite_prompt_gates := hPre_finite_prompt_gates)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_prompt_out (hKernel6Ideal := hKernel6Ideal) (hPre_finite_prompt_out := hPre_finite_prompt_out)
    ∧ quiescent_Reference6Ideal (hReference6Ideal := hReference6Ideal)
    ∧ quiescent_Reference6Ideal_pre_finite_prompt_out (hReference6Ideal := hReference6Ideal) (hPre_finite_prompt_out := hPre_finite_prompt_out)
    ∧ quiescent_Kernel7 (hKernel7 := hKernel7)
    ∧ quiescent_Kernel7Ideal (hKernel7Ideal := hKernel7Ideal)
    ∧ quiescent_Kernel7Ideal_pre_finite_mod (hKernel7Ideal := hKernel7Ideal) (hPre_finite_mod := hPre_finite_mod)
    ∧ quiescent_Reference7Ideal (hReference7Ideal := hReference7Ideal)
    ∧ quiescent_Reference7Ideal_pre_finite_mod (hReference7Ideal := hReference7Ideal) (hPre_finite_mod := hPre_finite_mod)
    ∧ quiescent_Kernel8 (hKernel8 := hKernel8)
    ∧ quiescent_Kernel8Ideal (hKernel8Ideal := hKernel8Ideal)
    ∧ quiescent_Kernel8Ideal_pre_finite_table (hKernel8Ideal := hKernel8Ideal) (hPre_finite_table := hPre_finite_table)
    ∧ quiescent_Reference8Ideal (hReference8Ideal := hReference8Ideal)
    ∧ quiescent_Reference8Ideal_pre_finite_table (hReference8Ideal := hReference8Ideal) (hPre_finite_table := hPre_finite_table)
    ∧ quiescent_Kernel9 (hKernel9 := hKernel9)
    ∧ quiescent_Kernel9Ideal (hKernel9Ideal := hKernel9Ideal)
    ∧ quiescent_Kernel9Ideal_pre_finite_hyena (hKernel9Ideal := hKernel9Ideal) (hPre_finite_hyena := hPre_finite_hyena)
    ∧ quiescent_Reference9Ideal (hReference9Ideal := hReference9Ideal)
    ∧ quiescent_Reference9Ideal_pre_finite_hyena (hReference9Ideal := hReference9Ideal) (hPre_finite_hyena := hPre_finite_hyena)
    ∧ quiescent_Kernel10 (hKernel10 := hKernel10)
    ∧ quiescent_Kernel10Ideal (hKernel10Ideal := hKernel10Ideal)
    ∧ quiescent_Kernel10Ideal_pre_finite_sample_hyena (hKernel10Ideal := hKernel10Ideal) (hPre_finite_sample_hyena := hPre_finite_sample_hyena)
    ∧ quiescent_Reference10Ideal (hReference10Ideal := hReference10Ideal)
    ∧ quiescent_Reference10Ideal_pre_finite_sample_hyena (hReference10Ideal := hReference10Ideal) (hPre_finite_sample_hyena := hPre_finite_sample_hyena)
    ∧ preserves_Kernel_KernelIdeal
    ∧ algebraic_KernelIdeal_ReferenceIdeal_pre_finite_gates (hKernelIdeal := hKernelIdeal) (hReferenceIdeal := hReferenceIdeal) (hPre_finite_gates := hPre_finite_gates)
    ∧ preserves_Kernel2_Kernel2Ideal
    ∧ algebraic_Kernel2Ideal_Reference2Ideal_pre_finite_out (hKernel2Ideal := hKernel2Ideal) (hReference2Ideal := hReference2Ideal) (hPre_finite_out := hPre_finite_out)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_prompt_gates (hKernel4Ideal := hKernel4Ideal) (hReference4Ideal := hReference4Ideal) (hPre_finite_prompt_gates := hPre_finite_prompt_gates)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_prompt_out (hKernel6Ideal := hKernel6Ideal) (hReference6Ideal := hReference6Ideal) (hPre_finite_prompt_out := hPre_finite_prompt_out)
    ∧ preserves_Kernel7_Kernel7Ideal
    ∧ algebraic_Kernel7Ideal_Reference7Ideal_pre_finite_mod (hKernel7Ideal := hKernel7Ideal) (hReference7Ideal := hReference7Ideal) (hPre_finite_mod := hPre_finite_mod)
    ∧ preserves_Kernel8_Kernel8Ideal
    ∧ algebraic_Kernel8Ideal_Reference8Ideal_pre_finite_table (hKernel8Ideal := hKernel8Ideal) (hReference8Ideal := hReference8Ideal) (hPre_finite_table := hPre_finite_table)
    ∧ preserves_Kernel9_Kernel9Ideal
    ∧ algebraic_Kernel9Ideal_Reference9Ideal_pre_finite_hyena (hKernel9Ideal := hKernel9Ideal) (hReference9Ideal := hReference9Ideal) (hPre_finite_hyena := hPre_finite_hyena)
    ∧ preserves_Kernel10_Kernel10Ideal
    ∧ algebraic_Kernel10Ideal_Reference10Ideal_pre_finite_sample_hyena (hKernel10Ideal := hKernel10Ideal) (hReference10Ideal := hReference10Ideal) (hPre_finite_sample_hyena := hPre_finite_sample_hyena)
-- ==== Pre_finite_gates.lean ====
abbrev S8192x1024 : Shape := ⟨2, ![8192, 1024]⟩
abbrev S8192x128 : Shape := ⟨2, ![8192, 128]⟩
abbrev S8x6x1024 : Shape := ⟨3, ![8, 6, 1024]⟩
abbrev S64x1024x128 : Shape := ⟨3, ![64, 1024, 128]⟩
abbrev S64x128x1024 : Shape := ⟨3, ![64, 128, 1024]⟩
abbrev S1024x128 : Shape := ⟨2, ![1024, 128]⟩
abbrev S128x1024 : Shape := ⟨2, ![128, 1024]⟩
abbrev S1024 : Shape := ⟨1, ![1024]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x1024 .bf16) (main_arg1 : FVec F S8192x128 .f32) (main_arg2 : FVec F S8192x1024 .f32) (main_arg3 : FVec F S8x6x1024 .f32) (main_arg4 : FVec F S64x1024x128 .f32) (main_arg5 : FVec F S64x1024x128 .f32) (main_arg6 : FVec F S64x128x1024 .f32) (main_arg7 : FVec F S1024x128 .f32) (main_arg8 : FVec F S1024x128 .f32) (main_arg9 : FVec F S128x1024 .f32) (main_arg10 : FVec F S1024 .f32) : IVec S_ 1 :=
  let main_v0 : FVec F S8192x128 .f32 := Host.absf main_arg1
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Pre_finite_hyena.lean ====
abbrev S32x256x768 : Shape := ⟨3, ![32, 256, 768]⟩
abbrev S3x768 : Shape := ⟨2, ![3, 768]⟩
abbrev S2x256x256 : Shape := ⟨3, ![2, 256, 256]⟩
abbrev S2x256 : Shape := ⟨2, ![2, 256]⟩
abbrev S512x256 : Shape := ⟨2, ![512, 256]⟩
abbrev S256x512 : Shape := ⟨2, ![256, 512]⟩
abbrev S_ : Shape := ⟨0, ![]⟩

class Facts : Prop where
  bcast_S_S32x256x768 : S_.BroadcastsInDim S32x256x768 (![] : Fin 0 → Fin S32x256x768.rank)
  reducesTo_S32x256x768_S_d0_1_2 : S32x256x768.ReducesTo [0, 1, 2] S_
  h_S_ : 0 < S_.numel
  bcast_S_S3x768 : S_.BroadcastsInDim S3x768 (![] : Fin 0 → Fin S3x768.rank)
  reducesTo_S3x768_S_d0_1 : S3x768.ReducesTo [0, 1] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_
  bcast_S_S512x256 : S_.BroadcastsInDim S512x256 (![] : Fin 0 → Fin S512x256.rank)
  reducesTo_S512x256_S_d0_1 : S512x256.ReducesTo [0, 1] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_arg4 : FVec F S2x256 .f32) (main_arg5 : FVec F S512x256 .f32) (main_arg6 : FVec F S256x512 .f32) (main_v13 : IVec S_ 1) (main_v16 : IVec S2x256x256 1) : IVec S_ 1 :=
  let main_c_5 : IVec S_ 1 := constantI S_ 1 1#1
  let main_v17 : IVec S_ 1 := (fun x v => Host.reduce IntOp.andi x v reducesTo_S2x256x256_S_d0_1_2 h_S_) main_v16 main_c_5
  let main_v18 : IVec S_ 1 := andi main_v13 main_v17
  let main_v19 : FVec F S2x256 .f32 := Host.absf main_arg4
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256x512 .f32 := Host.absf main_arg6
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  main_v33

def fn {F : FTy → Type} [FloatOps F] (main_arg0 : FVec F S32x256x768 .f32) (main_arg1 : FVec F S3x768 .f32) (main_arg2 : FVec F S2x256x256 .f32) (main_arg3 : FVec F S2x256x256 .f32) (main_arg4 : FVec F S2x256 .f32) (main_arg5 : FVec F S512x256 .f32) (main_arg6 : FVec F S256x512 .f32) : IVec S_ 1 :=
  let main_v0 : FVec F S32x256x768 .f32 := Host.absf main_arg0
  let main_cst : FVec F S_ .f32 := constant S_ .f32 0x7F800000#32
  let main_v1 : FVec F S32x256x768 .f32 := broadcastInDim S32x256x768 ![] bcast_S_S32x256x768 main_cst
  let main_v2 : IVec S32x256x768 1 := cmpf .olt main_v0 main_v1
  let main_c : IVec S_ 1 := constantI S_ 1 1#1
  let main_v3 : IVec S_ 1 := (fun x v => Host.reduce IntOp.andi x v reducesTo_S32x256x768_S_d0_1_2 h_S_) main_v2 main_c
  let main_v4 : FVec F S3x768 .f32 := Host.absf main_arg1
  let main_cst_0 : FVec F S_ .f32 := constant S_ .f32 0x7F800000#32
  let main_v5 : FVec F S3x768 .f32 := broadcastInDim S3x768 ![] bcast_S_S3x768 main_cst_0
  let main_v6 : IVec S3x768 1 := cmpf .olt main_v4 main_v5
  let main_c_1 : IVec S_ 1 := constantI S_ 1 1#1
  let main_v7 : IVec S_ 1 := (fun x v => Host.reduce IntOp.andi x v reducesTo_S3x768_S_d0_1 h_S_) main_v6 main_c_1
  let main_v8 : IVec S_ 1 := andi main_v3 main_v7
  let main_v9 : FVec F S2x256x256 .f32 := Host.absf main_arg2
  let main_cst_2 : FVec F S_ .f32 := constant S_ .f32 0x7F800000#32
  let main_v10 : FVec F S2x256x256 .f32 := broadcastInDim S2x256x256 ![] bcast_S_S2x256x256 main_cst_2
  let main_v11 : IVec S2x256x256 1 := cmpf .olt main_v9 main_v10
  let main_c_3 : IVec S_ 1 := constantI S_ 1 1#1
  let main_v12 : IVec S_ 1 := (fun x v => Host.reduce IntOp.andi x v reducesTo_S2x256x256_S_d0_1_2 h_S_) main_v11 main_c_3
  let main_v13 : IVec S_ 1 := andi main_v8 main_v12
  let main_v14 : FVec F S2x256x256 .f32 := Host.absf main_arg3
  let main_cst_4 : FVec F S_ .f32 := constant S_ .f32 0x7F800000#32
  let main_v15 : FVec F S2x256x256 .f32 := broadcastInDim S2x256x256 ![] bcast_S_S2x256x256 main_cst_4
  let main_v16 : IVec S2x256x256 1 := cmpf .olt main_v14 main_v15
  fn_part1 (F := F) main_arg4 main_arg5 main_arg6 main_v13 main_v16
-- ==== Pre_finite_mod.lean ====
abbrev S16x1024 : Shape := ⟨2, ![16, 1024]⟩
abbrev S1024x6144 : Shape := ⟨2, ![1024, 6144]⟩
abbrev S6144 : Shape := ⟨1, ![6144]⟩
abbrev S_ : Shape := ⟨0, ![]⟩

class Facts : Prop where
  bcast_S_S16x1024 : S_.BroadcastsInDim S16x1024 (![] : Fin 0 → Fin S16x1024.rank)
  reducesTo_S16x1024_S_d0_1 : S16x1024.ReducesTo [0, 1] S_
  h_S_ : 0 < S_.numel
  bcast_S_S1024x6144 : S_.BroadcastsInDim S1024x6144 (![] : Fin 0 → Fin S1024x6144.rank)
  reducesTo_S1024x6144_S_d0_1 : S1024x6144.ReducesTo [0, 1] S_

variable [Facts]

def fn {F : FTy → Type} [FloatOps F] (main_arg0 : FVec F S16x1024 .f32) (main_arg1 : FVec F S1024x6144 .f32) (main_arg2 : FVec F S6144 .f32) : IVec S_ 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_c : IVec S_ 1 := constantI S_ 1 1#1
  let main_v3 : IVec S_ 1 := (fun x v => Host.reduce IntOp.andi x v reducesTo_S16x1024_S_d0_1 h_S_) main_v2 main_c
  let main_v4 : FVec F S1024x6144 .f32 := Host.absf main_arg1
  let main_cst_0 : FVec F S_ .f32 := constant S_ .f32 0x7F800000#32
  let main_v5 : FVec F S1024x6144 .f32 := broadcastInDim S1024x6144 ![] bcast_S_S1024x6144 main_cst_0
  let main_v6 : IVec S1024x6144 1 := cmpf .olt main_v4 main_v5
  let main_c_1 : IVec S_ 1 := constantI S_ 1 1#1
  let main_v7 : IVec S_ 1 := (fun x v => Host.reduce IntOp.andi x v reducesTo_S1024x6144_S_d0_1 h_S_) main_v6 main_c_1
  let main_v8 : IVec S_ 1 := andi main_v3 main_v7
  main_v8
-- ==== Pre_finite_out.lean ====
abbrev S8192x1024 : Shape := ⟨2, ![8192, 1024]⟩
abbrev S8192x256 : Shape := ⟨2, ![8192, 256]⟩
abbrev S1024x1024 : Shape := ⟨2, ![1024, 1024]⟩
abbrev S8x6x1024 : Shape := ⟨3, ![8, 6, 1024]⟩
abbrev S1024 : Shape := ⟨1, ![1024]⟩
abbrev S1024x64 : Shape := ⟨2, ![1024, 64]⟩
abbrev S64 : Shape := ⟨1, ![64]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S8192x256 : S_.BroadcastsInDim S8192x256 (![] : Fin 0 → Fin S8192x256.rank)
  reducesTo_S8192x256_S_d0_1 : S8192x256.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S8x6x1024 : S_.BroadcastsInDim S8x6x1024 (![] : Fin 0 → Fin S8x6x1024.rank)
  reducesTo_S8x6x1024_S_d0_1_2 : S8x6x1024.ReducesTo [0, 1, 2] S_
  bcast_S_S1024 : S_.BroadcastsInDim S1024 (![] : Fin 0 → Fin S1024.rank)
  reducesTo_S1024_S_d0 : S1024.ReducesTo [0] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v47 : IVec S_ 1) (main_v51 : IVec S_ 1) : IVec S_ 1 :=
  let main_v52 : IVec S_ 1 := andi main_v47 main_v51
  main_v52

def fn_part2 {F : FTy → Type} [FloatOps F] (main_arg7 : FVec F S1024 .f32) (main_arg8 : FVec F S1024x64 .f32) (main_arg9 : FVec F S64 .f32) (main_v32 : IVec S_ 1) (main_v33 : FVec F S8x6x1024 .f32) (main_v34 : FVec F S8x6x1024 .f32) : IVec S_ 1 :=
  let main_v35 : IVec S8x6x1024 1 := cmpf .olt main_v33 main_v34
  let main_c_11 : IVec S_ 1 := constantI S_ 1 1#1
  let main_v36 : IVec S_ 1 := (fun x v => Host.reduce IntOp.andi x v reducesTo_S8x6x1024_S_d0_1_2 h_S_) main_v35 main_c_11
  let main_v37 : IVec S_ 1 := andi main_v32 main_v36
  let main_v38 : FVec F S1024 .f32 := Host.absf main_arg7
  let main_cst_12 : FVec F S_ .f32 := constant S_ .f32 0x7F800000#32
  let main_v39 : FVec F S1024 .f32 := broadcastInDim S1024 ![] bcast_S_S1024 main_cst_12
  let main_v40 : IVec S1024 1 := cmpf .olt main_v38 main_v39
  let main_c_13 : IVec S_ 1 := constantI S_ 1 1#1
  let main_v41 : IVec S_ 1 := (fun x v => Host.reduce IntOp.andi x v reducesTo_S1024_S_d0 h_S_) main_v40 main_c_13
  let main_v42 : IVec S_ 1 := andi main_v37 main_v41
  let main_v43 : FVec F S1024x64 .f32 := Host.absf main_arg8
  let main_cst_14 : FVec F S_ .f32 := constant S_ .f32 0x7F800000#32
  let main_v44 : FVec F S1024x64 .f32 := broadcastInDim S1024x64 ![] bcast_S_S1024x64 main_cst_14
  let main_v45 : IVec S1024x64 1 := cmpf .olt main_v43 main_v44
  let main_c_15 : IVec S_ 1 := constantI S_ 1 1#1
  let main_v46 : IVec S_ 1 := (fun x v => Host.reduce IntOp.andi x v reducesTo_S1024x64_S_d0_1 h_S_) main_v45 main_c_15
  let main_v47 : IVec S_ 1 := andi main_v42 main_v46
  let main_v48 : FVec F S64 .f32 := Host.absf main_arg9
  let main_cst_16 : FVec F S_ .f32 := constant S_ .f32 0x7F800000#32
  let main_v49 : FVec F S64 .f32 := broadcastInDim S64 ![] bcast_S_S64 main_cst_16
  let main_v50 : IVec S64 1 := cmpf .olt main_v48 main_v49
  let main_c_17 : IVec S_ 1 := constantI S_ 1 1#1
  let main_v51 : IVec S_ 1 := (fun x v => Host.reduce IntOp.andi x v reducesTo_S64_S_d0 h_S_) main_v50 main_c_17
  fn_part3 (F := F) main_v47 main_v51

def fn_part1 {F : FTy → Type} [FloatOps F] (main_arg4 : FVec F S8192x256 .bf16) (main_arg5 : FVec F S1024x1024 .f32) (main_arg6 : FVec F S8x6x1024 .f32) (main_arg7 : FVec F S1024 .f32) (main_arg8 : FVec F S1024x64 .f32) (main_arg9 : FVec F S64 .f32) (main_v15 : IVec S_ 1) (main_v17 : FVec F S8192x256 .f32) : IVec S_ 1 :=
  let main_cst_4 : FVec F S_ .f32 := constant S_ .f32 0x7F800000#32
  let main_v18 : FVec F S8192x256 .f32 := broadcastInDim S8192x256 ![] bcast_S_S8192x256 main_cst_4
  let main_v19 : IVec S8192x256 1 := cmpf .olt main_v17 main_v18
  let main_c_5 : IVec S_ 1 := constantI S_ 1 1#1
  let main_v20 : IVec S_ 1 := (fun x v => Host.reduce IntOp.andi x v reducesTo_S8192x256_S_d0_1 h_S_) main_v19 main_c_5
  let main_v21 : IVec S_ 1 := andi main_v15 main_v20
  let main_v22 : FVec F S8192x256 .f32 := (extf .f32 · bitsLt_bf16_f32) main_arg4
  let main_v23 : FVec F S8192x256 .f32 := Host.absf main_v22
  let main_cst_6 : FVec F S_ .f32 := constant S_ .f32 0x7F800000#32
  let main_v24 : FVec F S8192x256 .f32 := broadcastInDim S8192x256 ![] bcast_S_S8192x256 main_cst_6
  let main_v25 : IVec S8192x256 1 := cmpf .olt main_v23 main_v24
  let main_c_7 : IVec S_ 1 := constantI S_ 1 1#1
  let main_v26 : IVec S_ 1 := (fun x v => Host.reduce IntOp.andi x v reducesTo_S8192x256_S_d0_1 h_S_) main_v25 main_c_7
  let main_v27 : IVec S_ 1 := andi main_v21 main_v26
  let main_v28 : FVec F S1024x1024 .f32 := Host.absf main_arg5
  let main_cst_8 : FVec F S_ .f32 := constant S_ .f32 0x7F800000#32
  let main_v29 : FVec F S1024x1024 .f32 := broadcastInDim S1024x1024 ![] bcast_S_S1024x1024 main_cst_8
  let main_v30 : IVec S1024x1024 1 := cmpf .olt main_v28 main_v29
  let main_c_9 : IVec S_ 1 := constantI S_ 1 1#1
  let main_v31 : IVec S_ 1 := (fun x v => Host.reduce IntOp.andi x v reducesTo_S1024x1024_S_d0_1 h_S_) main_v30 main_c_9
  let main_v32 : IVec S_ 1 := andi main_v27 main_v31
  let main_v33 : FVec F S8x6x1024 .f32 := Host.absf main_arg6
  let main_cst_10 : FVec F S_ .f32 := constant S_ .f32 0x7F800000#32
  let main_v34 : FVec F S8x6x1024 .f32 := broadcastInDim S8x6x1024 ![] bcast_S_S8x6x1024 main_cst_10
  fn_part2 (F := F) main_arg7 main_arg8 main_arg9 main_v32 main_v33 main_v34

def fn {F : FTy → Type} [FloatOps F] (main_arg0 : FVec F S8192x1024 .f32) (main_arg1 : FVec F S8192x256 .bf16) (main_arg2 : FVec F S8192x256 .bf16) (main_arg3 : FVec F S8192x256 .bf16) (main_arg4 : FVec F S8192x256 .bf16) (main_arg5 : FVec F S1024x1024 .f32) (main_arg6 : FVec F S8x6x1024 .f32) (main_arg7 : FVec F S1024 .f32) (main_arg8 : FVec F S1024x64 .f32) (main_arg9 : FVec F S64 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x256 .f32 := (extf .f32 · bitsLt_bf16_f32) main_arg1
  let main_v5 : FVec F S8192x256 .f32 := Host.absf main_v4
  let main_cst_0 : FVec F S_ .f32 := constant S_ .f32 0x7F800000#32
  let main_v6 : FVec F S8192x256 .f32 := broadcastInDim S8192x256 ![] bcast_S_S8192x256 main_cst_0
  let main_v7 : IVec S8192x256 1 := cmpf .olt main_v5 main_v6
  let main_c_1 : IVec S_ 1 := constantI S_ 1 1#1
  let main_v8 : IVec S_ 1 := (fun x v => Host.reduce IntOp.andi x v reducesTo_S8192x256_S_d0_1 h_S_) main_v7 main_c_1
  let main_v9 : IVec S_ 1 := andi main_v3 main_v8
  let main_v10 : FVec F S8192x256 .f32 := (extf .f32 · bitsLt_bf16_f32) main_arg2
  let main_v11 : FVec F S8192x256 .f32 := Host.absf main_v10
  let main_cst_2 : FVec F S_ .f32 := constant S_ .f32 0x7F800000#32
  let main_v12 : FVec F S8192x256 .f32 := broadcastInDim S8192x256 ![] bcast_S_S8192x256 main_cst_2
  let main_v13 : IVec S8192x256 1 := cmpf .olt main_v11 main_v12
  let main_c_3 : IVec S_ 1 := constantI S_ 1 1#1
  let main_v14 : IVec S_ 1 := (fun x v => Host.reduce IntOp.andi x v reducesTo_S8192x256_S_d0_1 h_S_) main_v13 main_c_3
  let main_v15 : IVec S_ 1 := andi main_v9 main_v14
  let main_v16 : FVec F S8192x256 .f32 := (extf .f32 · bitsLt_bf16_f32) main_arg3
  let main_v17 : FVec F S8192x256 .f32 := Host.absf main_v16
  fn_part1 (F := F) main_arg4 main_arg5 main_arg6 main_arg7 main_arg8 main_arg9 main_v15 main_v17
-- ==== Pre_finite_prompt_gates.lean ====
abbrev S8192x1024 : Shape := ⟨2, ![8192, 1024]⟩
abbrev S8192x128 : Shape := ⟨2, ![8192, 128]⟩
abbrev S1x6x1024 : Shape := ⟨3, ![1, 6, 1024]⟩
abbrev S64x1024x128 : Shape := ⟨3, ![64, 1024, 128]⟩
abbrev S64x128x1024 : Shape := ⟨3, ![64, 128, 1024]⟩
abbrev S1024x128 : Shape := ⟨2, ![1024, 128]⟩
abbrev S128x1024 : Shape := ⟨2, ![128, 1024]⟩
abbrev S1024 : Shape := ⟨1, ![1024]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x1024 .bf16) (main_arg1 : FVec F S8192x128 .f32) (main_arg2 : FVec F S8192x1024 .f32) (main_arg3 : FVec F S1x6x1024 .f32) (main_arg4 : FVec F S64x1024x128 .f32) (main_arg5 : FVec F S64x1024x128 .f32) (main_arg6 : FVec F S64x128x1024 .f32) (main_arg7 : FVec F S1024x128 .f32) (main_arg8 : FVec F S1024x128 .f32) (main_arg9 : FVec F S128x1024 .f32) (main_arg10 : FVec F S1024 .f32) : IVec S_ 1 :=
  let main_v0 : FVec F S8192x128 .f32 := Host.absf main_arg1
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Pre_finite_prompt_out.lean ====
abbrev S8192x1024 : Shape := ⟨2, ![8192, 1024]⟩
abbrev S8192x256 : Shape := ⟨2, ![8192, 256]⟩
abbrev S1024x1024 : Shape := ⟨2, ![1024, 1024]⟩
abbrev S1x6x1024 : Shape := ⟨3, ![1, 6, 1024]⟩
abbrev S1024 : Shape := ⟨1, ![1024]⟩
abbrev S1024x64 : Shape := ⟨2, ![1024, 64]⟩
abbrev S64 : Shape := ⟨1, ![64]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S8192x256 : S_.BroadcastsInDim S8192x256 (![] : Fin 0 → Fin S8192x256.rank)
  reducesTo_S8192x256_S_d0_1 : S8192x256.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x6x1024 : S_.BroadcastsInDim S1x6x1024 (![] : Fin 0 → Fin S1x6x1024.rank)
  reducesTo_S1x6x1024_S_d0_1_2 : S1x6x1024.ReducesTo [0, 1, 2] S_
  bcast_S_S1024 : S_.BroadcastsInDim S1024 (![] : Fin 0 → Fin S1024.rank)
  reducesTo_S1024_S_d0 : S1024.ReducesTo [0] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v47 : IVec S_ 1) (main_v51 : IVec S_ 1) : IVec S_ 1 :=
  let main_v52 : IVec S_ 1 := andi main_v47 main_v51
  main_v52

def fn_part2 {F : FTy → Type} [FloatOps F] (main_arg7 : FVec F S1024 .f32) (main_arg8 : FVec F S1024x64 .f32) (main_arg9 : FVec F S64 .f32) (main_v32 : IVec S_ 1) (main_v33 : FVec F S1x6x1024 .f32) (main_v34 : FVec F S1x6x1024 .f32) : IVec S_ 1 :=
  let main_v35 : IVec S1x6x1024 1 := cmpf .olt main_v33 main_v34
  let main_c_11 : IVec S_ 1 := constantI S_ 1 1#1
  let main_v36 : IVec S_ 1 := (fun x v => Host.reduce IntOp.andi x v reducesTo_S1x6x1024_S_d0_1_2 h_S_) main_v35 main_c_11
  let main_v37 : IVec S_ 1 := andi main_v32 main_v36
  let main_v38 : FVec F S1024 .f32 := Host.absf main_arg7
  let main_cst_12 : FVec F S_ .f32 := constant S_ .f32 0x7F800000#32
  let main_v39 : FVec F S1024 .f32 := broadcastInDim S1024 ![] bcast_S_S1024 main_cst_12
  let main_v40 : IVec S1024 1 := cmpf .olt main_v38 main_v39
  let main_c_13 : IVec S_ 1 := constantI S_ 1 1#1
  let main_v41 : IVec S_ 1 := (fun x v => Host.reduce IntOp.andi x v reducesTo_S1024_S_d0 h_S_) main_v40 main_c_13
  let main_v42 : IVec S_ 1 := andi main_v37 main_v41
  let main_v43 : FVec F S1024x64 .f32 := Host.absf main_arg8
  let main_cst_14 : FVec F S_ .f32 := constant S_ .f32 0x7F800000#32
  let main_v44 : FVec F S1024x64 .f32 := broadcastInDim S1024x64 ![] bcast_S_S1024x64 main_cst_14
  let main_v45 : IVec S1024x64 1 := cmpf .olt main_v43 main_v44
  let main_c_15 : IVec S_ 1 := constantI S_ 1 1#1
  let main_v46 : IVec S_ 1 := (fun x v => Host.reduce IntOp.andi x v reducesTo_S1024x64_S_d0_1 h_S_) main_v45 main_c_15
  let main_v47 : IVec S_ 1 := andi main_v42 main_v46
  let main_v48 : FVec F S64 .f32 := Host.absf main_arg9
  let main_cst_16 : FVec F S_ .f32 := constant S_ .f32 0x7F800000#32
  let main_v49 : FVec F S64 .f32 := broadcastInDim S64 ![] bcast_S_S64 main_cst_16
  let main_v50 : IVec S64 1 := cmpf .olt main_v48 main_v49
  let main_c_17 : IVec S_ 1 := constantI S_ 1 1#1
  let main_v51 : IVec S_ 1 := (fun x v => Host.reduce IntOp.andi x v reducesTo_S64_S_d0 h_S_) main_v50 main_c_17
  fn_part3 (F := F) main_v47 main_v51

def fn_part1 {F : FTy → Type} [FloatOps F] (main_arg4 : FVec F S8192x256 .bf16) (main_arg5 : FVec F S1024x1024 .f32) (main_arg6 : FVec F S1x6x1024 .f32) (main_arg7 : FVec F S1024 .f32) (main_arg8 : FVec F S1024x64 .f32) (main_arg9 : FVec F S64 .f32) (main_v15 : IVec S_ 1) (main_v17 : FVec F S8192x256 .f32) : IVec S_ 1 :=
  let main_cst_4 : FVec F S_ .f32 := constant S_ .f32 0x7F800000#32
  let main_v18 : FVec F S8192x256 .f32 := broadcastInDim S8192x256 ![] bcast_S_S8192x256 main_cst_4
  let main_v19 : IVec S8192x256 1 := cmpf .olt main_v17 main_v18
  let main_c_5 : IVec S_ 1 := constantI S_ 1 1#1
  let main_v20 : IVec S_ 1 := (fun x v => Host.reduce IntOp.andi x v reducesTo_S8192x256_S_d0_1 h_S_) main_v19 main_c_5
  let main_v21 : IVec S_ 1 := andi main_v15 main_v20
  let main_v22 : FVec F S8192x256 .f32 := (extf .f32 · bitsLt_bf16_f32) main_arg4
  let main_v23 : FVec F S8192x256 .f32 := Host.absf main_v22
  let main_cst_6 : FVec F S_ .f32 := constant S_ .f32 0x7F800000#32
  let main_v24 : FVec F S8192x256 .f32 := broadcastInDim S8192x256 ![] bcast_S_S8192x256 main_cst_6
  let main_v25 : IVec S8192x256 1 := cmpf .olt main_v23 main_v24
  let main_c_7 : IVec S_ 1 := constantI S_ 1 1#1
  let main_v26 : IVec S_ 1 := (fun x v => Host.reduce IntOp.andi x v reducesTo_S8192x256_S_d0_1 h_S_) main_v25 main_c_7
  let main_v27 : IVec S_ 1 := andi main_v21 main_v26
  let main_v28 : FVec F S1024x1024 .f32 := Host.absf main_arg5
  let main_cst_8 : FVec F S_ .f32 := constant S_ .f32 0x7F800000#32
  let main_v29 : FVec F S1024x1024 .f32 := broadcastInDim S1024x1024 ![] bcast_S_S1024x1024 main_cst_8
  let main_v30 : IVec S1024x1024 1 := cmpf .olt main_v28 main_v29
  let main_c_9 : IVec S_ 1 := constantI S_ 1 1#1
  let main_v31 : IVec S_ 1 := (fun x v => Host.reduce IntOp.andi x v reducesTo_S1024x1024_S_d0_1 h_S_) main_v30 main_c_9
  let main_v32 : IVec S_ 1 := andi main_v27 main_v31
  let main_v33 : FVec F S1x6x1024 .f32 := Host.absf main_arg6
  let main_cst_10 : FVec F S_ .f32 := constant S_ .f32 0x7F800000#32
  let main_v34 : FVec F S1x6x1024 .f32 := broadcastInDim S1x6x1024 ![] bcast_S_S1x6x1024 main_cst_10
  fn_part2 (F := F) main_arg7 main_arg8 main_arg9 main_v32 main_v33 main_v34

def fn {F : FTy → Type} [FloatOps F] (main_arg0 : FVec F S8192x1024 .f32) (main_arg1 : FVec F S8192x256 .bf16) (main_arg2 : FVec F S8192x256 .bf16) (main_arg3 : FVec F S8192x256 .bf16) (main_arg4 : FVec F S8192x256 .bf16) (main_arg5 : FVec F S1024x1024 .f32) (main_arg6 : FVec F S1x6x1024 .f32) (main_arg7 : FVec F S1024 .f32) (main_arg8 : FVec F S1024x64 .f32) (main_arg9 : FVec F S64 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x256 .f32 := (extf .f32 · bitsLt_bf16_f32) main_arg1
  let main_v5 : FVec F S8192x256 .f32 := Host.absf main_v4
  let main_cst_0 : FVec F S_ .f32 := constant S_ .f32 0x7F800000#32
  let main_v6 : FVec F S8192x256 .f32 := broadcastInDim S8192x256 ![] bcast_S_S8192x256 main_cst_0
  let main_v7 : IVec S8192x256 1 := cmpf .olt main_v5 main_v6
  let main_c_1 : IVec S_ 1 := constantI S_ 1 1#1
  let main_v8 : IVec S_ 1 := (fun x v => Host.reduce IntOp.andi x v reducesTo_S8192x256_S_d0_1 h_S_) main_v7 main_c_1
  let main_v9 : IVec S_ 1 := andi main_v3 main_v8
  let main_v10 : FVec F S8192x256 .f32 := (extf .f32 · bitsLt_bf16_f32) main_arg2
  let main_v11 : FVec F S8192x256 .f32 := Host.absf main_v10
  let main_cst_2 : FVec F S_ .f32 := constant S_ .f32 0x7F800000#32
  let main_v12 : FVec F S8192x256 .f32 := broadcastInDim S8192x256 ![] bcast_S_S8192x256 main_cst_2
  let main_v13 : IVec S8192x256 1 := cmpf .olt main_v11 main_v12
  let main_c_3 : IVec S_ 1 := constantI S_ 1 1#1
  let main_v14 : IVec S_ 1 := (fun x v => Host.reduce IntOp.andi x v reducesTo_S8192x256_S_d0_1 h_S_) main_v13 main_c_3
  let main_v15 : IVec S_ 1 := andi main_v9 main_v14
  let main_v16 : FVec F S8192x256 .f32 := (extf .f32 · bitsLt_bf16_f32) main_arg3
  let main_v17 : FVec F S8192x256 .f32 := Host.absf main_v16
  fn_part1 (F := F) main_arg4 main_arg5 main_arg6 main_arg7 main_arg8 main_arg9 main_v15 main_v17
-- ==== Pre_finite_sample_hyena.lean ====
abbrev S8x1024x768 : Shape := ⟨3, ![8, 1024, 768]⟩
abbrev S3x768 : Shape := ⟨2, ![3, 768]⟩
abbrev S2x1024x256 : Shape := ⟨3, ![2, 1024, 256]⟩
abbrev S2x256 : Shape := ⟨2, ![2, 256]⟩
abbrev S2048x1024 : Shape := ⟨2, ![2048, 1024]⟩
abbrev S1024x2048 : Shape := ⟨2, ![1024, 2048]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S3x768 : S_.BroadcastsInDim S3x768 (![] : Fin 0 → Fin S3x768.rank)
  reducesTo_S3x768_S_d0_1 : S3x768.ReducesTo [0, 1] S_
  bcast_S_S2x1024x256 : S_.BroadcastsInDim S2x1024x256 (![] : Fin 0 → Fin S2x1024x256.rank)
  reducesTo_S2x1024x256_S_d0_1_2 : S2x1024x256.ReducesTo [0, 1, 2] S_
  bcast_S_S2x256 : S_.BroadcastsInDim S2x256 (![] : Fin 0 → Fin S2x256.rank)
  reducesTo_S2x256_S_d0_1 : S2x256.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_arg4 : FVec F S2x256 .f32) (main_arg5 : FVec F S2048x1024 .f32) (main_arg6 : FVec F S1024x2048 .f32) (main_v13 : IVec S_ 1) (main_v16 : IVec S2x1024x256 1) : IVec S_ 1 :=
  let main_c_5 : IVec S_ 1 := constantI S_ 1 1#1
  let main_v17 : IVec S_ 1 := (fun x v => Host.reduce IntOp.andi x v reducesTo_S2x1024x256_S_d0_1_2 h_S_) main_v16 main_c_5
  let main_v18 : IVec S_ 1 := andi main_v13 main_v17
  let main_v19 : FVec F S2x256 .f32 := Host.absf main_arg4
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024x2048 .f32 := Host.absf main_arg6
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  main_v33

def fn {F : FTy → Type} [FloatOps F] (main_arg0 : FVec F S8x1024x768 .f32) (main_arg1 : FVec F S3x768 .f32) (main_arg2 : FVec F S2x1024x256 .f32) (main_arg3 : FVec F S2x1024x256 .f32) (main_arg4 : FVec F S2x256 .f32) (main_arg5 : FVec F S2048x1024 .f32) (main_arg6 : FVec F S1024x2048 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S3x768 .f32 := Host.absf main_arg1
  let main_cst_0 : FVec F S_ .f32 := constant S_ .f32 0x7F800000#32
  let main_v5 : FVec F S3x768 .f32 := broadcastInDim S3x768 ![] bcast_S_S3x768 main_cst_0
  let main_v6 : IVec S3x768 1 := cmpf .olt main_v4 main_v5
  let main_c_1 : IVec S_ 1 := constantI S_ 1 1#1
  let main_v7 : IVec S_ 1 := (fun x v => Host.reduce IntOp.andi x v reducesTo_S3x768_S_d0_1 h_S_) main_v6 main_c_1
  let main_v8 : IVec S_ 1 := andi main_v3 main_v7
  let main_v9 : FVec F S2x1024x256 .f32 := Host.absf main_arg2
  let main_cst_2 : FVec F S_ .f32 := constant S_ .f32 0x7F800000#32
  let main_v10 : FVec F S2x1024x256 .f32 := broadcastInDim S2x1024x256 ![] bcast_S_S2x1024x256 main_cst_2
  let main_v11 : IVec S2x1024x256 1 := cmpf .olt main_v9 main_v10
  let main_c_3 : IVec S_ 1 := constantI S_ 1 1#1
  let main_v12 : IVec S_ 1 := (fun x v => Host.reduce IntOp.andi x v reducesTo_S2x1024x256_S_d0_1_2 h_S_) main_v11 main_c_3
  let main_v13 : IVec S_ 1 := andi main_v8 main_v12
  let main_v14 : FVec F S2x1024x256 .f32 := Host.absf main_arg3
  let main_cst_4 : FVec F S_ .f32 := constant S_ .f32 0x7F800000#32
  let main_v15 : FVec F S2x1024x256 .f32 := broadcastInDim S2x1024x256 ![] bcast_S_S2x1024x256 main_cst_4
  let main_v16 : IVec S2x1024x256 1 := cmpf .olt main_v14 main_v15
  fn_part1 (F := F) main_arg4 main_arg5 main_arg6 main_v13 main_v16
-- ==== Pre_finite_table.lean ====
abbrev S256x128 : Shape := ⟨2, ![256, 128]⟩
abbrev S256x256 : Shape := ⟨2, ![256, 256]⟩
abbrev S33x64 : Shape := ⟨2, ![33, 64]⟩
abbrev S64 : Shape := ⟨1, ![64]⟩
abbrev S64x64 : Shape := ⟨2, ![64, 64]⟩
abbrev S64x1024 : Shape := ⟨2, ![64, 1024]⟩
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S256x128 .f32) (main_arg1 : FVec F S256x256 .f32) (main_arg2 : FVec F S33x64 .f32) (main_arg3 : FVec F S64 .f32) (main_arg4 : FVec F S64x64 .f32) (main_arg5 : FVec F S64 .f32) (main_arg6 : FVec F S64x1024 .f32) (main_arg7 : FVec F S64 .f32) (main_arg8 : FVec F S512x256 .f32) : IVec S_ 1 :=
  let main_v0 : FVec F S512x256 .f32 := Host.absf main_arg8
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Kernel.lean ====
abbrev S8192x1024 : Shape := ⟨2, ![8192, 1024]⟩
abbrev S8192x128 : Shape := ⟨2, ![8192, 128]⟩
abbrev S8x6x1024 : Shape := ⟨3, ![8, 6, 1024]⟩
abbrev S64x1024x128 : Shape := ⟨3, ![64, 1024, 128]⟩
abbrev S64x128x1024 : Shape := ⟨3, ![64, 128, 1024]⟩
abbrev S1024x128 : Shape := ⟨2, ![1024, 128]⟩
abbrev S128x1024 : Shape := ⟨2, ![128, 1024]⟩
abbrev S1024 : Shape := ⟨1, ![1024]⟩
abbrev S1x1024 : Shape := ⟨2, ![1, 1024]⟩
abbrev S1024x1024 : Shape := ⟨2, ![1024, 1024]⟩
abbrev S1x6x1024 : Shape := ⟨3, ![1, 6, 1024]⟩
abbrev S2x1024x128 : Shape := ⟨3, ![2, 1024, 128]⟩
abbrev S2x128x1024 : Shape := ⟨3, ![2, 128, 1024]⟩
abbrev S1x1024x128 : Shape := ⟨3, ![1, 1024, 128]⟩
abbrev S1024x512 : Shape := ⟨2, ![1024, 512]⟩
abbrev S128x256 : Shape := ⟨2, ![128, 256]⟩
abbrev S1024x256 : Shape := ⟨2, ![1024, 256]⟩
abbrev S1x128x1024 : Shape := ⟨3, ![1, 128, 1024]⟩
abbrev S256x1024 : Shape := ⟨2, ![256, 1024]⟩
abbrev S1x1x1024 : Shape := ⟨3, ![1, 1, 1024]⟩
abbrev S1024x1 : Shape := ⟨2, ![1024, 1]⟩

abbrev nBuf : Space → Nat
  | .hbm => 13
  | .vmem => 21
  | .smem => 0
  | _ => 0

abbrev bufTy : (tb : Table) → Fin (tcTables nBuf tb) → BufTy
  | .hbm, ⟨0, _⟩ => ⟨S8192x1024, .bf16⟩
  | .hbm, ⟨1, _⟩ => ⟨S8192x128, .f32⟩
  | .hbm, ⟨2, _⟩ => ⟨S8192x1024, .f32⟩
  | .hbm, ⟨3, _⟩ => ⟨S8x6x1024, .f32⟩
  | .hbm, ⟨4, _⟩ => ⟨S64x1024x128, .f32⟩
  | .hbm, ⟨5, _⟩ => ⟨S64x1024x128, .f32⟩
  | .hbm, ⟨6, _⟩ => ⟨S64x128x1024, .f32⟩
  | .hbm, ⟨7, _⟩ => ⟨S1024x128, .f32⟩
  | .hbm, ⟨8, _⟩ => ⟨S1024x128, .f32⟩
  | .hbm, ⟨9, _⟩ => ⟨S128x1024, .f32⟩
  | .hbm, ⟨10, _⟩ => ⟨S1024, .f32⟩
  | .hbm, ⟨11, _⟩ => ⟨S1x1024, .f32⟩
  | .hbm, ⟨12, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | .local _ .vmem, ⟨6, _⟩ => ⟨S1x6x1024, .f32⟩
  | .local _ .vmem, ⟨7, _⟩ => ⟨S1x6x1024, .f32⟩
  | .local _ .vmem, ⟨8, _⟩ => ⟨S2x1024x128, .f32⟩
  | .local _ .vmem, ⟨9, _⟩ => ⟨S2x1024x128, .f32⟩
  | .local _ .vmem, ⟨10, _⟩ => ⟨S2x1024x128, .f32⟩
  | .local _ .vmem, ⟨11, _⟩ => ⟨S2x1024x128, .f32⟩
  | .local _ .vmem, ⟨12, _⟩ => ⟨S2x128x1024, .f32⟩
  | .local _ .vmem, ⟨13, _⟩ => ⟨S2x128x1024, .f32⟩
  | .local _ .vmem, ⟨14, _⟩ => ⟨S1024x128, .f32⟩
  | .local _ .vmem, ⟨15, _⟩ => ⟨S1024x128, .f32⟩
  | .local _ .vmem, ⟨16, _⟩ => ⟨S128x1024, .f32⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v87 : BitVec 1 := Scalar.cmpi .eq arg1 c31_i32
  let v88 : BitVec 32 := Scalar.extui v87
  let c0_i32_39 : BitVec 32 := 0#32
  let v89 : BitVec 1 := Scalar.cmpi .ne v88 c0_i32_39
  v89

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S8192x1024 : Shape := ⟨2, ![8192, 1024]⟩
abbrev S8192x128 : Shape := ⟨2, ![8192, 128]⟩
abbrev S8x6x1024 : Shape := ⟨3, ![8, 6, 1024]⟩
abbrev S64x1024x128 : Shape := ⟨3, ![64, 1024, 128]⟩
abbrev S64x128x1024 : Shape := ⟨3, ![64, 128, 1024]⟩
abbrev S1024x128 : Shape := ⟨2, ![1024, 128]⟩
abbrev S128x1024 : Shape := ⟨2, ![128, 1024]⟩
abbrev S1024 : Shape := ⟨1, ![1024]⟩
abbrev S8192x64 : Shape := ⟨2, ![8192, 64]⟩
abbrev S8192x64x128 : Shape := ⟨3, ![8192, 64, 128]⟩
abbrev S_ : Shape := ⟨0, ![]⟩
abbrev S8192x64x1 : Shape := ⟨3, ![8192, 64, 1]⟩
abbrev S8x1024x1024 : Shape := ⟨3, ![8, 1024, 1024]⟩
abbrev S8x1x1024 : Shape := ⟨3, ![8, 1, 1024]⟩
abbrev S8x1024 : Shape := ⟨2, ![8, 1024]⟩
abbrev S8x1024x1 : Shape := ⟨3, ![8, 1024, 1]⟩
abbrev S1x1x1024 : Shape := ⟨3, ![1, 1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .f32⟩
  | .hbm, ⟨2, _⟩ => ⟨S8192x1024, .f32⟩
  | .hbm, ⟨3, _⟩ => ⟨S8x6x1024, .f32⟩
  | .hbm, ⟨4, _⟩ => ⟨S64x1024x128, .f32⟩
  | .hbm, ⟨5, _⟩ => ⟨S64x1024x128, .f32⟩
  | .hbm, ⟨6, _⟩ => ⟨S64x128x1024, .f32⟩
  | .hbm, ⟨7, _⟩ => ⟨S1024x128, .f32⟩
  | .hbm, ⟨8, _⟩ => ⟨S1024x128, .f32⟩
  | .hbm, ⟨9, _⟩ => ⟨S128x1024, .f32⟩
  | .hbm, ⟨10, _⟩ => ⟨S1024, .f32⟩
  | .hbm, ⟨11, _⟩ => ⟨S8192x1024, .f32⟩
  | .hbm, ⟨12, _⟩ => ⟨S8192x64, .f32⟩
  | .hbm, ⟨13, _⟩ => ⟨S8192x64x128, .f32⟩
  | .hbm, ⟨14, _⟩ => ⟨S8192x64x128, .f32⟩
  | .hbm, ⟨15, _⟩ => ⟨S8192x64x128, .f32⟩
  | .hbm, ⟨16, _⟩ => ⟨S_, .f32⟩
  | .hbm, ⟨17, _⟩ => ⟨S8192x64x128, .f32⟩
  | .hbm, ⟨18, _⟩ => ⟨S8192x64x128, .f32⟩
  | .hbm, ⟨19, _⟩ => ⟨S_, .f32⟩
  | .hbm, ⟨20, _⟩ => ⟨S8192x64x128, .f32⟩
  | .hbm, ⟨21, _⟩ => ⟨S8192x64x128, .f32⟩
  | .hbm, ⟨22, _⟩ => ⟨S8192x64x128, .f32⟩
  | .hbm, ⟨23, _⟩ => ⟨S8192x64x128, .f32⟩
  | .hbm, ⟨24, _⟩ => ⟨S8192x64x128, .f32⟩
  | .hbm, ⟨25, _⟩ => ⟨S8192x64x1, .f32⟩
  | .hbm, ⟨26, _⟩ => ⟨S8192x64x128, .f32⟩
  | .hbm, ⟨27, _⟩ => ⟨S8192x64x128, .f32⟩
  | .hbm, ⟨28, _⟩ => ⟨S8192x1024, .f32⟩
  | .hbm, ⟨29, _⟩ => ⟨S8192x128, .f32⟩
  | .hbm, ⟨30, _⟩ => ⟨S8192x128, .f32⟩
  | .hbm, ⟨31, _⟩ => ⟨S8192x128, .f32⟩
  | .hbm, ⟨32, _⟩ => ⟨S_, .f32⟩
  | .hbm, ⟨33, _⟩ => ⟨S8192x128, .f32⟩
  | .hbm, ⟨34, _⟩ => ⟨S8192x128, .f32⟩
  | .hbm, ⟨35, _⟩ => ⟨S_, .f32⟩
  | .hbm, ⟨36, _⟩ => ⟨S8192x128, .f32⟩
  | .hbm, ⟨37, _⟩ => ⟨S8192x128, .f32⟩
  | .hbm, ⟨38, _⟩ => ⟨S8192x128, .f32⟩
  | .hbm, ⟨39, _⟩ => ⟨S8192x128, .f32⟩
  | .hbm, ⟨40, _⟩ => ⟨S8192x128, .f32⟩
  | .hbm, ⟨41, _⟩ => ⟨S8192x1024, .f32⟩
  | .hbm, ⟨42, _⟩ => ⟨S8192x1024, .f32⟩
  | .hbm, ⟨43, _⟩ => ⟨S8x1024x1024, .f32⟩
  | .hbm, ⟨44, _⟩ => ⟨S8x1x1024, .f32⟩
  | .hbm, ⟨45, _⟩ => ⟨S8x1024, .f32⟩
  | .hbm, ⟨46, _⟩ => ⟨S8x1x1024, .f32⟩
  | .hbm, ⟨47, _⟩ => ⟨S8x1024x1024, .f32⟩
  | .hbm, ⟨48, _⟩ => ⟨S8x1024x1024, .f32⟩
  | .hbm, ⟨49, _⟩ => ⟨S8x1024x1024, .f32⟩
  | .hbm, ⟨50, _⟩ => ⟨S8x1024x1024, .f32⟩
  | .hbm, ⟨51, _⟩ => ⟨S8x1024x1024, .f32⟩
  | .hbm, ⟨52, _⟩ => ⟨S_, .f32⟩
  | .hbm, ⟨53, _⟩ => ⟨S8x1024, .f32⟩
  | .hbm, ⟨54, _⟩ => ⟨S8x1024x1, .f32⟩
  | .hbm, ⟨55, _⟩ => ⟨S_, .f32⟩
  | .hbm, ⟨56, _⟩ => ⟨S8x1024x1, .f32⟩
  | .hbm, ⟨57, _⟩ => ⟨S8x1024x1, .f32⟩
  | .hbm, ⟨58, _⟩ => ⟨S_, .f32⟩
  | .hbm, ⟨59, _⟩ => ⟨S8x1024x1, .f32⟩
  | .hbm, ⟨60, _⟩ => ⟨S8x1024x1, .f32⟩
  | .hbm, ⟨61, _⟩ => ⟨S8x1024x1, .f32⟩
  | .hbm, ⟨62, _⟩ => ⟨S8x1024x1024, .f32⟩
  | .hbm, ⟨63, _⟩ => ⟨S8x1024x1024, .f32⟩
  | .hbm, ⟨64, _⟩ => ⟨S1x1x1024, .f32⟩
  | .hbm, ⟨65, _⟩ => ⟨S8x1024x1024, .f32⟩
  | .hbm, ⟨66, _⟩ => ⟨S8x1024x1024, .f32⟩
  | .hbm, ⟨67, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst : Ref sig .tc := ⟨.hbm, 52, rfl⟩
abbrev main_v25 : Ref sig .tc := ⟨.hbm, 53, rfl⟩
abbrev main_v26 : Ref sig .tc := ⟨.hbm, 54, rfl⟩
abbrev main_cst_0 : Ref sig .tc := ⟨.hbm, 55, rfl⟩
abbrev main_v27 : Ref sig .tc := ⟨.hbm, 56, rfl⟩
abbrev main_v28 : Ref sig .tc := ⟨.hbm, 57, rfl⟩
abbrev main_cst_1 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩

abbrev nD : Nat := 1
abbrev τ : Topo := Topo.v7x

variable {F : FTy → Type} [FloatOps F]
-- ==== Kernel2.lean ====
abbrev S8192x1024 : Shape := ⟨2, ![8192, 1024]⟩
abbrev S8192x256 : Shape := ⟨2, ![8192, 256]⟩
abbrev S1024x1024 : Shape := ⟨2, ![1024, 1024]⟩
abbrev S8x6x1024 : Shape := ⟨3, ![8, 6, 1024]⟩
abbrev S1024 : Shape := ⟨1, ![1024]⟩
abbrev S1024x64 : Shape := ⟨2, ![1024, 64]⟩
abbrev S64 : Shape := ⟨1, ![64]⟩
abbrev S1x1024 : Shape := ⟨2, ![1, 1024]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S8192x128 : Shape := ⟨2, ![8192, 128]⟩
abbrev S512x1024 : Shape := ⟨2, ![512, 1024]⟩
abbrev S512x256 : Shape := ⟨2, ![512, 256]⟩
abbrev S1x6x1024 : Shape := ⟨3, ![1, 6, 1024]⟩
abbrev S512x128 : Shape := ⟨2, ![512, 128]⟩
abbrev S256x1024 : Shape := ⟨2, ![256, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 32
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x256, .bf16⟩
  | .hbm, ⟨2, _⟩ => ⟨S8192x256, .bf16⟩
  | .hbm, ⟨3, _⟩ => ⟨S8192x256, .bf16⟩
  | .hbm, ⟨4, _⟩ => ⟨S8192x256, .bf16⟩
  | .hbm, ⟨5, _⟩ => ⟨S1024x1024, .f32⟩
  | .hbm, ⟨6, _⟩ => ⟨S8x6x1024, .f32⟩
  | .hbm, ⟨7, _⟩ => ⟨S1024, .f32⟩
  | .hbm, ⟨8, _⟩ => ⟨S1024x64, .f32⟩
  | .hbm, ⟨9, _⟩ => ⟨S64, .f32⟩
  | .hbm, ⟨10, _⟩ => ⟨S1x1024, .f32⟩
  | .hbm, ⟨11, _⟩ => ⟨S_, .f32⟩
  | .hbm, ⟨12, _⟩ => ⟨S1024x128, .f32⟩
  | .hbm, ⟨13, _⟩ => ⟨S_, .i32⟩
  | .hbm, ⟨14, _⟩ => ⟨S1, .i32⟩
  | .hbm, ⟨15, _⟩ => ⟨S1024x128, .f32⟩
  | .hbm, ⟨16, _⟩ => ⟨S1024x128, .bf16⟩
  | .hbm, ⟨17, _⟩ => ⟨S1024x128, .f32⟩
  | .hbm, ⟨18, _⟩ => ⟨S1024x128, .f32⟩
  | .hbm, ⟨19, _⟩ => ⟨S1024x128, .bf16⟩
  | .hbm, ⟨20, _⟩ => ⟨S_, .f32⟩
  | .hbm, ⟨21, _⟩ => ⟨S1x128, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S1x128, .f32⟩
  | .hbm, ⟨28, _⟩ => ⟨S1024x1024, .bf16⟩
  | .hbm, ⟨29, _⟩ => ⟨S8192x1024, .f32⟩
  | .hbm, ⟨30, _⟩ => ⟨S8192x1024, .bf16⟩
  | .hbm, ⟨31, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S1024x1024, .bf16⟩
  | .local _ .vmem, ⟨11, _⟩ => ⟨S1x6x1024, .f32⟩
  | .local _ .vmem, ⟨12, _⟩ => ⟨S1x6x1024, .f32⟩
  | .local _ .vmem, ⟨13, _⟩ => ⟨S1x1024, .f32⟩
  | .local _ .vmem, ⟨14, _⟩ => ⟨S1024x128, .bf16⟩
  | .local _ .vmem, ⟨15, _⟩ => ⟨S1024x128, .bf16⟩
  | .local _ .vmem, ⟨16, _⟩ => ⟨S1x128, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x128, .f32⟩
  | .local _ .vmem, ⟨22, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev main_v14_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S8192x1024 : Shape := ⟨2, ![8192, 1024]⟩
abbrev S8192x256 : Shape := ⟨2, ![8192, 256]⟩
abbrev S1024x1024 : Shape := ⟨2, ![1024, 1024]⟩
abbrev S8x6x1024 : Shape := ⟨3, ![8, 6, 1024]⟩
abbrev S1024 : Shape := ⟨1, ![1024]⟩
abbrev S1024x64 : Shape := ⟨2, ![1024, 64]⟩
abbrev S64 : Shape := ⟨1, ![64]⟩
abbrev S8x1024x1024 : Shape := ⟨3, ![8, 1024, 1024]⟩
abbrev S8x1x1024 : Shape := ⟨3, ![8, 1, 1024]⟩
abbrev S8x1024 : Shape := ⟨2, ![8, 1024]⟩
abbrev S_ : Shape := ⟨0, ![]⟩
abbrev S8x1024x1 : Shape := ⟨3, ![8, 1024, 1]⟩
abbrev S1x1x1024 : Shape := ⟨3, ![1, 1, 1024]⟩
abbrev S8192x64 : Shape := ⟨2, ![8192, 64]⟩
abbrev S1x64 : Shape := ⟨2, ![1, 64]⟩
abbrev S8192x8 : Shape := ⟨2, ![8192, 8]⟩
abbrev S8192x8x1 : Shape := ⟨3, ![8192, 8, 1]⟩
abbrev S1 : Shape := ⟨1, ![1]⟩
abbrev S1x1x1 : Shape := ⟨3, ![1, 1, 1]⟩
abbrev S8192 : Shape := ⟨1, ![8192]⟩
abbrev S8192x1 : Shape := ⟨2, ![8192, 1]⟩
abbrev S1x1x64 : Shape := ⟨3, ![1, 1, 64]⟩
abbrev S8192x8x64 : Shape := ⟨3, ![8192, 8, 64]⟩
abbrev S8192x128 : Shape := ⟨2, ![8192, 128]⟩

abbrev nBuf : Space → Nat
  | .hbm => 107
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .bf16⟩
  | .hbm, ⟨2, _⟩ => ⟨S8192x256, .bf16⟩
  | .hbm, ⟨3, _⟩ => ⟨S8192x256, .bf16⟩
  | .hbm, ⟨4, _⟩ => ⟨S8192x256, .bf16⟩
  | .hbm, ⟨5, _⟩ => ⟨S1024x1024, .f32⟩
  | .hbm, ⟨6, _⟩ => ⟨S8x6x1024, .f32⟩
  | .hbm, ⟨7, _⟩ => ⟨S1024, .f32⟩
  | .hbm, ⟨8, _⟩ => ⟨S1024x64, .f32⟩
  | .hbm, ⟨9, _⟩ => ⟨S64, .f32⟩
  | .hbm, ⟨10, _⟩ => ⟨S8192x1024, .bf16⟩
  | .hbm, ⟨11, _⟩ => ⟨S8192x1024, .f32⟩
  | .hbm, ⟨12, _⟩ => ⟨S8192x1024, .f32⟩
  | .hbm, ⟨13, _⟩ => ⟨S8x1024x1024, .f32⟩
  | .hbm, ⟨14, _⟩ => ⟨S8x1x1024, .f32⟩
  | .hbm, ⟨15, _⟩ => ⟨S8x1024, .f32⟩
  | .hbm, ⟨16, _⟩ => ⟨S8x1x1024, .f32⟩
  | .hbm, ⟨17, _⟩ => ⟨S8x1024x1024, .f32⟩
  | .hbm, ⟨18, _⟩ => ⟨S8x1024x1024, .f32⟩
  | .hbm, ⟨19, _⟩ => ⟨S8x1024x1024, .f32⟩
  | .hbm, ⟨20, _⟩ => ⟨S8x1024x1024, .f32⟩
  | .hbm, ⟨21, _⟩ => ⟨S8x1024x1024, .f32⟩
  | .hbm, ⟨22, _⟩ => ⟨S_, .f32⟩
  | .hbm, ⟨23, _⟩ => ⟨S8x1024, .f32⟩
  | .hbm, ⟨24, _⟩ => ⟨S8x1024x1, .f32⟩
  | .hbm, ⟨25, _⟩ => ⟨S_, .f32⟩
  | .hbm, ⟨26, _⟩ => ⟨S8x1024x1, .f32⟩
  | .hbm, ⟨27, _⟩ => ⟨S8x1024x1, .f32⟩
  | .hbm, ⟨28, _⟩ => ⟨S_, .f32⟩
  | .hbm, ⟨29, _⟩ => ⟨S8x1024x1, .f32⟩
  | .hbm, ⟨30, _⟩ => ⟨S8x1024x1, .f32⟩
  | .hbm, ⟨31, _⟩ => ⟨S8x1024x1, .f32⟩
  | .hbm, ⟨32, _⟩ => ⟨S8x1024x1024, .f32⟩
  | .hbm, ⟨33, _⟩ => ⟨S8x1024x1024, .f32⟩
  | .hbm, ⟨34, _⟩ => ⟨S1x1x1024, .f32⟩
  | .hbm, ⟨35, _⟩ => ⟨S8x1024x1024, .f32⟩
  | .hbm, ⟨36, _⟩ => ⟨S8x1024x1024, .f32⟩
  | .hbm, ⟨37, _⟩ => ⟨S8x1x1024, .f32⟩
  | .hbm, ⟨38, _⟩ => ⟨S8x1024, .f32⟩
  | .hbm, ⟨39, _⟩ => ⟨S8x1x1024, .f32⟩
  | .hbm, ⟨40, _⟩ => ⟨S_, .f32⟩
  | .hbm, ⟨41, _⟩ => ⟨S8x1x1024, .f32⟩
  | .hbm, ⟨42, _⟩ => ⟨S8x1x1024, .f32⟩
  | .hbm, ⟨43, _⟩ => ⟨S8x1024x1024, .f32⟩
  | .hbm, ⟨44, _⟩ => ⟨S8x1024x1024, .f32⟩
  | .hbm, ⟨45, _⟩ => ⟨S8x1x1024, .f32⟩
  | .hbm, ⟨46, _⟩ => ⟨S8x1024, .f32⟩
  | .hbm, ⟨47, _⟩ => ⟨S8x1x1024, .f32⟩
  | .hbm, ⟨48, _⟩ => ⟨S8x1024x1024, .f32⟩
  | .hbm, ⟨49, _⟩ => ⟨S8x1024x1024, .f32⟩
  | .hbm, ⟨50, _⟩ => ⟨S8192x1024, .f32⟩
  | .hbm, ⟨51, _⟩ => ⟨S8192x64, .f32⟩
  | .hbm, ⟨52, _⟩ => ⟨S8192x64, .f32⟩
  | .hbm, ⟨53, _⟩ => ⟨S8192x64, .f32⟩
  | .hbm, ⟨54, _⟩ => ⟨S_, .f32⟩
  | .hbm, ⟨55, _⟩ => ⟨S8192x64, .f32⟩
  | .hbm, ⟨56, _⟩ => ⟨S8192x64, .f32⟩
  | .hbm, ⟨57, _⟩ => ⟨S_, .f32⟩
  | .hbm, ⟨58, _⟩ => ⟨S8192x64, .f32⟩
  | .hbm, ⟨59, _⟩ => ⟨S8192x64, .f32⟩
  | .hbm, ⟨60, _⟩ => ⟨S1x64, .f32⟩
  | .hbm, ⟨61, _⟩ => ⟨S8192x64, .f32⟩
  | .hbm, ⟨62, _⟩ => ⟨S8192x64, .f32⟩
  | .hbm, ⟨63, _⟩ => ⟨S8192x8, .f32⟩
  | .hbm, ⟨64, _⟩ => ⟨S8192x8, .i32⟩
  | .hbm, ⟨65, _⟩ => ⟨S_, .i32⟩
  | .hbm, ⟨66, _⟩ => ⟨S8192x8, .i32⟩
  | .hbm, ⟨67, _⟩ => ⟨S8192x8, .i1⟩
  | .hbm, ⟨68, _⟩ => ⟨S_, .i32⟩
  | .hbm, ⟨69, _⟩ => ⟨S8192x8, .i32⟩
  | .hbm, ⟨70, _⟩ => ⟨S8192x8, .i32⟩
  | .hbm, ⟨71, _⟩ => ⟨S8192x8, .i32⟩
  | .hbm, ⟨72, _⟩ => ⟨S8192x8x1, .i32⟩
  | .hbm, ⟨73, _⟩ => ⟨S1, .i32⟩
  | .hbm, ⟨74, _⟩ => ⟨S_, .i32⟩
  | .hbm, ⟨75, _⟩ => ⟨S8192x8x1, .i32⟩
  | .hbm, ⟨76, _⟩ => ⟨S8192x8x1, .i1⟩
  | .hbm, ⟨77, _⟩ => ⟨S1x1x1, .i32⟩
  | .hbm, ⟨78, _⟩ => ⟨S8192x8x1, .i32⟩
  | .hbm, ⟨79, _⟩ => ⟨S8192x8x1, .i1⟩
  | .hbm, ⟨80, _⟩ => ⟨S8192x8x1, .i1⟩
  | .hbm, ⟨81, _⟩ => ⟨S_, .i1⟩
  | .hbm, ⟨82, _⟩ => ⟨S8192x8, .i1⟩
  | .hbm, ⟨83, _⟩ => ⟨S8192x8, .f32⟩
  | .hbm, ⟨84, _⟩ => ⟨S_, .f32⟩
  | .hbm, ⟨85, _⟩ => ⟨S8192x8, .f32⟩
  | .hbm, ⟨86, _⟩ => ⟨S8192x8, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S8192x8, .f32⟩
  | .hbm, ⟨91, _⟩ => ⟨S8192x8, .f32⟩
  | .hbm, ⟨92, _⟩ => ⟨S_, .f32⟩
  | .hbm, ⟨93, _⟩ => ⟨S8192x8, .f32⟩
  | .hbm, ⟨94, _⟩ => ⟨S8192x8, .f32⟩
  | .hbm, ⟨95, _⟩ => ⟨S8192x8x1, .i32⟩
  | .hbm, ⟨96, _⟩ => ⟨S1x1x64, .i32⟩
  | .hbm, ⟨97, _⟩ => ⟨S8192x8x64, .i32⟩
  | .hbm, ⟨98, _⟩ => ⟨S8192x8x64, .i32⟩
  | .hbm, ⟨99, _⟩ => ⟨S8192x8x64, .i1⟩
  | .hbm, ⟨100, _⟩ => ⟨S8192x8x64, .f32⟩
  | .hbm, ⟨101, _⟩ => ⟨S8192x64, .f32⟩
  | .hbm, ⟨102, _⟩ => ⟨S8192x1024, .f32⟩
  | .hbm, ⟨103, _⟩ => ⟨S8192x1024, .bf16⟩
  | .hbm, ⟨104, _⟩ => ⟨S_, .f32⟩
  | .hbm, ⟨105, _⟩ => ⟨S8192x64, .f32⟩
  | .hbm, ⟨106, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_values : Ref sig .tc := ⟨.hbm, 63, rfl⟩
abbrev main_indices : Ref sig .tc := ⟨.hbm, 64, rfl⟩
abbrev main_call0_c : Ref sig .tc := ⟨.hbm, 65, rfl⟩
abbrev main_call0_v0 : Ref sig .tc := ⟨.hbm, 66, rfl⟩
abbrev main_call0_v1 : Ref sig .tc := ⟨.hbm, 67, rfl⟩
abbrev main_call0_c_0 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_v5 : Ref sig .tc := ⟨.hbm, 72, rfl⟩
abbrev main_call0_c_1 : Ref sig .tc := ⟨.hbm, 73, rfl⟩
abbrev main_call0_c_2 : Ref sig .tc := ⟨.hbm, 74, rfl⟩
abbrev main_call0_v6 : Ref sig .tc := ⟨.hbm, 75, rfl⟩
abbrev main_call0_v7 : Ref sig .tc := ⟨.hbm, 76, rfl⟩
abbrev main_call0_v8 : Ref sig .tc := ⟨.hbm, 77, rfl⟩
abbrev main_call0_v9 : Ref sig .tc := ⟨.hbm, 78, rfl⟩
abbrev main_call0_v10 : Ref sig .tc := ⟨.hbm, 79, rfl⟩
abbrev main_call0_v11 : Ref sig .tc := ⟨.hbm, 80, rfl⟩
abbrev main_call0_c_3 : Ref sig .tc := ⟨.hbm, 81, rfl⟩
abbrev main_call0_v12 : Ref sig .tc := ⟨.hbm, 82, rfl⟩
abbrev main_call0_v13 : Ref sig .tc := ⟨.hbm, 83, rfl⟩
abbrev main_call0_cst : Ref sig .tc := ⟨.hbm, 84, rfl⟩
abbrev main_call0_v14 : Ref sig .tc := ⟨.hbm, 85, rfl⟩
abbrev main_v47 : Ref sig .tc := ⟨.hbm, 86, rfl⟩
abbrev main_cst_5 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_cst_6 : Ref sig .tc := ⟨.hbm, 92, rfl⟩
abbrev main_v52 : Ref sig .tc := ⟨.hbm, 93, rfl⟩
abbrev main_v53 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_cst_7 : Ref sig .tc := ⟨.hbm, 104, rfl⟩
abbrev main_v58 : Ref sig .tc := ⟨.hbm, 105, rfl⟩
abbrev main_v59 : Ref sig .tc := ⟨.hbm, 106, rfl⟩

abbrev nD : Nat := 1
abbrev τ : Topo := Topo.v7x

variable {F : FTy → Type} [FloatOps F]
-- ==== Kernel3.lean ====
abbrev S8192x1024 : Shape := ⟨2, ![8192, 1024]⟩
abbrev S8x6x1024 : Shape := ⟨3, ![8, 6, 1024]⟩
abbrev S1024 : Shape := ⟨1, ![1024]⟩
abbrev S1024x4128 : Shape := ⟨2, ![1024, 4128]⟩
abbrev S1x1024 : Shape := ⟨2, ![1, 1024]⟩
abbrev S_ : Shape := ⟨0, ![]⟩
abbrev S1024x112 : Shape := ⟨2, ![1024, 112]⟩
abbrev S1024x1040 : Shape := ⟨2, ![1024, 1040]⟩
abbrev S1024x1152 : Shape := ⟨2, ![1024, 1152]⟩
abbrev S1024x1280 : Shape := ⟨2, ![1024, 1280]⟩
abbrev S1024x768 : Shape := ⟨2, ![1024, 768]⟩
abbrev S8192x1152 : Shape := ⟨2, ![8192, 1152]⟩
abbrev S8192x1280 : Shape := ⟨2, ![8192, 1280]⟩
abbrev S8192x768 : Shape := ⟨2, ![8192, 768]⟩
abbrev S512x1024 : Shape := ⟨2, ![512, 1024]⟩
abbrev S1x6x1024 : Shape := ⟨3, ![1, 6, 1024]⟩
abbrev S512x1152 : Shape := ⟨2, ![512, 1152]⟩
abbrev S512x1280 : Shape := ⟨2, ![512, 1280]⟩
abbrev S512x768 : Shape := ⟨2, ![512, 768]⟩
abbrev S1x1x1024 : Shape := ⟨3, ![1, 1, 1024]⟩
abbrev S512 : Shape := ⟨1, ![512]⟩
abbrev S512x1 : Shape := ⟨2, ![512, 1]⟩

abbrev nBuf : Space → Nat
  | .hbm => 21
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8x6x1024, .f32⟩
  | .hbm, ⟨2, _⟩ => ⟨S1024, .f32⟩
  | .hbm, ⟨3, _⟩ => ⟨S1024x4128, .f32⟩
  | .hbm, ⟨4, _⟩ => ⟨S1x1024, .f32⟩
  | .hbm, ⟨5, _⟩ => ⟨S_, .f32⟩
  | .hbm, ⟨6, _⟩ => ⟨S1024x112, .f32⟩
  | .hbm, ⟨7, _⟩ => ⟨S1024x1040, .f32⟩
  | .hbm, ⟨8, _⟩ => ⟨S1024x1152, .f32⟩
  | .hbm, ⟨9, _⟩ => ⟨S1024x1280, .f32⟩
  | .hbm, ⟨10, _⟩ => ⟨S1024x1040, .f32⟩
  | .hbm, ⟨11, _⟩ => ⟨S1024x1152, .f32⟩
  | .hbm, ⟨12, _⟩ => ⟨S1024x768, .f32⟩
  | .hbm, ⟨13, _⟩ => ⟨S1024x1152, .bf16⟩
  | .hbm, ⟨14, _⟩ => ⟨S1024x1280, .bf16⟩
  | .hbm, ⟨15, _⟩ => ⟨S1024x1152, .bf16⟩
  | .hbm, ⟨16, _⟩ => ⟨S1024x768, .bf16⟩
  | .hbm, ⟨17, _⟩ => ⟨S8192x1152, .f32⟩
  | .hbm, ⟨18, _⟩ => ⟨S8192x1280, .f32⟩
  | .hbm, ⟨19, _⟩ => ⟨S8192x1152, .f32⟩
  | .hbm, ⟨20, _⟩ => ⟨S8192x768, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1152, .bf16⟩
  | .local _ .vmem, ⟨6, _⟩ => ⟨S1024x1280, .bf16⟩
  | .local _ .vmem, ⟨7, _⟩ => ⟨S1024x1152, .bf16⟩
  | .local _ .vmem, ⟨8, _⟩ => ⟨S1024x768, .bf16⟩
  | .local _ .vmem, ⟨9, _⟩ => ⟨S512x1152, .f32⟩
  | .local _ .vmem, ⟨10, _⟩ => ⟨S512x1152, .f32⟩
  | .local _ .vmem, ⟨11, _⟩ => ⟨S512x1280, .f32⟩
  | .local _ .vmem, ⟨12, _⟩ => ⟨S512x1280, .f32⟩
  | .local _ .vmem, ⟨13, _⟩ => ⟨S512x1152, .f32⟩
  | .local _ .vmem, ⟨14, _⟩ => ⟨S512x1152, .f32⟩
  | .local _ .vmem, ⟨15, _⟩ => ⟨S512x768, .f32⟩
  | .local _ .vmem, ⟨16, _⟩ => ⟨S512x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1152 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1280 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1152 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S8192x1024 : Shape := ⟨2, ![8192, 1024]⟩
abbrev S8x6x1024 : Shape := ⟨3, ![8, 6, 1024]⟩
abbrev S1024 : Shape := ⟨1, ![1024]⟩
abbrev S1024x4128 : Shape := ⟨2, ![1024, 4128]⟩
abbrev S8x1024x1024 : Shape := ⟨3, ![8, 1024, 1024]⟩
abbrev S_ : Shape := ⟨0, ![]⟩
abbrev S8x1024 : Shape := ⟨2, ![8, 1024]⟩
abbrev S8x1024x1 : Shape := ⟨3, ![8, 1024, 1]⟩
abbrev S1x1x1024 : Shape := ⟨3, ![1, 1, 1024]⟩
abbrev S8x1x1024 : Shape := ⟨3, ![8, 1, 1024]⟩
abbrev S8x1024x4128 : Shape := ⟨3, ![8, 1024, 4128]⟩
abbrev S8192x4128 : Shape := ⟨2, ![8192, 4128]⟩
abbrev S8192x112 : Shape := ⟨2, ![8192, 112]⟩
abbrev S8192x1040 : Shape := ⟨2, ![8192, 1040]⟩
abbrev S8192x1152 : Shape := ⟨2, ![8192, 1152]⟩
abbrev S8192x1280 : Shape := ⟨2, ![8192, 1280]⟩
abbrev S8192x768 : Shape := ⟨2, ![8192, 768]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x6x1024, .f32⟩
  | .hbm, ⟨2, _⟩ => ⟨S1024, .f32⟩
  | .hbm, ⟨3, _⟩ => ⟨S1024x4128, .f32⟩
  | .hbm, ⟨4, _⟩ => ⟨S8x1024x1024, .f32⟩
  | .hbm, ⟨5, _⟩ => ⟨S8x1024x1024, .f32⟩
  | .hbm, ⟨6, _⟩ => ⟨S_, .f32⟩
  | .hbm, ⟨7, _⟩ => ⟨S8x1024, .f32⟩
  | .hbm, ⟨8, _⟩ => ⟨S8x1024x1, .f32⟩
  | .hbm, ⟨9, _⟩ => ⟨S_, .f32⟩
  | .hbm, ⟨10, _⟩ => ⟨S8x1024x1, .f32⟩
  | .hbm, ⟨11, _⟩ => ⟨S8x1024x1, .f32⟩
  | .hbm, ⟨12, _⟩ => ⟨S_, .f32⟩
  | .hbm, ⟨13, _⟩ => ⟨S8x1024x1, .f32⟩
  | .hbm, ⟨14, _⟩ => ⟨S8x1024x1, .f32⟩
  | .hbm, ⟨15, _⟩ => ⟨S8x1024x1, .f32⟩
  | .hbm, ⟨16, _⟩ => ⟨S8x1024x1024, .f32⟩
  | .hbm, ⟨17, _⟩ => ⟨S8x1024x1024, .f32⟩
  | .hbm, ⟨18, _⟩ => ⟨S1x1x1024, .f32⟩
  | .hbm, ⟨19, _⟩ => ⟨S8x1024x1024, .f32⟩
  | .hbm, ⟨20, _⟩ => ⟨S8x1024x1024, .f32⟩
  | .hbm, ⟨21, _⟩ => ⟨S8x1x1024, .f32⟩
  | .hbm, ⟨22, _⟩ => ⟨S8x1024, .f32⟩
  | .hbm, ⟨23, _⟩ => ⟨S8x1x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x1024x1024, .f32⟩
  | .hbm, ⟨28, _⟩ => ⟨S8x1024x1024, .f32⟩
  | .hbm, ⟨29, _⟩ => ⟨S8x1x1024, .f32⟩
  | .hbm, ⟨30, _⟩ => ⟨S8x1024, .f32⟩
  | .hbm, ⟨31, _⟩ => ⟨S8x1x1024, .f32⟩
  | .hbm, ⟨32, _⟩ => ⟨S8x1024x1024, .f32⟩
  | .hbm, ⟨33, _⟩ => ⟨S8x1024x1024, .f32⟩
  | .hbm, ⟨34, _⟩ => ⟨S8x1024x4128, .f32⟩
  | .hbm, ⟨35, _⟩ => ⟨S8192x4128, .f32⟩
  | .hbm, ⟨36, _⟩ => ⟨S_, .f32⟩
  | .hbm, ⟨37, _⟩ => ⟨S8192x112, .f32⟩
  | .hbm, ⟨38, _⟩ => ⟨S8192x1040, .f32⟩
  | .hbm, ⟨39, _⟩ => ⟨S8192x1152, .f32⟩
  | .hbm, ⟨40, _⟩ => ⟨S8192x1280, .f32⟩
  | .hbm, ⟨41, _⟩ => ⟨S8192x1040, .f32⟩
  | .hbm, ⟨42, _⟩ => ⟨S8192x1152, .f32⟩
  | .hbm, ⟨43, _⟩ => ⟨S8192x768, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Kernel4.lean ====
abbrev S8192x1024 : Shape := ⟨2, ![8192, 1024]⟩
abbrev S8192x128 : Shape := ⟨2, ![8192, 128]⟩
abbrev S1x6x1024 : Shape := ⟨3, ![1, 6, 1024]⟩
abbrev S64x1024x128 : Shape := ⟨3, ![64, 1024, 128]⟩
abbrev S64x128x1024 : Shape := ⟨3, ![64, 128, 1024]⟩
abbrev S1024x128 : Shape := ⟨2, ![1024, 128]⟩
abbrev S128x1024 : Shape := ⟨2, ![128, 1024]⟩
abbrev S1024 : Shape := ⟨1, ![1024]⟩
abbrev S1x1024 : Shape := ⟨2, ![1, 1024]⟩
abbrev S1024x1024 : Shape := ⟨2, ![1024, 1024]⟩
abbrev S2x1024x128 : Shape := ⟨3, ![2, 1024, 128]⟩
abbrev S2x128x1024 : Shape := ⟨3, ![2, 128, 1024]⟩
abbrev S1x1024x128 : Shape := ⟨3, ![1, 1024, 128]⟩
abbrev S1024x512 : Shape := ⟨2, ![1024, 512]⟩
abbrev S128x256 : Shape := ⟨2, ![128, 256]⟩
abbrev S1024x256 : Shape := ⟨2, ![1024, 256]⟩
abbrev S1x128x1024 : Shape := ⟨3, ![1, 128, 1024]⟩
abbrev S256x1024 : Shape := ⟨2, ![256, 1024]⟩
abbrev S1x1x1024 : Shape := ⟨3, ![1, 1, 1024]⟩
abbrev S1024x1 : Shape := ⟨2, ![1024, 1]⟩

abbrev nBuf : Space → Nat
  | .hbm => 13
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x128, .f32⟩
  | .hbm, ⟨2, _⟩ => ⟨S8192x1024, .f32⟩
  | .hbm, ⟨3, _⟩ => ⟨S1x6x1024, .f32⟩
  | .hbm, ⟨4, _⟩ => ⟨S64x1024x128, .f32⟩
  | .hbm, ⟨5, _⟩ => ⟨S64x1024x128, .f32⟩
  | .hbm, ⟨6, _⟩ => ⟨S64x128x1024, .f32⟩
  | .hbm, ⟨7, _⟩ => ⟨S1024x128, .f32⟩
  | .hbm, ⟨8, _⟩ => ⟨S1024x128, .f32⟩
  | .hbm, ⟨9, _⟩ => ⟨S128x1024, .f32⟩
  | .hbm, ⟨10, _⟩ => ⟨S1024, .f32⟩
  | .hbm, ⟨11, _⟩ => ⟨S1x1024, .f32⟩
  | .hbm, ⟨12, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | .local _ .vmem, ⟨6, _⟩ => ⟨S1x6x1024, .f32⟩
  | .local _ .vmem, ⟨7, _⟩ => ⟨S2x1024x128, .f32⟩
  | .local _ .vmem, ⟨8, _⟩ => ⟨S2x1024x128, .f32⟩
  | .local _ .vmem, ⟨9, _⟩ => ⟨S2x1024x128, .f32⟩
  | .local _ .vmem, ⟨10, _⟩ => ⟨S2x1024x128, .f32⟩
  | .local _ .vmem, ⟨11, _⟩ => ⟨S2x128x1024, .f32⟩
  | .local _ .vmem, ⟨12, _⟩ => ⟨S2x128x1024, .f32⟩
  | .local _ .vmem, ⟨13, _⟩ => ⟨S1024x128, .f32⟩
  | .local _ .vmem, ⟨14, _⟩ => ⟨S1024x128, .f32⟩
  | .local _ .vmem, ⟨15, _⟩ => ⟨S128x1024, .f32⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v87 : BitVec 1 := Scalar.cmpi .eq arg1 c31_i32
  let v88 : BitVec 32 := Scalar.extui v87
  let c0_i32_39 : BitVec 32 := 0#32
  let v89 : BitVec 1 := Scalar.cmpi .ne v88 c0_i32_39
  v89

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference4Ideal.lean ====
abbrev S8192x1024 : Shape := ⟨2, ![8192, 1024]⟩
abbrev S8192x128 : Shape := ⟨2, ![8192, 128]⟩
abbrev S1x6x1024 : Shape := ⟨3, ![1, 6, 1024]⟩
abbrev S64x1024x128 : Shape := ⟨3, ![64, 1024, 128]⟩
abbrev S64x128x1024 : Shape := ⟨3, ![64, 128, 1024]⟩
abbrev S1024x128 : Shape := ⟨2, ![1024, 128]⟩
abbrev S128x1024 : Shape := ⟨2, ![128, 1024]⟩
abbrev S1024 : Shape := ⟨1, ![1024]⟩
abbrev S8192x64 : Shape := ⟨2, ![8192, 64]⟩
abbrev S8192x64x128 : Shape := ⟨3, ![8192, 64, 128]⟩
abbrev S_ : Shape := ⟨0, ![]⟩
abbrev S8192x64x1 : Shape := ⟨3, ![8192, 64, 1]⟩
abbrev S32x256x1024 : Shape := ⟨3, ![32, 256, 1024]⟩
abbrev S1x1x1024 : Shape := ⟨3, ![1, 1, 1024]⟩
abbrev S1x1024 : Shape := ⟨2, ![1, 1024]⟩
abbrev S32x256 : Shape := ⟨2, ![32, 256]⟩
abbrev S32x256x1 : Shape := ⟨3, ![32, 256, 1]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .f32⟩
  | .hbm, ⟨2, _⟩ => ⟨S8192x1024, .f32⟩
  | .hbm, ⟨3, _⟩ => ⟨S1x6x1024, .f32⟩
  | .hbm, ⟨4, _⟩ => ⟨S64x1024x128, .f32⟩
  | .hbm, ⟨5, _⟩ => ⟨S64x1024x128, .f32⟩
  | .hbm, ⟨6, _⟩ => ⟨S64x128x1024, .f32⟩
  | .hbm, ⟨7, _⟩ => ⟨S1024x128, .f32⟩
  | .hbm, ⟨8, _⟩ => ⟨S1024x128, .f32⟩
  | .hbm, ⟨9, _⟩ => ⟨S128x1024, .f32⟩
  | .hbm, ⟨10, _⟩ => ⟨S1024, .f32⟩
  | .hbm, ⟨11, _⟩ => ⟨S8192x1024, .f32⟩
  | .hbm, ⟨12, _⟩ => ⟨S8192x64, .f32⟩
  | .hbm, ⟨13, _⟩ => ⟨S8192x64x128, .f32⟩
  | .hbm, ⟨14, _⟩ => ⟨S8192x64x128, .f32⟩
  | .hbm, ⟨15, _⟩ => ⟨S8192x64x128, .f32⟩
  | .hbm, ⟨16, _⟩ => ⟨S_, .f32⟩
  | .hbm, ⟨17, _⟩ => ⟨S8192x64x128, .f32⟩
  | .hbm, ⟨18, _⟩ => ⟨S8192x64x128, .f32⟩
  | .hbm, ⟨19, _⟩ => ⟨S_, .f32⟩
  | .hbm, ⟨20, _⟩ => ⟨S8192x64x128, .f32⟩
  | .hbm, ⟨21, _⟩ => ⟨S8192x64x128, .f32⟩
  | .hbm, ⟨22, _⟩ => ⟨S8192x64x128, .f32⟩
  | .hbm, ⟨23, _⟩ => ⟨S8192x64x128, .f32⟩
  | .hbm, ⟨24, _⟩ => ⟨S8192x64x128, .f32⟩
  | .hbm, ⟨25, _⟩ => ⟨S8192x64x1, .f32⟩
  | .hbm, ⟨26, _⟩ => ⟨S8192x64x128, .f32⟩
  | .hbm, ⟨27, _⟩ => ⟨S8192x64x128, .f32⟩
  | .hbm, ⟨28, _⟩ => ⟨S8192x1024, .f32⟩
  | .hbm, ⟨29, _⟩ => ⟨S8192x128, .f32⟩
  | .hbm, ⟨30, _⟩ => ⟨S8192x128, .f32⟩
  | .hbm, ⟨31, _⟩ => ⟨S8192x128, .f32⟩
  | .hbm, ⟨32, _⟩ => ⟨S_, .f32⟩
  | .hbm, ⟨33, _⟩ => ⟨S8192x128, .f32⟩
  | .hbm, ⟨34, _⟩ => ⟨S8192x128, .f32⟩
  | .hbm, ⟨35, _⟩ => ⟨S_, .f32⟩
  | .hbm, ⟨36, _⟩ => ⟨S8192x128, .f32⟩
  | .hbm, ⟨37, _⟩ => ⟨S8192x128, .f32⟩
  | .hbm, ⟨38, _⟩ => ⟨S8192x128, .f32⟩
  | .hbm, ⟨39, _⟩ => ⟨S8192x128, .f32⟩
  | .hbm, ⟨40, _⟩ => ⟨S8192x128, .f32⟩
  | .hbm, ⟨41, _⟩ => ⟨S8192x1024, .f32⟩
  | .hbm, ⟨42, _⟩ => ⟨S8192x1024, .f32⟩
  | .hbm, ⟨43, _⟩ => ⟨S32x256x1024, .f32⟩
  | .hbm, ⟨44, _⟩ => ⟨S1x1x1024, .f32⟩
  | .hbm, ⟨45, _⟩ => ⟨S1x1024, .f32⟩
  | .hbm, ⟨46, _⟩ => ⟨S1x1x1024, .f32⟩
  | .hbm, ⟨47, _⟩ => ⟨S32x256x1024, .f32⟩
  | .hbm, ⟨48, _⟩ => ⟨S32x256x1024, .f32⟩
  | .hbm, ⟨49, _⟩ => ⟨S32x256x1024, .f32⟩
  | .hbm, ⟨50, _⟩ => ⟨S32x256x1024, .f32⟩
  | .hbm, ⟨51, _⟩ => ⟨S32x256x1024, .f32⟩
  | .hbm, ⟨52, _⟩ => ⟨S_, .f32⟩
  | .hbm, ⟨53, _⟩ => ⟨S32x256, .f32⟩
  | .hbm, ⟨54, _⟩ => ⟨S32x256x1, .f32⟩
  | .hbm, ⟨55, _⟩ => ⟨S_, .f32⟩
  | .hbm, ⟨56, _⟩ => ⟨S32x256x1, .f32⟩
  | .hbm, ⟨57, _⟩ => ⟨S32x256x1, .f32⟩
  | .hbm, ⟨58, _⟩ => ⟨S_, .f32⟩
  | .hbm, ⟨59, _⟩ => ⟨S32x256x1, .f32⟩
  | .hbm, ⟨60, _⟩ => ⟨S32x256x1, .f32⟩
  | .hbm, ⟨61, _⟩ => ⟨S32x256x1, .f32⟩
  | .hbm, ⟨62, _⟩ => ⟨S32x256x1024, .f32⟩
  | .hbm, ⟨63, _⟩ => ⟨S32x256x1024, .f32⟩
  | .hbm, ⟨64, _⟩ => ⟨S1x1x1024, .f32⟩
  | .hbm, ⟨65, _⟩ => ⟨S32x256x1024, .f32⟩
  | .hbm, ⟨66, _⟩ => ⟨S32x256x1024, .f32⟩
  | .hbm, ⟨67, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst : Ref sig .tc := ⟨.hbm, 52, rfl⟩
abbrev main_v25 : Ref sig .tc := ⟨.hbm, 53, rfl⟩
abbrev main_v26 : Ref sig .tc := ⟨.hbm, 54, rfl⟩
abbrev main_cst_0 : Ref sig .tc := ⟨.hbm, 55, rfl⟩
abbrev main_v27 : Ref sig .tc := ⟨.hbm, 56, rfl⟩
abbrev main_v28 : Ref sig .tc := ⟨.hbm, 57, rfl⟩
abbrev main_cst_1 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩

abbrev nD : Nat := 1
abbrev τ : Topo := Topo.v7x

variable {F : FTy → Type} [FloatOps F]
-- ==== Kernel5.lean ====
abbrev S8192x1024 : Shape := ⟨2, ![8192, 1024]⟩
abbrev S1x6x1024 : Shape := ⟨3, ![1, 6, 1024]⟩
abbrev S1024 : Shape := ⟨1, ![1024]⟩
abbrev S1024x4128 : Shape := ⟨2, ![1024, 4128]⟩
abbrev S1x1024 : Shape := ⟨2, ![1, 1024]⟩
abbrev S_ : Shape := ⟨0, ![]⟩
abbrev S1024x112 : Shape := ⟨2, ![1024, 112]⟩
abbrev S1024x1040 : Shape := ⟨2, ![1024, 1040]⟩
abbrev S1024x1152 : Shape := ⟨2, ![1024, 1152]⟩
abbrev S1024x1280 : Shape := ⟨2, ![1024, 1280]⟩
abbrev S1024x768 : Shape := ⟨2, ![1024, 768]⟩
abbrev S8192x1152 : Shape := ⟨2, ![8192, 1152]⟩
abbrev S8192x1280 : Shape := ⟨2, ![8192, 1280]⟩
abbrev S8192x768 : Shape := ⟨2, ![8192, 768]⟩
abbrev S512x1024 : Shape := ⟨2, ![512, 1024]⟩
abbrev S512x1152 : Shape := ⟨2, ![512, 1152]⟩
abbrev S512x1280 : Shape := ⟨2, ![512, 1280]⟩
abbrev S512x768 : Shape := ⟨2, ![512, 768]⟩
abbrev S1x1x1024 : Shape := ⟨3, ![1, 1, 1024]⟩
abbrev S512 : Shape := ⟨1, ![512]⟩
abbrev S512x1 : Shape := ⟨2, ![512, 1]⟩

abbrev nBuf : Space → Nat
  | .hbm => 21
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x6x1024, .f32⟩
  | .hbm, ⟨2, _⟩ => ⟨S1024, .f32⟩
  | .hbm, ⟨3, _⟩ => ⟨S1024x4128, .f32⟩
  | .hbm, ⟨4, _⟩ => ⟨S1x1024, .f32⟩
  | .hbm, ⟨5, _⟩ => ⟨S_, .f32⟩
  | .hbm, ⟨6, _⟩ => ⟨S1024x112, .f32⟩
  | .hbm, ⟨7, _⟩ => ⟨S1024x1040, .f32⟩
  | .hbm, ⟨8, _⟩ => ⟨S1024x1152, .f32⟩
  | .hbm, ⟨9, _⟩ => ⟨S1024x1280, .f32⟩
  | .hbm, ⟨10, _⟩ => ⟨S1024x1040, .f32⟩
  | .hbm, ⟨11, _⟩ => ⟨S1024x1152, .f32⟩
  | .hbm, ⟨12, _⟩ => ⟨S1024x768, .f32⟩
  | .hbm, ⟨13, _⟩ => ⟨S1024x1152, .bf16⟩
  | .hbm, ⟨14, _⟩ => ⟨S1024x1280, .bf16⟩
  | .hbm, ⟨15, _⟩ => ⟨S1024x1152, .bf16⟩
  | .hbm, ⟨16, _⟩ => ⟨S1024x768, .bf16⟩
  | .hbm, ⟨17, _⟩ => ⟨S8192x1152, .f32⟩
  | .hbm, ⟨18, _⟩ => ⟨S8192x1280, .f32⟩
  | .hbm, ⟨19, _⟩ => ⟨S8192x1152, .f32⟩
  | .hbm, ⟨20, _⟩ => ⟨S8192x768, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x1024, .f32⟩
  | .local _ .vmem, ⟨4, _⟩ => ⟨S1024x1152, .bf16⟩
  | .local _ .vmem, ⟨5, _⟩ => ⟨S1024x1280, .bf16⟩
  | .local _ .vmem, ⟨6, _⟩ => ⟨S1024x1152, .bf16⟩
  | .local _ .vmem, ⟨7, _⟩ => ⟨S1024x768, .bf16⟩
  | .local _ .vmem, ⟨8, _⟩ => ⟨S512x1152, .f32⟩
  | .local _ .vmem, ⟨9, _⟩ => ⟨S512x1152, .f32⟩
  | .local _ .vmem, ⟨10, _⟩ => ⟨S512x1280, .f32⟩
  | .local _ .vmem, ⟨11, _⟩ => ⟨S512x1280, .f32⟩
  | .local _ .vmem, ⟨12, _⟩ => ⟨S512x1152, .f32⟩
  | .local _ .vmem, ⟨13, _⟩ => ⟨S512x1152, .f32⟩
  | .local _ .vmem, ⟨14, _⟩ => ⟨S512x768, .f32⟩
  | .local _ .vmem, ⟨15, _⟩ => ⟨S512x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1152 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1280 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1152 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S8192x1024 : Shape := ⟨2, ![8192, 1024]⟩
abbrev S1x6x1024 : Shape := ⟨3, ![1, 6, 1024]⟩
abbrev S1024 : Shape := ⟨1, ![1024]⟩
abbrev S1024x4128 : Shape := ⟨2, ![1024, 4128]⟩
abbrev S32x256x1024 : Shape := ⟨3, ![32, 256, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S1x1024 : Shape := ⟨2, ![1, 1024]⟩
abbrev S32x256x4128 : Shape := ⟨3, ![32, 256, 4128]⟩
abbrev S8192x4128 : Shape := ⟨2, ![8192, 4128]⟩
abbrev S8192x112 : Shape := ⟨2, ![8192, 112]⟩
abbrev S8192x1040 : Shape := ⟨2, ![8192, 1040]⟩
abbrev S8192x1152 : Shape := ⟨2, ![8192, 1152]⟩
abbrev S8192x1280 : Shape := ⟨2, ![8192, 1280]⟩
abbrev S8192x768 : Shape := ⟨2, ![8192, 768]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x6x1024, .f32⟩
  | .hbm, ⟨2, _⟩ => ⟨S1024, .f32⟩
  | .hbm, ⟨3, _⟩ => ⟨S1024x4128, .f32⟩
  | .hbm, ⟨4, _⟩ => ⟨S32x256x1024, .f32⟩
  | .hbm, ⟨5, _⟩ => ⟨S32x256x1024, .f32⟩
  | .hbm, ⟨6, _⟩ => ⟨S_, .f32⟩
  | .hbm, ⟨7, _⟩ => ⟨S32x256, .f32⟩
  | .hbm, ⟨8, _⟩ => ⟨S32x256x1, .f32⟩
  | .hbm, ⟨9, _⟩ => ⟨S_, .f32⟩
  | .hbm, ⟨10, _⟩ => ⟨S32x256x1, .f32⟩
  | .hbm, ⟨11, _⟩ => ⟨S32x256x1, .f32⟩
  | .hbm, ⟨12, _⟩ => ⟨S_, .f32⟩
  | .hbm, ⟨13, _⟩ => ⟨S32x256x1, .f32⟩
  | .hbm, ⟨14, _⟩ => ⟨S32x256x1, .f32⟩
  | .hbm, ⟨15, _⟩ => ⟨S32x256x1, .f32⟩
  | .hbm, ⟨16, _⟩ => ⟨S32x256x1024, .f32⟩
  | .hbm, ⟨17, _⟩ => ⟨S32x256x1024, .f32⟩
  | .hbm, ⟨18, _⟩ => ⟨S1x1x1024, .f32⟩
  | .hbm, ⟨19, _⟩ => ⟨S32x256x1024, .f32⟩
  | .hbm, ⟨20, _⟩ => ⟨S32x256x1024, .f32⟩
  | .hbm, ⟨21, _⟩ => ⟨S1x1x1024, .f32⟩
  | .hbm, ⟨22, _⟩ => ⟨S1x1024, .f32⟩
  | .hbm, ⟨23, _⟩ => ⟨S1x1x1024, .f32⟩
  | .hbm, ⟨24, _⟩ => ⟨S_, .f32⟩
  | .hbm, ⟨25, _⟩ => ⟨S1x1x1024, .f32⟩
  | .hbm, ⟨26, _⟩ => ⟨S1x1x1024, .f32⟩
  | .hbm, ⟨27, _⟩ => ⟨S32x256x1024, .f32⟩
  | .hbm, ⟨28, _⟩ => ⟨S32x256x1024, .f32⟩
  | .hbm, ⟨29, _⟩ => ⟨S1x1x1024, .f32⟩
  | .hbm, ⟨30, _⟩ => ⟨S1x1024, .f32⟩
  | .hbm, ⟨31, _⟩ => ⟨S1x1x1024, .f32⟩
  | .hbm, ⟨32, _⟩ => ⟨S32x256x1024, .f32⟩
  | .hbm, ⟨33, _⟩ => ⟨S32x256x1024, .f32⟩
  | .hbm, ⟨34, _⟩ => ⟨S32x256x4128, .f32⟩
  | .hbm, ⟨35, _⟩ => ⟨S8192x4128, .f32⟩
  | .hbm, ⟨36, _⟩ => ⟨S_, .f32⟩
  | .hbm, ⟨37, _⟩ => ⟨S8192x112, .f32⟩
  | .hbm, ⟨38, _⟩ => ⟨S8192x1040, .f32⟩
  | .hbm, ⟨39, _⟩ => ⟨S8192x1152, .f32⟩
  | .hbm, ⟨40, _⟩ => ⟨S8192x1280, .f32⟩
  | .hbm, ⟨41, _⟩ => ⟨S8192x1040, .f32⟩
  | .hbm, ⟨42, _⟩ => ⟨S8192x1152, .f32⟩
  | .hbm, ⟨43, _⟩ => ⟨S8192x768, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Kernel6.lean ====
abbrev S8192x1024 : Shape := ⟨2, ![8192, 1024]⟩
abbrev S8192x256 : Shape := ⟨2, ![8192, 256]⟩
abbrev S1024x1024 : Shape := ⟨2, ![1024, 1024]⟩
abbrev S1x6x1024 : Shape := ⟨3, ![1, 6, 1024]⟩
abbrev S1024 : Shape := ⟨1, ![1024]⟩
abbrev S1024x64 : Shape := ⟨2, ![1024, 64]⟩
abbrev S64 : Shape := ⟨1, ![64]⟩
abbrev S1x1024 : Shape := ⟨2, ![1, 1024]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S8192x128 : Shape := ⟨2, ![8192, 128]⟩
abbrev S512x1024 : Shape := ⟨2, ![512, 1024]⟩
abbrev S512x256 : Shape := ⟨2, ![512, 256]⟩
abbrev S512x128 : Shape := ⟨2, ![512, 128]⟩
abbrev S256x1024 : Shape := ⟨2, ![256, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 32
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x256, .bf16⟩
  | .hbm, ⟨2, _⟩ => ⟨S8192x256, .bf16⟩
  | .hbm, ⟨3, _⟩ => ⟨S8192x256, .bf16⟩
  | .hbm, ⟨4, _⟩ => ⟨S8192x256, .bf16⟩
  | .hbm, ⟨5, _⟩ => ⟨S1024x1024, .f32⟩
  | .hbm, ⟨6, _⟩ => ⟨S1x6x1024, .f32⟩
  | .hbm, ⟨7, _⟩ => ⟨S1024, .f32⟩
  | .hbm, ⟨8, _⟩ => ⟨S1024x64, .f32⟩
  | .hbm, ⟨9, _⟩ => ⟨S64, .f32⟩
  | .hbm, ⟨10, _⟩ => ⟨S1x1024, .f32⟩
  | .hbm, ⟨11, _⟩ => ⟨S_, .f32⟩
  | .hbm, ⟨12, _⟩ => ⟨S1024x128, .f32⟩
  | .hbm, ⟨13, _⟩ => ⟨S_, .i32⟩
  | .hbm, ⟨14, _⟩ => ⟨S1, .i32⟩
  | .hbm, ⟨15, _⟩ => ⟨S1024x128, .f32⟩
  | .hbm, ⟨16, _⟩ => ⟨S1024x128, .bf16⟩
  | .hbm, ⟨17, _⟩ => ⟨S1024x128, .f32⟩
  | .hbm, ⟨18, _⟩ => ⟨S1024x128, .f32⟩
  | .hbm, ⟨19, _⟩ => ⟨S1024x128, .bf16⟩
  | .hbm, ⟨20, _⟩ => ⟨S_, .f32⟩
  | .hbm, ⟨21, _⟩ => ⟨S1x128, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S1x128, .f32⟩
  | .hbm, ⟨28, _⟩ => ⟨S1024x1024, .bf16⟩
  | .hbm, ⟨29, _⟩ => ⟨S8192x1024, .f32⟩
  | .hbm, ⟨30, _⟩ => ⟨S8192x1024, .bf16⟩
  | .hbm, ⟨31, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S1024x1024, .bf16⟩
  | .local _ .vmem, ⟨11, _⟩ => ⟨S1x6x1024, .f32⟩
  | .local _ .vmem, ⟨12, _⟩ => ⟨S1x1024, .f32⟩
  | .local _ .vmem, ⟨13, _⟩ => ⟨S1024x128, .bf16⟩
  | .local _ .vmem, ⟨14, _⟩ => ⟨S1024x128, .bf16⟩
  | .local _ .vmem, ⟨15, _⟩ => ⟨S1x128, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x128, .f32⟩
  | .local _ .vmem, ⟨21, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev main_v14_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x6x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference6Ideal.lean ====
abbrev S8192x1024 : Shape := ⟨2, ![8192, 1024]⟩
abbrev S8192x256 : Shape := ⟨2, ![8192, 256]⟩
abbrev S1024x1024 : Shape := ⟨2, ![1024, 1024]⟩
abbrev S1x6x1024 : Shape := ⟨3, ![1, 6, 1024]⟩
abbrev S1024 : Shape := ⟨1, ![1024]⟩
abbrev S1024x64 : Shape := ⟨2, ![1024, 64]⟩
abbrev S64 : Shape := ⟨1, ![64]⟩
abbrev S32x256x1024 : Shape := ⟨3, ![32, 256, 1024]⟩
abbrev S1x1x1024 : Shape := ⟨3, ![1, 1, 1024]⟩
abbrev S1x1024 : Shape := ⟨2, ![1, 1024]⟩
abbrev S_ : Shape := ⟨0, ![]⟩
abbrev S32x256 : Shape := ⟨2, ![32, 256]⟩
abbrev S32x256x1 : Shape := ⟨3, ![32, 256, 1]⟩
abbrev S8192x64 : Shape := ⟨2, ![8192, 64]⟩
abbrev S1x64 : Shape := ⟨2, ![1, 64]⟩
abbrev S8192x8 : Shape := ⟨2, ![8192, 8]⟩
abbrev S8192x8x1 : Shape := ⟨3, ![8192, 8, 1]⟩
abbrev S1 : Shape := ⟨1, ![1]⟩
abbrev S1x1x1 : Shape := ⟨3, ![1, 1, 1]⟩
abbrev S8192 : Shape := ⟨1, ![8192]⟩
abbrev S8192x1 : Shape := ⟨2, ![8192, 1]⟩
abbrev S1x1x64 : Shape := ⟨3, ![1, 1, 64]⟩
abbrev S8192x8x64 : Shape := ⟨3, ![8192, 8, 64]⟩
abbrev S8192x128 : Shape := ⟨2, ![8192, 128]⟩

abbrev nBuf : Space → Nat
  | .hbm => 107
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .bf16⟩
  | .hbm, ⟨2, _⟩ => ⟨S8192x256, .bf16⟩
  | .hbm, ⟨3, _⟩ => ⟨S8192x256, .bf16⟩
  | .hbm, ⟨4, _⟩ => ⟨S8192x256, .bf16⟩
  | .hbm, ⟨5, _⟩ => ⟨S1024x1024, .f32⟩
  | .hbm, ⟨6, _⟩ => ⟨S1x6x1024, .f32⟩
  | .hbm, ⟨7, _⟩ => ⟨S1024, .f32⟩
  | .hbm, ⟨8, _⟩ => ⟨S1024x64, .f32⟩
  | .hbm, ⟨9, _⟩ => ⟨S64, .f32⟩
  | .hbm, ⟨10, _⟩ => ⟨S8192x1024, .bf16⟩
  | .hbm, ⟨11, _⟩ => ⟨S8192x1024, .f32⟩
  | .hbm, ⟨12, _⟩ => ⟨S8192x1024, .f32⟩
  | .hbm, ⟨13, _⟩ => ⟨S32x256x1024, .f32⟩
  | .hbm, ⟨14, _⟩ => ⟨S1x1x1024, .f32⟩
  | .hbm, ⟨15, _⟩ => ⟨S1x1024, .f32⟩
  | .hbm, ⟨16, _⟩ => ⟨S1x1x1024, .f32⟩
  | .hbm, ⟨17, _⟩ => ⟨S32x256x1024, .f32⟩
  | .hbm, ⟨18, _⟩ => ⟨S32x256x1024, .f32⟩
  | .hbm, ⟨19, _⟩ => ⟨S32x256x1024, .f32⟩
  | .hbm, ⟨20, _⟩ => ⟨S32x256x1024, .f32⟩
  | .hbm, ⟨21, _⟩ => ⟨S32x256x1024, .f32⟩
  | .hbm, ⟨22, _⟩ => ⟨S_, .f32⟩
  | .hbm, ⟨23, _⟩ => ⟨S32x256, .f32⟩
  | .hbm, ⟨24, _⟩ => ⟨S32x256x1, .f32⟩
  | .hbm, ⟨25, _⟩ => ⟨S_, .f32⟩
  | .hbm, ⟨26, _⟩ => ⟨S32x256x1, .f32⟩
  | .hbm, ⟨27, _⟩ => ⟨S32x256x1, .f32⟩
  | .hbm, ⟨28, _⟩ => ⟨S_, .f32⟩
  | .hbm, ⟨29, _⟩ => ⟨S32x256x1, .f32⟩
  | .hbm, ⟨30, _⟩ => ⟨S32x256x1, .f32⟩
  | .hbm, ⟨31, _⟩ => ⟨S32x256x1, .f32⟩
  | .hbm, ⟨32, _⟩ => ⟨S32x256x1024, .f32⟩
  | .hbm, ⟨33, _⟩ => ⟨S32x256x1024, .f32⟩
  | .hbm, ⟨34, _⟩ => ⟨S1x1x1024, .f32⟩
  | .hbm, ⟨35, _⟩ => ⟨S32x256x1024, .f32⟩
  | .hbm, ⟨36, _⟩ => ⟨S32x256x1024, .f32⟩
  | .hbm, ⟨37, _⟩ => ⟨S1x1x1024, .f32⟩
  | .hbm, ⟨38, _⟩ => ⟨S1x1024, .f32⟩
  | .hbm, ⟨39, _⟩ => ⟨S1x1x1024, .f32⟩
  | .hbm, ⟨40, _⟩ => ⟨S_, .f32⟩
  | .hbm, ⟨41, _⟩ => ⟨S1x1x1024, .f32⟩
  | .hbm, ⟨42, _⟩ => ⟨S1x1x1024, .f32⟩
  | .hbm, ⟨43, _⟩ => ⟨S32x256x1024, .f32⟩
  | .hbm, ⟨44, _⟩ => ⟨S32x256x1024, .f32⟩
  | .hbm, ⟨45, _⟩ => ⟨S1x1x1024, .f32⟩
  | .hbm, ⟨46, _⟩ => ⟨S1x1024, .f32⟩
  | .hbm, ⟨47, _⟩ => ⟨S1x1x1024, .f32⟩
  | .hbm, ⟨48, _⟩ => ⟨S32x256x1024, .f32⟩
  | .hbm, ⟨49, _⟩ => ⟨S32x256x1024, .f32⟩
  | .hbm, ⟨50, _⟩ => ⟨S8192x1024, .f32⟩
  | .hbm, ⟨51, _⟩ => ⟨S8192x64, .f32⟩
  | .hbm, ⟨52, _⟩ => ⟨S8192x64, .f32⟩
  | .hbm, ⟨53, _⟩ => ⟨S8192x64, .f32⟩
  | .hbm, ⟨54, _⟩ => ⟨S_, .f32⟩
  | .hbm, ⟨55, _⟩ => ⟨S8192x64, .f32⟩
  | .hbm, ⟨56, _⟩ => ⟨S8192x64, .f32⟩
  | .hbm, ⟨57, _⟩ => ⟨S_, .f32⟩
  | .hbm, ⟨58, _⟩ => ⟨S8192x64, .f32⟩
  | .hbm, ⟨59, _⟩ => ⟨S8192x64, .f32⟩
  | .hbm, ⟨60, _⟩ => ⟨S1x64, .f32⟩
  | .hbm, ⟨61, _⟩ => ⟨S8192x64, .f32⟩
  | .hbm, ⟨62, _⟩ => ⟨S8192x64, .f32⟩
  | .hbm, ⟨63, _⟩ => ⟨S8192x8, .f32⟩
  | .hbm, ⟨64, _⟩ => ⟨S8192x8, .i32⟩
  | .hbm, ⟨65, _⟩ => ⟨S_, .i32⟩
  | .hbm, ⟨66, _⟩ => ⟨S8192x8, .i32⟩
  | .hbm, ⟨67, _⟩ => ⟨S8192x8, .i1⟩
  | .hbm, ⟨68, _⟩ => ⟨S_, .i32⟩
  | .hbm, ⟨69, _⟩ => ⟨S8192x8, .i32⟩
  | .hbm, ⟨70, _⟩ => ⟨S8192x8, .i32⟩
  | .hbm, ⟨71, _⟩ => ⟨S8192x8, .i32⟩
  | .hbm, ⟨72, _⟩ => ⟨S8192x8x1, .i32⟩
  | .hbm, ⟨73, _⟩ => ⟨S1, .i32⟩
  | .hbm, ⟨74, _⟩ => ⟨S_, .i32⟩
  | .hbm, ⟨75, _⟩ => ⟨S8192x8x1, .i32⟩
  | .hbm, ⟨76, _⟩ => ⟨S8192x8x1, .i1⟩
  | .hbm, ⟨77, _⟩ => ⟨S1x1x1, .i32⟩
  | .hbm, ⟨78, _⟩ => ⟨S8192x8x1, .i32⟩
  | .hbm, ⟨79, _⟩ => ⟨S8192x8x1, .i1⟩
  | .hbm, ⟨80, _⟩ => ⟨S8192x8x1, .i1⟩
  | .hbm, ⟨81, _⟩ => ⟨S_, .i1⟩
  | .hbm, ⟨82, _⟩ => ⟨S8192x8, .i1⟩
  | .hbm, ⟨83, _⟩ => ⟨S8192x8, .f32⟩
  | .hbm, ⟨84, _⟩ => ⟨S_, .f32⟩
  | .hbm, ⟨85, _⟩ => ⟨S8192x8, .f32⟩
  | .hbm, ⟨86, _⟩ => ⟨S8192x8, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S8192x8, .f32⟩
  | .hbm, ⟨91, _⟩ => ⟨S8192x8, .f32⟩
  | .hbm, ⟨92, _⟩ => ⟨S_, .f32⟩
  | .hbm, ⟨93, _⟩ => ⟨S8192x8, .f32⟩
  | .hbm, ⟨94, _⟩ => ⟨S8192x8, .f32⟩
  | .hbm, ⟨95, _⟩ => ⟨S8192x8x1, .i32⟩
  | .hbm, ⟨96, _⟩ => ⟨S1x1x64, .i32⟩
  | .hbm, ⟨97, _⟩ => ⟨S8192x8x64, .i32⟩
  | .hbm, ⟨98, _⟩ => ⟨S8192x8x64, .i32⟩
  | .hbm, ⟨99, _⟩ => ⟨S8192x8x64, .i1⟩
  | .hbm, ⟨100, _⟩ => ⟨S8192x8x64, .f32⟩
  | .hbm, ⟨101, _⟩ => ⟨S8192x64, .f32⟩
  | .hbm, ⟨102, _⟩ => ⟨S8192x1024, .f32⟩
  | .hbm, ⟨103, _⟩ => ⟨S8192x1024, .bf16⟩
  | .hbm, ⟨104, _⟩ => ⟨S_, .f32⟩
  | .hbm, ⟨105, _⟩ => ⟨S8192x64, .f32⟩
  | .hbm, ⟨106, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_values : Ref sig .tc := ⟨.hbm, 63, rfl⟩
abbrev main_indices : Ref sig .tc := ⟨.hbm, 64, rfl⟩
abbrev main_call0_c : Ref sig .tc := ⟨.hbm, 65, rfl⟩
abbrev main_call0_v0 : Ref sig .tc := ⟨.hbm, 66, rfl⟩
abbrev main_call0_v1 : Ref sig .tc := ⟨.hbm, 67, rfl⟩
abbrev main_call0_c_0 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_v5 : Ref sig .tc := ⟨.hbm, 72, rfl⟩
abbrev main_call0_c_1 : Ref sig .tc := ⟨.hbm, 73, rfl⟩
abbrev main_call0_c_2 : Ref sig .tc := ⟨.hbm, 74, rfl⟩
abbrev main_call0_v6 : Ref sig .tc := ⟨.hbm, 75, rfl⟩
abbrev main_call0_v7 : Ref sig .tc := ⟨.hbm, 76, rfl⟩
abbrev main_call0_v8 : Ref sig .tc := ⟨.hbm, 77, rfl⟩
abbrev main_call0_v9 : Ref sig .tc := ⟨.hbm, 78, rfl⟩
abbrev main_call0_v10 : Ref sig .tc := ⟨.hbm, 79, rfl⟩
abbrev main_call0_v11 : Ref sig .tc := ⟨.hbm, 80, rfl⟩
abbrev main_call0_c_3 : Ref sig .tc := ⟨.hbm, 81, rfl⟩
abbrev main_call0_v12 : Ref sig .tc := ⟨.hbm, 82, rfl⟩
abbrev main_call0_v13 : Ref sig .tc := ⟨.hbm, 83, rfl⟩
abbrev main_call0_cst : Ref sig .tc := ⟨.hbm, 84, rfl⟩
abbrev main_call0_v14 : Ref sig .tc := ⟨.hbm, 85, rfl⟩
abbrev main_v47 : Ref sig .tc := ⟨.hbm, 86, rfl⟩
abbrev main_cst_5 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_cst_6 : Ref sig .tc := ⟨.hbm, 92, rfl⟩
abbrev main_v52 : Ref sig .tc := ⟨.hbm, 93, rfl⟩
abbrev main_v53 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_cst_7 : Ref sig .tc := ⟨.hbm, 104, rfl⟩
abbrev main_v58 : Ref sig .tc := ⟨.hbm, 105, rfl⟩
abbrev main_v59 : Ref sig .tc := ⟨.hbm, 106, rfl⟩

abbrev nD : Nat := 1
abbrev τ : Topo := Topo.v7x

variable {F : FTy → Type} [FloatOps F]
-- ==== Kernel7.lean ====
abbrev S16x1024 : Shape := ⟨2, ![16, 1024]⟩
abbrev S1024x6144 : Shape := ⟨2, ![1024, 6144]⟩
abbrev S6144 : Shape := ⟨1, ![6144]⟩
abbrev S1x6144 : Shape := ⟨2, ![1, 6144]⟩
abbrev S16x6144 : Shape := ⟨2, ![16, 6144]⟩
abbrev S1024x1536 : Shape := ⟨2, ![1024, 1536]⟩
abbrev S1x1536 : Shape := ⟨2, ![1, 1536]⟩
abbrev S16x1536 : Shape := ⟨2, ![16, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S16x6144, .f32⟩
  | .local _ .vmem, ⟨0, _⟩ => ⟨S16x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S16x1536, .f32⟩
  | .local _ .vmem, ⟨6, _⟩ => ⟨S16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S16x1024 : Shape := ⟨2, ![16, 1024]⟩
abbrev S1024x6144 : Shape := ⟨2, ![1024, 6144]⟩
abbrev S6144 : Shape := ⟨1, ![6144]⟩
abbrev S_ : Shape := ⟨0, ![]⟩
abbrev S16x6144 : Shape := ⟨2, ![16, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x6144, .f32⟩
  | .hbm, ⟨13, _⟩ => ⟨S1x6144, .f32⟩
  | .hbm, ⟨14, _⟩ => ⟨S16x6144, .f32⟩
  | .hbm, ⟨15, _⟩ => ⟨S16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel8.lean ====
abbrev S256x128 : Shape := ⟨2, ![256, 128]⟩
abbrev S256x256 : Shape := ⟨2, ![256, 256]⟩
abbrev S33x64 : Shape := ⟨2, ![33, 64]⟩
abbrev S64 : Shape := ⟨1, ![64]⟩
abbrev S64x64 : Shape := ⟨2, ![64, 64]⟩
abbrev S64x1024 : Shape := ⟨2, ![64, 1024]⟩
abbrev S512x256 : Shape := ⟨2, ![512, 256]⟩
abbrev S_ : Shape := ⟨0, ![]⟩
abbrev S128x64 : Shape := ⟨2, ![128, 64]⟩
abbrev S1 : Shape := ⟨1, ![1]⟩
abbrev S1x64 : Shape := ⟨2, ![1, 64]⟩
abbrev S2x256x256 : Shape := ⟨3, ![2, 256, 256]⟩
abbrev S256x64 : Shape := ⟨2, ![256, 64]⟩
abbrev S256x1024 : Shape := ⟨2, ![256, 1024]⟩
abbrev S256 : Shape := ⟨1, ![256]⟩
abbrev S1x256 : Shape := ⟨2, ![1, 256]⟩
abbrev S1x256x256 : Shape := ⟨3, ![1, 256, 256]⟩

abbrev nBuf : Space → Nat
  | .hbm => 23
  | .vmem => 12
  | .smem => 0
  | _ => 0

abbrev bufTy : (tb : Table) → Fin (tcTables nBuf tb) → BufTy
  | .hbm, ⟨0, _⟩ => ⟨S256x128, .f32⟩
  | .hbm, ⟨1, _⟩ => ⟨S256x256, .f32⟩
  | .hbm, ⟨2, _⟩ => ⟨S33x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1024, .f32⟩
  | .hbm, ⟨7, _⟩ => ⟨S64, .f32⟩
  | .hbm, ⟨8, _⟩ => ⟨S512x256, .f32⟩
  | .hbm, ⟨9, _⟩ => ⟨S512x256, .bf16⟩
  | .hbm, ⟨10, _⟩ => ⟨S512x256, .f32⟩
  | .hbm, ⟨11, _⟩ => ⟨S512x256, .f32⟩
  | .hbm, ⟨12, _⟩ => ⟨S512x256, .bf16⟩
  | .hbm, ⟨13, _⟩ => ⟨S_, .f32⟩
  | .hbm, ⟨14, _⟩ => ⟨S128x64, .f32⟩
  | .hbm, ⟨15, _⟩ => ⟨S_, .i32⟩
  | .hbm, ⟨16, _⟩ => ⟨S1, .i32⟩
  | .hbm, ⟨17, _⟩ => ⟨S128x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S2x256x256, .f32⟩
  | .hbm, ⟨22, _⟩ => ⟨S2x256x256, .f32⟩
  | .local _ .vmem, ⟨0, _⟩ => ⟨S256x128, .f32⟩
  | .local _ .vmem, ⟨1, _⟩ => ⟨S256x256, .f32⟩
  | .local _ .vmem, ⟨2, _⟩ => ⟨S128x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x1024, .f32⟩
  | .local _ .vmem, ⟨7, _⟩ => ⟨S1x64, .f32⟩
  | .local _ .vmem, ⟨8, _⟩ => ⟨S512x256, .bf16⟩
  | .local _ .vmem, ⟨9, _⟩ => ⟨S512x256, .bf16⟩
  | .local _ .vmem, ⟨10, _⟩ => ⟨S2x256x256, .f32⟩
  | .local _ .vmem, ⟨11, _⟩ => ⟨S2x256x256, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Reference8Ideal.lean ====
abbrev S256x128 : Shape := ⟨2, ![256, 128]⟩
abbrev S256x256 : Shape := ⟨2, ![256, 256]⟩
abbrev S33x64 : Shape := ⟨2, ![33, 64]⟩
abbrev S64 : Shape := ⟨1, ![64]⟩
abbrev S64x64 : Shape := ⟨2, ![64, 64]⟩
abbrev S64x1024 : Shape := ⟨2, ![64, 1024]⟩
abbrev S512x256 : Shape := ⟨2, ![512, 256]⟩
abbrev S256x33 : Shape := ⟨2, ![256, 33]⟩
abbrev S256x64 : Shape := ⟨2, ![256, 64]⟩
abbrev S1x64 : Shape := ⟨2, ![1, 64]⟩
abbrev S256x1024 : Shape := ⟨2, ![256, 1024]⟩
abbrev S_ : Shape := ⟨0, ![]⟩
abbrev S256 : Shape := ⟨1, ![256]⟩
abbrev S1x256 : Shape := ⟨2, ![1, 256]⟩
abbrev S1x256x256 : Shape := ⟨3, ![1, 256, 256]⟩
abbrev S2x256x256 : Shape := ⟨3, ![2, 256, 256]⟩

abbrev nBuf : Space → Nat
  | .hbm => 126
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S256x256, .f32⟩
  | .hbm, ⟨2, _⟩ => ⟨S33x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1024, .f32⟩
  | .hbm, ⟨7, _⟩ => ⟨S64, .f32⟩
  | .hbm, ⟨8, _⟩ => ⟨S512x256, .f32⟩
  | .hbm, ⟨9, _⟩ => ⟨S256x33, .f32⟩
  | .hbm, ⟨10, _⟩ => ⟨S256x64, .f32⟩
  | .hbm, ⟨11, _⟩ => ⟨S1x64, .f32⟩
  | .hbm, ⟨12, _⟩ => ⟨S256x64, .f32⟩
  | .hbm, ⟨13, _⟩ => ⟨S256x64, .f32⟩
  | .hbm, ⟨14, _⟩ => ⟨S1x64, .f32⟩
  | .hbm, ⟨15, _⟩ => ⟨S256x64, .f32⟩
  | .hbm, ⟨16, _⟩ => ⟨S256x64, .f32⟩
  | .hbm, ⟨17, _⟩ => ⟨S256x64, .f32⟩
  | .hbm, ⟨18, _⟩ => ⟨S256x64, .f32⟩
  | .hbm, ⟨19, _⟩ => ⟨S1x64, .f32⟩
  | .hbm, ⟨20, _⟩ => ⟨S256x64, .f32⟩
  | .hbm, ⟨21, _⟩ => ⟨S256x64, .f32⟩
  | .hbm, ⟨22, _⟩ => ⟨S1x64, .f32⟩
  | .hbm, ⟨23, _⟩ => ⟨S256x64, .f32⟩
  | .hbm, ⟨24, _⟩ => ⟨S256x64, .f32⟩
  | .hbm, ⟨25, _⟩ => ⟨S256x64, .f32⟩
  | .hbm, ⟨26, _⟩ => ⟨S256x1024, .f32⟩
  | .hbm, ⟨27, _⟩ => ⟨S256x256, .i32⟩
  | .hbm, ⟨28, _⟩ => ⟨S256x256, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S_, .i32⟩
  | .hbm, ⟨33, _⟩ => ⟨S256x256, .i32⟩
  | .hbm, ⟨34, _⟩ => ⟨S256x256, .i1⟩
  | .hbm, ⟨35, _⟩ => ⟨S256x256, .f32⟩
  | .hbm, ⟨36, _⟩ => ⟨S256x256, .f32⟩
  | .hbm, ⟨37, _⟩ => ⟨S_, .f32⟩
  | .hbm, ⟨38, _⟩ => ⟨S_, .f32⟩
  | .hbm, ⟨39, _⟩ => ⟨S256x256, .f32⟩
  | .hbm, ⟨40, _⟩ => ⟨S256x256, .f32⟩
  | .hbm, ⟨41, _⟩ => ⟨S256x256, .f32⟩
  | .hbm, ⟨42, _⟩ => ⟨S_, .f32⟩
  | .hbm, ⟨43, _⟩ => ⟨S256, .f32⟩
  | .hbm, ⟨44, _⟩ => ⟨S256x256, .f32⟩
  | .hbm, ⟨45, _⟩ => ⟨S_, .f32⟩
  | .hbm, ⟨46, _⟩ => ⟨S256, .f32⟩
  | .hbm, ⟨47, _⟩ => ⟨S256, .f32⟩
  | .hbm, ⟨48, _⟩ => ⟨S_, .f32⟩
  | .hbm, ⟨49, _⟩ => ⟨S256, .f32⟩
  | .hbm, ⟨50, _⟩ => ⟨S256, .f32⟩
  | .hbm, ⟨51, _⟩ => ⟨S256, .f32⟩
  | .hbm, ⟨52, _⟩ => ⟨S1x256, .f32⟩
  | .hbm, ⟨53, _⟩ => ⟨S256x256, .f32⟩
  | .hbm, ⟨54, _⟩ => ⟨S256x256, .f32⟩
  | .hbm, ⟨55, _⟩ => ⟨S_, .f32⟩
  | .hbm, ⟨56, _⟩ => ⟨S256, .f32⟩
  | .hbm, ⟨57, _⟩ => ⟨S256, .f32⟩
  | .hbm, ⟨58, _⟩ => ⟨S256, .f32⟩
  | .hbm, ⟨59, _⟩ => ⟨S1x256, .f32⟩
  | .hbm, ⟨60, _⟩ => ⟨S256x256, .f32⟩
  | .hbm, ⟨61, _⟩ => ⟨S256x256, .f32⟩
  | .hbm, ⟨62, _⟩ => ⟨S256x256, .f32⟩
  | .hbm, ⟨63, _⟩ => ⟨S256x256, .f32⟩
  | .hbm, ⟨64, _⟩ => ⟨S256x256, .f32⟩
  | .hbm, ⟨65, _⟩ => ⟨S_, .i32⟩
  | .hbm, ⟨66, _⟩ => ⟨S256x256, .i32⟩
  | .hbm, ⟨67, _⟩ => ⟨S256x256, .i1⟩
  | .hbm, ⟨68, _⟩ => ⟨S256x256, .f32⟩
  | .hbm, ⟨69, _⟩ => ⟨S256x256, .f32⟩
  | .hbm, ⟨70, _⟩ => ⟨S256x256, .f32⟩
  | .hbm, ⟨71, _⟩ => ⟨S256x256, .f32⟩
  | .hbm, ⟨72, _⟩ => ⟨S256x256, .f32⟩
  | .hbm, ⟨73, _⟩ => ⟨S256x256, .f32⟩
  | .hbm, ⟨74, _⟩ => ⟨S256x256, .f32⟩
  | .hbm, ⟨75, _⟩ => ⟨S256x256, .f32⟩
  | .hbm, ⟨76, _⟩ => ⟨S256x256, .f32⟩
  | .hbm, ⟨77, _⟩ => ⟨S_, .i32⟩
  | .hbm, ⟨78, _⟩ => ⟨S256x256, .i32⟩
  | .hbm, ⟨79, _⟩ => ⟨S256x256, .i1⟩
  | .hbm, ⟨80, _⟩ => ⟨S256x256, .f32⟩
  | .hbm, ⟨81, _⟩ => ⟨S256x256, .f32⟩
  | .hbm, ⟨82, _⟩ => ⟨S_, .f32⟩
  | .hbm, ⟨83, _⟩ => ⟨S_, .f32⟩
  | .hbm, ⟨84, _⟩ => ⟨S256x256, .f32⟩
  | .hbm, ⟨85, _⟩ => ⟨S256x256, .f32⟩
  | .hbm, ⟨86, _⟩ => ⟨S256x256, .f32⟩
  | .hbm, ⟨87, _⟩ => ⟨S_, .f32⟩
  | .hbm, ⟨88, _⟩ => ⟨S256, .f32⟩
  | .hbm, ⟨89, _⟩ => ⟨S256x256, .f32⟩
  | .hbm, ⟨90, _⟩ => ⟨S_, .f32⟩
  | .hbm, ⟨91, _⟩ => ⟨S256, .f32⟩
  | .hbm, ⟨92, _⟩ => ⟨S256, .f32⟩
  | .hbm, ⟨93, _⟩ => ⟨S_, .f32⟩
  | .hbm, ⟨94, _⟩ => ⟨S256, .f32⟩
  | .hbm, ⟨95, _⟩ => ⟨S256, .f32⟩
  | .hbm, ⟨96, _⟩ => ⟨S256, .f32⟩
  | .hbm, ⟨97, _⟩ => ⟨S1x256, .f32⟩
  | .hbm, ⟨98, _⟩ => ⟨S256x256, .f32⟩
  | .hbm, ⟨99, _⟩ => ⟨S256x256, .f32⟩
  | .hbm, ⟨100, _⟩ => ⟨S_, .f32⟩
  | .hbm, ⟨101, _⟩ => ⟨S256, .f32⟩
  | .hbm, ⟨102, _⟩ => ⟨S256, .f32⟩
  | .hbm, ⟨103, _⟩ => ⟨S256, .f32⟩
  | .hbm, ⟨104, _⟩ => ⟨S1x256, .f32⟩
  | .hbm, ⟨105, _⟩ => ⟨S256x256, .f32⟩
  | .hbm, ⟨106, _⟩ => ⟨S256x256, .f32⟩
  | .hbm, ⟨107, _⟩ => ⟨S256x256, .f32⟩
  | .hbm, ⟨108, _⟩ => ⟨S256x256, .f32⟩
  | .hbm, ⟨109, _⟩ => ⟨S256x256, .f32⟩
  | .hbm, ⟨110, _⟩ => ⟨S_, .i32⟩
  | .hbm, ⟨111, _⟩ => ⟨S256x256, .i32⟩
  | .hbm, ⟨112, _⟩ => ⟨S256x256, .i1⟩
  | .hbm, ⟨113, _⟩ => ⟨S256x256, .f32⟩
  | .hbm, ⟨114, _⟩ => ⟨S256x256, .f32⟩
  | .hbm, ⟨115, _⟩ => ⟨S256x256, .f32⟩
  | .hbm, ⟨116, _⟩ => ⟨S256x256, .f32⟩
  | .hbm, ⟨117, _⟩ => ⟨S256x256, .f32⟩
  | .hbm, ⟨118, _⟩ => ⟨S256x256, .f32⟩
  | .hbm, ⟨119, _⟩ => ⟨S256x256, .f32⟩
  | .hbm, ⟨120, _⟩ => ⟨S1x256x256, .f32⟩
  | .hbm, ⟨121, _⟩ => ⟨S1x256x256, .f32⟩
  | .hbm, ⟨122, _⟩ => ⟨S2x256x256, .f32⟩
  | .hbm, ⟨123, _⟩ => ⟨S1x256x256, .f32⟩
  | .hbm, ⟨124, _⟩ => ⟨S1x256x256, .f32⟩
  | .hbm, ⟨125, _⟩ => ⟨S2x256x256, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst : Ref sig .tc := ⟨.hbm, 37, rfl⟩
abbrev main_call0_v0 : Ref sig .tc := ⟨.hbm, 38, rfl⟩
abbrev main_call0_v1 : Ref sig .tc := ⟨.hbm, 39, rfl⟩
abbrev main_v27 : Ref sig .tc := ⟨.hbm, 40, rfl⟩
abbrev main_v28 : Ref sig .tc := ⟨.hbm, 41, rfl⟩
abbrev main_cst_0 : Ref sig .tc := ⟨.hbm, 42, rfl⟩
abbrev main_v29 : Ref sig .tc := ⟨.hbm, 43, rfl⟩
abbrev main_v30 : Ref sig .tc := ⟨.hbm, 44, rfl⟩
abbrev main_cst_1 : Ref sig .tc := ⟨.hbm, 45, rfl⟩
abbrev main_v31 : Ref sig .tc := ⟨.hbm, 46, rfl⟩
abbrev main_v32 : Ref sig .tc := ⟨.hbm, 47, rfl⟩
abbrev main_cst_2 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_3 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_4 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_5 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_6 : Ref sig .tc := ⟨.hbm, 82, rfl⟩
abbrev main_call2_v0 : Ref sig .tc := ⟨.hbm, 83, rfl⟩
abbrev main_call2_v1 : Ref sig .tc := ⟨.hbm, 84, rfl⟩
abbrev main_v63 : Ref sig .tc := ⟨.hbm, 85, rfl⟩
abbrev main_v64 : Ref sig .tc := ⟨.hbm, 86, rfl⟩
abbrev main_cst_7 : Ref sig .tc := ⟨.hbm, 87, rfl⟩
abbrev main_v65 : Ref sig .tc := ⟨.hbm, 88, rfl⟩
abbrev main_v66 : Ref sig .tc := ⟨.hbm, 89, rfl⟩
abbrev main_cst_8 : Ref sig .tc := ⟨.hbm, 90, rfl⟩
abbrev main_v67 : Ref sig .tc := ⟨.hbm, 91, rfl⟩
abbrev main_v68 : Ref sig .tc := ⟨.hbm, 92, rfl⟩
abbrev main_cst_9 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_10 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_c_11 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩

abbrev nD : Nat := 1
abbrev τ : Topo := Topo.v7x

variable {F : FTy → Type} [FloatOps F]
-- ==== Kernel9.lean ====
abbrev S32x256x768 : Shape := ⟨3, ![32, 256, 768]⟩
abbrev S3x768 : Shape := ⟨2, ![3, 768]⟩
abbrev S2x256x256 : Shape := ⟨3, ![2, 256, 256]⟩
abbrev S2x256 : Shape := ⟨2, ![2, 256]⟩
abbrev S512x256 : Shape := ⟨2, ![512, 256]⟩
abbrev S256x512 : Shape := ⟨2, ![256, 512]⟩
abbrev S32x256x256 : Shape := ⟨3, ![32, 256, 256]⟩
abbrev S1x256x768 : Shape := ⟨3, ![1, 256, 768]⟩
abbrev S1x256x256 : Shape := ⟨3, ![1, 256, 256]⟩
abbrev S272x768 : Shape := ⟨2, ![272, 768]⟩
abbrev S256x768 : Shape := ⟨2, ![256, 768]⟩
abbrev S8x768 : Shape := ⟨2, ![8, 768]⟩
abbrev S1x768 : Shape := ⟨2, ![1, 768]⟩
abbrev S256x256 : Shape := ⟨2, ![256, 256]⟩
abbrev S1x256 : Shape := ⟨2, ![1, 256]⟩

abbrev nBuf : Space → Nat
  | .hbm => 16
  | .vmem => 13
  | .smem => 0
  | _ => 0

abbrev bufTy : (tb : Table) → Fin (tcTables nBuf tb) → BufTy
  | .hbm, ⟨0, _⟩ => ⟨S32x256x768, .f32⟩
  | .hbm, ⟨1, _⟩ => ⟨S3x768, .f32⟩
  | .hbm, ⟨2, _⟩ => ⟨S2x256x256, .f32⟩
  | .hbm, ⟨3, _⟩ => ⟨S2x256x256, .f32⟩
  | .hbm, ⟨4, _⟩ => ⟨S2x256, .f32⟩
  | .hbm, ⟨5, _⟩ => ⟨S512x256, .f32⟩
  | .hbm, ⟨6, _⟩ => ⟨S256x512, .f32⟩
  | .hbm, ⟨7, _⟩ => ⟨S512x256, .bf16⟩
  | .hbm, ⟨8, _⟩ => ⟨S512x256, .f32⟩
  | .hbm, ⟨9, _⟩ => ⟨S512x256, .f32⟩
  | .hbm, ⟨10, _⟩ => ⟨S512x256, .bf16⟩
  | .hbm, ⟨11, _⟩ => ⟨S256x512, .bf16⟩
  | .hbm, ⟨12, _⟩ => ⟨S256x512, .f32⟩
  | .hbm, ⟨13, _⟩ => ⟨S256x512, .f32⟩
  | .hbm, ⟨14, _⟩ => ⟨S256x512, .bf16⟩
  | .hbm, ⟨15, _⟩ => ⟨S32x256x256, .bf16⟩
  | .local _ .vmem, ⟨0, _⟩ => ⟨S1x256x768, .f32⟩
  | .local _ .vmem, ⟨1, _⟩ => ⟨S1x256x768, .f32⟩
  | .local _ .vmem, ⟨2, _⟩ => ⟨S3x768, .f32⟩
  | .local _ .vmem, ⟨3, _⟩ => ⟨S2x256x256, .f32⟩
  | .local _ .vmem, ⟨4, _⟩ => ⟨S2x256x256, .f32⟩
  | .local _ .vmem, ⟨5, _⟩ => ⟨S2x256, .f32⟩
  | .local _ .vmem, ⟨6, _⟩ => ⟨S512x256, .bf16⟩
  | .local _ .vmem, ⟨7, _⟩ => ⟨S512x256, .bf16⟩
  | .local _ .vmem, ⟨8, _⟩ => ⟨S256x512, .bf16⟩
  | .local _ .vmem, ⟨9, _⟩ => ⟨S256x512, .bf16⟩
  | .local _ .vmem, ⟨10, _⟩ => ⟨S1x256x256, .bf16⟩
  | .local _ .vmem, ⟨11, _⟩ => ⟨S1x256x256, .bf16⟩
  | .local _ .vmem, ⟨12, _⟩ => ⟨S272x768, .f32⟩
  | _, _ => ⟨S32x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel9Ideal.lean ====
abbrev S32x256x768 : Shape := ⟨3, ![32, 256, 768]⟩
abbrev S3x768 : Shape := ⟨2, ![3, 768]⟩
abbrev S2x256x256 : Shape := ⟨3, ![2, 256, 256]⟩
abbrev S2x256 : Shape := ⟨2, ![2, 256]⟩
abbrev S512x256 : Shape := ⟨2, ![512, 256]⟩
abbrev S256x512 : Shape := ⟨2, ![256, 512]⟩
abbrev S32x256x256 : Shape := ⟨3, ![32, 256, 256]⟩
abbrev S1x256x768 : Shape := ⟨3, ![1, 256, 768]⟩
abbrev S1x256x256 : Shape := ⟨3, ![1, 256, 256]⟩
abbrev S272x768 : Shape := ⟨2, ![272, 768]⟩
abbrev S256x768 : Shape := ⟨2, ![256, 768]⟩
abbrev S8x768 : Shape := ⟨2, ![8, 768]⟩
abbrev S1x768 : Shape := ⟨2, ![1, 768]⟩
abbrev S256x256 : Shape := ⟨2, ![256, 256]⟩
abbrev S1x256 : Shape := ⟨2, ![1, 256]⟩

abbrev nBuf : Space → Nat
  | .hbm => 16
  | .vmem => 13
  | .smem => 0
  | _ => 0

abbrev bufTy : (tb : Table) → Fin (tcTables nBuf tb) → BufTy
  | .hbm, ⟨0, _⟩ => ⟨S32x256x768, .f32⟩
  | .hbm, ⟨1, _⟩ => ⟨S3x768, .f32⟩
  | .hbm, ⟨2, _⟩ => ⟨S2x256x256, .f32⟩
  | .hbm, ⟨3, _⟩ => ⟨S2x256x256, .f32⟩
  | .hbm, ⟨4, _⟩ => ⟨S2x256, .f32⟩
  | .hbm, ⟨5, _⟩ => ⟨S512x256, .f32⟩
  | .hbm, ⟨6, _⟩ => ⟨S256x512, .f32⟩
  | .hbm, ⟨7, _⟩ => ⟨S512x256, .bf16⟩
  | .hbm, ⟨8, _⟩ => ⟨S512x256, .f32⟩
  | .hbm, ⟨9, _⟩ => ⟨S512x256, .f32⟩
  | .hbm, ⟨10, _⟩ => ⟨S512x256, .bf16⟩
  | .hbm, ⟨11, _⟩ => ⟨S256x512, .bf16⟩
  | .hbm, ⟨12, _⟩ => ⟨S256x512, .f32⟩
  | .hbm, ⟨13, _⟩ => ⟨S256x512, .f32⟩
  | .hbm, ⟨14, _⟩ => ⟨S256x512, .bf16⟩
  | .hbm, ⟨15, _⟩ => ⟨S32x256x256, .bf16⟩
  | .local _ .vmem, ⟨0, _⟩ => ⟨S1x256x768, .f32⟩
  | .local _ .vmem, ⟨1, _⟩ => ⟨S1x256x768, .f32⟩
  | .local _ .vmem, ⟨2, _⟩ => ⟨S3x768, .f32⟩
  | .local _ .vmem, ⟨3, _⟩ => ⟨S2x256x256, .f32⟩
  | .local _ .vmem, ⟨4, _⟩ => ⟨S2x256x256, .f32⟩
  | .local _ .vmem, ⟨5, _⟩ => ⟨S2x256, .f32⟩
  | .local _ .vmem, ⟨6, _⟩ => ⟨S512x256, .bf16⟩
  | .local _ .vmem, ⟨7, _⟩ => ⟨S512x256, .bf16⟩
  | .local _ .vmem, ⟨8, _⟩ => ⟨S256x512, .bf16⟩
  | .local _ .vmem, ⟨9, _⟩ => ⟨S256x512, .bf16⟩
  | .local _ .vmem, ⟨10, _⟩ => ⟨S1x256x256, .bf16⟩
  | .local _ .vmem, ⟨11, _⟩ => ⟨S1x256x256, .bf16⟩
  | .local _ .vmem, ⟨12, _⟩ => ⟨S272x768, .f32⟩
  | _, _ => ⟨S32x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference9Ideal.lean ====
abbrev S32x256x768 : Shape := ⟨3, ![32, 256, 768]⟩
abbrev S3x768 : Shape := ⟨2, ![3, 768]⟩
abbrev S2x256x256 : Shape := ⟨3, ![2, 256, 256]⟩
abbrev S2x256 : Shape := ⟨2, ![2, 256]⟩
abbrev S512x256 : Shape := ⟨2, ![512, 256]⟩
abbrev S256x512 : Shape := ⟨2, ![256, 512]⟩
abbrev S_ : Shape := ⟨0, ![]⟩
abbrev S32x1x768 : Shape := ⟨3, ![32, 1, 768]⟩
abbrev S32x255x768 : Shape := ⟨3, ![32, 255, 768]⟩
abbrev S1x768 : Shape := ⟨2, ![1, 768]⟩
abbrev S768 : Shape := ⟨1, ![768]⟩
abbrev S1x1x768 : Shape := ⟨3, ![1, 1, 768]⟩
abbrev S32x256x256 : Shape := ⟨3, ![32, 256, 256]⟩
abbrev S256x256 : Shape := ⟨2, ![256, 256]⟩
abbrev S1x256x256 : Shape := ⟨3, ![1, 256, 256]⟩
abbrev S32x256x512 : Shape := ⟨3, ![32, 256, 512]⟩
abbrev S32x512x256 : Shape := ⟨3, ![32, 512, 256]⟩
abbrev S1x512x256 : Shape := ⟨3, ![1, 512, 256]⟩
abbrev S1x256 : Shape := ⟨2, ![1, 256]⟩
abbrev S256 : Shape := ⟨1, ![256]⟩
abbrev S1x1x256 : Shape := ⟨3, ![1, 1, 256]⟩

abbrev nBuf : Space → Nat
  | .hbm => 105
  | .vmem => 0
  | .smem => 0
  | _ => 0

abbrev bufTy : (tb : Table) → Fin (tcTables nBuf tb) → BufTy
  | .hbm, ⟨0, _⟩ => ⟨S32x256x768, .f32⟩
  | .hbm, ⟨1, _⟩ => ⟨S3x768, .f32⟩
  | .hbm, ⟨2, _⟩ => ⟨S2x256x256, .f32⟩
  | .hbm, ⟨3, _⟩ => ⟨S2x256x256, .f32⟩
  | .hbm, ⟨4, _⟩ => ⟨S2x256, .f32⟩
  | .hbm, ⟨5, _⟩ => ⟨S512x256, .f32⟩
  | .hbm, ⟨6, _⟩ => ⟨S256x512, .f32⟩
  | .hbm, ⟨7, _⟩ => ⟨S_, .f32⟩
  | .hbm, ⟨8, _⟩ => ⟨S32x1x768, .f32⟩
  | .hbm, ⟨9, _⟩ => ⟨S32x255x768, .f32⟩
  | .hbm, ⟨10, _⟩ => ⟨S32x256x768, .f32⟩
  | .hbm, ⟨11, _⟩ => ⟨S32x255x768, .f32⟩
  | .hbm, ⟨12, _⟩ => ⟨S32x256x768, .f32⟩
  | .hbm, ⟨13, _⟩ => ⟨S1x768, .f32⟩
  | .hbm, ⟨14, _⟩ => ⟨S768, .f32⟩
  | .hbm, ⟨15, _⟩ => ⟨S1x1x768, .f32⟩
  | .hbm, ⟨16, _⟩ => ⟨S32x256x768, .f32⟩
  | .hbm, ⟨17, _⟩ => ⟨S32x256x768, .f32⟩
  | .hbm, ⟨18, _⟩ => ⟨S1x768, .f32⟩
  | .hbm, ⟨19, _⟩ => ⟨S768, .f32⟩
  | .hbm, ⟨20, _⟩ => ⟨S1x1x768, .f32⟩
  | .hbm, ⟨21, _⟩ => ⟨S32x256x768, .f32⟩
  | .hbm, ⟨22, _⟩ => ⟨S32x256x768, .f32⟩
  | .hbm, ⟨23, _⟩ => ⟨S32x256x768, .f32⟩
  | .hbm, ⟨24, _⟩ => ⟨S1x768, .f32⟩
  | .hbm, ⟨25, _⟩ => ⟨S768, .f32⟩
  | .hbm, ⟨26, _⟩ => ⟨S1x1x768, .f32⟩
  | .hbm, ⟨27, _⟩ => ⟨S32x256x768, .f32⟩
  | .hbm, ⟨28, _⟩ => ⟨S32x256x768, .f32⟩
  | .hbm, ⟨29, _⟩ => ⟨S32x256x768, .f32⟩
  | .hbm, ⟨30, _⟩ => ⟨S32x256x256, .f32⟩
  | .hbm, ⟨31, _⟩ => ⟨S32x256x256, .f32⟩
  | .hbm, ⟨32, _⟩ => ⟨S32x256x256, .f32⟩
  | .hbm, ⟨33, _⟩ => ⟨S256x256, .i32⟩
  | .hbm, ⟨34, _⟩ => ⟨S_, .i32⟩
  | .hbm, ⟨35, _⟩ => ⟨S256x256, .i32⟩
  | .hbm, ⟨36, _⟩ => ⟨S256x256, .i1⟩
  | .hbm, ⟨37, _⟩ => ⟨S256x256, .f32⟩
  | .hbm, ⟨38, _⟩ => ⟨S256x256, .f32⟩
  | .hbm, ⟨39, _⟩ => ⟨S512x256, .f32⟩
  | .hbm, ⟨40, _⟩ => ⟨S1x256x256, .f32⟩
  | .hbm, ⟨41, _⟩ => ⟨S256x256, .f32⟩
  | .hbm, ⟨42, _⟩ => ⟨S1x256x256, .f32⟩
  | .hbm, ⟨43, _⟩ => ⟨S256x256, .f32⟩
  | .hbm, ⟨44, _⟩ => ⟨S_, .f32⟩
  | .hbm, ⟨45, _⟩ => ⟨S_, .f32⟩
  | .hbm, ⟨46, _⟩ => ⟨S256x256, .f32⟩
  | .hbm, ⟨47, _⟩ => ⟨S256x256, .f32⟩
  | .hbm, ⟨48, _⟩ => ⟨S256x256, .f32⟩
  | .hbm, ⟨49, _⟩ => ⟨S512x256, .f32⟩
  | .hbm, ⟨50, _⟩ => ⟨S256x256, .f32⟩
  | .hbm, ⟨51, _⟩ => ⟨S512x256, .f32⟩
  | .hbm, ⟨52, _⟩ => ⟨S32x256x512, .f32⟩
  | .hbm, ⟨53, _⟩ => ⟨S32x512x256, .f32⟩
  | .hbm, ⟨54, _⟩ => ⟨S1x512x256, .f32⟩
  | .hbm, ⟨55, _⟩ => ⟨S32x512x256, .f32⟩
  | .hbm, ⟨56, _⟩ => ⟨S32x512x256, .f32⟩
  | .hbm, ⟨57, _⟩ => ⟨S32x256x512, .f32⟩
  | .hbm, ⟨58, _⟩ => ⟨S32x512x256, .f32⟩
  | .hbm, ⟨59, _⟩ => ⟨S1x512x256, .f32⟩
  | .hbm, ⟨60, _⟩ => ⟨S32x512x256, .f32⟩
  | .hbm, ⟨61, _⟩ => ⟨S32x512x256, .f32⟩
  | .hbm, ⟨62, _⟩ => ⟨S32x512x256, .f32⟩
  | .hbm, ⟨63, _⟩ => ⟨S32x256x256, .f32⟩
  | .hbm, ⟨64, _⟩ => ⟨S32x256x256, .f32⟩
  | .hbm, ⟨65, _⟩ => ⟨S1x256, .f32⟩
  | .hbm, ⟨66, _⟩ => ⟨S256, .f32⟩
  | .hbm, ⟨67, _⟩ => ⟨S1x1x256, .f32⟩
  | .hbm, ⟨68, _⟩ => ⟨S32x256x256, .f32⟩
  | .hbm, ⟨69, _⟩ => ⟨S32x256x256, .f32⟩
  | .hbm, ⟨70, _⟩ => ⟨S32x256x256, .f32⟩
  | .hbm, ⟨71, _⟩ => ⟨S32x256x256, .f32⟩
  | .hbm, ⟨72, _⟩ => ⟨S1x256x256, .f32⟩
  | .hbm, ⟨73, _⟩ => ⟨S256x256, .f32⟩
  | .hbm, ⟨74, _⟩ => ⟨S1x256x256, .f32⟩
  | .hbm, ⟨75, _⟩ => ⟨S256x256, .f32⟩
  | .hbm, ⟨76, _⟩ => ⟨S_, .f32⟩
  | .hbm, ⟨77, _⟩ => ⟨S_, .f32⟩
  | .hbm, ⟨78, _⟩ => ⟨S256x256, .f32⟩
  | .hbm, ⟨79, _⟩ => ⟨S256x256, .f32⟩
  | .hbm, ⟨80, _⟩ => ⟨S256x256, .f32⟩
  | .hbm, ⟨81, _⟩ => ⟨S512x256, .f32⟩
  | .hbm, ⟨82, _⟩ => ⟨S256x256, .f32⟩
  | .hbm, ⟨83, _⟩ => ⟨S512x256, .f32⟩
  | .hbm, ⟨84, _⟩ => ⟨S32x256x512, .f32⟩
  | .hbm, ⟨85, _⟩ => ⟨S32x512x256, .f32⟩
  | .hbm, ⟨86, _⟩ => ⟨S1x512x256, .f32⟩
  | .hbm, ⟨87, _⟩ => ⟨S32x512x256, .f32⟩
  | .hbm, ⟨88, _⟩ => ⟨S32x512x256, .f32⟩
  | .hbm, ⟨89, _⟩ => ⟨S32x256x512, .f32⟩
  | .hbm, ⟨90, _⟩ => ⟨S32x512x256, .f32⟩
  | .hbm, ⟨91, _⟩ => ⟨S1x512x256, .f32⟩
  | .hbm, ⟨92, _⟩ => ⟨S32x512x256, .f32⟩
  | .hbm, ⟨93, _⟩ => ⟨S32x512x256, .f32⟩
  | .hbm, ⟨94, _⟩ => ⟨S32x512x256, .f32⟩
  | .hbm, ⟨95, _⟩ => ⟨S32x256x256, .f32⟩
  | .hbm, ⟨96, _⟩ => ⟨S32x256x256, .f32⟩
  | .hbm, ⟨97, _⟩ => ⟨S1x256, .f32⟩
  | .hbm, ⟨98, _⟩ => ⟨S256, .f32⟩
  | .hbm, ⟨99, _⟩ => ⟨S1x1x256, .f32⟩
  | .hbm, ⟨100, _⟩ => ⟨S32x256x256, .f32⟩
  | .hbm, ⟨101, _⟩ => ⟨S32x256x256, .f32⟩
  | .hbm, ⟨102, _⟩ => ⟨S32x256x256, .f32⟩
  | .hbm, ⟨103, _⟩ => ⟨S32x256x256, .f32⟩
  | .hbm, ⟨104, _⟩ => ⟨S32x256x256, .bf16⟩
  | _, _ => ⟨S32x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_0 : Ref sig .tc := ⟨.hbm, 44, rfl⟩
abbrev main_call0_v0 : Ref sig .tc := ⟨.hbm, 45, rfl⟩
abbrev main_call0_v1 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_1 : Ref sig .tc := ⟨.hbm, 76, rfl⟩
abbrev main_call2_v0 : Ref sig .tc := ⟨.hbm, 77, rfl⟩
abbrev main_call2_v1 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩

abbrev nD : Nat := 1
abbrev τ : Topo := Topo.v7x

variable {F : FTy → Type} [FloatOps F]
-- ==== Kernel10.lean ====
abbrev S8x1024x768 : Shape := ⟨3, ![8, 1024, 768]⟩
abbrev S3x768 : Shape := ⟨2, ![3, 768]⟩
abbrev S2x1024x256 : Shape := ⟨3, ![2, 1024, 256]⟩
abbrev S2x256 : Shape := ⟨2, ![2, 256]⟩
abbrev S2048x1024 : Shape := ⟨2, ![2048, 1024]⟩
abbrev S1024x2048 : Shape := ⟨2, ![1024, 2048]⟩
abbrev S8x1024x256 : Shape := ⟨3, ![8, 1024, 256]⟩
abbrev S1x1024x768 : Shape := ⟨3, ![1, 1024, 768]⟩
abbrev S1x1024x256 : Shape := ⟨3, ![1, 1024, 256]⟩
abbrev S1040x768 : Shape := ⟨2, ![1040, 768]⟩
abbrev S1024x768 : Shape := ⟨2, ![1024, 768]⟩
abbrev S8x768 : Shape := ⟨2, ![8, 768]⟩
abbrev S1x768 : Shape := ⟨2, ![1, 768]⟩
abbrev S1024x256 : Shape := ⟨2, ![1024, 256]⟩
abbrev S2048x256 : Shape := ⟨2, ![2048, 256]⟩
abbrev S1x256 : Shape := ⟨2, ![1, 256]⟩

abbrev nBuf : Space → Nat
  | .hbm => 16
  | .vmem => 13
  | .smem => 0
  | _ => 0

abbrev bufTy : (tb : Table) → Fin (tcTables nBuf tb) → BufTy
  | .hbm, ⟨0, _⟩ => ⟨S8x1024x768, .f32⟩
  | .hbm, ⟨1, _⟩ => ⟨S3x768, .f32⟩
  | .hbm, ⟨2, _⟩ => ⟨S2x1024x256, .f32⟩
  | .hbm, ⟨3, _⟩ => ⟨S2x1024x256, .f32⟩
  | .hbm, ⟨4, _⟩ => ⟨S2x256, .f32⟩
  | .hbm, ⟨5, _⟩ => ⟨S2048x1024, .f32⟩
  | .hbm, ⟨6, _⟩ => ⟨S1024x2048, .f32⟩
  | .hbm, ⟨7, _⟩ => ⟨S2048x1024, .bf16⟩
  | .hbm, ⟨8, _⟩ => ⟨S2048x1024, .f32⟩
  | .hbm, ⟨9, _⟩ => ⟨S2048x1024, .f32⟩
  | .hbm, ⟨10, _⟩ => ⟨S2048x1024, .bf16⟩
  | .hbm, ⟨11, _⟩ => ⟨S1024x2048, .bf16⟩
  | .hbm, ⟨12, _⟩ => ⟨S1024x2048, .f32⟩
  | .hbm, ⟨13, _⟩ => ⟨S1024x2048, .f32⟩
  | .hbm, ⟨14, _⟩ => ⟨S1024x2048, .bf16⟩
  | .hbm, ⟨15, _⟩ => ⟨S8x1024x256, .bf16⟩
  | .local _ .vmem, ⟨0, _⟩ => ⟨S1x1024x768, .f32⟩
  | .local _ .vmem, ⟨1, _⟩ => ⟨S1x1024x768, .f32⟩
  | .local _ .vmem, ⟨2, _⟩ => ⟨S3x768, .f32⟩
  | .local _ .vmem, ⟨3, _⟩ => ⟨S2x1024x256, .f32⟩
  | .local _ .vmem, ⟨4, _⟩ => ⟨S2x1024x256, .f32⟩
  | .local _ .vmem, ⟨5, _⟩ => ⟨S2x256, .f32⟩
  | .local _ .vmem, ⟨6, _⟩ => ⟨S2048x1024, .bf16⟩
  | .local _ .vmem, ⟨7, _⟩ => ⟨S2048x1024, .bf16⟩
  | .local _ .vmem, ⟨8, _⟩ => ⟨S1024x2048, .bf16⟩
  | .local _ .vmem, ⟨9, _⟩ => ⟨S1024x2048, .bf16⟩
  | .local _ .vmem, ⟨10, _⟩ => ⟨S1x1024x256, .bf16⟩
  | .local _ .vmem, ⟨11, _⟩ => ⟨S1x1024x256, .bf16⟩
  | .local _ .vmem, ⟨12, _⟩ => ⟨S1040x768, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference10Ideal.lean ====
abbrev S8x1024x768 : Shape := ⟨3, ![8, 1024, 768]⟩
abbrev S3x768 : Shape := ⟨2, ![3, 768]⟩
abbrev S2x1024x256 : Shape := ⟨3, ![2, 1024, 256]⟩
abbrev S2x256 : Shape := ⟨2, ![2, 256]⟩
abbrev S2048x1024 : Shape := ⟨2, ![2048, 1024]⟩
abbrev S1024x2048 : Shape := ⟨2, ![1024, 2048]⟩
abbrev S_ : Shape := ⟨0, ![]⟩
abbrev S8x1x768 : Shape := ⟨3, ![8, 1, 768]⟩
abbrev S8x1023x768 : Shape := ⟨3, ![8, 1023, 768]⟩
abbrev S1x768 : Shape := ⟨2, ![1, 768]⟩
abbrev S768 : Shape := ⟨1, ![768]⟩
abbrev S1x1x768 : Shape := ⟨3, ![1, 1, 768]⟩
abbrev S8x1024x256 : Shape := ⟨3, ![8, 1024, 256]⟩
abbrev S1024x256 : Shape := ⟨2, ![1024, 256]⟩
abbrev S1024x1024 : Shape := ⟨2, ![1024, 1024]⟩
abbrev S1x1024x256 : Shape := ⟨3, ![1, 1024, 256]⟩
abbrev S2048x256 : Shape := ⟨2, ![2048, 256]⟩
abbrev S8x256x2048 : Shape := ⟨3, ![8, 256, 2048]⟩
abbrev S8x2048x256 : Shape := ⟨3, ![8, 2048, 256]⟩
abbrev S1x2048x256 : Shape := ⟨3, ![1, 2048, 256]⟩
abbrev S8x256x1024 : Shape := ⟨3, ![8, 256, 1024]⟩
abbrev S1x256 : Shape := ⟨2, ![1, 256]⟩
abbrev S256 : Shape := ⟨1, ![256]⟩
abbrev S1x1x256 : Shape := ⟨3, ![1, 1, 256]⟩

abbrev nBuf : Space → Nat
  | .hbm => 105
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S3x768, .f32⟩
  | .hbm, ⟨2, _⟩ => ⟨S2x1024x256, .f32⟩
  | .hbm, ⟨3, _⟩ => ⟨S2x1024x256, .f32⟩
  | .hbm, ⟨4, _⟩ => ⟨S2x256, .f32⟩
  | .hbm, ⟨5, _⟩ => ⟨S2048x1024, .f32⟩
  | .hbm, ⟨6, _⟩ => ⟨S1024x2048, .f32⟩
  | .hbm, ⟨7, _⟩ => ⟨S_, .f32⟩
  | .hbm, ⟨8, _⟩ => ⟨S8x1x768, .f32⟩
  | .hbm, ⟨9, _⟩ => ⟨S8x1023x768, .f32⟩
  | .hbm, ⟨10, _⟩ => ⟨S8x1024x768, .f32⟩
  | .hbm, ⟨11, _⟩ => ⟨S8x1023x768, .f32⟩
  | .hbm, ⟨12, _⟩ => ⟨S8x1024x768, .f32⟩
  | .hbm, ⟨13, _⟩ => ⟨S1x768, .f32⟩
  | .hbm, ⟨14, _⟩ => ⟨S768, .f32⟩
  | .hbm, ⟨15, _⟩ => ⟨S1x1x768, .f32⟩
  | .hbm, ⟨16, _⟩ => ⟨S8x1024x768, .f32⟩
  | .hbm, ⟨17, _⟩ => ⟨S8x1024x768, .f32⟩
  | .hbm, ⟨18, _⟩ => ⟨S1x768, .f32⟩
  | .hbm, ⟨19, _⟩ => ⟨S768, .f32⟩
  | .hbm, ⟨20, _⟩ => ⟨S1x1x768, .f32⟩
  | .hbm, ⟨21, _⟩ => ⟨S8x1024x768, .f32⟩
  | .hbm, ⟨22, _⟩ => ⟨S8x1024x768, .f32⟩
  | .hbm, ⟨23, _⟩ => ⟨S8x1024x768, .f32⟩
  | .hbm, ⟨24, _⟩ => ⟨S1x768, .f32⟩
  | .hbm, ⟨25, _⟩ => ⟨S768, .f32⟩
  | .hbm, ⟨26, _⟩ => ⟨S1x1x768, .f32⟩
  | .hbm, ⟨27, _⟩ => ⟨S8x1024x768, .f32⟩
  | .hbm, ⟨28, _⟩ => ⟨S8x1024x768, .f32⟩
  | .hbm, ⟨29, _⟩ => ⟨S8x1024x768, .f32⟩
  | .hbm, ⟨30, _⟩ => ⟨S8x1024x256, .f32⟩
  | .hbm, ⟨31, _⟩ => ⟨S8x1024x256, .f32⟩
  | .hbm, ⟨32, _⟩ => ⟨S8x1024x256, .f32⟩
  | .hbm, ⟨33, _⟩ => ⟨S1024x256, .i32⟩
  | .hbm, ⟨34, _⟩ => ⟨S_, .i32⟩
  | .hbm, ⟨35, _⟩ => ⟨S1024x256, .i32⟩
  | .hbm, ⟨36, _⟩ => ⟨S1024x256, .i1⟩
  | .hbm, ⟨37, _⟩ => ⟨S1024x1024, .f32⟩
  | .hbm, ⟨38, _⟩ => ⟨S1024x1024, .f32⟩
  | .hbm, ⟨39, _⟩ => ⟨S2048x1024, .f32⟩
  | .hbm, ⟨40, _⟩ => ⟨S1x1024x256, .f32⟩
  | .hbm, ⟨41, _⟩ => ⟨S1024x256, .f32⟩
  | .hbm, ⟨42, _⟩ => ⟨S1x1024x256, .f32⟩
  | .hbm, ⟨43, _⟩ => ⟨S1024x256, .f32⟩
  | .hbm, ⟨44, _⟩ => ⟨S_, .f32⟩
  | .hbm, ⟨45, _⟩ => ⟨S_, .f32⟩
  | .hbm, ⟨46, _⟩ => ⟨S1024x256, .f32⟩
  | .hbm, ⟨47, _⟩ => ⟨S1024x256, .f32⟩
  | .hbm, ⟨48, _⟩ => ⟨S1024x256, .f32⟩
  | .hbm, ⟨49, _⟩ => ⟨S2048x256, .f32⟩
  | .hbm, ⟨50, _⟩ => ⟨S1024x256, .f32⟩
  | .hbm, ⟨51, _⟩ => ⟨S2048x256, .f32⟩
  | .hbm, ⟨52, _⟩ => ⟨S8x256x2048, .f32⟩
  | .hbm, ⟨53, _⟩ => ⟨S8x2048x256, .f32⟩
  | .hbm, ⟨54, _⟩ => ⟨S1x2048x256, .f32⟩
  | .hbm, ⟨55, _⟩ => ⟨S8x2048x256, .f32⟩
  | .hbm, ⟨56, _⟩ => ⟨S8x2048x256, .f32⟩
  | .hbm, ⟨57, _⟩ => ⟨S8x256x2048, .f32⟩
  | .hbm, ⟨58, _⟩ => ⟨S8x2048x256, .f32⟩
  | .hbm, ⟨59, _⟩ => ⟨S1x2048x256, .f32⟩
  | .hbm, ⟨60, _⟩ => ⟨S8x2048x256, .f32⟩
  | .hbm, ⟨61, _⟩ => ⟨S8x2048x256, .f32⟩
  | .hbm, ⟨62, _⟩ => ⟨S8x2048x256, .f32⟩
  | .hbm, ⟨63, _⟩ => ⟨S8x256x1024, .f32⟩
  | .hbm, ⟨64, _⟩ => ⟨S8x1024x256, .f32⟩
  | .hbm, ⟨65, _⟩ => ⟨S1x256, .f32⟩
  | .hbm, ⟨66, _⟩ => ⟨S256, .f32⟩
  | .hbm, ⟨67, _⟩ => ⟨S1x1x256, .f32⟩
  | .hbm, ⟨68, _⟩ => ⟨S8x1024x256, .f32⟩
  | .hbm, ⟨69, _⟩ => ⟨S8x1024x256, .f32⟩
  | .hbm, ⟨70, _⟩ => ⟨S8x1024x256, .f32⟩
  | .hbm, ⟨71, _⟩ => ⟨S8x1024x256, .f32⟩
  | .hbm, ⟨72, _⟩ => ⟨S1x1024x256, .f32⟩
  | .hbm, ⟨73, _⟩ => ⟨S1024x256, .f32⟩
  | .hbm, ⟨74, _⟩ => ⟨S1x1024x256, .f32⟩
  | .hbm, ⟨75, _⟩ => ⟨S1024x256, .f32⟩
  | .hbm, ⟨76, _⟩ => ⟨S_, .f32⟩
  | .hbm, ⟨77, _⟩ => ⟨S_, .f32⟩
  | .hbm, ⟨78, _⟩ => ⟨S1024x256, .f32⟩
  | .hbm, ⟨79, _⟩ => ⟨S1024x256, .f32⟩
  | .hbm, ⟨80, _⟩ => ⟨S1024x256, .f32⟩
  | .hbm, ⟨81, _⟩ => ⟨S2048x256, .f32⟩
  | .hbm, ⟨82, _⟩ => ⟨S1024x256, .f32⟩
  | .hbm, ⟨83, _⟩ => ⟨S2048x256, .f32⟩
  | .hbm, ⟨84, _⟩ => ⟨S8x256x2048, .f32⟩
  | .hbm, ⟨85, _⟩ => ⟨S8x2048x256, .f32⟩
  | .hbm, ⟨86, _⟩ => ⟨S1x2048x256, .f32⟩
  | .hbm, ⟨87, _⟩ => ⟨S8x2048x256, .f32⟩
  | .hbm, ⟨88, _⟩ => ⟨S8x2048x256, .f32⟩
  | .hbm, ⟨89, _⟩ => ⟨S8x256x2048, .f32⟩
  | .hbm, ⟨90, _⟩ => ⟨S8x2048x256, .f32⟩
  | .hbm, ⟨91, _⟩ => ⟨S1x2048x256, .f32⟩
  | .hbm, ⟨92, _⟩ => ⟨S8x2048x256, .f32⟩
  | .hbm, ⟨93, _⟩ => ⟨S8x2048x256, .f32⟩
  | .hbm, ⟨94, _⟩ => ⟨S8x2048x256, .f32⟩
  | .hbm, ⟨95, _⟩ => ⟨S8x256x1024, .f32⟩
  | .hbm, ⟨96, _⟩ => ⟨S8x1024x256, .f32⟩
  | .hbm, ⟨97, _⟩ => ⟨S1x256, .f32⟩
  | .hbm, ⟨98, _⟩ => ⟨S256, .f32⟩
  | .hbm, ⟨99, _⟩ => ⟨S1x1x256, .f32⟩
  | .hbm, ⟨100, _⟩ => ⟨S8x1024x256, .f32⟩
  | .hbm, ⟨101, _⟩ => ⟨S8x1024x256, .f32⟩
  | .hbm, ⟨102, _⟩ => ⟨S8x1024x256, .f32⟩
  | .hbm, ⟨103, _⟩ => ⟨S8x1024x256, .f32⟩
  | .hbm, ⟨104, _⟩ => ⟨S8x1024x256, .bf16⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_0 : Ref sig .tc := ⟨.hbm, 44, rfl⟩
abbrev main_call0_v0 : Ref sig .tc := ⟨.hbm, 45, rfl⟩
abbrev main_call0_v1 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_1 : Ref sig .tc := ⟨.hbm, 76, rfl⟩
abbrev main_call2_v0 : Ref sig .tc := ⟨.hbm, 77, rfl⟩
abbrev main_call2_v1 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩

abbrev nD : Nat := 1
abbrev τ : Topo := Topo.v7x

variable {F : FTy → Type} [FloatOps F]
-- ==== Proof.RefFrames.lean ====
module

public import proofs.«01_k».proof.Defs
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import Idealize.ShloMosaic.Lib.Claim

/-! The references terminate and leave their arguments unchanged; a program without semaphores leaves every counter at zero. -/

@[expose] public section

noncomputable section

namespace Cert.RefFrames

open Idealize.ShloMosaic Idealize.SL.Sem

theorem experts : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem routing : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

theorem projection : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

theorem prompt_experts : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem prompt_projection : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

theorem prompt_routing : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

theorem modulation : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem filter : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

theorem hyena : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem long_hyena : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

end Cert.RefFrames

end
-- ==== Proof.Finite.lean ====
module

public import proofs.«01_k».proof.Pre_finite_gates
public import proofs.«01_k».proof.Pre_finite_prompt_gates
public import Idealize.ShloMosaic.Lib.ReduceAll
public import Idealize.ShloMosaic.Lib.Pointwise
public import Idealize.ShloMosaic.PureOps.Ideal.Laws

/-! What the stated preconditions say over the extended reals: an array whose absolute values are all below `+∞` has only
    finite elements. -/

@[expose] public section

noncomputable section

namespace Cert.Finite

open Idealize.ShloMosaic

/-- The bit pattern of `+∞`. -/
theorem ofBits_inf : Ideal.ofBits .f32 2139095040#32 = (⊤ : EReal) := by
  show Ideal.ieee 8 23 2139095040#32 = ⊤
  unfold Ideal.ieee
  simp

/-- A number whose absolute value is below `+∞` is finite: it is neither infinity. -/
theorem ne_of_lt (a : EReal) (h : Ideal.cmp .olt (max a (-a)) ⊤ = 1#1) : a ≠ ⊤ ∧ a ≠ ⊥ := by
  have h' : max a (-a) < ⊤ := by
    by_contra hn
    simp [Ideal.cmp, hn] at h
  constructor
  · rintro rfl; simp at h'
  · rintro rfl; simp at h'

theorem sub_self_of_lt (a : EReal) (h : Ideal.cmp .olt (max a (-a)) ⊤ = 1#1) : a - a = 0 :=
  EReal.sub_self (ne_of_lt a h).1 (ne_of_lt a h).2

instance : Subsingleton (Cert.Pre_finite_gates.S_).Idx := ⟨fun a b => funext fun i => i.elim0⟩

/-- The stated precondition on the gates: every one is finite. -/
theorem gates [Cert.Pre_finite_gates.Facts] {a0 a1 a2 a3 a4 a5 a6 a7 a8 a9 a10}
    (h : Cert.Pre_finite_gates.fn (F := Ideal) a0 a1 a2 a3 a4 a5 a6 a7 a8 a9 a10 = fun _ => 1#1) (i) :
    (a1 i : EReal) - a1 i = 0 := by
  have h1 := Host.reduce_andi_all _ _ _ _ _ (congrFun h (fun i => i.elim0)) i
  refine sub_self_of_lt _ ?_
  rw [← ofBits_inf]
  exact h1

/-- The same of the prompt's gates. -/
theorem prompt_gates [Cert.Pre_finite_prompt_gates.Facts] {a0 a1 a2 a3 a4 a5 a6 a7 a8 a9 a10}
    (h : Cert.Pre_finite_prompt_gates.fn (F := Ideal) a0 a1 a2 a3 a4 a5 a6 a7 a8 a9 a10 = fun _ => 1#1) (i) :
    (a1 i : EReal) - a1 i = 0 := by
  have h1 := Host.reduce_andi_all _ _ _ _ _ (congrFun h (fun i => i.elim0)) i
  refine sub_self_of_lt _ ?_
  rw [← ofBits_inf]
  exact h1

end Cert.Finite

end
-- ==== Proof.MoePay.lean ====
module

public import proofs.«01_k».proof.Proof.Gen.KernelIdeal.Skeleton
public import Idealize.ShloMosaic.Lib.Pointwise
public import Idealize.ShloMosaic.PureOps.Ideal.Laws

/-! What one grid point of the mixture-of-experts kernel computes, element by element over the extended reals. -/

@[expose] public section

set_option maxRecDepth 16384

noncomputable section

namespace Cert.KernelIdeal.Moe

open Cert.KernelIdeal Cert.KernelIdeal.Gen Idealize.ShloMosaic Idealize.SL.Sem

/-- One hidden unit of a gated expert: `silu(x · wg) * (x · wu)`. -/
def unit (x wg wu : Fin 1024 → EReal) : EReal :=
  (∑ k, x k * wg k) * Ideal.div 1 (1 + Ideal.exp (0 - ∑ k, x k * wg k)) * ∑ k, x k * wu k

/-- The expert (of the step's two) that a column of the step's 256 hidden units belongs to, as the kernel computes it. -/
theorem col_word : ∀ q : Fin 256,
    Scalar.select
      (IntOp.andi
        (IntOp.cmpi CmpIPredicate.ne
          (IntOp.subi (BitVec.setWidth 32 (IntOp.cmpi CmpIPredicate.sgt (BitVec.ofNat 32 q.val) 0#32))
            (BitVec.setWidth 32 (IntOp.cmpi CmpIPredicate.slt (BitVec.ofNat 32 q.val) 0#32)))
          (Scalar.subi (Scalar.extui (Scalar.cmpi CmpIPredicate.sgt 128#32 0#32))
            (Scalar.extui (Scalar.cmpi CmpIPredicate.slt 128#32 0#32))))
        (IntOp.cmpi CmpIPredicate.ne (IntOp.remsi ArithUnit.vector (BitVec.ofNat 32 q.val) 128#32) 0#32))
      (IntOp.subi (IntOp.divsi ArithUnit.vector (BitVec.ofNat 32 q.val) 128#32) 1#32)
      (IntOp.divsi ArithUnit.vector (BitVec.ofNat 32 q.val) 128#32) = BitVec.ofNat 32 (q.val / 128) := by
  decide +kernel

/-- A lane is picked exactly when its number is the expert's. -/
theorem pick (j e x : Nat) (hj : j < 32) (he : e < 2) (hx : x < 128) (a b : EReal) :
    Scalar.select (IntOp.cmpi CmpIPredicate.eq (BitVec.ofNat 32 x)
      (IntOp.addi (Scalar.muli (2#32) (BitVec.ofNat 32 j)) (BitVec.ofNat 32 e))) a b = if x = 2 * j + e then a else b := by
  have h : (BitVec.ofNat 32 x = IntOp.addi (Scalar.muli (2#32) (BitVec.ofNat 32 j)) (BitVec.ofNat 32 e)) ↔ x = 2 * j + e := by
    show BitVec.ofNat 32 x = (2#32 * BitVec.ofNat 32 j) + BitVec.ofNat 32 e ↔ _
    rw [← BitVec.toNat_inj]
    simp only [BitVec.toNat_add, BitVec.toNat_mul, BitVec.toNat_ofNat]
    omega
  unfold Scalar.select IntOp.cmpi
  by_cases hx : x = 2 * j + e
  · rw [if_pos hx, if_pos]
    simp [h.2 hx]
  · rw [if_neg hx, if_neg]
    have hne := mt h.1 hx
    show ¬ BitVec.ofBool (BitVec.ofNat 32 x == _) = 1#1
    rw [beq_eq_false_iff_ne.2 hne]
    decide

/-- The gate a column of hidden units is multiplied by: the one-hot product picks the expert's lane. Of a finite gate
    the two correction terms of the split vanish. -/
theorem hid_apply (gu : Vec Ideal S1024x512 .f32) (g : Vec Ideal S1024x128 .f32) (j : Nat) (hj : j < 32) (r : Fin 1024)
    (q : Fin 256) (hg : ∀ x : Fin 128, g (ix2 r x) - g (ix2 r x) = (0 : EReal)) :
    k0_pay7 (F := Ideal) gu (iota .tc S128x256 32 [0] iota_S128x256_d0_w32) (Scalar.muli 2#32 (BitVec.ofNat 32 j)) (iota .tc S128x256 32 [1] iota_S128x256_d1_w32) 128#32 k0_pay5 k0_pay6 g (ix2 r q)
      = gu (ix2 r ⟨q.val, by omega⟩) * Ideal.div 1 (1 + Ideal.exp (0 - gu (ix2 r ⟨q.val, by omega⟩))) * gu (ix2 r ⟨256 + q.val, by omega⟩)
        * g (ix2 r ⟨2 * j + q.val / 128, by omega⟩) := by
  pointwise [k0_pay7, k0_pay5, k0_pay6]
  simp only [hg, sub_zero, col_word q, pick j (q.val / 128) _ hj (by omega) (Fin.isLt _), ite_self, Finset.sum_const_zero, add_zero]
  congr 1
  rw [Finset.sum_eq_single (⟨2 * j + q.val / 128, by omega⟩ : Fin 128)]
  · simp
  · intro b _ hb
    rw [if_neg]
    intro h
    exact hb (Fin.ext h)
  · simp

/-- The step's four products with the two experts' gate and up matrices, side by side. -/
theorem gu_apply (h : Vec Ideal S1024x1024 .bf16) (a b c d : Vec Ideal S1x1024x128 .f32) (r : Fin 1024) (f : Fin 128) :
    k0_pay4 (F := Ideal) h a b c d (ix2 r ⟨f.val, by omega⟩) = ∑ k, h (ix2 r k) * a (ix3 0 k f)
    ∧ k0_pay4 (F := Ideal) h a b c d (ix2 r ⟨128 + f.val, by omega⟩) = ∑ k, h (ix2 r k) * b (ix3 0 k f)
    ∧ k0_pay4 (F := Ideal) h a b c d (ix2 r ⟨256 + f.val, by omega⟩) = ∑ k, h (ix2 r k) * c (ix3 0 k f)
    ∧ k0_pay4 (F := Ideal) h a b c d (ix2 r ⟨256 + (128 + f.val), by omega⟩) = ∑ k, h (ix2 r k) * d (ix3 0 k f) := by
  have hf := f.isLt
  refine ⟨?_, ?_, ?_, ?_⟩ <;> pointwise [k0_pay4] <;> refine Finset.sum_congr rfl fun k _ => ?_ <;> congr 1
  all_goals
    repeat' split
    all_goals first
      | (exfalso; omega)
      | (refine congrArg _ (congrArg (ix3 0 k) (Fin.ext ?_)); simp only []; omega)
      | trace_state

theorem acc_apply (hid : Vec Ideal S1024x256 .f32) (a b : Vec Ideal S1x128x1024 .f32) (acc : Vec Ideal S1024x1024 .f32) (r d : Fin 1024) :
    k0_pay1 (F := Ideal) hid (k0_pay8 a) b acc (ix2 r d)
      = acc (ix2 r d) + (∑ f : Fin 128, hid (ix2 r ⟨f.val, by omega⟩) * a (ix3 0 f d) + ∑ f : Fin 128, hid (ix2 r ⟨128 + f.val, by omega⟩) * b (ix3 0 f d)) := by
  pointwise [k0_pay1, k0_pay8]

/-- One step adds its two experts' contributions to the accumulator. -/
theorem step_apply (h : Vec Ideal S1024x1024 .bf16) (a b c d : Vec Ideal S1x1024x128 .f32) (g : Vec Ideal S1024x128 .f32)
    (u v : Vec Ideal S1x128x1024 .f32) (acc : Vec Ideal S1024x1024 .f32) (j : Nat) (hj : j < 32) (r e : Fin 1024)
    (hg : ∀ x : Fin 128, g (ix2 r x) - g (ix2 r x) = (0 : EReal)) :
    k0_pay1 (F := Ideal) (k0_pay7 (k0_pay4 h a b c d) (iota .tc S128x256 32 [0] iota_S128x256_d0_w32)
        (Scalar.muli 2#32 (BitVec.ofNat 32 j)) (iota .tc S128x256 32 [1] iota_S128x256_d1_w32) 128#32 k0_pay5 k0_pay6 g)
        (k0_pay8 u) v acc (ix2 r e)
      = acc (ix2 r e)
        + (∑ f : Fin 128, unit (fun k => h (ix2 r k)) (fun k => a (ix3 0 k f)) (fun k => c (ix3 0 k f)) * g (ix2 r ⟨2 * j, by omega⟩) * u (ix3 0 f e)
          + ∑ f : Fin 128, unit (fun k => h (ix2 r k)) (fun k => b (ix3 0 k f)) (fun k => d (ix3 0 k f)) * g (ix2 r ⟨2 * j + 1, by omega⟩) * v (ix3 0 f e)) := by
  rw [acc_apply]
  congr 2
  · refine Finset.sum_congr rfl fun f _ => ?_
    have hf := f.isLt
    rw [hid_apply _ _ j hj r _ hg, (gu_apply h a b c d r f).1, (gu_apply h a b c d r f).2.2.1]
    congr 3
    apply congrArg; apply Fin.ext; show 2 * j + f.val / 128 = 2 * j; omega
  · refine Finset.sum_congr rfl fun f _ => ?_
    have hf := f.isLt
    rw [hid_apply _ _ j hj r _ hg, (gu_apply h a b c d r f).2.1, (gu_apply h a b c d r f).2.2.2]
    congr 3
    apply congrArg; apply Fin.ext; show 2 * j + (128 + f.val) / 128 = 2 * j + 1; omega

/-- The finish: the gated residual, normalised by the root of its mean square, times the final weight. -/
theorem fin_apply (x1 : Vec Ideal S1024x1024 .f32) (gt : Vec Ideal S1x1x1024 .f32) (acc : Vec Ideal S1024x1024 .f32) (fg : Vec Ideal S1x1024 .f32) (r d : Fin 1024) :
    k0_pay2 (F := Ideal) x1 gt acc fg (ix2 r d)
      = (x1 (ix2 r d) + gt (ix3 0 0 d) * acc (ix2 r d)) *
        Ideal.rsqrt (Ideal.div (∑ x, (x1 (ix2 r x) + gt (ix3 0 0 x) * acc (ix2 r x)) * (x1 (ix2 r x) + gt (ix3 0 0 x) * acc (ix2 r x)))
          (Ideal.ofBits .f32 1149239296#32) + Ideal.ofBits .f32 897988541#32) * fg (ix2 0 d) := by
  pointwise [k0_pay2]

/-- The shared expert starts the accumulator. -/
theorem shared_apply (h : Vec Ideal S1024x1024 .bf16) (a b : Vec Ideal S1024x128 .f32) (c : Vec Ideal S128x1024 .f32) (r d : Fin 1024) :
    k0_pay3 (F := Ideal) h a b c (ix2 r d)
      = ∑ f : Fin 128, unit (fun k => h (ix2 r k)) (fun k => a (ix2 k f)) (fun k => b (ix2 k f)) * c (ix2 f d) := by
  pointwise [k0_pay3]
  rfl

end Cert.KernelIdeal.Moe

end
-- ==== Proof.MoeBlock.lean ====
module

public import proofs.«01_k».proof.Proof.Gen.KernelIdeal.Frame
public import proofs.«01_k».proof.Proof.MoePay
public import Idealize.ShloMosaic.Lib.Tactic

/-! What one grid point of the mixture-of-experts kernel leaves in its accumulator and in its output block. -/

@[expose] public section

set_option maxRecDepth 16384

noncomputable section

namespace Cert.KernelIdeal.Moe

open Cert.KernelIdeal Cert.KernelIdeal.Gen Idealize.ShloMosaic Idealize.ShloMosaic.TcCoe Idealize.SL.Sem

theorem hz : (![0, 0] : Fin 2 → Nat) = fun _ => 0 := funext fun a => by fin_cases a <;> rfl

/-- The accumulator after a step of experts number `j`, from the accumulator before it. -/
abbrev step (j : Nat) (x0 : Vec Ideal S1024x1024 .bf16) (x1 : Vec Ideal S1024x128 .f32) (x4 x5 : Vec Ideal S2x1024x128 .f32)
    (x6 : Vec Ideal S2x128x1024 .f32) (acc : Vec Ideal S1024x1024 .f32) : Vec Ideal S1024x1024 .f32 :=
  k0_pay1 (F := Ideal) (k0_pay7 (k0_pay4 x0
      (View.ld x4 (Rect.unit (s := S2x1024x128) ![0, 0, 0] S1x1024x128.size inb_S2x1024x128_S1x1024x128_0_0_0))
      (View.ld x4 (Rect.unit (s := S2x1024x128) ![1, 0, 0] S1x1024x128.size inb_S2x1024x128_S1x1024x128_1_0_0))
      (View.ld x5 (Rect.unit (s := S2x1024x128) ![0, 0, 0] S1x1024x128.size inb_S2x1024x128_S1x1024x128_0_0_0))
      (View.ld x5 (Rect.unit (s := S2x1024x128) ![1, 0, 0] S1x1024x128.size inb_S2x1024x128_S1x1024x128_1_0_0)))
      (iota .tc S128x256 32 [0] iota_S128x256_d0_w32)
      (Scalar.muli 2#32 (BitVec.ofNat 32 j)) (iota .tc S128x256 32 [1] iota_S128x256_d1_w32) 128#32 k0_pay5 k0_pay6 x1)
    (k0_pay8 (View.ld x6 (Rect.unit (s := S2x128x1024) ![0, 0, 0] S1x128x1024.size inb_S2x128x1024_S1x128x1024_0_0_0)))
    (View.ld x6 (Rect.unit (s := S2x128x1024) ![1, 0, 0] S1x128x1024.size inb_S2x128x1024_S1x128x1024_1_0_0)) acc

section
variable (c : Dev nD) (i : grid0.Coords)
  (arg2 : Memref sig .tc .vmem S1024x1024 .bf16) (harg2 : arg2.IsWhole) (arg3 : Memref sig .tc .vmem S1024x128 .f32) (harg3 : arg3.IsWhole)
  (arg4 : Memref sig .tc .vmem S1024x1024 .f32) (harg4 : arg4.IsWhole) (arg5 : Memref sig .tc .vmem S1x6x1024 .f32) (harg5 : arg5.IsWhole)
  (arg6 : Memref sig .tc .vmem S2x1024x128 .f32) (harg6 : arg6.IsWhole) (arg7 : Memref sig .tc .vmem S2x1024x128 .f32) (harg7 : arg7.IsWhole)
  (arg8 : Memref sig .tc .vmem S2x128x1024 .f32) (harg8 : arg8.IsWhole) (arg9 : Memref sig .tc .vmem S1024x128 .f32) (harg9 : arg9.IsWhole)
  (arg10 : Memref sig .tc .vmem S1024x128 .f32) (harg10 : arg10.IsWhole) (arg11 : Memref sig .tc .vmem S128x1024 .f32) (harg11 : arg11.IsWhole)
  (arg12 : Memref sig .tc .vmem S1x1024 .f32) (harg12 : arg12.IsWhole) (arg13 : Memref sig .tc .vmem S1024x1024 .f32) (harg13 : arg13.IsWhole)
  (arg14 : Memref sig .tc .vmem S1024x1024 .f32) (harg14 : arg14.IsWhole)
  (x0 : Vec Ideal S1024x1024 .bf16) (x1 : Vec Ideal S1024x128 .f32) (x2 : Vec Ideal S1024x1024 .f32) (x3 : Vec Ideal S1x6x1024 .f32)
  (x4 x5 : Vec Ideal S2x1024x128 .f32) (x6 : Vec Ideal S2x128x1024 .f32) (x7 x8 : Vec Ideal S1024x128 .f32) (x9 : Vec Ideal S128x1024 .f32)
  (x10 : Vec Ideal S1x1024 .f32) (xs0 : Vec Ideal S1024x1024 .f32)

/-- A middle step adds its experts to the accumulator. -/
theorem sout_B (hc0 : ¬cond0_0 i) (hc1 : ¬cond0_1 i) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0
      = step (i 1).val x0 x1 x4 x5 x6 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0)]
  unfold kernelRun0_B
  dsimp only
  sl_unfold_words
  rw [View.canon_unit_zero hz]
  simp only [View.readAt_eq_ld, harg2.read_unread, harg3.read_unread, harg6.read_unread, harg7.read_unread, harg8.read_unread, harg14.read_unread,
    View.ld_unit_zero (S := S1024x1024) hz, View.ld_unit_zero (S := S1024x128) hz]

/-- The first step starts the accumulator with the shared expert and adds its experts. -/
theorem sout_A (hc0 : cond0_0 i) (hc1 : ¬cond0_1 i) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10
      = step (i 1).val x0 x1 x4 x5 x6 (k0_pay3 x0 x7 x8 x9) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10)]
  unfold kernelRun0_A
  dsimp only
  sl_unfold_words
  rw [View.canon_cons_unit_zero (S := S1024x1024) hz, View.readCov_unit_zero (S := S1024x1024) _ hz]
  simp only [View.readAt_eq_ld, harg2.read_unread, harg3.read_unread, harg6.read_unread, harg7.read_unread, harg8.read_unread,
    harg9.read_unread, harg10.read_unread, harg11.read_unread,
    View.ld_unit_zero (S := S1024x1024) hz, View.ld_unit_zero (S := S1024x128) hz, View.ld_unit_zero (S := S128x1024) hz]

/-- The last step adds its experts too. -/
theorem sout_C (hc0 : ¬cond0_0 i) (hc1 : cond0_1 i) :
    sout0_C_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0
      = step (i 1).val x0 x1 x4 x5 x6 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0)]
  unfold kernelRun0_C
  dsimp only
  sl_unfold_words
  rw [View.canon_unit_zero hz]
  simp only [View.readAt_eq_ld, harg2.read_unread, harg3.read_unread, harg6.read_unread, harg7.read_unread, harg8.read_unread, harg14.read_unread,
    View.ld_unit_zero (S := S1024x1024) hz, View.ld_unit_zero (S := S1024x128) hz]

/-- The last step finishes its rows from the accumulator it has just stored. -/
theorem out_C (hc0 : ¬cond0_0 i) (hc1 : cond0_1 i) :
    out0_C_11 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0
      = k0_pay2 x2 (View.ld x3 (Rect.unit (s := S1x6x1024) ![0, 5, 0] S1x1x1024.size inb_S1x6x1024_S1x1x1024_0_5_0))
          (step (i 1).val x0 x1 x4 x5 x6 xs0) x10 := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0)]
  unfold kernelRun0_C
  dsimp only
  sl_unfold_words
  rw [View.canon_unit_zero hz, View.readCov_unit_zero (S := S1024x1024) _ hz]
  simp only [View.readAt_eq_ld, harg2.read_unread, harg3.read_unread, harg4.read_unread, harg5.read_unread, harg6.read_unread,
    harg7.read_unread, harg8.read_unread, harg12.read_unread, harg14.read_unread,
    View.ld_unit_zero (S := S1024x1024) hz, View.ld_unit_zero (S := S1024x128) hz, View.ld_unit_zero (S := S1x1024) hz]

end

end Cert.KernelIdeal.Moe

end
-- ==== Proof.MoeReads.lean ====
module

public import proofs.«01_k».proof.Proof.Gen.KernelIdeal.Value
public import proofs.«01_k».proof.Proof.MoeBlock
public import Idealize.ShloMosaic.Lib.Pipeline.ValueKit

/-! Which elements of the arguments the blocks of one grid point hold: point `t` works on the row tile `t / 32` and on the
    experts `2 * (t % 32)` and `2 * (t % 32) + 1`. -/

@[expose] public section

set_option maxRecDepth 16384

noncomputable section

namespace Cert.KernelIdeal.Moe

open Cert.KernelIdeal Cert.KernelIdeal.Gen Idealize.ShloMosaic Idealize.ShloMosaic.TcCoe Idealize.SL.Sem

variable (m : (ℓ : Loc nD τ sig) → Buf (Elt Ideal) ℓ) (c : Dev nD)

/-- The block indices of the windows that move. -/
theorem idx : ∀ t : Fin cfg0.N,
    (win0_0.index t (0 : Fin 2) = t.val / 32 ∧ win0_0.index t (1 : Fin 2) = 0)
    ∧ (win0_1.index t (0 : Fin 2) = t.val / 32 ∧ win0_1.index t (1 : Fin 2) = 0)
    ∧ (win0_2.index t (0 : Fin 2) = t.val / 32 ∧ win0_2.index t (1 : Fin 2) = 0)
    ∧ (win0_3.index t (0 : Fin 3) = t.val / 32 ∧ win0_3.index t (1 : Fin 3) = 0 ∧ win0_3.index t (2 : Fin 3) = 0)
    ∧ (win0_4.index t (0 : Fin 3) = t.val % 32 ∧ win0_4.index t (1 : Fin 3) = 0 ∧ win0_4.index t (2 : Fin 3) = 0)
    ∧ (win0_5.index t (0 : Fin 3) = t.val % 32 ∧ win0_5.index t (1 : Fin 3) = 0 ∧ win0_5.index t (2 : Fin 3) = 0)
    ∧ (win0_6.index t (0 : Fin 3) = t.val % 32 ∧ win0_6.index t (1 : Fin 3) = 0 ∧ win0_6.index t (2 : Fin 3) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (grid0.coords t 1).val = t.val % 32 := by
  decide +kernel

theorem lt_N (t : Fin cfg0.N) : t.val < 256 := lt_of_lt_of_eq t.isLt N_0

/-- The row of the arrays that row `r` of point `t`'s tile is. -/
abbrev row (t : Fin cfg0.N) (r : Fin 1024) : Fin 8192 := ⟨t.val / 32 * 1024 + r.val, by have := lt_N t; omega⟩

/-- The `s`-th expert of point `t`. -/
abbrev exp (t : Fin cfg0.N) (s : Fin 2) : Fin 64 := ⟨t.val % 32 * 2 + s.val, by omega⟩

theorem read_h (t : Fin cfg0.N) (r k : Fin 1024) : iblk m c 0 t (ix2 r k) = m ((c : Thread nD τ).loc main_arg0) (ix2 (row t r) k) := by
  blk_ext [iblk, V, idx t]

theorem read_g (t : Fin cfg0.N) (r : Fin 1024) (k : Fin 128) : iblk m c 1 t (ix2 r k) = m ((c : Thread nD τ).loc main_arg1) (ix2 (row t r) k) := by
  blk_ext [iblk, V, idx t]

theorem read_x (t : Fin cfg0.N) (r k : Fin 1024) : iblk m c 2 t (ix2 r k) = m ((c : Thread nD τ).loc main_arg2) (ix2 (row t r) k) := by
  blk_ext [iblk, V, idx t]

theorem read_mod (t : Fin cfg0.N) (s : Fin 6) (k : Fin 1024) :
    iblk m c 3 t (ix3 0 s k) = m ((c : Thread nD τ).loc main_arg3) (ix3 (⟨t.val / 32, by have := lt_N t; omega⟩ : Fin 8) s k) := by
  blk_ext [iblk, V, idx t]

theorem read_wg (t : Fin cfg0.N) (s : Fin 2) (k : Fin 1024) (f : Fin 128) :
    iblk m c 4 t (ix3 s k f) = m ((c : Thread nD τ).loc main_arg4) (ix3 (exp t s) k f) := by
  blk_ext [iblk, V, idx t]

theorem read_wu (t : Fin cfg0.N) (s : Fin 2) (k : Fin 1024) (f : Fin 128) :
    iblk m c 5 t (ix3 s k f) = m ((c : Thread nD τ).loc main_arg5) (ix3 (exp t s) k f) := by
  blk_ext [iblk, V, idx t]

theorem read_wd (t : Fin cfg0.N) (s : Fin 2) (f : Fin 128) (d : Fin 1024) :
    iblk m c 6 t (ix3 s f d) = m ((c : Thread nD τ).loc main_arg6) (ix3 (exp t s) f d) := by
  blk_ext [iblk, V, idx t]

theorem read_sg (t : Fin cfg0.N) (k : Fin 1024) (f : Fin 128) : iblk m c 7 t (ix2 k f) = m ((c : Thread nD τ).loc main_arg7) (ix2 k f) := by
  blk_ext [iblk, V, idx t]

theorem read_su (t : Fin cfg0.N) (k : Fin 1024) (f : Fin 128) : iblk m c 8 t (ix2 k f) = m ((c : Thread nD τ).loc main_arg8) (ix2 k f) := by
  blk_ext [iblk, V, idx t]

theorem read_sd (t : Fin cfg0.N) (f : Fin 128) (d : Fin 1024) : iblk m c 9 t (ix2 f d) = m ((c : Thread nD τ).loc main_arg9) (ix2 f d) := by
  blk_ext [iblk, V, idx t]

theorem read_fg (t : Fin cfg0.N) (d : Fin 1024) : iblk m c 10 t (ix2 0 d) = m ((c : Thread nD τ).loc main_arg10) (ix1 d) := by
  blk_ext! [iblk, V, idx t]

end Cert.KernelIdeal.Moe

end
-- ==== Proof.MoeRef.lean ====
module

public import proofs.«01_k».proof.Proof.Gen.ReferenceIdeal.Read
public import proofs.«01_k».proof.Proof.MoePay

/-! What the reference of the mixture of experts computes, element by element. -/

@[expose] public section

set_option maxRecDepth 16384

noncomputable section

namespace Cert.ReferenceIdeal.Moe

open Cert.ReferenceIdeal Cert.ReferenceIdeal.Read Idealize.ShloMosaic Idealize.SL.Sem
open Cert.KernelIdeal.Moe (unit)

/-- What expert `e` adds to element `d` of token `t`. -/
def expert (h : Vec Ideal S8192x1024 .bf16) (g : Vec Ideal S8192x128 .f32) (wg wu : Vec Ideal S64x1024x128 .f32)
    (wd : Vec Ideal S64x128x1024 .f32) (t : Fin 8192) (d : Fin 1024) (e : Fin 64) : EReal :=
  ∑ f : Fin 128, unit (fun k => h (ix2 t k)) (fun k => wg (ix3 e k f)) (fun k => wu (ix3 e k f)) * g (ix2 t ⟨e.val, by omega⟩) * wd (ix3 e f d)

/-- What the shared expert gives element `d` of token `t`. -/
def shared (h : Vec Ideal S8192x1024 .bf16) (sg su : Vec Ideal S1024x128 .f32) (sd : Vec Ideal S128x1024 .f32) (t : Fin 8192) (d : Fin 1024) : EReal :=
  ∑ f : Fin 128, unit (fun k => h (ix2 t k)) (fun k => sg (ix2 k f)) (fun k => su (ix2 k f)) * sd (ix2 f d)

/-- The residual row, with the experts' sum through its gate. -/
def resid (x1 : Vec Ideal S8192x1024 .f32) (mod : Vec Ideal S8x6x1024 .f32) (ff : Fin 1024 → EReal) (t : Fin 8192) (d : Fin 1024) : EReal :=
  x1 (ix2 t d) + mod (ix3 ⟨t.val / 1024, by omega⟩ 5 d) * ff d

/-- A row over the root of its mean square, times the final weight. -/
def normed (x : Fin 1024 → EReal) (fg : Fin 1024 → EReal) (d : Fin 1024) : EReal :=
  x d * Ideal.rsqrt (Ideal.div (∑ k, x k * x k) (Ideal.ofBits .f32 1149239296#32) + Ideal.ofBits .f32 897988541#32) * fg d

section
variable (x0 : Vec Ideal S8192x1024 .bf16) (x1 : Vec Ideal S8192x128 .f32) (x2 : Vec Ideal S8192x1024 .f32) (x3 : Vec Ideal S8x6x1024 .f32)
  (x4 x5 : Vec Ideal S64x1024x128 .f32) (x6 : Vec Ideal S64x128x1024 .f32) (x7 x8 : Vec Ideal S1024x128 .f32) (x9 : Vec Ideal S128x1024 .f32)
  (x10 : Vec Ideal S1024 .f32)

theorem expert_apply (t : Fin 8192) (d : Fin 1024) :
    val_main_v9 (F := Ideal) x0 x1 x4 x5 x6 (ix2 t d) = ∑ e : Fin 64, expert x0 x1 x4 x5 x6 t d e := by
  pointwise [val_main_v9, val_main_v8, val_main_v7, val_main_v6, val_main_v5, val_main_v4, val_main_v3, val_main_call0_v5, val_main_call0_v4,
    val_main_call0_v3, val_main_call0_v2, val_main_call0_v1, val_main_call0_v0, val_main_call0_cst, val_main_call0_cst_0, val_main_v2, val_main_v1, val_main_v0]
  simp only [expert, unit, zero_sub]

theorem shared_apply (t : Fin 8192) (d : Fin 1024) :
    val_main_v14 (F := Ideal) x0 x7 x8 x9 (ix2 t d) = shared x0 x7 x8 x9 t d := by
  pointwise [val_main_v14, val_main_v13, val_main_v12, val_main_v11, val_main_call1_v5, val_main_call1_v4,
    val_main_call1_v3, val_main_call1_v2, val_main_call1_v1, val_main_call1_v0, val_main_call1_cst, val_main_call1_cst_0, val_main_v10, val_main_v0]
  simp only [shared, unit, zero_sub]

/-- The sum of the experts, the routed ones and the shared one. -/
theorem ff_apply (t : Fin 8192) (d : Fin 1024) :
    val_main_v15 (F := Ideal) x0 x1 x4 x5 x6 x7 x8 x9 (ix2 t d)
      = shared x0 x7 x8 x9 t d + ∑ e : Fin 64, expert x0 x1 x4 x5 x6 t d e := by
  rw [add_comm, ← expert_apply, ← shared_apply]; rfl

theorem resid_apply (t : Fin 8192) (d : Fin 1024) :
    val_main_v23 (F := Ideal) x0 x1 x2 x3 x4 x5 x6 x7 x8 x9 (ix3 (n0 := 8) (n1 := 1024) ⟨t.val / 1024, by omega⟩ ⟨t.val % 1024, by omega⟩ d)
      = resid x2 x3 (fun d => shared x0 x7 x8 x9 t d + ∑ e : Fin 64, expert x0 x1 x4 x5 x6 t d e) t d := by
  have ht : (⟨t.val / 1024 * 1024 + t.val % 1024, by omega⟩ : Fin 8192) = t := Fin.ext (Nat.div_add_mod' ..)
  simp only [resid, ← ff_apply]
  pointwise [val_main_v23, val_main_v22, val_main_v21, val_main_v20, val_main_v19, val_main_v18, val_main_v17, val_main_v16]

theorem out_apply (t : Fin 8192) (d : Fin 1024) :
    val_main_v37 (F := Ideal) x0 x1 x2 x3 x4 x5 x6 x7 x8 x9 x10 (ix2 t d)
      = normed (resid x2 x3 (fun d => shared x0 x7 x8 x9 t d + ∑ e : Fin 64, expert x0 x1 x4 x5 x6 t d e) t) (fun d => x10 (ix1 d)) d := by
  pointwise [val_main_v37, val_main_v36, val_main_v35, val_main_v34, val_main_v33, val_main_v32, val_main_v31, val_main_v30, val_main_v29, val_main_v28,
    val_main_v27, val_main_v26, val_main_v25, val_main_v24, val_main_cst, val_main_cst_0, val_main_cst_1]
  simp only [resid_apply, normed]

end

end Cert.ReferenceIdeal.Moe

end
-- ==== Proof.MoeSteps.lean ====
module

public import Idealize.ShloMosaic.PureOps.Ideal.Laws

/-! An accumulator that starts afresh every 32 points and takes in two terms at each point. -/

@[expose] public section

noncomputable section

namespace Cert.Moe

/-- The term of a list of 64 that has number `e`; nothing when there is no such term. -/
def nth (f : Fin 64 → EReal) (e : ℕ) : EReal := if h : e < 64 then f ⟨e, h⟩ else 0

theorem sum_nth (f : Fin 64 → EReal) : ∑ e ∈ Finset.range 64, nth f e = ∑ e, f e := by
  rw [Finset.sum_range]
  exact Finset.sum_congr rfl fun e _ => dif_pos e.isLt

/-- After a point the accumulator is its start and the terms so far. -/
theorem steps {N : ℕ} (S start : ∀ n, n < N → EReal) (term : ∀ n, n < N → ℕ → EReal)
    (first : ∀ n h, n % 32 = 0 → S n h = start n h + (term n h (2 * (n % 32)) + term n h (2 * (n % 32) + 1)))
    (next : ∀ n h, (n + 1) % 32 ≠ 0 → S (n + 1) h = S n (Nat.lt_of_succ_lt h)
      + (term (n + 1) h (2 * ((n + 1) % 32)) + term (n + 1) h (2 * ((n + 1) % 32) + 1)))
    (same : ∀ n h, (n + 1) % 32 ≠ 0 → start (n + 1) h = start n (Nat.lt_of_succ_lt h)
      ∧ term (n + 1) h = term n (Nat.lt_of_succ_lt h)) :
    ∀ n h, S n h = start n h + ∑ e ∈ Finset.range (2 * (n % 32 + 1)), term n h e := by
  have fresh : ∀ n h, n % 32 = 0 → S n h = start n h + ∑ e ∈ Finset.range (2 * (n % 32 + 1)), term n h e := fun n h h0 => by
    rw [first n h h0, h0]
    simp only [Finset.sum_range_succ, Finset.sum_range_zero, zero_add, mul_zero, mul_one]
  intro n
  induction n with
  | zero => exact fun h => fresh 0 h rfl
  | succ n ih =>
    intro h
    by_cases h0 : (n + 1) % 32 = 0
    · exact fresh (n + 1) h h0
    · have hm : 2 * ((n + 1) % 32 + 1) = 2 * (n % 32 + 1) + 1 + 1 := by omega
      have hm' : 2 * ((n + 1) % 32) = 2 * (n % 32 + 1) := by omega
      rw [next n h h0, ih, (same n h h0).1, (same n h h0).2, hm, hm', Finset.sum_range_succ, Finset.sum_range_succ]
      simp only [add_assoc]

end Cert.Moe

end
-- ==== Proof.MoeFold.lean ====
module

public import proofs.«01_k».proof.Proof.MoeReads
public import proofs.«01_k».proof.Proof.MoeRef
public import proofs.«01_k».proof.Proof.MoeSteps

/-! What the accumulator holds after each grid point, and what the kernel's result array holds: the reference's array. -/

@[expose] public section

set_option maxRecDepth 16384

noncomputable section

namespace Cert.KernelIdeal.Moe

open Cert.KernelIdeal Cert.KernelIdeal.Gen Cert.KernelIdeal.Value Idealize.ShloMosaic Idealize.ShloMosaic.TcCoe Idealize.SL.Sem
open Cert.ReferenceIdeal.Moe (expert shared resid normed)
open Cert.Moe (nth sum_nth steps)

/-- A step at an element, over its blocks. -/
theorem step_eq (j : Nat) (hj : j < 32) (x0 : Vec Ideal S1024x1024 .bf16) (x1 : Vec Ideal S1024x128 .f32) (x4 x5 : Vec Ideal S2x1024x128 .f32)
    (x6 : Vec Ideal S2x128x1024 .f32) (acc : Vec Ideal S1024x1024 .f32) (r d : Fin 1024) (hg : ∀ x : Fin 128, x1 (ix2 r x) - x1 (ix2 r x) = (0 : EReal)) :
    step j x0 x1 x4 x5 x6 acc (ix2 r d) = acc (ix2 r d)
      + (∑ f : Fin 128, unit (fun k => x0 (ix2 r k)) (fun k => x4 (ix3 0 k f)) (fun k => x5 (ix3 0 k f)) * x1 (ix2 r ⟨2 * j, by omega⟩) * x6 (ix3 0 f d)
        + ∑ f : Fin 128, unit (fun k => x0 (ix2 r k)) (fun k => x4 (ix3 1 k f)) (fun k => x5 (ix3 1 k f)) * x1 (ix2 r ⟨2 * j + 1, by omega⟩) * x6 (ix3 1 f d)) := by
  unfold step
  rw [step_apply _ _ _ _ _ _ _ _ _ _ hj r d hg]
  pointwise

/-- The finish at an element, over its blocks. -/
theorem fin_eq (x2 : Vec Ideal S1024x1024 .f32) (x3 : Vec Ideal S1x6x1024 .f32) (acc : Vec Ideal S1024x1024 .f32) (x10 : Vec Ideal S1x1024 .f32) (r d : Fin 1024) :
    k0_pay2 (F := Ideal) x2 (View.ld x3 (Rect.unit (s := S1x6x1024) ![0, 5, 0] S1x1x1024.size inb_S1x6x1024_S1x1x1024_0_5_0)) acc x10 (ix2 r d)
      = normed (fun k => x2 (ix2 r k) + x3 (ix3 0 5 k) * acc (ix2 r k)) (fun k => x10 (ix2 0 k)) d := by
  rw [fin_apply]
  pointwise [normed]

/-- Finite numbers: each one's difference with itself is zero. -/
def Finite (x : Vec Ideal S8192x128 .f32) : Prop := ∀ i, x i - x i = (0 : EReal)

variable (m : (ℓ : Loc nD τ sig) → Buf (Elt Ideal) ℓ) (c : Dev nD)

/-- The gates of the launch are finite. -/
abbrev FiniteGates : Prop := Finite (m ((c : Thread nD τ).loc main_arg1))

/-- What expert number `e` adds to element `d` of token `t`, from the launch's arguments; nothing when there is no such expert. -/
abbrev ex (t : Fin 8192) (d : Fin 1024) : ℕ → EReal :=
  nth (expert (m ((c : Thread nD τ).loc main_arg0)) (m ((c : Thread nD τ).loc main_arg1)) (m ((c : Thread nD τ).loc main_arg4))
    (m ((c : Thread nD τ).loc main_arg5)) (m ((c : Thread nD τ).loc main_arg6)) t d)

/-- What the shared expert gives, from the launch's arguments. -/
abbrev sh (t : Fin 8192) (d : Fin 1024) : EReal :=
  shared (m ((c : Thread nD τ).loc main_arg0)) (m ((c : Thread nD τ).loc main_arg7)) (m ((c : Thread nD τ).loc main_arg8))
    (m ((c : Thread nD τ).loc main_arg9)) t d

variable {m c}

/-- The step of point `t`, at an element. -/
theorem step_at (hg : FiniteGates m c) (t : Fin cfg0.N) (acc : Vec Ideal S1024x1024 .f32) (r d : Fin 1024) :
    step (grid0.coords t 1).val (iblk m c 0 t) (iblk m c 1 t) (iblk m c 4 t) (iblk m c 5 t) (iblk m c 6 t) acc (ix2 r d)
      = acc (ix2 r d) + (ex m c (row t r) d (2 * (t.val % 32)) + ex m c (row t r) d (2 * (t.val % 32) + 1)) := by
  have hj : t.val % 32 < 32 := Nat.mod_lt _ (by decide)
  have h0 : 2 * (t.val % 32) < 64 := by omega
  have h1 : 2 * (t.val % 32) + 1 < 64 := by omega
  have e0 : exp t 0 = ⟨2 * (t.val % 32), h0⟩ := Fin.ext (by show t.val % 32 * 2 + 0 = 2 * (t.val % 32); omega)
  have e1 : exp t 1 = ⟨2 * (t.val % 32) + 1, h1⟩ := Fin.ext (by show t.val % 32 * 2 + 1 = 2 * (t.val % 32) + 1; omega)
  rw [(idx t).2.2.2.2.2.2.2.2.2.2.2]
  rw [step_eq _ hj _ _ _ _ _ _ r d (fun x => by rw [read_g]; exact hg _)]
  simp only [read_h, read_g, read_wg, read_wu, read_wd, e0, e1]
  unfold ex nth
  rw [dif_pos h0, dif_pos h1]
  rfl

/-- The accumulator after point `n`: the shared expert and the experts so far. -/
theorem acc_at (hg : FiniteGates m c) (r d : Fin 1024) : ∀ (n : ℕ) (h : n < cfg0.N),
    (outsAt0 m c n h).2 (ix2 r d)
      = sh m c (row ⟨n, h⟩ r) d + ∑ e ∈ Finset.range (2 * (n % 32 + 1)), ex m c (row ⟨n, h⟩ r) d e := by
  refine steps (fun n h => (outsAt0 m c n h).2 (ix2 r d)) (fun n h => sh m c (row ⟨n, h⟩ r) d) (fun n h => ex m c (row ⟨n, h⟩ r) d)
    (fun n h h0 => ?_) (fun n h h0 => ?_) (fun n h h0 => ?_)
  · rw [outsAt0_A m c ⟨n, h⟩ h0 (by dsimp only; omega)]
    dsimp only
    rw [sout_A, step_at hg, shared_apply]
    simp only [read_h, read_sg, read_su, read_sd]
    rfl
  · by_cases h1 : (n + 1) % 32 = 31
    · rw [outsAt0_C m c ⟨n + 1, h⟩ h0 h1]
      dsimp only
      rw [sout_C, step_at hg]
      rfl
    · rw [outsAt0_B m c ⟨n + 1, h⟩ h0 h1]
      dsimp only
      rw [sout_B, step_at hg]
      rfl
  · have hr : row ⟨n + 1, h⟩ r = row ⟨n, Nat.lt_of_succ_lt h⟩ r := Fin.ext (by show (n + 1) / 32 * 1024 + r.val = n / 32 * 1024 + r.val; omega)
    rw [hr]
    exact ⟨rfl, rfl⟩

variable (m c) in
/-- The array the reference computes from the launch's arguments, at an element. -/
abbrev want (t : Fin 8192) (d : Fin 1024) : EReal :=
  normed (resid (m ((c : Thread nD τ).loc main_arg2)) (m ((c : Thread nD τ).loc main_arg3))
    (fun d => sh m c t d + ∑ e : Fin 64, expert (m ((c : Thread nD τ).loc main_arg0)) (m ((c : Thread nD τ).loc main_arg1)) (m ((c : Thread nD τ).loc main_arg4))
      (m ((c : Thread nD τ).loc main_arg5)) (m ((c : Thread nD τ).loc main_arg6)) t d e) t)
    (fun d => m ((c : Thread nD τ).loc main_arg10) (ix1 d)) d

/-- The last point of a row tile leaves the finished rows. -/
theorem out_at (hg : FiniteGates m c) (t : Fin cfg0.N) (h1 : t.val % 32 = 31) (r d : Fin 1024) :
    (outsAt0 m c t.val t.isLt).1 (ix2 r d) = want m c (row t r) d := by
  have h0 : ¬t.val % 32 = 0 := by omega
  have hacc : ∀ k : Fin 1024, step (grid0.coords t 1).val (iblk m c 0 t) (iblk m c 1 t) (iblk m c 4 t) (iblk m c 5 t) (iblk m c 6 t)
        (outsAt0 m c (t.val - 1) (Nat.lt_of_le_of_lt (Nat.sub_le _ _) t.isLt)).2 (ix2 r k)
      = sh m c (row t r) k + ∑ e : Fin 64, expert (m ((c : Thread nD τ).loc main_arg0)) (m ((c : Thread nD τ).loc main_arg1)) (m ((c : Thread nD τ).loc main_arg4))
      (m ((c : Thread nD τ).loc main_arg5)) (m ((c : Thread nD τ).loc main_arg6)) (row t r) k e := fun k => by
    have e := acc_at hg r k t.val t.isLt
    rw [outsAt0_C m c t h0 h1] at e
    dsimp only at e
    rw [sout_C, h1, sum_nth] at e
    exact e
  rw [outsAt0_C m c t h0 h1]
  dsimp only
  rw [out_C, fin_eq]
  simp only [hacc, read_x, read_mod, read_fg]
  have hd : (⟨(row t r).val / 1024, by omega⟩ : Fin 8) = ⟨t.val / 32, by have := lt_N t; omega⟩ := Fin.ext (by show (t.val / 32 * 1024 + r.val) / 1024 = t.val / 32; omega)
  simp only [want, normed, resid, hd]

/-- The result array, at an element. -/
theorem G_at (hg : FiniteGates m c) (t : Fin 8192) (d : Fin 1024) : G11 m c (ix2 t d) = want m c t d := by
  have ht := t.isLt
  have hd := d.isLt
  have hp : pt11Of (ix2 t d) = 32 * (t.val / 1024) + 31 := by
    unfold pt11Of run11Of
    show 32 * (1 * (t.val / 1024 - 0) + 1 * (d.val / 1024 - 0)) + 31 = _
    omega
  have hlt : pt11Of (ix2 t d) < cfg0.N := by rw [hp, show cfg0.N = 256 from N_0]; omega
  unfold G11
  rw [dif_pos hlt, ← outsAt0_sweep m c _ hlt]
  have hl : loc11Of (ix2 t d) = ix2 (n0 := 1024) (n1 := 1024) ⟨t.val % 1024, Nat.mod_lt _ (by decide)⟩ d := by
    funext a
    match a with
    | ⟨0, _⟩ => rfl
    | ⟨1, _⟩ => exact Fin.ext (Nat.mod_eq_of_lt hd)
  rw [hl, out_at hg ⟨pt11Of (ix2 t d), hlt⟩ (by dsimp only; rw [hp]; omega)]
  have hr : row ⟨pt11Of (ix2 t d), hlt⟩ ⟨t.val % 1024, Nat.mod_lt _ (by decide)⟩ = t := Fin.ext (by
    show pt11Of (ix2 t d) / 32 * 1024 + t.val % 1024 = t.val
    rw [hp]; omega)
  rw [hr]

/-- So the kernel's array is the reference's. -/
theorem G_eq (hg : FiniteGates m c) : G11 m c = Cert.ReferenceIdeal.Read.val_main_v37 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) := by
  funext i
  obtain ⟨t, d, rfl⟩ : ∃ (t : Fin 8192) (d : Fin 1024), i = ix2 t d := ⟨i 0, i 1, by funext a; match a with | ⟨0, _⟩ => rfl | ⟨1, _⟩ => rfl⟩
  rw [G_at hg, Cert.ReferenceIdeal.Moe.out_apply]

end Cert.KernelIdeal.Moe

end
-- ==== Proof.Moe.lean ====
module

public import proofs.«01_k».proof.Defs
public import proofs.«01_k».proof.Proof.Finite
public import proofs.«01_k».proof.Proof.MoeFold
public import proofs.«01_k».proof.Proof.Gen.Pre_finite_gates
public import Idealize.ShloMosaic.Lib.Claim

/-! The mixture of experts: the kernel and its reference leave one array. -/

@[expose] public section

noncomputable section

namespace Cert.Moe

open Idealize.ShloMosaic Idealize.ShloMosaic.TcCoe Idealize.SL.Sem

theorem algebraic : Cert.algebraic_KernelIdeal_ReferenceIdeal_pre_finite_gates := by
  intro m g m' g' hpre hagree
  refine ⟨fun c => Cert.KernelIdeal.Value.G11 m c, Cert.KernelIdeal.Value.run m g, ?_⟩
  refine (θ_run Cert.ReferenceIdeal.defs _ _).mono (fun _ h c => ?_) (Cert.ReferenceIdeal.Value.run (F := Ideal) m' g')
  refine ⟨(h c).1.trans ?_, (h c).2⟩
  rw [Cert.ReferenceIdeal.Read.val_main_v37_eq]
  obtain ⟨h0, h1, h2, h3, h4, h5, h6, h7, h8, h9, h10⟩ := hagree c
  rw [h0, h1, h2, h3, h4, h5, h6, h7, h8, h9, h10]
  exact (Cert.KernelIdeal.Moe.G_eq (m := m) (c := c) (fun i => Cert.Finite.gates (hpre c) i)).symm

end Cert.Moe

end
-- ==== Proof.InReads.lean ====
module

public import proofs.«01_k».proof.Proof.Gen.Kernel3Ideal.Value
public import Idealize.ShloMosaic.Lib.Pipeline.ValueKit
public import Idealize.ShloMosaic.Lib.Pointwise

/-! Which elements of the arguments the blocks of one grid point of the input projection hold: point `t` works on rows
    `512 * t` to `512 * t + 511` and on the whole of every slab of weights. -/

@[expose] public section

set_option maxRecDepth 16384

noncomputable section

namespace Cert.Kernel3Ideal.In

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The block indices of the windows. -/
theorem idx : ∀ t : Fin cfg0.N,
    (win0_0.index t (0 : Fin 2) = t.val ∧ win0_0.index t (1 : Fin 2) = 0)
    ∧ (win0_1.index t (0 : Fin 3) = t.val / 2 ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) := by
  decide +kernel

theorem lt_N (t : Fin cfg0.N) : t.val < 16 := lt_of_lt_of_eq t.isLt N_0

/-- The row of the arrays that row `r` of point `t`'s tile is. -/
abbrev row (t : Fin cfg0.N) (r : Fin 512) : Fin 8192 := ⟨t.val * 512 + r.val, by have := lt_N t; omega⟩

theorem read_x (t : Fin cfg0.N) (r : Fin 512) (k : Fin 1024) :
    iblk m c 0 t (ix2 r k) = m ((c : Thread nD τ).loc main_arg0) (ix2 (row t r) k) := by
  blk_ext [iblk, V, idx t]

theorem read_mod (t : Fin cfg0.N) (s : Fin 6) (k : Fin 1024) :
    iblk m c 1 t (ix3 0 s k) = m ((c : Thread nD τ).loc main_arg1) (ix3 (⟨t.val / 2, by have := lt_N t; omega⟩ : Fin 8) s k) := by
  blk_ext [iblk, V, idx t]

theorem read_g (t : Fin cfg0.N) (k : Fin 1024) :
    iblk m c 2 t (ix2 0 k) = m ((c : Thread nD τ).loc main_arg2) (ix1 k) := by
  blk_ext! [iblk, V, idx t]

/-- The first slab of weights: 1040 columns of the matrix, then columns of zeros. -/
theorem slab_a (k : Fin 1024) (q : Fin 1152) :
    V m c main_v8 (ix2 k q) = if h : q.val < 1040 then m ((c : Thread nD τ).loc main_arg3) (ix2 k (⟨q.val, by omega⟩ : Fin 4128)) else (0 : EReal) := by
  entry_read
  pointwise []

theorem read_wa (t : Fin cfg0.N) (k : Fin 1024) (q : Fin 1152) : iblk m c 3 t (ix2 k q) = V m c main_v8 (ix2 k q) := by
  blk_ext [iblk, idx t]

theorem read_wb (t : Fin cfg0.N) (k : Fin 1024) (q : Fin 1280) :
    iblk m c 4 t (ix2 k q) = m ((c : Thread nD τ).loc main_arg3) (ix2 k (⟨1040 + q.val, by omega⟩ : Fin 4128)) := by
  blk_ext! [iblk, V, idx t]

/-- The third slab of weights: 1040 columns of the matrix, then columns of zeros. -/
theorem slab_c (k : Fin 1024) (q : Fin 1152) :
    V m c main_v10 (ix2 k q) = if h : q.val < 1040 then m ((c : Thread nD τ).loc main_arg3) (ix2 k (⟨2320 + q.val, by omega⟩ : Fin 4128)) else (0 : EReal) := by
  entry_read
  pointwise []

theorem read_wc (t : Fin cfg0.N) (k : Fin 1024) (q : Fin 1152) : iblk m c 5 t (ix2 k q) = V m c main_v10 (ix2 k q) := by
  blk_ext [iblk, idx t]

theorem read_wd (t : Fin cfg0.N) (k : Fin 1024) (q : Fin 768) :
    iblk m c 6 t (ix2 k q) = m ((c : Thread nD τ).loc main_arg3) (ix2 k (⟨3360 + q.val, by omega⟩ : Fin 4128)) := by
  blk_ext! [iblk, V, idx t]

end Cert.Kernel3Ideal.In

end
-- ==== Proof.InPay.lean ====
module

public import proofs.«01_k».proof.Proof.Gen.Kernel3Ideal.Skeleton
public import Idealize.ShloMosaic.Lib.Pointwise

/-! What the body of the input projection computes, element by element. -/

@[expose] public section

set_option maxRecDepth 16384

noncomputable section

namespace Cert.Kernel3Ideal.In

open Cert.Kernel3Ideal Cert.Kernel3Ideal.Gen Idealize.ShloMosaic Idealize.SL.Sem

/-- One element of a row over the root of its mean square, times the weight, scaled by one plus `s` and moved by `b`. -/
def modulated (x g b s : Fin 1024 → EReal) (k : Fin 1024) : EReal :=
  x k * Ideal.rsqrt (Ideal.div (∑ j, x j * x j) (Ideal.ofBits .f32 1149239296#32) + Ideal.ofBits .f32 897988541#32) * g k
    * (1 + s k) + b k

section
variable (v0 : Vec Ideal S512x1024 .f32) (v1 : Vec Ideal S1x1024 .f32) (v3 v5 : Vec Ideal S1x1x1024 .f32)

theorem h_apply (r : Fin 512) (k : Fin 1024) :
    k0_pay3 (F := Ideal) v0 v1 v3 v5 (ix2 r k)
      = modulated (fun j => v0 (ix2 r j)) (fun j => v1 (ix2 0 j)) (fun j => v3 (ix3 0 0 j)) (fun j => v5 (ix3 0 0 j)) k := by
  pointwise [k0_pay3]
  simp only [modulated]

theorem a_apply (w : Vec Ideal S1024x1152 .bf16) (r : Fin 512) (q : Fin 1152) :
    k0_pay4 (F := Ideal) v0 v1 v3 v5 w (ix2 r q) = ∑ k : Fin 1024, k0_pay3 (F := Ideal) v0 v1 v3 v5 (ix2 r k) * w (ix2 k q) := by
  pointwise [k0_pay4]

theorem b_apply (w : Vec Ideal S1024x1280 .bf16) (r : Fin 512) (q : Fin 1280) :
    k0_pay5 (F := Ideal) v0 v1 v3 v5 w (ix2 r q) = ∑ k : Fin 1024, k0_pay3 (F := Ideal) v0 v1 v3 v5 (ix2 r k) * w (ix2 k q) := by
  pointwise [k0_pay5]

end

theorem c_apply (h : FVec Ideal S512x1024 .bf16) (w : Vec Ideal S1024x1152 .bf16) (r : Fin 512) (q : Fin 1152) :
    k0_pay1 (F := Ideal) h w (ix2 r q) = ∑ k : Fin 1024, h (ix2 r k) * w (ix2 k q) := by
  pointwise [k0_pay1]

theorem d_apply (h : FVec Ideal S512x1024 .bf16) (w : Vec Ideal S1024x768 .bf16) (r : Fin 512) (q : Fin 768) :
    k0_pay2 (F := Ideal) h w (ix2 r q) = ∑ k : Fin 1024, h (ix2 r k) * w (ix2 k q) := by
  pointwise [k0_pay2]

end Cert.Kernel3Ideal.In

end
-- ==== Proof.InRef.lean ====
module

public import proofs.«01_k».proof.Proof.Gen.Reference3Ideal.Read
public import proofs.«01_k».proof.Proof.InPay

/-! What the reference of the input projection computes, element by element. -/

@[expose] public section

set_option maxRecDepth 16384

noncomputable section

namespace Cert.Reference3Ideal.In

open Cert.Reference3Ideal Cert.Reference3Ideal.Read Idealize.ShloMosaic Idealize.SL.Sem
open Cert.Kernel3Ideal.In (modulated)

/-- Token `t`'s row, normed and modulated by its sequence's shift and scale. -/
def hid (x : Vec Ideal S8192x1024 .f32) (mod : Vec Ideal S8x6x1024 .f32) (g : Vec Ideal S1024 .f32) (t : Fin 8192) (k : Fin 1024) : EReal :=
  modulated (fun j => x (ix2 t j)) (fun j => g (ix1 j)) (fun j => mod (ix3 ⟨t.val / 1024, by omega⟩ 0 j))
    (fun j => mod (ix3 ⟨t.val / 1024, by omega⟩ 1 j)) k

/-- The projection of token `t`, column `q`. -/
def proj (x : Vec Ideal S8192x1024 .f32) (mod : Vec Ideal S8x6x1024 .f32) (g : Vec Ideal S1024 .f32) (w : Vec Ideal S1024x4128 .f32)
    (t : Fin 8192) (q : Fin 4128) : EReal :=
  ∑ k : Fin 1024, hid x mod g t k * w (ix2 k q)

section
variable (x : Vec Ideal S8192x1024 .f32) (mod : Vec Ideal S8x6x1024 .f32) (g : Vec Ideal S1024 .f32) (w : Vec Ideal S1024x4128 .f32)

theorem hid_apply (t : Fin 8192) (k : Fin 1024) :
    val_main_v25 (F := Ideal) x mod g (ix3 (n0 := 8) (n1 := 1024) ⟨t.val / 1024, by omega⟩ ⟨t.val % 1024, by omega⟩ k) = hid x mod g t k := by
  have ht : (⟨t.val / 1024 * 1024 + t.val % 1024, by omega⟩ : Fin 8192) = t := Fin.ext (Nat.div_add_mod' ..)
  pointwise [val_main_v25, val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2]
  simp only [hid, modulated, ht]

theorem proj_apply (t : Fin 8192) (q : Fin 4128) : val_main_v27 (F := Ideal) x mod g w (ix2 t q) = proj x mod g w t q := by
  pointwise [val_main_v27, val_main_v26]
  simp only [hid_apply, proj]

theorem a_apply (t : Fin 8192) (q : Fin 1152) :
    val_main_v30 (F := Ideal) x mod g w (ix2 t q) = if h : q.val < 1040 then proj x mod g w t ⟨q.val, by omega⟩ else 0 := by
  pointwise [val_main_v30, val_main_v29, val_main_v28, val_main_cst_3]
  simp only [proj_apply]

theorem b_apply (t : Fin 8192) (q : Fin 1280) :
    val_main_v31 (F := Ideal) x mod g w (ix2 t q) = proj x mod g w t ⟨1040 + q.val, by omega⟩ := by
  pointwise [val_main_v31]
  simp only [proj_apply]

theorem c_apply (t : Fin 8192) (q : Fin 1152) :
    val_main_v33 (F := Ideal) x mod g w (ix2 t q) = if h : q.val < 1040 then proj x mod g w t ⟨2320 + q.val, by omega⟩ else 0 := by
  pointwise [val_main_v33, val_main_v32, val_main_v28, val_main_cst_3]
  simp only [proj_apply]

theorem d_apply (t : Fin 8192) (q : Fin 768) :
    val_main_v34 (F := Ideal) x mod g w (ix2 t q) = proj x mod g w t ⟨3360 + q.val, by omega⟩ := by
  pointwise [val_main_v34]
  simp only [proj_apply]

end

end Cert.Reference3Ideal.In

end
-- ==== Proof.InArr.lean ====
module

public import proofs.«01_k».proof.Proof.InReads
public import proofs.«01_k».proof.Proof.InRef

/-! The four result arrays of the input projection hold what the reference says. -/

@[expose] public section

set_option maxRecDepth 16384

noncomputable section

namespace Cert.Kernel3Ideal.In

open Cert.Kernel3Ideal Cert.Kernel3Ideal.Gen Idealize.ShloMosaic Idealize.ShloMosaic.TcCoe Idealize.SL.Sem
open Cert.Reference3Ideal.In (hid proj)

variable (m : (ℓ : Loc nD τ sig) → Buf (Elt Ideal) ℓ) (c : Dev nD)

/-- What the body multiplies by the weights is the reference's normed and modulated row. -/
theorem hid_eq (t : Fin cfg0.N) (r : Fin 512) (k : Fin 1024) :
    k0_pay3 (F := Ideal) (iblk m c 0 t) (iblk m c 2 t) (View.ld (iblk m c 1 t) r0_2) (View.ld (iblk m c 1 t) r0_3) (ix2 r k)
      = hid (m ((c : Thread nD τ).loc main_arg0)) (m ((c : Thread nD τ).loc main_arg1)) (m ((c : Thread nD τ).loc main_arg2)) (row t r) k := by
  have hd : (t.val * 512 + r.val) / 1024 = t.val / 2 := by omega
  have h2 (j : Fin 1024) : View.ld (iblk m c 1 t) r0_2 (ix3 0 0 j) = iblk m c 1 t (ix3 0 0 j) := by pointwise [r0_2]
  have h3 (j : Fin 1024) : View.ld (iblk m c 1 t) r0_3 (ix3 0 0 j) = iblk m c 1 t (ix3 0 1 j) := by pointwise [r0_3]
  rw [h_apply]
  simp only [h2, h3, read_x, read_g, read_mod, hid, hd]

/-- The same row, in the name under which the last two products read it. -/
theorem hid_eq' (t : Fin cfg0.N) (r : Fin 512) (k : Fin 1024) :
    k0_pay6 (F := Ideal) (iblk m c 0 t) (iblk m c 1 t) (iblk m c 2 t) (iblk m c 3 t) (iblk m c 4 t) (iblk m c 5 t) (iblk m c 6 t) (ix2 r k)
      = hid (m ((c : Thread nD τ).loc main_arg0)) (m ((c : Thread nD τ).loc main_arg1)) (m ((c : Thread nD τ).loc main_arg2)) (row t r) k := by
  have h0 (j : Fin 1024) : View.ld (iblk m c 0 t) r0_0 (ix2 r j) = iblk m c 0 t (ix2 r j) := by pointwise [r0_0]
  have h1 (j : Fin 1024) : View.ld (iblk m c 2 t) r0_1 (ix2 0 j) = iblk m c 2 t (ix2 0 j) := by pointwise [r0_1]
  rw [← hid_eq, k0_pay6, h_apply, h_apply]
  simp only [h0, h1]

theorem block_a (t : Fin cfg0.N) (r : Fin 512) (q : Fin 1152) :
    k0_pay4 (F := Ideal) (iblk m c 0 t) (iblk m c 2 t) (View.ld (iblk m c 1 t) r0_2) (View.ld (iblk m c 1 t) r0_3) (iblk m c 3 t) (ix2 r q)
      = Cert.Reference3Ideal.Read.val_main_v30 (F := Ideal) (m ((c : Thread nD τ).loc main_arg0))
      (m ((c : Thread nD τ).loc main_arg1)) (m ((c : Thread nD τ).loc main_arg2)) (m ((c : Thread nD τ).loc main_arg3)) (ix2 (row t r) q) := by
  rw [a_apply, Cert.Reference3Ideal.In.a_apply]
  refine (Finset.sum_congr rfl fun k _ => congrArg₂ (· * ·) (hid_eq m c t r k) ((read_wa m c t k q).trans (slab_a m c k q))).trans ?_
  by_cases h : q.val < 1040
  · simp only [dif_pos h, proj]
  · simp only [dif_neg h, mul_zero, Finset.sum_const_zero]

theorem block_b (t : Fin cfg0.N) (r : Fin 512) (q : Fin 1280) :
    k0_pay5 (F := Ideal) (iblk m c 0 t) (iblk m c 2 t) (View.ld (iblk m c 1 t) r0_2) (View.ld (iblk m c 1 t) r0_3) (iblk m c 4 t) (ix2 r q)
      = Cert.Reference3Ideal.Read.val_main_v31 (F := Ideal) (m ((c : Thread nD τ).loc main_arg0))
      (m ((c : Thread nD τ).loc main_arg1)) (m ((c : Thread nD τ).loc main_arg2)) (m ((c : Thread nD τ).loc main_arg3)) (ix2 (row t r) q) := by
  rw [b_apply, Cert.Reference3Ideal.In.b_apply]
  exact Finset.sum_congr rfl fun k _ => congrArg₂ (· * ·) (hid_eq m c t r k) (read_wb m c t k q)

theorem block_c (t : Fin cfg0.N) (r : Fin 512) (q : Fin 1152) :
    k0_pay1 (F := Ideal) (k0_pay6 (iblk m c 0 t) (iblk m c 1 t) (iblk m c 2 t) (iblk m c 3 t) (iblk m c 4 t) (iblk m c 5 t) (iblk m c 6 t)) (iblk m c 5 t) (ix2 r q)
      = Cert.Reference3Ideal.Read.val_main_v33 (F := Ideal) (m ((c : Thread nD τ).loc main_arg0))
      (m ((c : Thread nD τ).loc main_arg1)) (m ((c : Thread nD τ).loc main_arg2)) (m ((c : Thread nD τ).loc main_arg3)) (ix2 (row t r) q) := by
  rw [c_apply, Cert.Reference3Ideal.In.c_apply]
  refine (Finset.sum_congr rfl fun k _ => congrArg₂ (· * ·) (hid_eq' m c t r k) ((read_wc m c t k q).trans (slab_c m c k q))).trans ?_
  by_cases h : q.val < 1040
  · simp only [dif_pos h, proj]
  · simp only [dif_neg h, mul_zero, Finset.sum_const_zero]

theorem block_d (t : Fin cfg0.N) (r : Fin 512) (q : Fin 768) :
    k0_pay2 (F := Ideal) (k0_pay6 (iblk m c 0 t) (iblk m c 1 t) (iblk m c 2 t) (iblk m c 3 t) (iblk m c 4 t) (iblk m c 5 t) (iblk m c 6 t)) (iblk m c 6 t) (ix2 r q)
      = Cert.Reference3Ideal.Read.val_main_v34 (F := Ideal) (m ((c : Thread nD τ).loc main_arg0))
      (m ((c : Thread nD τ).loc main_arg1)) (m ((c : Thread nD τ).loc main_arg2)) (m ((c : Thread nD τ).loc main_arg3)) (ix2 (row t r) q) := by
  rw [d_apply, Cert.Reference3Ideal.In.d_apply]
  exact Finset.sum_congr rfl fun k _ => congrArg₂ (· * ·) (hid_eq' m c t r k) (read_wd m c t k q)

theorem arr_a : (dats m 0 c).arrAt 7 cfg0.N = Cert.Reference3Ideal.Read.val_main_v30 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 7 _ (by decide +kernel) fun t hf y => ?_
  obtain ⟨r, q, rfl⟩ : ∃ (r : Fin 512) (q : Fin 1152), y = ix2 r q := ⟨y 0, y 1, by funext a; fin_cases a <;> rfl⟩
  have he : ((cfg0.win 7).blk t).view.emb (ix2 r q) = ix2 (row t r) q := by
    funext a; fin_cases a <;> apply Fin.ext <;> blk_simp <;> simp [idx t]
  rw [he]
  blk_simp
  rw [after0_7]
  frame_out
  exact block_a m c t r q

theorem arr_b : (dats m 0 c).arrAt 8 cfg0.N = Cert.Reference3Ideal.Read.val_main_v31 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 8 _ (by decide +kernel) fun t hf y => ?_
  obtain ⟨r, q, rfl⟩ : ∃ (r : Fin 512) (q : Fin 1280), y = ix2 r q := ⟨y 0, y 1, by funext a; fin_cases a <;> rfl⟩
  have he : ((cfg0.win 8).blk t).view.emb (ix2 r q) = ix2 (row t r) q := by
    funext a; fin_cases a <;> apply Fin.ext <;> blk_simp <;> simp [idx t]
  rw [he]
  blk_simp
  rw [after0_8]
  frame_out
  exact block_b m c t r q

theorem arr_c : (dats m 0 c).arrAt 9 cfg0.N = Cert.Reference3Ideal.Read.val_main_v33 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 9 _ (by decide +kernel) fun t hf y => ?_
  obtain ⟨r, q, rfl⟩ : ∃ (r : Fin 512) (q : Fin 1152), y = ix2 r q := ⟨y 0, y 1, by funext a; fin_cases a <;> rfl⟩
  have he : ((cfg0.win 9).blk t).view.emb (ix2 r q) = ix2 (row t r) q := by
    funext a; fin_cases a <;> apply Fin.ext <;> blk_simp <;> simp [idx t]
  rw [he]
  blk_simp
  rw [after0_9]
  frame_out
  exact block_c m c t r q

theorem arr_d : (dats m 0 c).arrAt 10 cfg0.N = Cert.Reference3Ideal.Read.val_main_v34 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 10 _ (by decide +kernel) fun t hf y => ?_
  obtain ⟨r, q, rfl⟩ : ∃ (r : Fin 512) (q : Fin 768), y = ix2 r q := ⟨y 0, y 1, by funext a; fin_cases a <;> rfl⟩
  have he : ((cfg0.win 10).blk t).view.emb (ix2 r q) = ix2 (row t r) q := by
    funext a; fin_cases a <;> apply Fin.ext <;> blk_simp <;> simp [idx t]
  rw [he]
  blk_simp
  rw [after0_10]
  frame_out
  exact block_d m c t r q

end Cert.Kernel3Ideal.In

end
-- ==== Proof.In.lean ====
module

public import proofs.«01_k».proof.Defs
public import proofs.«01_k».proof.Proof.InArr
public import Idealize.ShloMosaic.Lib.Claim

/-! The input projection: the kernel and its reference leave the same four arrays. -/

@[expose] public section

noncomputable section

namespace Cert.In

open Idealize.ShloMosaic Idealize.ShloMosaic.TcCoe Idealize.SL.Sem

theorem algebraic : Cert.algebraic_Kernel3Ideal_Reference3Ideal := by
  intro m g m' g' _ hagree
  refine ⟨_, _, _, _, Cert.Kernel3Ideal.Value.run_blocks m g, ?_⟩
  refine (θ_run Cert.Reference3Ideal.defs _ _).mono (fun _ h c => ?_) (Cert.Reference3Ideal.Value.run (F := Ideal) m' g')
  obtain ⟨h0, h1, h2, h3⟩ := hagree c
  obtain ⟨ha, hb, hc, hd, hk⟩ := h c
  rw [Cert.Reference3Ideal.Read.val_main_v30_eq, h0, h1, h2, h3] at ha
  rw [Cert.Reference3Ideal.Read.val_main_v31_eq, h0, h1, h2, h3] at hb
  rw [Cert.Reference3Ideal.Read.val_main_v33_eq, h0, h1, h2, h3] at hc
  rw [Cert.Reference3Ideal.Read.val_main_v34_eq, h0, h1, h2, h3] at hd
  exact ⟨ha.trans (Cert.Kernel3Ideal.In.arr_a m c).symm, hb.trans (Cert.Kernel3Ideal.In.arr_b m c).symm,
    hc.trans (Cert.Kernel3Ideal.In.arr_c m c).symm, hd.trans (Cert.Kernel3Ideal.In.arr_d m c).symm, hk⟩

end Cert.In

end
-- ==== Proof.OutReads.lean ====
module

public import proofs.«01_k».proof.Proof.Gen.Kernel2Ideal.Value
public import Idealize.ShloMosaic.Lib.Pipeline.ValueKit
public import Idealize.ShloMosaic.Lib.Pointwise
public import Idealize.ShloMosaic.Lib.Routing.OpsOne

/-! Which elements of the arguments the blocks of one grid point of the output projection hold: point `t` works on rows
    `512 * t` to `512 * t + 511`; the router's weights and its bias are widened from 64 columns to 128. -/

@[expose] public section

set_option maxRecDepth 16384

noncomputable section

namespace Cert.Kernel2Ideal.Out

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The block indices of the windows. -/
theorem idx : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 3) = t.val / 2 ∧ win0_6.index t (1 : Fin 3) = 0 ∧ win0_6.index t (2 : Fin 3) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0) := by
  decide +kernel

theorem lt_N (t : Fin cfg0.N) : t.val < 16 := lt_of_lt_of_eq t.isLt N_0

/-- The row of the arrays that row `r` of point `t`'s tile is. -/
abbrev row (t : Fin cfg0.N) (r : Fin 512) : Fin 8192 := ⟨t.val * 512 + r.val, by have := lt_N t; omega⟩

theorem read_x (t : Fin cfg0.N) (r : Fin 512) (k : Fin 1024) :
    iblk m c 0 t (ix2 r k) = m ((c : Thread nD τ).loc main_arg0) (ix2 (row t r) k) := by
  blk_ext [iblk, V, idx t]

theorem read_ya (t : Fin cfg0.N) (r : Fin 512) (k : Fin 256) :
    iblk m c 1 t (ix2 r k) = m ((c : Thread nD τ).loc main_arg1) (ix2 (row t r) k) := by
  blk_ext [iblk, V, idx t]

theorem read_yb (t : Fin cfg0.N) (r : Fin 512) (k : Fin 256) :
    iblk m c 2 t (ix2 r k) = m ((c : Thread nD τ).loc main_arg2) (ix2 (row t r) k) := by
  blk_ext [iblk, V, idx t]

theorem read_yc (t : Fin cfg0.N) (r : Fin 512) (k : Fin 256) :
    iblk m c 3 t (ix2 r k) = m ((c : Thread nD τ).loc main_arg3) (ix2 (row t r) k) := by
  blk_ext [iblk, V, idx t]

theorem read_yd (t : Fin cfg0.N) (r : Fin 512) (k : Fin 256) :
    iblk m c 4 t (ix2 r k) = m ((c : Thread nD τ).loc main_arg4) (ix2 (row t r) k) := by
  blk_ext [iblk, V, idx t]

theorem read_w (t : Fin cfg0.N) (j k : Fin 1024) :
    iblk m c 5 t (ix2 j k) = m ((c : Thread nD τ).loc main_arg5) (ix2 j k) := by
  blk_ext! [iblk, V, idx t]

theorem read_mod (t : Fin cfg0.N) (s : Fin 6) (k : Fin 1024) :
    iblk m c 6 t (ix3 0 s k) = m ((c : Thread nD τ).loc main_arg6) (ix3 (⟨t.val / 2, by have := lt_N t; omega⟩ : Fin 8) s k) := by
  blk_ext [iblk, V, idx t]

theorem read_g (t : Fin cfg0.N) (k : Fin 1024) :
    iblk m c 7 t (ix2 0 k) = m ((c : Thread nD τ).loc main_arg7) (ix1 k) := by
  blk_ext! [iblk, V, idx t]

theorem start_zero {s si u : Shape} (d : ScatterDims s si u) (idx : IVec si 32) (h : ∀ i, idx i = 0#32) (j : u.Idx) (a : Fin s.rank) :
    d.start j idx a = 0 := by
  unfold ScatterDims.start
  split
  · rw [h]; rfl
  · rfl

/-- A matrix of 64 columns written over the first columns of one of 128. -/
theorem widened (x : S1024x128.Idx → EReal) (i : IVec S1 32) (hi : ∀ a, i a = 0#32) (u : S1024x64.Idx → EReal) (k : Fin 1024) (q : Fin 128) :
    Host.scatter scatter_S1024x128_S1_S1024x64_01_n_1_0 (fun _ b => b) x i u (ix2 k q)
      = if h : q.val < 64 then u (ix2 k ⟨q.val, h⟩) else x (ix2 k q) := by
  have w0 (a : Fin 1024) (b : Fin 64) : scatter_S1024x128_S1_S1024x64_01_n_1_0.window (ix2 a b) 0 = a.val := rfl
  have w1 (a : Fin 1024) (b : Fin 64) : scatter_S1024x128_S1_S1024x64_01_n_1_0.window (ix2 a b) 1 = b.val := rfl
  have lands (a : Fin 1024) (b : Fin 64) :
      scatter_S1024x128_S1_S1024x64_01_n_1_0.resultIdx? (ix2 a b) i = some (ix2 k q) ↔ a = k ∧ b.val = q.val := by
    refine (Routing.resultIdx?_ix2 _ _ _ k q).trans ?_
    rw [start_zero _ _ hi, start_zero _ _ hi, w0, w1, Fin.ext_iff]
    omega
  by_cases h : q.val < 64
  · rw [dif_pos h]
    refine Routing.scatter_set_hit _ x i u _ _ (fun j hj => ?_) (ix2 k ⟨q.val, h⟩) ((lands _ _).mpr ⟨rfl, rfl⟩)
    obtain ⟨a, b, rfl⟩ : ∃ (a : Fin 1024) (b : Fin 64), j = ix2 a b := ⟨j 0, j 1, by funext a; fin_cases a <;> rfl⟩
    obtain ⟨rfl, hb⟩ := (lands a b).mp hj
    rw [show b = ⟨q.val, h⟩ from Fin.ext hb]
  · rw [dif_neg h]
    refine Routing.scatter_set_miss _ x i u _ fun j hj => ?_
    obtain ⟨a, b, rfl⟩ : ∃ (a : Fin 1024) (b : Fin 64), j = ix2 a b := ⟨j 0, j 1, by funext a; fin_cases a <;> rfl⟩
    have := ((lands a b).mp hj).2
    omega

/-- A row of 64 written over the first of 128. -/
theorem widened_row (x : S1x128.Idx → EReal) (i : IVec S2 32) (hi : ∀ a, i a = 0#32) (u : S64.Idx → EReal) (q : Fin 128) :
    Host.scatter scatter_S1x128_S2_S64_0_0_01_0 (fun _ b => b) x i u (ix2 0 q)
      = if h : q.val < 64 then u (ix1 ⟨q.val, h⟩) else x (ix2 0 q) := by
  have w0 (b : Fin 64) : scatter_S1x128_S2_S64_0_0_01_0.window (ix1 b) 0 = 0 := rfl
  have w1 (b : Fin 64) : scatter_S1x128_S2_S64_0_0_01_0.window (ix1 b) 1 = b.val := rfl
  have lands (b : Fin 64) : scatter_S1x128_S2_S64_0_0_01_0.resultIdx? (ix1 b) i = some (ix2 0 q) ↔ b.val = q.val := by
    refine (Routing.resultIdx?_ix2 _ _ _ 0 q).trans ?_
    rw [start_zero _ _ hi, start_zero _ _ hi, w0, w1]
    simp
  by_cases h : q.val < 64
  · rw [dif_pos h]
    refine Routing.scatter_set_hit _ x i u _ _ (fun j hj => ?_) (ix1 ⟨q.val, h⟩) ((lands _).mpr rfl)
    obtain ⟨b, rfl⟩ : ∃ b : Fin 64, j = ix1 b := ⟨j 0, by funext a; fin_cases a; rfl⟩
    rw [show b = ⟨q.val, h⟩ from Fin.ext ((lands b).mp hj)]
  · rw [dif_neg h]
    refine Routing.scatter_set_miss _ x i u _ fun j hj => ?_
    obtain ⟨b, rfl⟩ : ∃ b : Fin 64, j = ix1 b := ⟨j 0, by funext a; fin_cases a; rfl⟩
    have := (lands b).mp hj
    omega

theorem ofBits_ninf : Ideal.ofBits .f32 4286578688#32 = ⊥ := by simp [Ideal.ofBits, Ideal.ieee]

/-- The router's weights, then columns of zeros. -/
def wide (w : Vec Ideal S1024x64 .f32) (k : Fin 1024) (q : Fin 128) : EReal := if h : q.val < 64 then w (ix2 k ⟨q.val, h⟩) else 0

theorem slab_h (k : Fin 1024) (q : Fin 128) : V m c main_v4 (ix2 k q) = wide (m ((c : Thread nD τ).loc main_arg8)) k q := by
  entry_read
  pointwise []
  rw [widened]
  · pointwise [wide]
  · intro _; rfl

theorem slab_l (k : Fin 1024) (q : Fin 128) :
    V m c main_v7 (ix2 k q) = wide (m ((c : Thread nD τ).loc main_arg8)) k q - wide (m ((c : Thread nD τ).loc main_arg8)) k q := by
  entry_read
  pointwise []
  rw [widened]
  · pointwise [wide]
  · intro _; rfl

theorem bias_row (q : Fin 128) :
    V m c main_v12 (ix2 0 q) = if h : q.val < 64 then m ((c : Thread nD τ).loc main_arg9) (ix1 ⟨q.val, h⟩) else (⊥ : EReal) := by
  entry_read
  pointwise []
  rw [widened_row]
  · pointwise []
    rw [ofBits_ninf]
  · intro a; pointwise []; split <;> rfl

theorem read_rwh (t : Fin cfg0.N) (k : Fin 1024) (q : Fin 128) : iblk m c 8 t (ix2 k q) = V m c main_v4 (ix2 k q) := by
  show V m c main_v4 (((cfg0.win 8).blk t).view.emb (ix2 k q)) = _
  congr 1
  funext a; fin_cases a <;> apply Fin.ext <;> blk_simp <;> simp [idx t]

theorem read_rwl (t : Fin cfg0.N) (k : Fin 1024) (q : Fin 128) : iblk m c 9 t (ix2 k q) = V m c main_v7 (ix2 k q) := by
  show V m c main_v7 (((cfg0.win 9).blk t).view.emb (ix2 k q)) = _
  congr 1
  funext a; fin_cases a <;> apply Fin.ext <;> blk_simp <;> simp [idx t]

theorem read_rb (t : Fin cfg0.N) (q : Fin 128) : iblk m c 10 t (ix2 0 q) = V m c main_v12 (ix2 0 q) := by
  show V m c main_v12 (((cfg0.win 10).blk t).view.emb (ix2 0 q)) = _
  congr 1
  funext a; fin_cases a <;> apply Fin.ext <;> blk_simp <;> simp [idx t]

end Cert.Kernel2Ideal.Out

end
-- ==== Proof.RouteOrder.lean ====
module

public import Idealize.ShloMosaic.Lib.SortFacts
public import Idealize.ShloMosaic.PureOps.Ideal.Laws

/-! Choosing the greatest of some numbers in order. A stable sort by "greater first" lists the positions by value, equal values
    by position; taking the first position of the maximum and striking it out, again and again, meets the positions in that
    same order. -/

@[expose] public section

noncomputable section

namespace Cert.Route

open Idealize.ShloMosaic

section sort
variable {n : ℕ} (v : Fin n → EReal)

/-- `a` holds the greater number. -/
def greater (a b : Fin n) : Bool := decide (v b < v a)

/-- `a` holds the greater number, or the same number at an earlier position. -/
def before (a b : Fin n) : Bool := decide (v b < v a ∨ v a = v b ∧ a < b)

theorem before_iff (a b : Fin n) : before v a b = true ↔ v b < v a ∨ v a = v b ∧ a < b := by simp [before]

theorem stableSort_eq (l : List (Fin n)) (hl : l.Pairwise (· < ·)) : stableSort (greater v) l = stableSort (before v) l := by
  induction l with
  | nil => rfl
  | cons a l ih =>
    obtain ⟨ha, hl⟩ := List.pairwise_cons.mp hl
    unfold stableSort
    rw [ih hl]
    refine insertBefore_congr _ _ a _ fun b hb => ?_
    have hab : a < b := ha b ((perm_stableSort _ _).mem_iff.mp hb)
    simp [greater, before, not_lt.mpr hab.le]

theorem sortedFrom_eq : sortedFrom (greater v) = sortedFrom (before v) := by
  have h : sortPositions n (greater v) = sortPositions n (before v) := stableSort_eq v _ (List.pairwise_lt_finRange n)
  funext k
  simp only [sortedFrom, List.get_eq_getElem, Fin.val_cast, h]

theorem before_total (a b : Fin n) (h : a ≠ b) : before v b a = false → before v a b = true := by
  intro hb
  have hb' : ¬ (v a < v b ∨ v b = v a ∧ b < a) := fun h => by simp [(before_iff v b a).mpr h] at hb
  rw [not_or] at hb'
  rw [before_iff]
  rcases lt_or_eq_of_le (not_lt.mp hb'.1) with h1 | h1
  · exact Or.inl h1
  · exact Or.inr ⟨h1.symm, lt_of_le_of_ne (not_lt.mp fun hlt => hb'.2 ⟨h1, hlt⟩) h⟩

/-- The sorted positions follow one another in order. -/
theorem sorted_lt (i j : Fin n) (hij : i < j) :
    v (sortedFrom (greater v) j) < v (sortedFrom (greater v) i)
      ∨ v (sortedFrom (greater v) i) = v (sortedFrom (greater v) j) ∧ sortedFrom (greater v) i < sortedFrom (greater v) j := by
  rw [← before_iff]
  refine before_total v _ _ (fun h => hij.ne (sortedFrom_injective _ h)) ?_
  rw [sortedFrom_eq]
  refine sortedFrom_noInversion (before v) (before v) (fun a b h => ?_) (fun a b h => h) (fun a b c h1 h2 => ?_) i j hij
  · rw [Bool.eq_false_iff]
    intro h'
    rw [before_iff] at h h'
    rcases h with h | h <;> rcases h' with h' | h'
    · exact absurd h' h.asymm
    · exact absurd h (by rw [h'.1]; exact lt_irrefl _)
    · exact absurd h' (by rw [h.1]; exact lt_irrefl _)
    · exact absurd h'.2 h.2.asymm
  · by_cases hac : a = c
    · subst hac
      rw [Bool.eq_false_iff]; intro h; rw [before_iff] at h
      exact h.elim (lt_irrefl _) fun h => lt_irrefl _ h.2
    by_cases hab : a = b
    · subst hab; exact h2
    by_cases hbc : b = c
    · subst hbc; exact h1
    have k1 := (before_iff v _ _).mp (before_total v b a (Ne.symm hab) h1)
    have k2 := (before_iff v _ _).mp (before_total v c b (Ne.symm hbc) h2)
    rw [Bool.eq_false_iff]; intro h; rw [before_iff] at h
    rcases k1 with k1 | ⟨k1, k1'⟩ <;> rcases k2 with k2 | ⟨k2, k2'⟩ <;> rcases h with h | ⟨h, h'⟩ <;> order

end sort

section rounds
variable {N n : ℕ} (u s : Fin N → EReal)

/-- `q` is the first position of the maximum of `u`. -/
def First (u : Fin N → EReal) (q : Fin N) : Prop := (∀ p, u p ≤ u q) ∧ ∀ p, u p = u q → q ≤ p

open Classical in
/-- The first maximum struck out. -/
def strike (u : Fin N → EReal) (q : Fin N) : EReal := if First u q then ⊥ else u q

open Classical in
/-- The score of the first maximum taken over. -/
def take (u s p : Fin N → EReal) (q : Fin N) : EReal := if First u q then s q else p q

/-- What is left after `r` rounds. -/
def left : ℕ → Fin N → EReal
  | 0 => u
  | r + 1 => strike (left r)

/-- What has been taken over after `r` rounds. -/
def taken : ℕ → Fin N → EReal
  | 0 => fun _ => 0
  | r + 1 => take (left u r) s (taken r)

/-- `σ` lists, in order, the positions that do not hold `-∞`. -/
structure Lists (σ : Fin n → Fin N) : Prop where
  lt : ∀ i j, i < j → u (σ j) < u (σ i) ∨ u (σ i) = u (σ j) ∧ σ i < σ j
  ne : ∀ i, u (σ i) ≠ ⊥
  out : ∀ q, (∀ i, σ i ≠ q) → u q = ⊥

variable {u} {σ : Fin n → Fin N} (hσ : Lists u σ)
include hσ

theorem Lists.inj {i j : Fin n} (h : σ i = σ j) : i = j := by
  rcases lt_trichotomy i j with hij | hij | hij
  · rcases hσ.lt i j hij with k | k
    · rw [h] at k; exact absurd k (lt_irrefl _)
    · rw [h] at k; exact absurd k.2 (lt_irrefl _)
  · exact hij
  · rcases hσ.lt j i hij with k | k
    · rw [h] at k; exact absurd k (lt_irrefl _)
    · rw [h] at k; exact absurd k.2 (lt_irrefl _)

/-- With the first `r` of the list struck out, the first maximum is the next one of the list. -/
theorem Lists.first (r : Fin n) (w : Fin N → EReal) (h1 : ∀ q, (∃ i : Fin n, i.val < r.val ∧ σ i = q) → w q = ⊥)
    (h2 : ∀ q, (¬ ∃ i : Fin n, i.val < r.val ∧ σ i = q) → w q = u q) (q : Fin N) : First w q ↔ q = σ r := by
  have ht : w (σ r) = u (σ r) := h2 _ fun ⟨i, hi, e⟩ => hi.ne (congrArg Fin.val (hσ.inj e))
  have key (p : Fin N) : p = σ r ∨ w p < w (σ r) ∨ (w p = w (σ r) ∧ σ r < p) := by
    by_cases hp : ∃ i : Fin n, i.val < r.val ∧ σ i = p
    · refine Or.inr (Or.inl ?_)
      rw [h1 p hp, ht]
      exact bot_lt_iff_ne_bot.mpr (hσ.ne r)
    · rw [h2 p hp, ht]
      by_cases hq : ∃ j, σ j = p
      · obtain ⟨j, rfl⟩ := hq
        rcases lt_trichotomy r j with hj | hj | hj
        · exact Or.inr ((hσ.lt r j hj).imp_right fun k => ⟨k.1.symm, k.2⟩)
        · exact Or.inl (by rw [hj])
        · exact absurd ⟨j, hj, rfl⟩ hp
      · refine Or.inr (Or.inl ?_)
        rw [hσ.out p fun i e => hq ⟨i, e⟩]
        exact bot_lt_iff_ne_bot.mpr (hσ.ne r)
  have hf : First w (σ r) := by
    refine ⟨fun p => ?_, fun p hp => ?_⟩
    · rcases key p with k | k | k
      · rw [k]
      · exact k.le
      · exact k.1.le
    · rcases key p with k | k | k
      · rw [k]
      · exact absurd k (by rw [hp]; exact lt_irrefl _)
      · exact k.2.le
  refine ⟨fun hq => ?_, fun h => h ▸ hf⟩
  have e : w q = w (σ r) := le_antisymm (hf.1 q) (hq.1 (σ r))
  exact le_antisymm (hq.2 _ e.symm) (hf.2 _ e)

open Classical in
theorem Lists.left_eq (r : ℕ) (hr : r ≤ n) (q : Fin N) : left u r q = if ∃ i : Fin n, i.val < r ∧ σ i = q then ⊥ else u q := by
  induction r generalizing q with
  | zero => simp [left]
  | succ r ih =>
    have hf := hσ.first ⟨r, hr⟩ (left u r) (fun q h => by rw [ih (by omega), if_pos h]) (fun q h => by rw [ih (by omega), if_neg h]) q
    simp only [left, strike, hf, ih (by omega : r ≤ n) q]
    by_cases h : q = σ ⟨r, hr⟩
    · rw [if_pos h, if_pos ⟨⟨r, hr⟩, Nat.lt_succ_self r, h.symm⟩]
    · rw [if_neg h]
      refine if_congr ⟨fun ⟨i, hi, e⟩ => ⟨i, by omega, e⟩, fun ⟨i, hi, e⟩ => ⟨i, ?_, e⟩⟩ rfl rfl
      rcases Nat.lt_succ_iff_lt_or_eq.mp hi with k | k
      · exact k
      · exact absurd (by rw [← e]; congr 1; exact Fin.ext k) h

open Classical in
/-- After `r` rounds the scores of the first `r` of the list have been taken over, and nothing else. -/
theorem Lists.taken_eq (r : ℕ) (hr : r ≤ n) (q : Fin N) : taken u s r q = if ∃ i : Fin n, i.val < r ∧ σ i = q then s q else 0 := by
  induction r generalizing q with
  | zero => simp [taken]
  | succ r ih =>
    have hf := hσ.first ⟨r, hr⟩ (left u r) (fun q h => by rw [hσ.left_eq r (by omega), if_pos h])
      (fun q h => by rw [hσ.left_eq r (by omega), if_neg h]) q
    simp only [taken, take, hf, ih (by omega : r ≤ n) q]
    by_cases h : q = σ ⟨r, hr⟩
    · rw [if_pos h, if_pos ⟨⟨r, hr⟩, Nat.lt_succ_self r, h.symm⟩]
    · rw [if_neg h]
      refine if_congr ⟨fun ⟨i, hi, e⟩ => ⟨i, by omega, e⟩, fun ⟨i, hi, e⟩ => ⟨i, ?_, e⟩⟩ rfl rfl
      rcases Nat.lt_succ_iff_lt_or_eq.mp hi with k | k
      · exact k
      · exact absurd (by rw [← e]; congr 1; exact Fin.ext k) h

/-- What the rounds have taken over adds up to the scores of the list's first `r`. -/
theorem Lists.sum_taken (r : ℕ) (hr : r ≤ n) : ∑ q, taken u s r q = ∑ k : Fin r, s (σ (k.castLE hr)) := by
  classical
  simp only [hσ.taken_eq s r hr]
  rw [← Finset.sum_filter]
  refine (Finset.sum_bij (fun (k : Fin r) _ => σ (k.castLE hr)) (fun k _ => ?_) (fun a _ b _ h => ?_) (fun q hq => ?_) (fun _ _ => rfl)).symm
  · exact Finset.mem_filter.mpr ⟨Finset.mem_univ _, k.castLE hr, k.isLt, rfl⟩
  · exact Fin.castLE_injective hr (hσ.inj h)
  · obtain ⟨i, hi, e⟩ := (Finset.mem_filter.mp hq).2
    exact ⟨⟨i.val, hi⟩, Finset.mem_univ _, e⟩

end rounds

/-- The positions below `n` of a longer row that is `-∞` beyond them, listed by the sort of its first `n`. -/
theorem lists_of_sort {N n : ℕ} (hn : n ≤ N) (v : Fin n → EReal) (u : Fin N → EReal) (hv : ∀ i, v i ≠ ⊥)
    (h1 : ∀ i : Fin n, u (i.castLE hn) = v i) (h2 : ∀ q : Fin N, n ≤ q.val → u q = ⊥) :
    Lists u fun i => (sortedFrom (greater v) i).castLE hn where
  lt i j hij := by simpa only [h1, Fin.castLE_lt_castLE_iff] using sorted_lt v i j hij
  ne i := by rw [h1]; exact hv _
  out q hq := by
    refine h2 q (not_lt.mp fun h => ?_)
    obtain ⟨i, hi⟩ := sortedFrom_surjective (greater v) ⟨q.val, h⟩
    exact hq i (by rw [hi]; rfl)

end Cert.Route

end
-- ==== Proof.OutRound.lean ====
module

public import proofs.«01_k».proof.Proof.Gen.Kernel2Ideal.Skeleton
public import proofs.«01_k».proof.Proof.RouteOrder
public import Idealize.ShloMosaic.Lib.Pointwise

/-! One round of the router's choice, over a tile of rows: the first lane of each row's maximum. -/

@[expose] public section

set_option maxRecDepth 16384

noncomputable section

namespace Cert.Kernel2Ideal.Out

open Cert.Kernel2Ideal Cert.Kernel2Ideal.Gen Idealize.ShloMosaic Idealize.SL.Sem
open Cert.Route

/-- The lane of every element. -/
def lanes : IVec S512x128 32 := iota .tc S512x128 32 [1] iota_S512x128_d1_w32

/-- Each row's lane where it is the maximum, else 128. -/
def maxLanes (vals : FVec Ideal S512x128 .f32) : IVec S512x128 32 :=
  select (cmpf .oeq vals (broadcastTo S512x128
      (shapeCast S512x1 (multiReduction .maximumf [1] S512 vals 0xFF800000#32 reduces_S512x128_S512 (.inl rfl) rfl) shapeCasts_S512_S512x1)
      broadcasts_S512x1_S512x128)) lanes (broadcast S512x128 128#32)

/-- Marks, in each row, the first lane of the maximum. -/
def hit (vals : FVec Ideal S512x128 .f32) : IVec S512x128 1 :=
  cmpi .eq lanes (broadcastTo S512x128
    (shapeCast S512x1 (multiReductionI .minsi [1] S512 (maxLanes vals) 2147483647#32 reduces_S512x128_S512 rfl) shapeCasts_S512_S512x1)
    broadcasts_S512x1_S512x128)

theorem ninf : Ideal.ofBits .f32 4286578688#32 = ⊥ := by simp [Ideal.ofBits, Ideal.ieee]

theorem maxLanes_apply (vals : FVec Ideal S512x128 .f32) (r : Fin 512) (q : Fin 128) :
    maxLanes vals (ix2 r q) = if ∀ p, vals (ix2 r p) ≤ vals (ix2 r q) then BitVec.ofNat 32 q.val else 128#32 := by
  pointwise [maxLanes, lanes]
  refine if_congr ?_ rfl rfl
  rw [ninf]
  refine ⟨fun h p => ?_, fun h => le_antisymm ?_ ?_⟩
  · rw [h]; exact (Finset.le_fold_max _).mpr (Or.inr ⟨p, Finset.mem_univ _, le_rfl⟩)
  · exact (Finset.le_fold_max _).mpr (Or.inr ⟨q, Finset.mem_univ _, le_rfl⟩)
  · exact (Finset.fold_max_le _).mpr ⟨bot_le, fun p _ => h p⟩

/-- The least of some words, read as signed numbers. -/
theorem toInt_minsi (x y : BitVec 32) : (IntOp.minsi x y).toInt = min x.toInt y.toInt := by
  unfold IntOp.minsi
  by_cases h : x.toInt < y.toInt
  · rw [if_pos (BitVec.slt_iff_toInt_lt.mpr h), min_eq_left h.le]
  · rw [if_neg (mt BitVec.slt_iff_toInt_lt.mp h), min_eq_right (not_lt.mp h)]

theorem toInt_lane (q : Fin 128) : (BitVec.ofNat 32 q.val).toInt = q.val := by
  revert q; decide

/-- Among lanes that count 128 unless marked, the least is `q` just when `q` is the first marked one. -/
theorem first_marked (M : Fin 128 → Prop) [DecidablePred M] (q : Fin 128) :
    BitVec.ofNat 32 q.val = Finset.fold IntOp.minsi 2147483647#32 (fun p => if M p then BitVec.ofNat 32 p.val else 128#32) Finset.univ
      ↔ M q ∧ ∀ p, M p → q ≤ p := by
  rw [← BitVec.toInt_inj, ← Finset.fold_hom (op' := min) (m := BitVec.toInt) toInt_minsi, toInt_lane]
  have hl (p : Fin 128) : (if M p then BitVec.ofNat 32 p.val else 128#32).toInt = if M p then (p.val : ℤ) else 128 := by
    split
    · exact toInt_lane p
    · rfl
  simp only [hl, show (2147483647#32).toInt = 2147483647 from rfl]
  constructor
  · intro h
    have h1 (p : Fin 128) (hp : M p) : q ≤ p := by
      have := ((Finset.le_fold_min _).mp h.le).2 p (Finset.mem_univ _)
      rw [if_pos hp] at this
      exact Fin.le_def.mpr (by omega)
    rcases (Finset.fold_min_le _).mp h.ge with k | ⟨p, _, k⟩
    · omega
    · by_cases hp : M p
      · rw [if_pos hp] at k
        have e : p = q := le_antisymm (Fin.le_def.mpr (by omega)) (h1 p hp)
        exact ⟨e ▸ hp, h1⟩
      · rw [if_neg hp] at k; omega
  · rintro ⟨hq, h⟩
    refine le_antisymm ((Finset.le_fold_min _).mpr ⟨by omega, fun p _ => ?_⟩)
      ((Finset.fold_min_le _).mpr (Or.inr ⟨q, Finset.mem_univ _, by rw [if_pos hq]⟩))
    split
    · rename_i hp
      have := Fin.le_def.mp (h p hp)
      omega
    · omega

theorem hit_iff (vals : FVec Ideal S512x128 .f32) (r : Fin 512) (q : Fin 128) :
    hit vals (ix2 r q) = 1#1 ↔ First (fun p => vals (ix2 r p)) q := by
  classical
  have e : hit vals (ix2 r q) = IntOp.cmpi .eq (BitVec.ofNat 32 q.val)
      (Finset.fold IntOp.minsi 2147483647#32 (fun x => maxLanes vals (ix2 r x)) Finset.univ) := by
    pointwise [hit, lanes]
  have e2 (a b : BitVec 32) : IntOp.cmpi .eq a b = 1#1 ↔ a = b := by
    show BitVec.ofBool (a == b) = 1#1 ↔ a = b
    by_cases h : a = b
    · simp [h]
    · rw [beq_false_of_ne h]; simp [h]
  rw [e, e2]
  simp only [maxLanes_apply]
  rw [first_marked]
  refine and_congr_right fun hq => ⟨fun h p hp => h p fun p' => (hq p').trans (le_of_eq (Eq.symm hp)), fun h p hp => h p (le_antisymm (hq p) (hp q))⟩

/-- Each row's first maximum struck out. -/
def struck (vals : FVec Ideal S512x128 .f32) : FVec Ideal S512x128 .f32 :=
  select (hit vals) (broadcast S512x128 (Scalar.ofBits .f32 0xFF800000#32)) vals

theorem struck_apply (vals : FVec Ideal S512x128 .f32) (r : Fin 512) (q : Fin 128) :
    struck vals (ix2 r q) = strike (fun p => vals (ix2 r p)) q := by
  classical
  show Scalar.select (hit vals (ix2 r q)) (Ideal.ofBits .f32 4286578688#32) (vals (ix2 r q)) = _
  rw [ninf, strike, Scalar.select]
  exact if_congr (by simp [hit_iff]) rfl rfl

theorem select_hit (vals s p : FVec Ideal S512x128 .f32) (r : Fin 512) (q : Fin 128) :
    select (hit vals) s p (ix2 r q) = take (fun p => vals (ix2 r p)) (fun p => s (ix2 r p)) (fun q => p (ix2 r q)) q := by
  classical
  show Scalar.select (hit vals (ix2 r q)) (s (ix2 r q)) (p (ix2 r q)) = _
  rw [take, Scalar.select]
  exact if_congr (by simp [hit_iff]) rfl rfl

/-- What is left of the values after `n` rounds. -/
def leftV (vals : FVec Ideal S512x128 .f32) : ℕ → FVec Ideal S512x128 .f32
  | 0 => vals
  | n + 1 => struck (leftV vals n)

/-- The scores taken over in `n` rounds. -/
def takenV (vals s : FVec Ideal S512x128 .f32) : ℕ → FVec Ideal S512x128 .f32
  | 0 => broadcast S512x128 (Scalar.ofBits .f32 0x00000000#32)
  | n + 1 => select (hit (leftV vals n)) s (takenV vals s n)

theorem leftV_apply (vals : FVec Ideal S512x128 .f32) (r : Fin 512) (n : ℕ) :
    (fun q => leftV vals n (ix2 r q)) = left (fun p => vals (ix2 r p)) n := by
  induction n with
  | zero => rfl
  | succ n ih => funext q; rw [leftV, struck_apply, ih]; rfl

theorem takenV_apply (vals s : FVec Ideal S512x128 .f32) (r : Fin 512) (n : ℕ) :
    (fun q => takenV vals s n (ix2 r q)) = taken (fun p => vals (ix2 r p)) (fun p => s (ix2 r p)) n := by
  induction n with
  | zero => funext q; show Ideal.ofBits .f32 0#32 = 0; simp [Ideal.ofBits, Ideal.ieee]
  | succ n ih => funext q; rw [takenV, select_hit, leftV_apply, ih]; rfl

/-- The body's eight rounds, then the weights: each score taken over, over their sum, times 2.5. -/
theorem weights_apply (v65 : FVec Ideal S512x128 .f32) (z : Ideal .f32) (b : Vec Ideal S1x128 .f32) (r : Fin 512) (q : Fin 128) :
    k0_pay1 (F := Ideal) (k0_pay7 v65 z) (iota .tc S512x128 32 [1] iota_S512x128_d1_w32)
        (k0_pay22 (k0_pay7 v65 z) (iota .tc S512x128 32 [1] iota_S512x128_d1_w32) (k0_pay12 v65 z b) (k0_pay13 v65 z b) (k0_pay14 v65 z b))
        (k0_pay23 (iota .tc S512x128 32 [1] iota_S512x128_d1_w32) (k0_pay13 v65 z b) (k0_pay14 v65 z b)) (ix2 r q)
      = Ideal.div (taken (fun p => k0_pay8 (F := Ideal) v65 z b (ix2 r p)) (fun p => k0_pay7 (F := Ideal) v65 z (ix2 r p)) 8 q)
          (∑ p, taken (fun p => k0_pay8 (F := Ideal) v65 z b (ix2 r p)) (fun p => k0_pay7 (F := Ideal) v65 z (ix2 r p)) 8 p)
          * Ideal.ofBits .f32 1075838976#32 := by
  have e : k0_pay1 (F := Ideal) (k0_pay7 v65 z) (iota .tc S512x128 32 [1] iota_S512x128_d1_w32)
        (k0_pay22 (k0_pay7 v65 z) (iota .tc S512x128 32 [1] iota_S512x128_d1_w32) (k0_pay12 v65 z b) (k0_pay13 v65 z b) (k0_pay14 v65 z b))
        (k0_pay23 (iota .tc S512x128 32 [1] iota_S512x128_d1_w32) (k0_pay13 v65 z b) (k0_pay14 v65 z b))
      = mulf (divf (takenV (k0_pay8 v65 z b) (k0_pay7 v65 z) 8) (broadcastTo S512x128
          (shapeCast S512x1 (multiReduction .add [1] S512 (takenV (k0_pay8 v65 z b) (k0_pay7 v65 z) 8) 0x00000000#32 reduces_S512x128_S512 (.inl rfl) rfl)
            shapeCasts_S512_S512x1) broadcasts_S512x1_S512x128)) (broadcast S512x128 (Scalar.ofBits .f32 1075838976#32)) := rfl
  rw [e]
  simp only [← takenV_apply]
  pointwise []

end Cert.Kernel2Ideal.Out

end
-- ==== Proof.OutPay.lean ====
module

public import proofs.«01_k».proof.Proof.Gen.Kernel2Ideal.Skeleton
public import proofs.«01_k».proof.Proof.InPay
public import Idealize.ShloMosaic.Lib.Pointwise

/-! What the body of the output projection computes before the router's rounds, element by element. -/

@[expose] public section

set_option maxRecDepth 16384

noncomputable section

namespace Cert.Kernel2Ideal.Out

open Cert.Kernel2Ideal Cert.Kernel2Ideal.Gen Idealize.ShloMosaic Idealize.SL.Sem
open Cert.Kernel3Ideal.In (modulated)

theorem x1_apply (v0 v4 v9 v14 : Vec Ideal S512x256 .bf16) (v1 v5 v10 v15 : Vec Ideal S256x1024 .bf16) (v19 : Vec Ideal S512x1024 .f32)
    (v20 : Vec Ideal S1x1x1024 .f32) (r : Fin 512) (q : Fin 1024) :
    k0_pay2 (F := Ideal) v0 v1 v4 v5 v9 v10 v14 v15 v19 v20 (ix2 r q)
      = v19 (ix2 r q) + v20 (ix3 0 0 q) * (((∑ k, v0 (ix2 r k) * v1 (ix2 k q)) + ∑ k, v4 (ix2 r k) * v5 (ix2 k q))
          + (∑ k, v9 (ix2 r k) * v10 (ix2 k q)) + ∑ k, v14 (ix2 r k) * v15 (ix2 k q)) := by
  pointwise [k0_pay2]

section
variable (v24 : FVec Ideal S512x1024 .f32) (v27 : FVec Ideal S1x1024 .f32) (v28 v30 : Vec Ideal S1x1x1024 .f32)

theorem h2_apply (r : Fin 512) (k : Fin 1024) :
    k0_pay4 (F := Ideal) v24 v27 v28 v30 (ix2 r k)
      = modulated (fun j => v24 (ix2 r j)) (fun j => v27 (ix2 0 j)) (fun j => v28 (ix3 0 0 j)) (fun j => v30 (ix3 0 0 j)) k := by
  pointwise [k0_pay4]
  simp only [modulated]

theorem hh_apply (r : Fin 512) (k : Fin 1024) : k0_pay5 (F := Ideal) v24 v27 v28 v30 (ix2 r k) = k0_pay4 (F := Ideal) v24 v27 v28 v30 (ix2 r k) := by
  pointwise [k0_pay5]

theorem logits_apply (w0 w1 w2 : Vec Ideal S1024x128 .bf16) (r : Fin 512) (q : Fin 128) :
    k0_pay6 (F := Ideal) v24 v27 v28 v30 w0 w1 w2 (ix2 r q)
      = (∑ k, k0_pay4 (F := Ideal) v24 v27 v28 v30 (ix2 r k) * w0 (ix2 k q))
        + (∑ k, (k0_pay4 (F := Ideal) v24 v27 v28 v30 (ix2 r k) - k0_pay4 (F := Ideal) v24 v27 v28 v30 (ix2 r k)) * w1 (ix2 k q))
        + ∑ k, k0_pay4 (F := Ideal) v24 v27 v28 v30 (ix2 r k) * w2 (ix2 k q) := by
  pointwise [k0_pay6, k0_pay5]

end

/-- The sigmoid as the body writes it. -/
def score (x : EReal) : EReal := Ideal.div 1 (1 + Ideal.exp (-x))

theorem score_apply (v65 : FVec Ideal S512x128 .f32) (r : Fin 512) (q : Fin 128) :
    k0_pay7 (F := Ideal) v65 (Scalar.ofBits .f32 0x00000000#32) (ix2 r q) = score (v65 (ix2 r q)) := by
  pointwise [k0_pay7]
  simp only [score, zero_sub]

theorem biased_apply (v65 : FVec Ideal S512x128 .f32) (b : Vec Ideal S1x128 .f32) (r : Fin 512) (q : Fin 128) :
    k0_pay8 (F := Ideal) v65 (Scalar.ofBits .f32 0x00000000#32) b (ix2 r q) = score (v65 (ix2 r q)) + b (ix2 0 q) := by
  pointwise [k0_pay8, k0_pay7]
  simp only [score, zero_sub]

end Cert.Kernel2Ideal.Out

end
-- ==== Proof.Reals.lean ====
module

public import proofs.«01_k».proof.Proof.Finite
public import proofs.«01_k».proof.Proof.OutPay
public import proofs.«01_k».proof.Pre_finite_out
public import proofs.«01_k».proof.Pre_finite_prompt_out
public import proofs.«01_k».proof.Pre_finite_mod

/-! Finite numbers stay finite: sums, products, a modulated norm, a sigmoid. And what the preconditions of the output projection and of the modulation say. -/

@[expose] public section

noncomputable section

namespace Cert.Finite

open Idealize.ShloMosaic
open Cert.Kernel3Ideal.In (modulated)
open Cert.Kernel2Ideal.Out (score)

/-- A finite number. -/
def IsReal (x : EReal) : Prop := ∃ r : ℝ, x = r

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.sub_self {x : EReal} : IsReal x → x - x = 0
  | ⟨a, ha⟩ => by rw [ha]; exact EReal.sub_self (EReal.coe_ne_top a) (EReal.coe_ne_bot a)

theorem IsReal.ne_bot {x : EReal} : IsReal x → x ≠ ⊥
  | ⟨a, ha⟩ => by rw [ha]; exact EReal.coe_ne_bot a

/-- A sum of real numbers, as a sum of extended ones. -/
theorem coe_sum {ι : Type} (s : Finset ι) (r : ι → ℝ) : ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

theorem isReal_zero : IsReal 0 := ⟨0, rfl⟩

theorem isReal_one : IsReal 1 := ⟨1, rfl⟩

theorem IsReal.sum {ι : Type} [Fintype ι] {f : ι → EReal} (h : ∀ i, IsReal (f i)) : IsReal (∑ i, f i) := by
  choose r hr using h
  refine ⟨∑ i, r i, ?_⟩
  rw [coe_sum]
  exact Finset.sum_congr rfl fun i _ => hr i

theorem isReal_of_lt (a : EReal) (h : Ideal.cmp .olt (max a (-a)) ⊤ = 1#1) : IsReal a :=
  ⟨a.toReal, (EReal.coe_toReal (ne_of_lt a h).1 (ne_of_lt a h).2).symm⟩

/-- The row's length, and the small number under the root, as the float words that they are. -/
theorem ofBits_len : Ideal.ofBits .f32 1149239296#32 = ((1024 : ℝ) : EReal) := by
  simp [Ideal.ofBits, Ideal.ieee]
  rw [← EReal.coe_mul]
  norm_num

theorem ofBits_eps : ∃ e : ℝ, 0 < e ∧ Ideal.ofBits .f32 897988541#32 = (e : EReal) := by
  refine ⟨_, ?_, by simp [Ideal.ofBits, Ideal.ieee]; rfl⟩
  norm_num

theorem IsReal.rsqrt_mean {x : Fin 1024 → EReal} (h : ∀ i, IsReal (x i)) :
    IsReal (Ideal.rsqrt (Ideal.div (∑ j, x j * x j) (Ideal.ofBits .f32 1149239296#32) + Ideal.ofBits .f32 897988541#32)) := by
  choose r hr using h
  obtain ⟨e, he, hb⟩ := ofBits_eps
  have hs : (∑ j, x j * x j) = ((∑ j, r j * r j : ℝ) : EReal) := by
    rw [coe_sum]
    exact Finset.sum_congr rfl fun i _ => by rw [hr i, EReal.coe_mul]
  have h0 : 0 ≤ ∑ j, r j * r j := Finset.sum_nonneg fun i _ => mul_self_nonneg _
  have hn : ((1024 : ℝ) : EReal) ≠ 0 := by exact_mod_cast (by norm_num : (1024 : ℝ) ≠ 0)
  rw [hs, hb, ofBits_len, Ideal.div, if_neg hn, ← EReal.coe_inv, ← EReal.coe_mul, ← EReal.coe_add, Ideal.rsqrt_coe]
  have hp : 0 < (∑ j, r j * r j) * (1024 : ℝ)⁻¹ + e := by positivity
  rw [if_neg hp.le.not_gt, if_neg hp.ne']
  exact ⟨_, rfl⟩

theorem IsReal.modulated {x g b s : Fin 1024 → EReal} (hx : ∀ i, IsReal (x i)) (hg : ∀ i, IsReal (g i)) (hb : ∀ i, IsReal (b i))
    (hs : ∀ i, IsReal (s i)) (k : Fin 1024) : IsReal (modulated x g b s k) :=
  ((((hx k).mul (IsReal.rsqrt_mean hx)).mul (hg k)).mul (isReal_one.add (hs k))).add (hb k)

/-- A sigmoid of a finite number is a positive finite number. -/
theorem IsReal.score {x : EReal} : IsReal x → IsReal (score x) ∧ 0 < score x
  | ⟨a, ha⟩ => by
    have e : Cert.Kernel2Ideal.Out.score x = (((1 + Real.exp (-a))⁻¹ : ℝ) : EReal) := by rw [ha]; exact Ideal.logistic_coe a
    rw [e]
    exact ⟨⟨_, rfl⟩, by exact_mod_cast (by positivity : (0 : ℝ) < (1 + Real.exp (-a))⁻¹)⟩

instance : Subsingleton (Cert.Pre_finite_out.S_).Idx := ⟨fun a b => funext fun i => i.elim0⟩

instance : Subsingleton (Cert.Pre_finite_mod.S_).Idx := ⟨fun a b => funext fun i => i.elim0⟩

instance : Subsingleton (Cert.Pre_finite_prompt_out.S_).Idx := ⟨fun a b => funext fun i => i.elim0⟩

theorem andi_eq_one (x y : BitVec 1) : IntOp.andi x y = 1#1 ↔ x = 1#1 ∧ y = 1#1 := by revert x y; decide

/-- What the preconditions compare: an absolute value against the float word of infinity. -/
theorem isReal_of_cmp (a : EReal) (h : Ideal.cmp .olt (max a (-a)) (Ideal.ofBits .f32 2139095040#32) = 1#1) : IsReal a :=
  isReal_of_lt a (by rw [← ofBits_inf]; exact h)

open Cert.Pre_finite_out in
/-- The stated precondition on the output projection's arguments: every element is finite. -/
theorem out [Facts] {a0 a1 a2 a3 a4 a5 a6 a7 a8 a9}
    (h : fn (F := Ideal) a0 a1 a2 a3 a4 a5 a6 a7 a8 a9 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) ∧ ∀ i, IsReal (a9 i) := by
  have h := congrFun h fun i => i.elim0
  obtain ⟨h, h9⟩ := (andi_eq_one _ _).mp h
  obtain ⟨h, h8⟩ := (andi_eq_one _ _).mp h
  obtain ⟨h, h7⟩ := (andi_eq_one _ _).mp h
  obtain ⟨h, h6⟩ := (andi_eq_one _ _).mp h
  obtain ⟨h, h5⟩ := (andi_eq_one _ _).mp h
  obtain ⟨h, h4⟩ := (andi_eq_one _ _).mp h
  obtain ⟨h, h3⟩ := (andi_eq_one _ _).mp h
  obtain ⟨h, h2⟩ := (andi_eq_one _ _).mp h
  obtain ⟨h0, h1⟩ := (andi_eq_one _ _).mp h
  exact ⟨fun i => isReal_of_cmp _ (Host.reduce_andi_all _ _ _ _ _ h0 i), fun i => isReal_of_cmp _ (Host.reduce_andi_all _ _ _ _ _ h1 i),
    fun i => isReal_of_cmp _ (Host.reduce_andi_all _ _ _ _ _ h2 i), fun i => isReal_of_cmp _ (Host.reduce_andi_all _ _ _ _ _ h3 i),
    fun i => isReal_of_cmp _ (Host.reduce_andi_all _ _ _ _ _ h4 i), fun i => isReal_of_cmp _ (Host.reduce_andi_all _ _ _ _ _ h5 i),
    fun i => isReal_of_cmp _ (Host.reduce_andi_all _ _ _ _ _ h6 i), fun i => isReal_of_cmp _ (Host.reduce_andi_all _ _ _ _ _ h7 i),
    fun i => isReal_of_cmp _ (Host.reduce_andi_all _ _ _ _ _ h8 i), fun i => isReal_of_cmp _ (Host.reduce_andi_all _ _ _ _ _ h9 i)⟩

open Cert.Pre_finite_prompt_out in
/-- The stated precondition on the output projection's arguments at the prompt's shapes: every element is finite. -/
theorem prompt_out [Facts] {a0 a1 a2 a3 a4 a5 a6 a7 a8 a9}
    (h : fn (F := Ideal) a0 a1 a2 a3 a4 a5 a6 a7 a8 a9 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) ∧ ∀ i, IsReal (a9 i) := by
  have h := congrFun h fun i => i.elim0
  obtain ⟨h, h9⟩ := (andi_eq_one _ _).mp h
  obtain ⟨h, h8⟩ := (andi_eq_one _ _).mp h
  obtain ⟨h, h7⟩ := (andi_eq_one _ _).mp h
  obtain ⟨h, h6⟩ := (andi_eq_one _ _).mp h
  obtain ⟨h, h5⟩ := (andi_eq_one _ _).mp h
  obtain ⟨h, h4⟩ := (andi_eq_one _ _).mp h
  obtain ⟨h, h3⟩ := (andi_eq_one _ _).mp h
  obtain ⟨h, h2⟩ := (andi_eq_one _ _).mp h
  obtain ⟨h0, h1⟩ := (andi_eq_one _ _).mp h
  exact ⟨fun i => isReal_of_cmp _ (Host.reduce_andi_all _ _ _ _ _ h0 i), fun i => isReal_of_cmp _ (Host.reduce_andi_all _ _ _ _ _ h1 i),
    fun i => isReal_of_cmp _ (Host.reduce_andi_all _ _ _ _ _ h2 i), fun i => isReal_of_cmp _ (Host.reduce_andi_all _ _ _ _ _ h3 i),
    fun i => isReal_of_cmp _ (Host.reduce_andi_all _ _ _ _ _ h4 i), fun i => isReal_of_cmp _ (Host.reduce_andi_all _ _ _ _ _ h5 i),
    fun i => isReal_of_cmp _ (Host.reduce_andi_all _ _ _ _ _ h6 i), fun i => isReal_of_cmp _ (Host.reduce_andi_all _ _ _ _ _ h7 i),
    fun i => isReal_of_cmp _ (Host.reduce_andi_all _ _ _ _ _ h8 i), fun i => isReal_of_cmp _ (Host.reduce_andi_all _ _ _ _ _ h9 i)⟩

/-- The stated precondition on the modulation's arguments: the conditions and the weights are finite. -/
theorem modulation [Cert.Pre_finite_mod.Facts] {a0 a1 a2} (h : Cert.Pre_finite_mod.fn (F := Ideal) a0 a1 a2 = fun _ => 1#1) :
    (∀ i, IsReal (a0 i)) ∧ ∀ i, IsReal (a1 i) := by
  have h := congrFun h fun i => i.elim0
  obtain ⟨h0, h1⟩ := (andi_eq_one _ _).mp h
  exact ⟨fun i => isReal_of_cmp _ (Host.reduce_andi_all _ _ _ _ _ h0 i), fun i => isReal_of_cmp _ (Host.reduce_andi_all _ _ _ _ _ h1 i)⟩

end Cert.Finite

end
-- ==== Proof.OutRef.lean ====
module

public import proofs.«01_k».proof.Proof.Gen.Reference2Ideal.Read
public import proofs.«01_k».proof.Proof.OutPay
public import proofs.«01_k».proof.Proof.RouteOrder

/-! What the reference of the output projection computes, element by element. -/

@[expose] public section

set_option maxRecDepth 16384

noncomputable section

namespace Cert.Reference2Ideal.Out

open Cert.Reference2Ideal Cert.Reference2Ideal.Read Idealize.ShloMosaic Idealize.SL.Sem
open Cert.Kernel3Ideal.In (modulated)
open Cert.Kernel2Ideal.Out (score)
open Cert.Route

variable (x : Vec Ideal S8192x1024 .f32) (ya yb yc yd : Vec Ideal S8192x256 .bf16) (w : Vec Ideal S1024x1024 .f32) (mod : Vec Ideal S8x6x1024 .f32)
  (g : Vec Ideal S1024 .f32) (rw_ : Vec Ideal S1024x64 .f32) (rb : Vec Ideal S64 .f32)

/-- Token `t`'s four mixer outputs, side by side. -/
def cat (t : Fin 8192) (k : Fin 1024) : EReal :=
  if h : k.val < 256 then ya (ix2 t ⟨k.val, h⟩)
  else if h : k.val - 256 < 256 then yb (ix2 t ⟨k.val - 256, h⟩)
  else if h : k.val - 256 - 256 < 256 then yc (ix2 t ⟨k.val - 256 - 256, h⟩)
  else yd (ix2 t ⟨k.val - 256 - 256 - 256, by omega⟩)

theorem cat_apply (t : Fin 8192) (k : Fin 1024) : val_main_v1 (F := Ideal) ya yb yc yd (ix2 t k) = cat ya yb yc yd t k := by
  pointwise [val_main_v1, val_main_v0]
  simp only [cat]

/-- Token `t`'s residual with the projected mixer outputs added, gated by its sequence's gate. -/
def x1 (t : Fin 8192) (k : Fin 1024) : EReal :=
  x (ix2 t k) + mod (ix3 ⟨t.val / 1024, by omega⟩ 2 k) * ∑ j, cat ya yb yc yd t j * w (ix2 j k)

/-- The same row, normed and modulated. -/
def h2 (t : Fin 8192) (k : Fin 1024) : EReal :=
  modulated (x1 x ya yb yc yd w mod t) (fun j => g (ix1 j)) (fun j => mod (ix3 ⟨t.val / 1024, by omega⟩ 3 j))
    (fun j => mod (ix3 ⟨t.val / 1024, by omega⟩ 4 j)) k

/-- The router's logits of token `t`. -/
def logit (t : Fin 8192) (e : Fin 64) : EReal := ∑ k, h2 x ya yb yc yd w mod g t k * rw_ (ix2 k e)

theorem x1_apply (t : Fin 8192) (k : Fin 1024) :
    val_main_v10 (F := Ideal) x ya yb yc yd w mod (ix3 (n0 := 8) (n1 := 1024) ⟨t.val / 1024, by omega⟩ ⟨t.val % 1024, by omega⟩ k)
      = x1 x ya yb yc yd w mod t k := by
  have ht : (⟨t.val / 1024 * 1024 + t.val % 1024, by omega⟩ : Fin 8192) = t := Fin.ext (Nat.div_add_mod' ..)
  pointwise [val_main_v10, val_main_v9, val_main_v8, val_main_v7, val_main_v6, val_main_v5, val_main_v4, val_main_v3, val_main_v2]
  simp only [cat_apply, x1, ht]

theorem h2_apply (t : Fin 8192) (k : Fin 1024) : val_main_v36 (F := Ideal) x ya yb yc yd w mod g (ix2 t k) = h2 x ya yb yc yd w mod g t k := by
  pointwise [val_main_v36, val_main_v35, val_main_v34, val_main_v33, val_main_v32, val_main_v31, val_main_v30, val_main_v29, val_main_v28, val_main_v27,
    val_main_v26, val_main_v25, val_main_v24, val_main_v23, val_main_v22, val_main_v21, val_main_v20, val_main_v19, val_main_v18, val_main_v17, val_main_v16,
    val_main_v15, val_main_v14, val_main_v13, val_main_v12, val_main_v11, val_main_cst, val_main_cst_0, val_main_cst_1, val_main_cst_2]
  simp only [x1_apply, h2, modulated]

theorem logit_apply (t : Fin 8192) (e : Fin 64) : val_main_v37 (F := Ideal) x ya yb yc yd w mod g rw_ (ix2 t e) = logit x ya yb yc yd w mod g rw_ t e := by
  pointwise [val_main_v37]
  simp only [h2_apply, logit]

theorem score_apply (t : Fin 8192) (e : Fin 64) :
    val_main_v43 (F := Ideal) x ya yb yc yd w mod g rw_ (ix2 t e) = score (logit x ya yb yc yd w mod g rw_ t e) := by
  pointwise [val_main_v43, val_main_v42, val_main_v41, val_main_v40, val_main_v39, val_main_v38, val_main_cst_3, val_main_cst_4]
  simp only [logit_apply, score]

theorem biased_apply (t : Fin 8192) (e : Fin 64) :
    val_main_v46 (F := Ideal) x ya yb yc yd w mod g rw_ rb (ix2 t e) = score (logit x ya yb yc yd w mod g rw_ t e) + rb (ix1 e) := by
  pointwise [val_main_v46, val_main_v45, val_main_v44]
  simp only [score_apply]

theorem out1_apply (t : Fin 8192) (k : Fin 1024) : val_main_v56 (F := Ideal) x ya yb yc yd w mod (ix2 t k) = x1 x ya yb yc yd w mod t k := by
  pointwise [val_main_v56]
  simp only [x1_apply]

theorem out2_apply (t : Fin 8192) (k : Fin 1024) : val_main_v57 (F := Ideal) x ya yb yc yd w mod g (ix2 t k) = h2 x ya yb yc yd w mod g t k := by
  pointwise [val_main_v57]
  simp only [h2_apply]

end Cert.Reference2Ideal.Out

end
-- ==== Proof.OutTop.lean ====
module

public import Idealize.ShloMosaic.Lib.ReduceAll
public import proofs.«01_k».proof.Proof.OutRef

/-! The reference's choice of experts: which eight it lists, their scores, and the gates it scatters into the row. -/

@[expose] public section

set_option maxRecDepth 16384

noncomputable section

namespace Cert.Reference2Ideal.Out

open Cert.Reference2Ideal Cert.Reference2Ideal.Read Idealize.ShloMosaic Idealize.SL.Sem
open Cert.Kernel2Ideal.Out (score)
open Cert.Route

/-- The `k`-th index that a top-k of a row lists: where a stable descending sort of the row takes its `k`-th element from. -/
theorem top_apply (hs : S8192x64.Slices (fun _ => 0) S8192x8) (v : Vec Ideal S8192x64 .f32) (t : Fin 8192) (k : Fin 8) :
    (Host.topK S8192x8 1 (FloatOps.cmpfTotal (F := Ideal) (φ := .f32) .gt) v hs).2 (ix2 t k)
      = BitVec.ofNat 32 (sortedFrom (greater fun e => v (ix2 t e)) (k.castLE (by decide))).val := by
  have al (e : Fin 64) (j : S8192x64.Idx) (hj : j 0 = t) : j.along 1 e = ix2 t e := by
    funext a
    fin_cases a
    · exact hj
    · rfl
  have gr (a b : EReal) : (Ideal.cmp .ogt a b == 1#1) = decide (b < a) := by
    by_cases h : b < a <;> simp [Ideal.cmp, h]
  let j : S8192x64.Idx := fun a => ⟨0 + (ix2 t k (a.cast hs.1.symm)).val, Nat.lt_of_lt_of_le (Nat.add_lt_add_left (ix2 t k _).isLt _) (hs.2 a)⟩
  have h0 : j 0 = t := Fin.ext (Nat.zero_add _)
  have h1 : j 1 = k.castLE (by decide) := Fin.ext (Nat.zero_add _)
  have e : (fun a b : Fin 64 => Ideal.cmp .ogt (v (j.along 1 a)) (v (j.along 1 b)) == 1#1) = greater fun e => v (ix2 t e) := by
    funext a b
    rw [al a j h0, al b j h0, gr]
    rfl
  show BitVec.ofNat 32 (j.along 1 (sortedFrom (fun a b : Fin 64 => Ideal.cmp .ogt (v (j.along 1 a)) (v (j.along 1 b)) == 1#1) (j 1)) 1).val = _
  rw [e]
  refine (congrArg (fun q : S8192x64.Idx => BitVec.ofNat 32 (q 1).val) (al _ j h0)).trans ?_
  exact congrArg (fun q : Fin 64 => BitVec.ofNat 32 (sortedFrom (greater fun e => v (ix2 t e)) q).val) h1

/-- A lookup of one column per entry, row by row: the operand at the column listed, read signed and kept inside the row. -/
theorem lookup_apply (v : Vec Ideal S8192x64 .f32) (i : IVec S8192x8x1 32) (t : Fin 8192) (k : Fin 8) (n : Fin 64)
    (h : i (ix3 t k 0) = BitVec.ofNat 32 n.val) :
    Host.gather gather_S8192x64_S8192x8x1_S8192x8_n_1_0_0_1_2_11 v i (ix2 t k) = v (ix2 t n) := by
  set d := gather_S8192x64_S8192x8x1_S8192x8_n_1_0_0_1_2_11 with hd
  have hn : (BitVec.ofNat 32 n.val).toInt.toNat = n.val := by
    rw [BitVec.toInt_ofNat']
    have := n.isLt
    simp [Int.bmod]
    omega
  unfold Host.gather
  congr 1
  funext a
  apply Fin.ext
  fin_cases a
  · show d.start (ix2 t k) i 0 + d.batchCoord (ix2 t k) 0 + d.offCoord (ix2 t k) 0 = t.val
    rw [GatherDims.start_batching _ _ _ _ (List.mem_singleton.mpr rfl),
      GatherDims.offCoord_eq_zero _ _ _ fun h => ((GatherDims.mem_sKept _ _).mp h).2 (List.mem_singleton.mpr rfl), Nat.zero_add, Nat.add_zero]
    unfold GatherDims.batchCoord
    rw [dif_pos (show (0 : Fin 2) ∈ d.operandBatchingDims from List.mem_singleton.mpr rfl)]
    rfl
  · show d.start (ix2 t k) i 1 + d.batchCoord (ix2 t k) 1 + d.offCoord (ix2 t k) 1 = n.val
    rw [GatherDims.batchCoord_eq_zero _ _ _ (by decide),
      GatherDims.offCoord_eq_zero _ _ _ fun h => ((GatherDims.mem_sKept _ _).mp h).1 (List.mem_singleton.mpr rfl)]
    show d.start (ix2 t k) i 1 = n.val
    unfold GatherDims.start
    rw [dif_pos (show (1 : Fin 2) ∈ d.startIndexMap from List.mem_singleton.mpr rfl)]
    have hs : d.siIdx (ix2 t k) ⟨List.idxOf (1 : Fin 2) d.startIndexMap, List.idxOf_lt_length_iff.2 (List.mem_singleton.mpr rfl)⟩ = ix3 t k 0 := by
      funext b
      apply Fin.ext
      fin_cases b <;> rfl
    rw [hs, h, hn]
    show min n.val 63 = n.val
    have := n.isLt
    omega

variable (x : Vec Ideal S8192x1024 .f32) (ya yb yc yd : Vec Ideal S8192x256 .bf16) (w : Vec Ideal S1024x1024 .f32) (mod : Vec Ideal S8x6x1024 .f32)
  (g : Vec Ideal S1024 .f32) (rw_ : Vec Ideal S1024x64 .f32) (rb : Vec Ideal S64 .f32)

/-- The scores of token `t`, and the scores with the bias by which experts are chosen. -/
def scores (t : Fin 8192) (e : Fin 64) : EReal := score (logit x ya yb yc yd w mod g rw_ t e)

def biased (t : Fin 8192) (e : Fin 64) : EReal := scores x ya yb yc yd w mod g rw_ t e + rb (ix1 e)

/-- The `k`-th expert that token `t` lists. -/
def pick (t : Fin 8192) (k : Fin 8) : Fin 64 := sortedFrom (greater (biased x ya yb yc yd w mod g rw_ rb t)) (k.castLE (by decide))

theorem indices_apply (t : Fin 8192) (k : Fin 8) :
    val_main_indices (F := Ideal) x ya yb yc yd w mod g rw_ rb (ix2 t k) = BitVec.ofNat 32 (pick x ya yb yc yd w mod g rw_ rb t k).val := by
  rw [val_main_indices, top_apply]
  simp only [biased_apply]
  rfl

/-- An index below 64 isn't negative, so it isn't wrapped. -/
theorem wrapped_apply (t : Fin 8192) (k : Fin 8) :
    val_main_call0_v5 (F := Ideal) x ya yb yc yd w mod g rw_ rb (ix3 (n0 := 8192) (n1 := 8) (n2 := 1) t k 0)
      = BitVec.ofNat 32 (pick x ya yb yc yd w mod g rw_ rb t k).val := by
  pointwise [val_main_call0_v5, val_main_call0_v4, val_main_call0_v3, val_main_call0_v2, val_main_call0_v1, val_main_call0_v0, val_main_call0_c, val_main_call0_c_0]
  rw [indices_apply]
  generalize pick x ya yb yc yd w mod g rw_ rb t k = n
  revert n
  decide

/-- Every index listed lies inside the row. -/
theorem fits (i : S8192x8x1.Idx) : val_main_call0_v11 (F := Ideal) x ya yb yc yd w mod g rw_ rb i = 1#1 := by
  obtain ⟨t, k, rfl⟩ : ∃ (t : Fin 8192) (k : Fin 8), i = ix3 t k 0 := ⟨i 0, i 1, by
    funext a
    fin_cases a
    · rfl
    · rfl
    · exact Subsingleton.elim (α := Fin 1) _ _⟩
  pointwise [val_main_call0_v11, val_main_call0_v10, val_main_call0_v9, val_main_call0_v8, val_main_call0_v7, val_main_call0_v6, val_main_call0_c_1,
    val_main_call0_c_2]
  rw [wrapped_apply]
  generalize pick x ya yb yc yd w mod g rw_ rb t k = n
  revert n
  decide

/-- The score of the `k`-th expert listed. -/
theorem listed_apply (t : Fin 8192) (k : Fin 8) :
    val_main_v47 (F := Ideal) x ya yb yc yd w mod g rw_ rb (ix2 t k)
      = scores x ya yb yc yd w mod g rw_ t (pick x ya yb yc yd w mod g rw_ rb t k) := by
  have h : val_main_call0_v12 (F := Ideal) x ya yb yc yd w mod g rw_ rb (ix2 t k) = 1#1 := by
    rw [val_main_call0_v12]
    exact Host.reduce_andi_one _ _ _ _ _ rfl (fits x ya yb yc yd w mod g rw_ rb)
  pointwise [val_main_v47]
  rw [h]
  refine Eq.trans (b := val_main_call0_v13 (F := Ideal) x ya yb yc yd w mod g rw_ rb (ix2 t k)) rfl ?_
  rw [val_main_call0_v13, lookup_apply _ _ t k _ (wrapped_apply x ya yb yc yd w mod g rw_ rb t k), score_apply]
  rfl

/-- The scaled gate of the `k`-th expert listed. -/
theorem gate_apply (t : Fin 8192) (k : Fin 8) :
    val_main_v53 (F := Ideal) x ya yb yc yd w mod g rw_ rb (ix2 t k)
      = Ideal.div (scores x ya yb yc yd w mod g rw_ t (pick x ya yb yc yd w mod g rw_ rb t k))
          (∑ i, scores x ya yb yc yd w mod g rw_ t (pick x ya yb yc yd w mod g rw_ rb t i)) * Ideal.ofBits .f32 1075838976#32 := by
  pointwise [val_main_v53, val_main_v52, val_main_v51, val_main_v50, val_main_v49, val_main_cst_6]
  have hs : val_main_v48 (F := Ideal) x ya yb yc yd w mod g rw_ rb (ix1 t)
      = ∑ i, val_main_v47 (F := Ideal) x ya yb yc yd w mod g rw_ rb (ix2 t i) := by
    rw [val_main_v48_apply]
    have h0 : val_main_cst_5 (F := Ideal) (Shape.Idx.first Gen.h_S_) = 0 := by simp [val_main_cst_5, constant, Ideal.ofBits, Ideal.ieee]
    rw [h0, zero_add]
    refine Finset.sum_congr rfl fun i _ => congrArg _ ?_
    funext a
    fin_cases a <;> rfl
  rw [hs]
  simp only [listed_apply]

/-- Whether the `k`-th expert listed is `e`, as a number. -/
theorem hot_apply (t : Fin 8192) (k : Fin 8) (e : Fin 64) :
    val_main_v54 (F := Ideal) x ya yb yc yd w mod g rw_ rb (ix3 (n0 := 8192) (n1 := 8) (n2 := 64) t k e)
      = if pick x ya yb yc yd w mod g rw_ rb t k = e then 1 else 0 := by
  pointwise [val_main_v54, val_main_call1_v4, val_main_call1_v3, val_main_call1_v2, val_main_call1_v1, val_main_call1_v0]
  simp only [indices_apply]
  have h : ∀ a b : Fin 64, IntOp.cmpi .eq (BitVec.ofNat 32 a.val) (BitVec.ofNat 32 b.val) = if a = b then 1#1 else 0#1 := by decide
  rw [h]
  by_cases hp : pick x ya yb yc yd w mod g rw_ rb t k = e
  · rw [if_pos hp, if_pos hp]
    show (((1#1 : BitVec 1).toNat : ℝ) : EReal) = 1
    simp
  · rw [if_neg hp, if_neg hp]
    show (((0#1 : BitVec 1).toNat : ℝ) : EReal) = 0
    simp

/-- The row of gates: an expert's gate where the expert is listed, nothing elsewhere, and nothing beyond the 64 experts. -/
theorem out3_apply (t : Fin 8192) (q : Fin 128) :
    val_main_v59 (F := Ideal) x ya yb yc yd w mod g rw_ rb (ix2 t q)
      = if h : q.val < 64 then
          ∑ k, Ideal.div (scores x ya yb yc yd w mod g rw_ t (pick x ya yb yc yd w mod g rw_ rb t k))
              (∑ i, scores x ya yb yc yd w mod g rw_ t (pick x ya yb yc yd w mod g rw_ rb t i)) * Ideal.ofBits .f32 1075838976#32
            * if pick x ya yb yc yd w mod g rw_ rb t k = ⟨q.val, h⟩ then 1 else 0
        else 0 := by
  pointwise [val_main_v59, val_main_v58, val_main_v55, val_main_cst_7]
  simp only [gate_apply, hot_apply]

end Cert.Reference2Ideal.Out

end
-- ==== Proof.OutSum.lean ====
module

public import proofs.«01_k».proof.Proof.Reals
public import proofs.«01_k».proof.Proof.OutTop

/-! Facts about the reference's rows: the four parts of the projection's sum, and what stays finite. -/

@[expose] public section

set_option maxRecDepth 16384

noncomputable section

namespace Cert.Reference2Ideal.Out

open Cert.Reference2Ideal Idealize.ShloMosaic Idealize.SL.Sem
open Cert.Kernel3Ideal.In (modulated)
open Cert.Kernel2Ideal.Out (score)
open Cert.Finite Cert.Route

variable (x : Vec Ideal S8192x1024 .f32) (ya yb yc yd : Vec Ideal S8192x256 .bf16) (w : Vec Ideal S1024x1024 .f32) (mod : Vec Ideal S8x6x1024 .f32)
  (g : Vec Ideal S1024 .f32) (rw_ : Vec Ideal S1024x64 .f32) (rb : Vec Ideal S64 .f32)

/-- A sum of 1024 terms, by quarters. -/
theorem sum_quarters (f : Fin 1024 → EReal) :
    ∑ j, f j = ((∑ j : Fin 256, f ⟨j.val, by omega⟩) + (∑ j : Fin 256, f ⟨256 + j.val, by omega⟩)
      + ∑ j : Fin 256, f ⟨512 + j.val, by omega⟩) + ∑ j : Fin 256, f ⟨768 + j.val, by omega⟩ := by
  have h3 := Fin.sum_univ_add (a := 768) (b := 256) f
  have h2 := Fin.sum_univ_add (a := 512) (b := 256) fun j => f (Fin.castAdd 256 j)
  have h1 := Fin.sum_univ_add (a := 256) (b := 256) fun j => f (Fin.castAdd 256 (Fin.castAdd 256 j))
  refine h3.trans (congrArg₂ (· + ·) (h2.trans (congrArg₂ (· + ·) h1 rfl)) rfl)

/-- The projected mixer outputs, one product per mixer. -/
theorem projected (t : Fin 8192) (k : Fin 1024) :
    ∑ j, cat ya yb yc yd t j * w (ix2 j k)
      = ((∑ j : Fin 256, ya (ix2 t j) * w (ix2 ⟨j.val, by omega⟩ k)) + (∑ j : Fin 256, yb (ix2 t j) * w (ix2 ⟨256 + j.val, by omega⟩ k))
        + ∑ j : Fin 256, yc (ix2 t j) * w (ix2 ⟨512 + j.val, by omega⟩ k)) + ∑ j : Fin 256, yd (ix2 t j) * w (ix2 ⟨768 + j.val, by omega⟩ k) := by
  rw [sum_quarters]
  have ha (j : Fin 256) : cat ya yb yc yd t ⟨j.val, by omega⟩ = ya (ix2 t j) := dif_pos j.isLt
  have hb (j : Fin 256) : cat ya yb yc yd t ⟨256 + j.val, by omega⟩ = yb (ix2 t j) := by
    have e : (⟨256 + j.val - 256, by omega⟩ : Fin 256) = j := Fin.ext (by simp)
    rw [cat, dif_neg (by simp), dif_pos (show 256 + j.val - 256 < 256 by omega), e]
  have hc (j : Fin 256) : cat ya yb yc yd t ⟨512 + j.val, by omega⟩ = yc (ix2 t j) := by
    have e : (⟨512 + j.val - 256 - 256, by omega⟩ : Fin 256) = j := Fin.ext (by simp; omega)
    rw [cat, dif_neg (by simp; omega), dif_neg (by simp; omega), dif_pos (show 512 + j.val - 256 - 256 < 256 by omega), e]
  have hd (j : Fin 256) : cat ya yb yc yd t ⟨768 + j.val, by omega⟩ = yd (ix2 t j) := by
    have e : (⟨768 + j.val - 256 - 256 - 256, by omega⟩ : Fin 256) = j := Fin.ext (by simp; omega)
    rw [cat, dif_neg (by simp; omega), dif_neg (by simp; omega), dif_neg (by simp; omega), e]
  simp only [ha, hb, hc, hd]

section
variable {x ya yb yc yd w mod g rw_ rb} (hx : ∀ i, IsReal (x i)) (ha : ∀ i, IsReal (ya i)) (hb : ∀ i, IsReal (yb i)) (hc : ∀ i, IsReal (yc i))
  (hd : ∀ i, IsReal (yd i)) (hw : ∀ i, IsReal (w i)) (hm : ∀ i, IsReal (mod i)) (hg : ∀ i, IsReal (g i)) (hr : ∀ i, IsReal (rw_ i))
  (hrb : ∀ i, IsReal (rb i))
include hx ha hb hc hd hw hm

theorem x1_real (t : Fin 8192) (k : Fin 1024) : IsReal (x1 x ya yb yc yd w mod t k) := by
  refine (hx _).add ((hm _).mul ?_)
  rw [projected]
  exact (((IsReal.sum fun j => (ha _).mul (hw _)).add (IsReal.sum fun j => (hb _).mul (hw _))).add (IsReal.sum fun j => (hc _).mul (hw _))).add
    (IsReal.sum fun j => (hd _).mul (hw _))

include hg

theorem h2_real (t : Fin 8192) (k : Fin 1024) : IsReal (h2 x ya yb yc yd w mod g t k) :=
  IsReal.modulated (x1_real hx ha hb hc hd hw hm t) (fun _ => hg _) (fun _ => hm _) (fun _ => hm _) k

include hr

theorem scores_real (t : Fin 8192) (e : Fin 64) : IsReal (scores x ya yb yc yd w mod g rw_ t e) ∧ 0 < scores x ya yb yc yd w mod g rw_ t e :=
  IsReal.score (IsReal.sum fun k => (h2_real hx ha hb hc hd hw hm hg t k).mul (hr _))

include hrb in
theorem biased_ne_bot (t : Fin 8192) (e : Fin 64) : biased x ya yb yc yd w mod g rw_ rb t e ≠ ⊥ :=
  ((scores_real hx ha hb hc hd hw hm hg hr t e).1.add (hrb _)).ne_bot

/-- The sum of the listed scores isn't zero. -/
theorem total_ne_zero (t : Fin 8192) : ∑ k, scores x ya yb yc yd w mod g rw_ t (pick x ya yb yc yd w mod g rw_ rb t k) ≠ 0 := by
  have h k := (scores_real hx ha hb hc hd hw hm hg hr t (pick x ya yb yc yd w mod g rw_ rb t k)).2
  exact ((h 0).trans_le (Finset.single_le_sum (fun k _ => (h k).le) (Finset.mem_univ 0))).ne'

end

/-- The first eight positions that a stable descending sort lists. -/
def top8 (v : Fin 64 → EReal) (k : Fin 8) : Fin 64 := sortedFrom (greater v) (k.castLE (by decide))

/-- A sum in which one term alone is counted. -/
theorem sum_hot (p : Fin 8 → Fin 64) (hp : Function.Injective p) (f : Fin 64 → EReal) (k : Fin 8) :
    ∑ j, f (p j) * (if p j = p k then 1 else 0) = f (p k) := by
  rw [Finset.sum_eq_single k]
  · rw [if_pos rfl, mul_one]
  · intro b _ hb
    rw [if_neg fun h => hb (hp h), mul_zero]
  · exact fun h => absurd (Finset.mem_univ _) h

/-- The row of gates, lane by lane: a listed position's own share in its own lane, zero in the others. `u` is the row `v` widened to 128 lanes, `s` holds
the scores `sc`. -/
theorem gates_core (v sc : Fin 64 → EReal) (u s : Fin 128 → EReal) (C : EReal) (hv : ∀ e, v e ≠ ⊥) (hz : ∑ k, sc (top8 v k) ≠ 0)
    (hu : ∀ q, u q = if h : q.val < 64 then v ⟨q.val, h⟩ else ⊥) (hs : ∀ e : Fin 64, s (e.castLE (by decide)) = sc e) (q : Fin 128) :
    Ideal.div (taken u s 8 q) (∑ p, taken u s 8 p) * C
      = if h : q.val < 64 then ∑ k, Ideal.div (sc (top8 v k)) (∑ i, sc (top8 v i)) * C * if top8 v k = ⟨q.val, h⟩ then 1 else 0 else 0 := by
  classical
  have L : Lists u fun i => (sortedFrom (greater v) i).castLE (by decide) :=
    lists_of_sort (by decide) _ u hv (fun i => by rw [hu, dif_pos (show (i.castLE (by decide) : Fin 128).val < 64 from i.isLt)]; rfl)
      fun q hq => by rw [hu, dif_neg (not_lt.mpr hq)]
  have ht (k : Fin 8) : top8 v k = sortedFrom (greater v) (k.castLE (by decide)) := rfl
  simp only [ht] at hz ⊢
  generalize sortedFrom (greater v) = σ at L hz ⊢
  have inj {i j : Fin 64} (h : σ i = σ j) : i = j := L.inj (congrArg (Fin.castLE (by decide : 64 ≤ 128)) h)
  have hp : Function.Injective fun k : Fin 8 => σ (k.castLE (by decide)) := fun a b h => Fin.castLE_injective _ (inj h)
  have hsum : ∑ p, taken u s 8 p = ∑ k : Fin 8, sc (σ (k.castLE (by decide))) := by
    rw [L.sum_taken s 8 (by decide)]
    exact Finset.sum_congr rfl fun k _ => hs _
  rw [hsum, L.taken_eq s 8 (by decide)]
  generalize ∑ k : Fin 8, sc (σ (k.castLE (by decide))) = S at hz
  have h0 : Ideal.div 0 S * C = 0 := by rw [Ideal.div, if_neg hz, zero_mul, zero_mul]
  by_cases hq : q.val < 64
  · rw [dif_pos hq]
    by_cases hk : ∃ k : Fin 8, σ (k.castLE (by decide)) = ⟨q.val, hq⟩
    · obtain ⟨k, hk⟩ := hk
      have hsq : s q = sc (σ (k.castLE (by decide))) := by rw [← hs, hk]; rfl
      rw [if_pos ⟨k.castLE (by decide), k.isLt, congrArg (Fin.castLE (by decide : 64 ≤ 128)) hk⟩, ← hk, hsq]
      exact (sum_hot _ hp (fun e => Ideal.div (sc e) S * C) k).symm
    · rw [if_neg, h0]
      · refine (Finset.sum_eq_zero fun k _ => ?_).symm
        rw [if_neg fun h => hk ⟨k, h⟩, mul_zero]
      · rintro ⟨i, hi, e⟩
        have e' : (σ i).val = q.val := congrArg Fin.val e
        exact hk ⟨⟨i.val, hi⟩, Fin.ext e'⟩
  · rw [dif_neg hq, if_neg, h0]
    rintro ⟨i, -, e⟩
    exact hq ((congrArg Fin.val e).symm.trans_lt (σ i).isLt)

/-- The reference's row of gates is the row that eight rounds of taking the greatest leave. -/
theorem gates_eq (t : Fin 8192) (u s : Fin 128 → EReal) (hv : ∀ e, biased x ya yb yc yd w mod g rw_ rb t e ≠ ⊥)
    (hz : ∑ k, scores x ya yb yc yd w mod g rw_ t (pick x ya yb yc yd w mod g rw_ rb t k) ≠ 0)
    (hu : ∀ q, u q = if h : q.val < 64 then biased x ya yb yc yd w mod g rw_ rb t ⟨q.val, h⟩ else ⊥)
    (hs : ∀ e : Fin 64, s (e.castLE (by decide)) = scores x ya yb yc yd w mod g rw_ t e) (q : Fin 128) :
    Ideal.div (taken u s 8 q) (∑ p, taken u s 8 p) * Ideal.ofBits .f32 1075838976#32
      = Read.val_main_v59 (F := Ideal) x ya yb yc yd w mod g rw_ rb (ix2 t q) := by
  rw [out3_apply]
  exact gates_core _ _ u s _ hv hz hu hs q

end Cert.Reference2Ideal.Out

end
-- ==== Proof.OutBlock.lean ====
module

public import proofs.«01_k».proof.Proof.OutReads
public import proofs.«01_k».proof.Proof.OutRound
public import proofs.«01_k».proof.Proof.OutSum

/-! What the output projection's body writes at one grid point, from what its blocks hold: rows of the reference's three results.
    The sample's blocks and the prompt's differ only in what of the arguments they hold. -/

@[expose] public section

set_option maxRecDepth 16384

noncomputable section

namespace Cert.Kernel2Ideal.Out

open Cert.Kernel2Ideal Cert.Kernel2Ideal.Gen Idealize.ShloMosaic Idealize.ShloMosaic.TcCoe Idealize.SL.Sem
open Cert.Reference2Ideal.Out (x1 h2 logit scores biased)
open Cert.Finite Cert.Route

/-- A product split in three by the parts that a narrowing leaves over: with nothing left over, the first alone counts. -/
theorem three_sums (a b d f e : Fin 1024 → EReal) (ha : ∀ k, a k = f k) (hb : ∀ k, b k = e k) (hd : ∀ k, d k = 0) (hf : ∀ k, f k - f k = 0) :
    (∑ k, a k * b k) + (∑ k, (a k - a k) * b k) + ∑ k, a k * d k = ∑ k, f k * e k := by
  simp only [ha, hb, hd, hf, zero_mul, mul_zero, Finset.sum_const_zero, add_zero]

/-- A point's blocks hold these rows of the arguments, and the router's weights and bias as they are widened and split. -/
structure Holds (b0 : Vec Ideal S512x1024 .f32) (b1 b2 b3 b4 : Vec Ideal S512x256 .bf16) (b5 : Vec Ideal S1024x1024 .bf16)
    (b6 : Vec Ideal S1x6x1024 .f32) (b7 : Vec Ideal S1x1024 .f32) (b8 b9 : Vec Ideal S1024x128 .bf16) (b10 : Vec Ideal S1x128 .f32)
    (A0 : Vec Ideal S8192x1024 .f32) (A1 A2 A3 A4 : Vec Ideal S8192x256 .bf16) (A5 : Vec Ideal S1024x1024 .f32)
    (A6 : Vec Ideal S8x6x1024 .f32) (A7 : Vec Ideal S1024 .f32) (A8 : Vec Ideal S1024x64 .f32) (A9 : Vec Ideal S64 .f32)
    (row : Fin 512 → Fin 8192) : Prop where
  x : ∀ r k, b0 (ix2 r k) = A0 (ix2 (row r) k)
  ya : ∀ r k, b1 (ix2 r k) = A1 (ix2 (row r) k)
  yb : ∀ r k, b2 (ix2 r k) = A2 (ix2 (row r) k)
  yc : ∀ r k, b3 (ix2 r k) = A3 (ix2 (row r) k)
  yd : ∀ r k, b4 (ix2 r k) = A4 (ix2 (row r) k)
  w : ∀ j k, b5 (ix2 j k) = A5 (ix2 j k)
  mod : ∀ (r : Fin 512) (s : Fin 6) (k : Fin 1024), b6 (ix3 0 s k) = A6 (ix3 ⟨(row r).val / 1024, by omega⟩ s k)
  g : ∀ k, b7 (ix2 0 k) = A7 (ix1 k)
  rh : ∀ k q, b8 (ix2 k q) = wide A8 k q
  rl : ∀ k q, b9 (ix2 k q) = wide A8 k q - wide A8 k q
  rb : ∀ q : Fin 128, b10 (ix2 0 q) = if h : q.val < 64 then A9 (ix1 ⟨q.val, h⟩) else (⊥ : EReal)

/-- Every argument is finite. -/
structure AllReal (A0 : Vec Ideal S8192x1024 .f32) (A1 A2 A3 A4 : Vec Ideal S8192x256 .bf16) (A5 : Vec Ideal S1024x1024 .f32)
    (A6 : Vec Ideal S8x6x1024 .f32) (A7 : Vec Ideal S1024 .f32) (A8 : Vec Ideal S1024x64 .f32) (A9 : Vec Ideal S64 .f32) : Prop where
  a0 : ∀ i, IsReal (A0 i)
  a1 : ∀ i, IsReal (A1 i)
  a2 : ∀ i, IsReal (A2 i)
  a3 : ∀ i, IsReal (A3 i)
  a4 : ∀ i, IsReal (A4 i)
  a5 : ∀ i, IsReal (A5 i)
  a6 : ∀ i, IsReal (A6 i)
  a7 : ∀ i, IsReal (A7 i)
  a8 : ∀ i, IsReal (A8 i)
  a9 : ∀ i, IsReal (A9 i)

variable {b0 : Vec Ideal S512x1024 .f32} {b1 b2 b3 b4 : Vec Ideal S512x256 .bf16} {b5 : Vec Ideal S1024x1024 .bf16}
  {b6 : Vec Ideal S1x6x1024 .f32} {b7 : Vec Ideal S1x1024 .f32} {b8 b9 : Vec Ideal S1024x128 .bf16} {b10 : Vec Ideal S1x128 .f32}
  {A0 : Vec Ideal S8192x1024 .f32} {A1 A2 A3 A4 : Vec Ideal S8192x256 .bf16} {A5 : Vec Ideal S1024x1024 .f32}
  {A6 : Vec Ideal S8x6x1024 .f32} {A7 : Vec Ideal S1024 .f32} {A8 : Vec Ideal S1024x64 .f32} {A9 : Vec Ideal S64 .f32}
  {row : Fin 512 → Fin 8192}

section
variable (H : AllReal A0 A1 A2 A3 A4 A5 A6 A7 A8 A9)
include H

theorem wide_real (k : Fin 1024) (q : Fin 128) : IsReal (wide A8 k q) := by
  unfold wide
  split
  · exact H.a8 _
  · exact isReal_zero

end

variable (B : Holds b0 b1 b2 b3 b4 b5 b6 b7 b8 b9 b10 A0 A1 A2 A3 A4 A5 A6 A7 A8 A9 row)
include B

theorem block_x1 (r : Fin 512) (k : Fin 1024) :
    k0_pay2 (F := Ideal) b1 (View.ld b5 r0_1) b2 (View.ld b5 r0_2) b3
        (View.ld b5 r0_3) b4 (View.ld b5 r0_4) b0 (View.ld b6 r0_6) (ix2 r k)
      = x1 A0 A1 A2 A3 A4 A5 A6 (row r) k := by
  have l1 (j : Fin 256) : View.ld b5 r0_1 (ix2 j k) = b5 (ix2 (⟨j.val, by omega⟩ : Fin 1024) k) := by pointwise [r0_1]
  have l2 (j : Fin 256) : View.ld b5 r0_2 (ix2 j k) = b5 (ix2 (⟨256 + j.val, by omega⟩ : Fin 1024) k) := by pointwise [r0_2]
  have l3 (j : Fin 256) : View.ld b5 r0_3 (ix2 j k) = b5 (ix2 (⟨512 + j.val, by omega⟩ : Fin 1024) k) := by pointwise [r0_3]
  have l4 (j : Fin 256) : View.ld b5 r0_4 (ix2 j k) = b5 (ix2 (⟨768 + j.val, by omega⟩ : Fin 1024) k) := by pointwise [r0_4]
  have l6 : View.ld b6 r0_6 (ix3 0 0 k) = b6 (ix3 0 2 k) := by pointwise [r0_6]
  rw [x1_apply]
  simp only [l1, l2, l3, l4, l6, B.x, B.ya, B.yb, B.yc, B.yd, B.w, ← B.mod r, x1, Cert.Reference2Ideal.Out.projected]

/-- The same row, in the name under which the norm and the router read it. -/
theorem row_x1 (r : Fin 512) (k : Fin 1024) :
    k0_pay24 (F := Ideal) b0 b1 b2 b3 b4 b5 b6 b7
        b8 b9 b10 (ix2 r k)
      = x1 A0 A1 A2 A3 A4 A5 A6 (row r) k := by
  have w0 (y : Vec Ideal S512x1024 .f32) : View.ld y r0_5 = y := View.ld_unit_zero (by funext a; fin_cases a <;> rfl) _ y
  have w1 (y : Vec Ideal S512x256 .bf16) : View.ld y r0_0 = y := View.ld_unit_zero (by funext a; fin_cases a <;> rfl) _ y
  rw [k0_pay24, w0, w1, w1, w1, w1]
  exact block_x1 B r k

theorem row_h2 (r : Fin 512) (k : Fin 1024) :
    k0_pay4 (F := Ideal) (k0_pay24 b0 b1 b2 b3 b4 b5 b6
        b7 b8 b9 b10)
        (k0_pay25 b0 b1 b2 b3 b4 b5 b6 b7
          b8 b9 b10) (View.ld b6 r0_8) (View.ld b6 r0_9) (ix2 r k)
      = h2 A0 A1 A2 A3 A4 A5 A6 A7 (row r) k := by
  have l7 (j : Fin 1024) : k0_pay25 (F := Ideal) b0 b1 b2 b3 b4 b5 b6
      b7 b8 b9 b10 (ix2 0 j) = b7 (ix2 0 j) := by
    pointwise [k0_pay25, k0_pay3, r0_7]
  have l8 (j : Fin 1024) : View.ld b6 r0_8 (ix3 0 0 j) = b6 (ix3 0 3 j) := by pointwise [r0_8]
  have l9 (j : Fin 1024) : View.ld b6 r0_9 (ix3 0 0 j) = b6 (ix3 0 4 j) := by pointwise [r0_9]
  rw [h2_apply]
  simp only [row_x1 B, l7, l8, l9, B.g, ← B.mod r, h2]

variable (H : AllReal A0 A1 A2 A3 A4 A5 A6 A7 A8 A9)
include H

theorem row_logits (r : Fin 512) (q : Fin 128) :
    k0_pay26 (F := Ideal) b0 b1 b2 b3 b4 b5 b6 b7
        b8 b9 b10 (ix2 r q)
      = if h : q.val < 64 then logit A0 A1 A2 A3 A4 A5 A6 A7 A8 (row r) ⟨q.val, h⟩ else 0 := by
  have l8 (k : Fin 1024) : View.ld b8 r0_10 (ix2 k q) = wide A8 k q := by
    have : View.ld b8 r0_10 (ix2 k q) = b8 (ix2 k q) := by pointwise [r0_10]
    rw [this, B.rh]
  have l9 (k : Fin 1024) : View.ld b9 r0_10 (ix2 k q) = (0 : EReal) := by
    have : View.ld b9 r0_10 (ix2 k q) = b9 (ix2 k q) := by pointwise [r0_10]
    rw [this, B.rl]
    exact (wide_real H k q).sub_self
  have hz (k : Fin 1024) : h2 A0 A1 A2 A3 A4 A5 A6 A7 (row r) k
      - h2 A0 A1 A2 A3 A4 A5 A6 A7 (row r) k = 0 :=
    (Cert.Reference2Ideal.Out.h2_real H.a0 H.a1 H.a2 H.a3 H.a4 H.a5 H.a6 H.a7 (row r) k).sub_self
  rw [k0_pay26]
  refine (logits_apply _ _ _ _ _ _ _ r q).trans ((three_sums _ _ _ _ _ (row_h2 B r) l8 l9 hz).trans ?_)
  by_cases h : q.val < 64
  · simp only [wide, dif_pos h, logit]
  · simp only [wide, dif_neg h, mul_zero, Finset.sum_const_zero]

theorem block_gates (r : Fin 512) (q : Fin 128) :
    k0_pay1 (F := Ideal) (k0_pay28 b0 b1 b2 b3 b4 b5 b6 b7 b8 b9 b10)
        (k0_pay27 b0 b1 b2 b3 b4 b5 b6 b7 b8 b9 b10)
        (k0_pay22 (k0_pay28 b0 b1 b2 b3 b4 b5 b6 b7 b8 b9 b10)
          (k0_pay27 b0 b1 b2 b3 b4 b5 b6 b7 b8 b9 b10)
          (k0_pay12 (k0_pay26 b0 b1 b2 b3 b4 b5 b6 b7 b8 b9 b10)
            (Scalar.ofBits .f32 0x00000000#32) b10)
          (k0_pay29 b0 b1 b2 b3 b4 b5 b6 b7 b8 b9 b10)
          (k0_pay30 b0 b1 b2 b3 b4 b5 b6 b7 b8 b9 b10))
        (k0_pay23 (k0_pay27 b0 b1 b2 b3 b4 b5 b6 b7 b8 b9 b10)
          (k0_pay29 b0 b1 b2 b3 b4 b5 b6 b7 b8 b9 b10)
          (k0_pay30 b0 b1 b2 b3 b4 b5 b6 b7 b8 b9 b10))
        (ix2 r q)
      = Cert.Reference2Ideal.Read.val_main_v59 (F := Ideal) A0 A1 A2 A3 A4 A5 A6 A7 A8 A9
          (ix2 (row r) q) := by
  have w10 (y : Vec Ideal S1x128 .f32) : View.ld y r0_11 = y := View.ld_unit_zero (by funext a; fin_cases a <;> rfl) _ y
  rw [k0_pay27, k0_pay28, k0_pay29, k0_pay30, w10, weights_apply]
  refine Cert.Reference2Ideal.Out.gates_eq _ _ _ _ _ _ _ _ _ _ (row r) _ _
    (Cert.Reference2Ideal.Out.biased_ne_bot H.a0 H.a1 H.a2 H.a3 H.a4 H.a5 H.a6 H.a7 H.a8 H.a9 (row r))
    (Cert.Reference2Ideal.Out.total_ne_zero H.a0 H.a1 H.a2 H.a3 H.a4 H.a5 H.a6 H.a7 H.a8 (row r)) (fun p => ?_) (fun e => ?_) q
  · rw [biased_apply, row_logits B H, B.rb]
    by_cases h : p.val < 64
    · simp only [dif_pos h, biased, scores]
    · simp only [dif_neg h, EReal.add_bot]
  · rw [score_apply, row_logits B H, dif_pos (show (e.castLE (by decide) : Fin 128).val < 64 from e.isLt)]
    rfl

end Cert.Kernel2Ideal.Out

end
-- ==== Proof.OutArr.lean ====
module

public import proofs.«01_k».proof.Proof.OutBlock

/-! The three result arrays of the output projection and router hold what the reference says. -/

@[expose] public section

set_option maxRecDepth 16384

noncomputable section

namespace Cert.Kernel2Ideal.Out

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The ten arguments. -/
abbrev A0 : Vec Ideal S8192x1024 .f32 := m ((c : Thread nD τ).loc main_arg0)
abbrev A1 : Vec Ideal S8192x256 .bf16 := m ((c : Thread nD τ).loc main_arg1)
abbrev A2 : Vec Ideal S8192x256 .bf16 := m ((c : Thread nD τ).loc main_arg2)
abbrev A3 : Vec Ideal S8192x256 .bf16 := m ((c : Thread nD τ).loc main_arg3)
abbrev A4 : Vec Ideal S8192x256 .bf16 := m ((c : Thread nD τ).loc main_arg4)
abbrev A5 : Vec Ideal S1024x1024 .f32 := m ((c : Thread nD τ).loc main_arg5)
abbrev A6 : Vec Ideal S8x6x1024 .f32 := m ((c : Thread nD τ).loc main_arg6)
abbrev A7 : Vec Ideal S1024 .f32 := m ((c : Thread nD τ).loc main_arg7)
abbrev A8 : Vec Ideal S1024x64 .f32 := m ((c : Thread nD τ).loc main_arg8)
abbrev A9 : Vec Ideal S64 .f32 := m ((c : Thread nD τ).loc main_arg9)

theorem holds (t : Fin cfg0.N) :
    Holds (iblk m c 0 t) (iblk m c 1 t) (iblk m c 2 t) (iblk m c 3 t) (iblk m c 4 t) (iblk m c 5 t) (iblk m c 6 t) (iblk m c 7 t)
      (iblk m c 8 t) (iblk m c 9 t) (iblk m c 10 t) (A0 m c) (A1 m c) (A2 m c) (A3 m c) (A4 m c) (A5 m c) (A6 m c) (A7 m c) (A8 m c)
      (A9 m c) (row t) where
  x := read_x m c t
  ya := read_ya m c t
  yb := read_yb m c t
  yc := read_yc m c t
  yd := read_yd m c t
  w := read_w m c t
  mod r s k := by
    have hd : (t.val * 512 + r.val) / 1024 = t.val / 2 := by omega
    simp only [read_mod, hd]
  g := read_g m c t
  rh k q := (read_rwh m c t k q).trans (slab_h m c k q)
  rl k q := (read_rwl m c t k q).trans (slab_l m c k q)
  rb q := (read_rb m c t q).trans (bias_row m c q)

theorem arr_x1 : (dats m 0 c).arrAt 11 cfg0.N
    = Cert.Reference2Ideal.Read.val_main_v56 (F := Ideal) (A0 m c) (A1 m c) (A2 m c) (A3 m c) (A4 m c) (A5 m c) (A6 m c) := by
  refine (dats m 0 c).arrAt_eq_of_covers 11 _ (by decide +kernel) fun t hf y => ?_
  obtain ⟨r, q, rfl⟩ : ∃ (r : Fin 512) (q : Fin 1024), y = ix2 r q := ⟨y 0, y 1, by funext a; fin_cases a <;> rfl⟩
  have he : ((cfg0.win 11).blk t).view.emb (ix2 r q) = ix2 (row t r) q := by
    funext a; fin_cases a <;> apply Fin.ext <;> blk_simp <;> simp [idx t]
  rw [he]
  blk_simp
  rw [after0_11]
  frame_out
  exact (block_x1 (holds m c t) r q).trans (Cert.Reference2Ideal.Out.out1_apply _ _ _ _ _ _ _ _ _).symm

theorem arr_h2 : (dats m 0 c).arrAt 12 cfg0.N
    = Cert.Reference2Ideal.Read.val_main_v57 (F := Ideal) (A0 m c) (A1 m c) (A2 m c) (A3 m c) (A4 m c) (A5 m c) (A6 m c) (A7 m c) := by
  refine (dats m 0 c).arrAt_eq_of_covers 12 _ (by decide +kernel) fun t hf y => ?_
  obtain ⟨r, q, rfl⟩ : ∃ (r : Fin 512) (q : Fin 1024), y = ix2 r q := ⟨y 0, y 1, by funext a; fin_cases a <;> rfl⟩
  have he : ((cfg0.win 12).blk t).view.emb (ix2 r q) = ix2 (row t r) q := by
    funext a; fin_cases a <;> apply Fin.ext <;> blk_simp <;> simp [idx t]
  rw [he]
  blk_simp
  rw [after0_12]
  frame_out
  exact (hh_apply _ _ _ _ r q).trans ((row_h2 (holds m c t) r q).trans (Cert.Reference2Ideal.Out.out2_apply _ _ _ _ _ _ _ _ _ _).symm)

theorem arr_gates (H : AllReal (A0 m c) (A1 m c) (A2 m c) (A3 m c) (A4 m c) (A5 m c) (A6 m c) (A7 m c) (A8 m c) (A9 m c)) : (dats m 0 c).arrAt 13 cfg0.N
    = Cert.Reference2Ideal.Read.val_main_v59 (F := Ideal) (A0 m c) (A1 m c) (A2 m c) (A3 m c) (A4 m c) (A5 m c) (A6 m c) (A7 m c) (A8 m c) (A9 m c) := by
  refine (dats m 0 c).arrAt_eq_of_covers 13 _ (by decide +kernel) fun t hf y => ?_
  obtain ⟨r, q, rfl⟩ : ∃ (r : Fin 512) (q : Fin 128), y = ix2 r q := ⟨y 0, y 1, by funext a; fin_cases a <;> rfl⟩
  have he : ((cfg0.win 13).blk t).view.emb (ix2 r q) = ix2 (row t r) q := by
    funext a; fin_cases a <;> apply Fin.ext <;> blk_simp <;> simp [idx t]
  rw [he]
  blk_simp
  rw [after0_13]
  frame_out
  exact block_gates (holds m c t) H r q

end Cert.Kernel2Ideal.Out

end
-- ==== Proof.Out.lean ====
module

public import proofs.«01_k».proof.Defs
public import proofs.«01_k».proof.Proof.OutArr
public import proofs.«01_k».proof.Proof.Gen.Pre_finite_out
public import Idealize.ShloMosaic.Lib.Claim

/-! The output projection with the router: the kernel and its reference leave the same three arrays. -/

@[expose] public section

noncomputable section

namespace Cert.Out

open Idealize.ShloMosaic Idealize.ShloMosaic.TcCoe Idealize.SL.Sem

theorem algebraic : Cert.algebraic_Kernel2Ideal_Reference2Ideal_pre_finite_out := by
  intro m g m' g' hpre hagree
  refine ⟨_, _, _, Cert.Kernel2Ideal.Value.run_blocks m g, ?_⟩
  refine (θ_run Cert.Reference2Ideal.defs _ _).mono (fun _ h c => ?_) (Cert.Reference2Ideal.Value.run (F := Ideal) m' g')
  obtain ⟨h0, h1, h2, h3, h4, h5, h6, h7, h8, h9⟩ := hagree c
  obtain ⟨ha, hb, hc, hk⟩ := h c
  have e1 := ha.trans (Cert.Reference2Ideal.Read.val_main_v56_eq _)
  have e2 := hb.trans (Cert.Reference2Ideal.Read.val_main_v57_eq _)
  have e3 := hc.trans (Cert.Reference2Ideal.Read.val_main_v59_eq _)
  simp only [StableHlo.launchContents] at e1 e2 e3
  rw [h0, h1, h2, h3, h4, h5, h6] at e1
  rw [h0, h1, h2, h3, h4, h5, h6, h7] at e2
  rw [h0, h1, h2, h3, h4, h5, h6, h7, h8, h9] at e3
  obtain ⟨r0, r1, r2, r3, r4, r5, r6, r7, r8, r9⟩ := Cert.Finite.out (hpre c)
  exact ⟨e1.trans (Cert.Kernel2Ideal.Out.arr_x1 m c).symm, e2.trans (Cert.Kernel2Ideal.Out.arr_h2 m c).symm,
    e3.trans (Cert.Kernel2Ideal.Out.arr_gates m c ⟨r0, r1, r2, r3, r4, r5, r6, r7, r8, r9⟩).symm, hk⟩

end Cert.Out

end
-- ==== Proof.PromptMoeBlock.lean ====
module

public import proofs.«01_k».proof.Proof.Gen.Kernel4Ideal.Frame
public import proofs.«01_k».proof.Proof.MoeFold
public import Idealize.ShloMosaic.Lib.Tactic

/-! What one grid point of the mixture of experts leaves when it runs on the prompt: the arithmetic is the sample's, so the
    results are stated with the functions of `MoeBlock.lean`. -/

@[expose] public section

set_option maxRecDepth 16384

noncomputable section

namespace Cert.Kernel4Ideal.Moe

open Cert.Kernel4Ideal Cert.Kernel4Ideal.Gen Idealize.ShloMosaic Idealize.ShloMosaic.TcCoe Idealize.SL.Sem

open Cert.KernelIdeal.Moe (step hz)

section
variable (c : Dev nD) (i : grid0.Coords)
  (arg2 : Memref sig .tc .vmem S1024x1024 .bf16) (harg2 : arg2.IsWhole) (arg3 : Memref sig .tc .vmem S1024x128 .f32) (harg3 : arg3.IsWhole)
  (arg4 : Memref sig .tc .vmem S1024x1024 .f32) (harg4 : arg4.IsWhole) (arg5 : Memref sig .tc .vmem S1x6x1024 .f32) (harg5 : arg5.IsWhole)
  (arg6 : Memref sig .tc .vmem S2x1024x128 .f32) (harg6 : arg6.IsWhole) (arg7 : Memref sig .tc .vmem S2x1024x128 .f32) (harg7 : arg7.IsWhole)
  (arg8 : Memref sig .tc .vmem S2x128x1024 .f32) (harg8 : arg8.IsWhole) (arg9 : Memref sig .tc .vmem S1024x128 .f32) (harg9 : arg9.IsWhole)
  (arg10 : Memref sig .tc .vmem S1024x128 .f32) (harg10 : arg10.IsWhole) (arg11 : Memref sig .tc .vmem S128x1024 .f32) (harg11 : arg11.IsWhole)
  (arg12 : Memref sig .tc .vmem S1x1024 .f32) (harg12 : arg12.IsWhole) (arg13 : Memref sig .tc .vmem S1024x1024 .f32) (harg13 : arg13.IsWhole)
  (arg14 : Memref sig .tc .vmem S1024x1024 .f32) (harg14 : arg14.IsWhole)
  (x0 : Vec Ideal S1024x1024 .bf16) (x1 : Vec Ideal S1024x128 .f32) (x2 : Vec Ideal S1024x1024 .f32) (x3 : Vec Ideal S1x6x1024 .f32)
  (x4 x5 : Vec Ideal S2x1024x128 .f32) (x6 : Vec Ideal S2x128x1024 .f32) (x7 x8 : Vec Ideal S1024x128 .f32) (x9 : Vec Ideal S128x1024 .f32)
  (x10 : Vec Ideal S1x1024 .f32) (xs0 : Vec Ideal S1024x1024 .f32)

/-- A middle step adds its experts to the accumulator. -/
theorem sout_B (hc0 : ¬cond0_0 i) (hc1 : ¬cond0_1 i) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0
      = step (i 1).val x0 x1 x4 x5 x6 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0)]
  unfold kernelRun0_B
  dsimp only
  sl_unfold_words
  rw [View.canon_unit_zero hz]
  simp only [View.readAt_eq_ld, harg2.read_unread, harg3.read_unread, harg6.read_unread, harg7.read_unread, harg8.read_unread, harg14.read_unread,
    View.ld_unit_zero (S := S1024x1024) hz, View.ld_unit_zero (S := S1024x128) hz]
  rfl

/-- The first step starts the accumulator with the shared expert and adds its experts. -/
theorem sout_A (hc0 : cond0_0 i) (hc1 : ¬cond0_1 i) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10
      = step (i 1).val x0 x1 x4 x5 x6 (Cert.KernelIdeal.Gen.k0_pay3 x0 x7 x8 x9) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10)]
  unfold kernelRun0_A
  dsimp only
  sl_unfold_words
  rw [View.canon_cons_unit_zero (S := S1024x1024) hz, View.readCov_unit_zero (S := S1024x1024) _ hz]
  simp only [View.readAt_eq_ld, harg2.read_unread, harg3.read_unread, harg6.read_unread, harg7.read_unread, harg8.read_unread,
    harg9.read_unread, harg10.read_unread, harg11.read_unread,
    View.ld_unit_zero (S := S1024x1024) hz, View.ld_unit_zero (S := S1024x128) hz, View.ld_unit_zero (S := S128x1024) hz]
  rfl

/-- The last step adds its experts too. -/
theorem sout_C (hc0 : ¬cond0_0 i) (hc1 : cond0_1 i) :
    sout0_C_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0
      = step (i 1).val x0 x1 x4 x5 x6 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0)]
  unfold kernelRun0_C
  dsimp only
  sl_unfold_words
  rw [View.canon_unit_zero hz]
  simp only [View.readAt_eq_ld, harg2.read_unread, harg3.read_unread, harg6.read_unread, harg7.read_unread, harg8.read_unread, harg14.read_unread,
    View.ld_unit_zero (S := S1024x1024) hz, View.ld_unit_zero (S := S1024x128) hz]
  rfl

/-- The last step finishes its rows from the accumulator it has just stored. -/
theorem out_C (hc0 : ¬cond0_0 i) (hc1 : cond0_1 i) :
    out0_C_11 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0
      = Cert.KernelIdeal.Gen.k0_pay2 x2 (View.ld x3 (Rect.unit (s := S1x6x1024) ![0, 5, 0] S1x1x1024.size inb_S1x6x1024_S1x1x1024_0_5_0))
          (step (i 1).val x0 x1 x4 x5 x6 xs0) x10 := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0)]
  unfold kernelRun0_C
  dsimp only
  sl_unfold_words
  rw [View.canon_unit_zero hz, View.readCov_unit_zero (S := S1024x1024) _ hz]
  simp only [View.readAt_eq_ld, harg2.read_unread, harg3.read_unread, harg4.read_unread, harg5.read_unread, harg6.read_unread,
    harg7.read_unread, harg8.read_unread, harg12.read_unread, harg14.read_unread,
    View.ld_unit_zero (S := S1024x1024) hz, View.ld_unit_zero (S := S1024x128) hz, View.ld_unit_zero (S := S1x1024) hz]
  rfl

end

end Cert.Kernel4Ideal.Moe

end
-- ==== Proof.PromptMoeReads.lean ====
module

public import proofs.«01_k».proof.Proof.Gen.Kernel4Ideal.Value
public import proofs.«01_k».proof.Proof.PromptMoeBlock
public import Idealize.ShloMosaic.Lib.Pipeline.ValueKit

/-! Which elements of the prompt's arguments the blocks of one grid point hold: as for the sample, but every tile reads the one
    row of modulation. -/

@[expose] public section

set_option maxRecDepth 16384

noncomputable section

namespace Cert.Kernel4Ideal.Moe

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- The block indices of the windows that move. -/
theorem idx : ∀ t : Fin cfg0.N,
    (win0_0.index t (0 : Fin 2) = t.val / 32 ∧ win0_0.index t (1 : Fin 2) = 0)
    ∧ (win0_1.index t (0 : Fin 2) = t.val / 32 ∧ win0_1.index t (1 : Fin 2) = 0)
    ∧ (win0_2.index t (0 : Fin 2) = t.val / 32 ∧ win0_2.index t (1 : Fin 2) = 0)
    ∧ (win0_3.index t (0 : Fin 3) = 0 ∧ win0_3.index t (1 : Fin 3) = 0 ∧ win0_3.index t (2 : Fin 3) = 0)
    ∧ (win0_4.index t (0 : Fin 3) = t.val % 32 ∧ win0_4.index t (1 : Fin 3) = 0 ∧ win0_4.index t (2 : Fin 3) = 0)
    ∧ (win0_5.index t (0 : Fin 3) = t.val % 32 ∧ win0_5.index t (1 : Fin 3) = 0 ∧ win0_5.index t (2 : Fin 3) = 0)
    ∧ (win0_6.index t (0 : Fin 3) = t.val % 32 ∧ win0_6.index t (1 : Fin 3) = 0 ∧ win0_6.index t (2 : Fin 3) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (grid0.coords t 1).val = t.val % 32 := by
  decide +kernel

theorem lt_N (t : Fin cfg0.N) : t.val < 256 := lt_of_lt_of_eq t.isLt N_0

/-- The row of the arrays that row `r` of point `t`'s tile is. -/
abbrev row (t : Fin cfg0.N) (r : Fin 1024) : Fin 8192 := ⟨t.val / 32 * 1024 + r.val, by have := lt_N t; omega⟩

/-- The `s`-th expert of point `t`. -/
abbrev exp (t : Fin cfg0.N) (s : Fin 2) : Fin 64 := ⟨t.val % 32 * 2 + s.val, by omega⟩

theorem read_h (t : Fin cfg0.N) (r k : Fin 1024) : iblk m c 0 t (ix2 r k) = m ((c : Thread nD τ).loc main_arg0) (ix2 (row t r) k) := by
  blk_ext [iblk, V, idx t]

theorem read_g (t : Fin cfg0.N) (r : Fin 1024) (k : Fin 128) : iblk m c 1 t (ix2 r k) = m ((c : Thread nD τ).loc main_arg1) (ix2 (row t r) k) := by
  blk_ext [iblk, V, idx t]

theorem read_x (t : Fin cfg0.N) (r k : Fin 1024) : iblk m c 2 t (ix2 r k) = m ((c : Thread nD τ).loc main_arg2) (ix2 (row t r) k) := by
  blk_ext [iblk, V, idx t]

theorem read_mod (t : Fin cfg0.N) (s : Fin 6) (k : Fin 1024) :
    iblk m c 3 t (ix3 0 s k) = m ((c : Thread nD τ).loc main_arg3) (ix3 (0 : Fin 1) s k) := by
  blk_ext [iblk, V, idx t]

theorem read_wg (t : Fin cfg0.N) (s : Fin 2) (k : Fin 1024) (f : Fin 128) :
    iblk m c 4 t (ix3 s k f) = m ((c : Thread nD τ).loc main_arg4) (ix3 (exp t s) k f) := by
  blk_ext [iblk, V, idx t]

theorem read_wu (t : Fin cfg0.N) (s : Fin 2) (k : Fin 1024) (f : Fin 128) :
    iblk m c 5 t (ix3 s k f) = m ((c : Thread nD τ).loc main_arg5) (ix3 (exp t s) k f) := by
  blk_ext [iblk, V, idx t]

theorem read_wd (t : Fin cfg0.N) (s : Fin 2) (f : Fin 128) (d : Fin 1024) :
    iblk m c 6 t (ix3 s f d) = m ((c : Thread nD τ).loc main_arg6) (ix3 (exp t s) f d) := by
  blk_ext [iblk, V, idx t]

theorem read_sg (t : Fin cfg0.N) (k : Fin 1024) (f : Fin 128) : iblk m c 7 t (ix2 k f) = m ((c : Thread nD τ).loc main_arg7) (ix2 k f) := by
  blk_ext [iblk, V, idx t]

theorem read_su (t : Fin cfg0.N) (k : Fin 1024) (f : Fin 128) : iblk m c 8 t (ix2 k f) = m ((c : Thread nD τ).loc main_arg8) (ix2 k f) := by
  blk_ext [iblk, V, idx t]

theorem read_sd (t : Fin cfg0.N) (f : Fin 128) (d : Fin 1024) : iblk m c 9 t (ix2 f d) = m ((c : Thread nD τ).loc main_arg9) (ix2 f d) := by
  blk_ext [iblk, V, idx t]

theorem read_fg (t : Fin cfg0.N) (d : Fin 1024) : iblk m c 10 t (ix2 0 d) = m ((c : Thread nD τ).loc main_arg10) (ix1 d) := by
  blk_ext! [iblk, V, idx t]

end Cert.Kernel4Ideal.Moe

end
-- ==== Proof.PromptMoeFold.lean ====
module

public import proofs.«01_k».proof.Proof.PromptMoeReads
public import proofs.«01_k».proof.Proof.Gen.Reference4Ideal.Read

/-! The mixture of experts on the prompt: what the reference computes, what the accumulator holds after each grid point, and the
    kernel's result array. The experts are those of `MoeRef.lean`; the residual reads the one row of modulation. -/

@[expose] public section

set_option maxRecDepth 16384

noncomputable section

namespace Cert.Reference4Ideal.Moe

open Cert.Reference4Ideal Cert.Reference4Ideal.Read Idealize.ShloMosaic Idealize.SL.Sem
open Cert.ReferenceIdeal.Moe (expert shared normed)

/-- The residual row, with the experts' sum through its gate. -/
def resid (x1 : Vec Ideal S8192x1024 .f32) (mod : Vec Ideal S1x6x1024 .f32) (ff : Fin 1024 → EReal) (t : Fin 8192) (d : Fin 1024) : EReal :=
  x1 (ix2 t d) + mod (ix3 0 5 d) * ff d

section
variable (x0 : Vec Ideal S8192x1024 .bf16) (x1 : Vec Ideal S8192x128 .f32) (x2 : Vec Ideal S8192x1024 .f32) (x3 : Vec Ideal S1x6x1024 .f32)
  (x4 x5 : Vec Ideal S64x1024x128 .f32) (x6 : Vec Ideal S64x128x1024 .f32) (x7 x8 : Vec Ideal S1024x128 .f32) (x9 : Vec Ideal S128x1024 .f32)
  (x10 : Vec Ideal S1024 .f32)

/-- The sum of the experts is the sample's. -/
theorem ff_apply (t : Fin 8192) (d : Fin 1024) :
    val_main_v15 (F := Ideal) x0 x1 x4 x5 x6 x7 x8 x9 (ix2 t d)
      = shared x0 x7 x8 x9 t d + ∑ e : Fin 64, expert x0 x1 x4 x5 x6 t d e :=
  Cert.ReferenceIdeal.Moe.ff_apply x0 x1 x4 x5 x6 x7 x8 x9 t d

theorem resid_apply (t : Fin 8192) (d : Fin 1024) :
    val_main_v23 (F := Ideal) x0 x1 x2 x3 x4 x5 x6 x7 x8 x9 (ix3 (n0 := 32) (n1 := 256) ⟨t.val / 256, by omega⟩ ⟨t.val % 256, by omega⟩ d)
      = resid x2 x3 (fun d => shared x0 x7 x8 x9 t d + ∑ e : Fin 64, expert x0 x1 x4 x5 x6 t d e) t d := by
  have ht : (⟨t.val / 256 * 256 + t.val % 256, by omega⟩ : Fin 8192) = t := Fin.ext (Nat.div_add_mod' ..)
  simp only [resid, ← ff_apply]
  pointwise [val_main_v23, val_main_v22, val_main_v21, val_main_v20, val_main_v19, val_main_v18, val_main_v17, val_main_v16]

theorem out_apply (t : Fin 8192) (d : Fin 1024) :
    val_main_v37 (F := Ideal) x0 x1 x2 x3 x4 x5 x6 x7 x8 x9 x10 (ix2 t d)
      = normed (resid x2 x3 (fun d => shared x0 x7 x8 x9 t d + ∑ e : Fin 64, expert x0 x1 x4 x5 x6 t d e) t) (fun d => x10 (ix1 d)) d := by
  pointwise [val_main_v37, val_main_v36, val_main_v35, val_main_v34, val_main_v33, val_main_v32, val_main_v31, val_main_v30, val_main_v29, val_main_v28,
    val_main_v27, val_main_v26, val_main_v25, val_main_v24, val_main_cst, val_main_cst_0, val_main_cst_1]
  simp only [resid_apply, normed]

end

end Cert.Reference4Ideal.Moe

namespace Cert.Kernel4Ideal.Moe

open Cert.Kernel4Ideal Cert.Kernel4Ideal.Gen Cert.Kernel4Ideal.Value Idealize.ShloMosaic Idealize.ShloMosaic.TcCoe Idealize.SL.Sem
open Cert.KernelIdeal.Moe (step step_eq fin_eq shared_apply Finite)
open Cert.ReferenceIdeal.Moe (expert shared normed)
open Cert.Reference4Ideal.Moe (resid)
open Cert.Moe (nth sum_nth steps)

variable (m : (ℓ : Loc nD τ sig) → Buf (Elt Ideal) ℓ) (c : Dev nD)

/-- The gates of the launch are finite. -/
abbrev FiniteGates : Prop := Finite (m ((c : Thread nD τ).loc main_arg1))

/-- What expert number `e` adds to element `d` of token `t`, from the launch's arguments; nothing when there is no such expert. -/
abbrev ex (t : Fin 8192) (d : Fin 1024) : ℕ → EReal :=
  nth (expert (m ((c : Thread nD τ).loc main_arg0)) (m ((c : Thread nD τ).loc main_arg1)) (m ((c : Thread nD τ).loc main_arg4))
    (m ((c : Thread nD τ).loc main_arg5)) (m ((c : Thread nD τ).loc main_arg6)) t d)

/-- What the shared expert gives, from the launch's arguments. -/
abbrev sh (t : Fin 8192) (d : Fin 1024) : EReal :=
  shared (m ((c : Thread nD τ).loc main_arg0)) (m ((c : Thread nD τ).loc main_arg7)) (m ((c : Thread nD τ).loc main_arg8))
    (m ((c : Thread nD τ).loc main_arg9)) t d

variable {m c}

/-- The step of point `t`, at an element. -/
theorem step_at (hg : FiniteGates m c) (t : Fin cfg0.N) (acc : Vec Ideal S1024x1024 .f32) (r d : Fin 1024) :
    step (grid0.coords t 1).val (iblk m c 0 t) (iblk m c 1 t) (iblk m c 4 t) (iblk m c 5 t) (iblk m c 6 t) acc (ix2 r d)
      = acc (ix2 r d) + (ex m c (row t r) d (2 * (t.val % 32)) + ex m c (row t r) d (2 * (t.val % 32) + 1)) := by
  have hj : t.val % 32 < 32 := Nat.mod_lt _ (by decide)
  have h0 : 2 * (t.val % 32) < 64 := by omega
  have h1 : 2 * (t.val % 32) + 1 < 64 := by omega
  have e0 : exp t 0 = ⟨2 * (t.val % 32), h0⟩ := Fin.ext (by show t.val % 32 * 2 + 0 = 2 * (t.val % 32); omega)
  have e1 : exp t 1 = ⟨2 * (t.val % 32) + 1, h1⟩ := Fin.ext (by show t.val % 32 * 2 + 1 = 2 * (t.val % 32) + 1; omega)
  rw [(idx t).2.2.2.2.2.2.2.2.2.2.2]
  rw [step_eq _ hj _ _ _ _ _ _ r d (fun x => by rw [read_g]; exact hg _)]
  simp only [read_h, read_g, read_wg, read_wu, read_wd, e0, e1]
  unfold ex nth
  rw [dif_pos h0, dif_pos h1]
  rfl

/-- The accumulator after point `n`: the shared expert and the experts so far. -/
theorem acc_at (hg : FiniteGates m c) (r d : Fin 1024) : ∀ (n : ℕ) (h : n < cfg0.N),
    (outsAt0 m c n h).2 (ix2 r d)
      = sh m c (row ⟨n, h⟩ r) d + ∑ e ∈ Finset.range (2 * (n % 32 + 1)), ex m c (row ⟨n, h⟩ r) d e := by
  refine steps (fun n h => (outsAt0 m c n h).2 (ix2 r d)) (fun n h => sh m c (row ⟨n, h⟩ r) d) (fun n h => ex m c (row ⟨n, h⟩ r) d)
    (fun n h h0 => ?_) (fun n h h0 => ?_) (fun n h h0 => ?_)
  · rw [outsAt0_A m c ⟨n, h⟩ h0 (by dsimp only; omega)]
    dsimp only
    rw [sout_A, step_at hg, shared_apply]
    simp only [read_h, read_sg, read_su, read_sd]
    rfl
  · by_cases h1 : (n + 1) % 32 = 31
    · rw [outsAt0_C m c ⟨n + 1, h⟩ h0 h1]
      dsimp only
      rw [sout_C, step_at hg]
      rfl
    · rw [outsAt0_B m c ⟨n + 1, h⟩ h0 h1]
      dsimp only
      rw [sout_B, step_at hg]
      rfl
  · have hr : row ⟨n + 1, h⟩ r = row ⟨n, Nat.lt_of_succ_lt h⟩ r := Fin.ext (by show (n + 1) / 32 * 1024 + r.val = n / 32 * 1024 + r.val; omega)
    rw [hr]
    exact ⟨rfl, rfl⟩

variable (m c) in
/-- The array the reference computes from the launch's arguments, at an element. -/
abbrev want (t : Fin 8192) (d : Fin 1024) : EReal :=
  normed (resid (m ((c : Thread nD τ).loc main_arg2)) (m ((c : Thread nD τ).loc main_arg3))
    (fun d => sh m c t d + ∑ e : Fin 64, expert (m ((c : Thread nD τ).loc main_arg0)) (m ((c : Thread nD τ).loc main_arg1)) (m ((c : Thread nD τ).loc main_arg4))
      (m ((c : Thread nD τ).loc main_arg5)) (m ((c : Thread nD τ).loc main_arg6)) t d e) t)
    (fun d => m ((c : Thread nD τ).loc main_arg10) (ix1 d)) d

/-- The last point of a row tile leaves the finished rows. -/
theorem out_at (hg : FiniteGates m c) (t : Fin cfg0.N) (h1 : t.val % 32 = 31) (r d : Fin 1024) :
    (outsAt0 m c t.val t.isLt).1 (ix2 r d) = want m c (row t r) d := by
  have h0 : ¬t.val % 32 = 0 := by omega
  have hacc : ∀ k : Fin 1024, step (grid0.coords t 1).val (iblk m c 0 t) (iblk m c 1 t) (iblk m c 4 t) (iblk m c 5 t) (iblk m c 6 t)
        (outsAt0 m c (t.val - 1) (Nat.lt_of_le_of_lt (Nat.sub_le _ _) t.isLt)).2 (ix2 r k)
      = sh m c (row t r) k + ∑ e : Fin 64, expert (m ((c : Thread nD τ).loc main_arg0)) (m ((c : Thread nD τ).loc main_arg1)) (m ((c : Thread nD τ).loc main_arg4))
      (m ((c : Thread nD τ).loc main_arg5)) (m ((c : Thread nD τ).loc main_arg6)) (row t r) k e := fun k => by
    have e := acc_at hg r k t.val t.isLt
    rw [outsAt0_C m c t h0 h1] at e
    dsimp only at e
    rw [sout_C, h1, sum_nth] at e
    exact e
  rw [outsAt0_C m c t h0 h1]
  dsimp only
  rw [out_C, fin_eq]
  simp only [hacc, read_x, read_mod, read_fg]
  simp only [want, normed, resid]

/-- The result array, at an element. -/
theorem G_at (hg : FiniteGates m c) (t : Fin 8192) (d : Fin 1024) : G11 m c (ix2 t d) = want m c t d := by
  have ht := t.isLt
  have hd := d.isLt
  have hp : pt11Of (ix2 t d) = 32 * (t.val / 1024) + 31 := by
    unfold pt11Of run11Of
    show 32 * (1 * (t.val / 1024 - 0) + 1 * (d.val / 1024 - 0)) + 31 = _
    omega
  have hlt : pt11Of (ix2 t d) < cfg0.N := by rw [hp, show cfg0.N = 256 from N_0]; omega
  unfold G11
  rw [dif_pos hlt, ← outsAt0_sweep m c _ hlt]
  have hl : loc11Of (ix2 t d) = ix2 (n0 := 1024) (n1 := 1024) ⟨t.val % 1024, Nat.mod_lt _ (by decide)⟩ d := by
    funext a
    match a with
    | ⟨0, _⟩ => rfl
    | ⟨1, _⟩ => exact Fin.ext (Nat.mod_eq_of_lt hd)
  rw [hl, out_at hg ⟨pt11Of (ix2 t d), hlt⟩ (by dsimp only; rw [hp]; omega)]
  have hr : row ⟨pt11Of (ix2 t d), hlt⟩ ⟨t.val % 1024, Nat.mod_lt _ (by decide)⟩ = t := Fin.ext (by
    show pt11Of (ix2 t d) / 32 * 1024 + t.val % 1024 = t.val
    rw [hp]; omega)
  rw [hr]

/-- So the kernel's array is the reference's. -/
theorem G_eq (hg : FiniteGates m c) : G11 m c = Cert.Reference4Ideal.Read.val_main_v37 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) := by
  funext i
  obtain ⟨t, d, rfl⟩ : ∃ (t : Fin 8192) (d : Fin 1024), i = ix2 t d := ⟨i 0, i 1, by funext a; match a with | ⟨0, _⟩ => rfl | ⟨1, _⟩ => rfl⟩
  rw [G_at hg, Cert.Reference4Ideal.Moe.out_apply]

end Cert.Kernel4Ideal.Moe

end
-- ==== Proof.PromptMoe.lean ====
module

public import proofs.«01_k».proof.Defs
public import proofs.«01_k».proof.Proof.Finite
public import proofs.«01_k».proof.Proof.PromptMoeFold
public import proofs.«01_k».proof.Proof.Gen.Pre_finite_prompt_gates
public import Idealize.ShloMosaic.Lib.Claim

/-! The mixture of experts on the prompt: the kernel and its reference leave one array. -/

@[expose] public section

noncomputable section

namespace Cert.PromptMoe

open Idealize.ShloMosaic Idealize.ShloMosaic.TcCoe Idealize.SL.Sem

theorem algebraic : Cert.algebraic_Kernel4Ideal_Reference4Ideal_pre_finite_prompt_gates := by
  intro m g m' g' hpre hagree
  refine ⟨fun c => Cert.Kernel4Ideal.Value.G11 m c, Cert.Kernel4Ideal.Value.run m g, ?_⟩
  refine (θ_run Cert.Reference4Ideal.defs _ _).mono (fun _ h c => ?_) (Cert.Reference4Ideal.Value.run (F := Ideal) m' g')
  refine ⟨(h c).1.trans ?_, (h c).2⟩
  rw [Cert.Reference4Ideal.Read.val_main_v37_eq]
  obtain ⟨h0, h1, h2, h3, h4, h5, h6, h7, h8, h9, h10⟩ := hagree c
  rw [h0, h1, h2, h3, h4, h5, h6, h7, h8, h9, h10]
  exact (Cert.Kernel4Ideal.Moe.G_eq (m := m) (c := c) (fun i => Cert.Finite.prompt_gates (hpre c) i)).symm

end Cert.PromptMoe

end
-- ==== Proof.PromptInReads.lean ====
module

public import proofs.«01_k».proof.Proof.Gen.Kernel5Ideal.Value
public import Idealize.ShloMosaic.Lib.Pipeline.ValueKit
public import Idealize.ShloMosaic.Lib.Pointwise

/-! Which elements of the prompt's arguments the blocks of one grid point of the input projection hold: as for the sample, but
    every tile reads the one row of modulation. -/

@[expose] public section

set_option maxRecDepth 16384

noncomputable section

namespace Cert.Kernel5Ideal.In

open Cert.Kernel5Ideal Cert.Kernel5Ideal.Gen Idealize.ShloMosaic Idealize.ShloMosaic.TcCoe Idealize.SL.Sem

variable (m : (ℓ : Loc nD τ sig) → Buf (Elt Ideal) ℓ) (c : Dev nD)

/-- The block indices of the windows. -/
theorem idx : ∀ t : Fin cfg0.N,
    (win0_0.index t (0 : Fin 2) = t.val ∧ win0_0.index t (1 : Fin 2) = 0)
    ∧ (win0_1.index t (0 : Fin 3) = 0 ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) := by
  decide +kernel

theorem lt_N (t : Fin cfg0.N) : t.val < 16 := lt_of_lt_of_eq t.isLt N_0

/-- The row of the arrays that row `r` of point `t`'s tile is. -/
abbrev row (t : Fin cfg0.N) (r : Fin 512) : Fin 8192 := ⟨t.val * 512 + r.val, by have := lt_N t; omega⟩

theorem read_x (t : Fin cfg0.N) (r : Fin 512) (k : Fin 1024) :
    iblk m c 0 t (ix2 r k) = m ((c : Thread nD τ).loc main_arg0) (ix2 (row t r) k) := by
  blk_ext [iblk, V, idx t]

theorem read_mod (t : Fin cfg0.N) (s : Fin 6) (k : Fin 1024) :
    iblk m c 1 t (ix3 0 s k) = m ((c : Thread nD τ).loc main_arg1) (ix3 (0 : Fin 1) s k) := by
  blk_ext [iblk, V, idx t]

theorem read_g (t : Fin cfg0.N) (k : Fin 1024) :
    iblk m c 2 t (ix2 0 k) = m ((c : Thread nD τ).loc main_arg2) (ix1 k) := by
  blk_ext! [iblk, V, idx t]

/-- The first slab of weights: 1040 columns of the matrix, then columns of zeros. -/
theorem slab_a (k : Fin 1024) (q : Fin 1152) :
    V m c main_v8 (ix2 k q) = if h : q.val < 1040 then m ((c : Thread nD τ).loc main_arg3) (ix2 k (⟨q.val, by omega⟩ : Fin 4128)) else (0 : EReal) := by
  entry_read
  pointwise []

theorem read_wa (t : Fin cfg0.N) (k : Fin 1024) (q : Fin 1152) : iblk m c 3 t (ix2 k q) = V m c main_v8 (ix2 k q) := by
  blk_ext [iblk, idx t]

theorem read_wb (t : Fin cfg0.N) (k : Fin 1024) (q : Fin 1280) :
    iblk m c 4 t (ix2 k q) = m ((c : Thread nD τ).loc main_arg3) (ix2 k (⟨1040 + q.val, by omega⟩ : Fin 4128)) := by
  blk_ext! [iblk, V, idx t]

/-- The third slab of weights: 1040 columns of the matrix, then columns of zeros. -/
theorem slab_c (k : Fin 1024) (q : Fin 1152) :
    V m c main_v10 (ix2 k q) = if h : q.val < 1040 then m ((c : Thread nD τ).loc main_arg3) (ix2 k (⟨2320 + q.val, by omega⟩ : Fin 4128)) else (0 : EReal) := by
  entry_read
  pointwise []

theorem read_wc (t : Fin cfg0.N) (k : Fin 1024) (q : Fin 1152) : iblk m c 5 t (ix2 k q) = V m c main_v10 (ix2 k q) := by
  blk_ext [iblk, idx t]

theorem read_wd (t : Fin cfg0.N) (k : Fin 1024) (q : Fin 768) :
    iblk m c 6 t (ix2 k q) = m ((c : Thread nD τ).loc main_arg3) (ix2 k (⟨3360 + q.val, by omega⟩ : Fin 4128)) := by
  blk_ext! [iblk, V, idx t]

end Cert.Kernel5Ideal.In

end
-- ==== Proof.PromptInRef.lean ====
module

public import proofs.«01_k».proof.Proof.Gen.Reference5Ideal.Read
public import proofs.«01_k».proof.Proof.InPay

/-! What the reference of the input projection computes on the prompt, element by element. -/

@[expose] public section

set_option maxRecDepth 16384

noncomputable section

namespace Cert.Reference5Ideal.In

open Cert.Reference5Ideal Cert.Reference5Ideal.Read Idealize.ShloMosaic Idealize.SL.Sem
open Cert.Kernel3Ideal.In (modulated)

/-- Token `t`'s row, normed and modulated by the prompt's one shift and scale. -/
def hid (x : Vec Ideal S8192x1024 .f32) (mod : Vec Ideal S1x6x1024 .f32) (g : Vec Ideal S1024 .f32) (t : Fin 8192) (k : Fin 1024) : EReal :=
  modulated (fun j => x (ix2 t j)) (fun j => g (ix1 j)) (fun j => mod (ix3 0 0 j))
    (fun j => mod (ix3 0 1 j)) k

/-- The projection of token `t`, column `q`. -/
def proj (x : Vec Ideal S8192x1024 .f32) (mod : Vec Ideal S1x6x1024 .f32) (g : Vec Ideal S1024 .f32) (w : Vec Ideal S1024x4128 .f32)
    (t : Fin 8192) (q : Fin 4128) : EReal :=
  ∑ k : Fin 1024, hid x mod g t k * w (ix2 k q)

section
variable (x : Vec Ideal S8192x1024 .f32) (mod : Vec Ideal S1x6x1024 .f32) (g : Vec Ideal S1024 .f32) (w : Vec Ideal S1024x4128 .f32)

theorem hid_apply (t : Fin 8192) (k : Fin 1024) :
    val_main_v25 (F := Ideal) x mod g (ix3 (n0 := 32) (n1 := 256) ⟨t.val / 256, by omega⟩ ⟨t.val % 256, by omega⟩ k) = hid x mod g t k := by
  have ht : (⟨t.val / 256 * 256 + t.val % 256, by omega⟩ : Fin 8192) = t := Fin.ext (Nat.div_add_mod' ..)
  pointwise [val_main_v25, val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2]
  simp only [hid, modulated, ht]

theorem proj_apply (t : Fin 8192) (q : Fin 4128) : val_main_v27 (F := Ideal) x mod g w (ix2 t q) = proj x mod g w t q := by
  pointwise [val_main_v27, val_main_v26]
  simp only [hid_apply, proj]

theorem a_apply (t : Fin 8192) (q : Fin 1152) :
    val_main_v30 (F := Ideal) x mod g w (ix2 t q) = if h : q.val < 1040 then proj x mod g w t ⟨q.val, by omega⟩ else 0 := by
  pointwise [val_main_v30, val_main_v29, val_main_v28, val_main_cst_3]
  simp only [proj_apply]

theorem b_apply (t : Fin 8192) (q : Fin 1280) :
    val_main_v31 (F := Ideal) x mod g w (ix2 t q) = proj x mod g w t ⟨1040 + q.val, by omega⟩ := by
  pointwise [val_main_v31]
  simp only [proj_apply]

theorem c_apply (t : Fin 8192) (q : Fin 1152) :
    val_main_v33 (F := Ideal) x mod g w (ix2 t q) = if h : q.val < 1040 then proj x mod g w t ⟨2320 + q.val, by omega⟩ else 0 := by
  pointwise [val_main_v33, val_main_v32, val_main_v28, val_main_cst_3]
  simp only [proj_apply]

theorem d_apply (t : Fin 8192) (q : Fin 768) :
    val_main_v34 (F := Ideal) x mod g w (ix2 t q) = proj x mod g w t ⟨3360 + q.val, by omega⟩ := by
  pointwise [val_main_v34]
  simp only [proj_apply]

end

end Cert.Reference5Ideal.In

end
-- ==== Proof.PromptInArr.lean ====
module

public import proofs.«01_k».proof.Proof.PromptInReads
public import proofs.«01_k».proof.Proof.PromptInRef

/-! The four result arrays of the input projection on the prompt hold what the reference says. The products are the sample's, by
    the lemmas of `InPay.lean`. -/

@[expose] public section

set_option maxRecDepth 16384

noncomputable section

namespace Cert.Kernel5Ideal.In

open Cert.Kernel5Ideal Cert.Kernel5Ideal.Gen Idealize.ShloMosaic Idealize.ShloMosaic.TcCoe Idealize.SL.Sem
open Cert.Reference5Ideal.In (hid proj)

variable (m : (ℓ : Loc nD τ sig) → Buf (Elt Ideal) ℓ) (c : Dev nD)

/-- What the body multiplies by the weights is the reference's normed and modulated row. -/
theorem hid_eq (t : Fin cfg0.N) (r : Fin 512) (k : Fin 1024) :
    k0_pay3 (F := Ideal) (iblk m c 0 t) (iblk m c 2 t) (View.ld (iblk m c 1 t) r0_2) (View.ld (iblk m c 1 t) r0_3) (ix2 r k)
      = hid (m ((c : Thread nD τ).loc main_arg0)) (m ((c : Thread nD τ).loc main_arg1)) (m ((c : Thread nD τ).loc main_arg2)) (row t r) k := by
  have h2 (j : Fin 1024) : View.ld (iblk m c 1 t) r0_2 (ix3 0 0 j) = iblk m c 1 t (ix3 0 0 j) := by pointwise [r0_2]
  have h3 (j : Fin 1024) : View.ld (iblk m c 1 t) r0_3 (ix3 0 0 j) = iblk m c 1 t (ix3 0 1 j) := by pointwise [r0_3]
  refine (Cert.Kernel3Ideal.In.h_apply _ _ _ _ r k).trans ?_
  simp only [h2, h3, read_x, read_g, read_mod, hid]

/-- The same row, in the name under which the last two products read it. -/
theorem hid_eq' (t : Fin cfg0.N) (r : Fin 512) (k : Fin 1024) :
    k0_pay6 (F := Ideal) (iblk m c 0 t) (iblk m c 1 t) (iblk m c 2 t) (iblk m c 3 t) (iblk m c 4 t) (iblk m c 5 t) (iblk m c 6 t) (ix2 r k)
      = hid (m ((c : Thread nD τ).loc main_arg0)) (m ((c : Thread nD τ).loc main_arg1)) (m ((c : Thread nD τ).loc main_arg2)) (row t r) k := by
  have h0 (j : Fin 1024) : View.ld (iblk m c 0 t) r0_0 (ix2 r j) = iblk m c 0 t (ix2 r j) := by pointwise [r0_0]
  have h1 (j : Fin 1024) : View.ld (iblk m c 2 t) r0_1 (ix2 0 j) = iblk m c 2 t (ix2 0 j) := by pointwise [r0_1]
  rw [← hid_eq]
  refine (Cert.Kernel3Ideal.In.h_apply _ _ _ _ r k).trans ((Cert.Kernel3Ideal.In.h_apply _ _ _ _ r k).trans ?_).symm
  simp only [h0, h1]

theorem block_a (t : Fin cfg0.N) (r : Fin 512) (q : Fin 1152) :
    k0_pay4 (F := Ideal) (iblk m c 0 t) (iblk m c 2 t) (View.ld (iblk m c 1 t) r0_2) (View.ld (iblk m c 1 t) r0_3) (iblk m c 3 t) (ix2 r q)
      = Cert.Reference5Ideal.Read.val_main_v30 (F := Ideal) (m ((c : Thread nD τ).loc main_arg0))
      (m ((c : Thread nD τ).loc main_arg1)) (m ((c : Thread nD τ).loc main_arg2)) (m ((c : Thread nD τ).loc main_arg3)) (ix2 (row t r) q) := by
  rw [Cert.Reference5Ideal.In.a_apply]
  refine (Cert.Kernel3Ideal.In.a_apply _ _ _ _ _ r q).trans ?_
  refine (Finset.sum_congr rfl fun k _ => congrArg₂ (· * ·) (hid_eq m c t r k) ((read_wa m c t k q).trans (slab_a m c k q))).trans ?_
  by_cases h : q.val < 1040
  · simp only [dif_pos h, proj]
  · simp only [dif_neg h, mul_zero, Finset.sum_const_zero]

theorem block_b (t : Fin cfg0.N) (r : Fin 512) (q : Fin 1280) :
    k0_pay5 (F := Ideal) (iblk m c 0 t) (iblk m c 2 t) (View.ld (iblk m c 1 t) r0_2) (View.ld (iblk m c 1 t) r0_3) (iblk m c 4 t) (ix2 r q)
      = Cert.Reference5Ideal.Read.val_main_v31 (F := Ideal) (m ((c : Thread nD τ).loc main_arg0))
      (m ((c : Thread nD τ).loc main_arg1)) (m ((c : Thread nD τ).loc main_arg2)) (m ((c : Thread nD τ).loc main_arg3)) (ix2 (row t r) q) := by
  rw [Cert.Reference5Ideal.In.b_apply]
  refine (Cert.Kernel3Ideal.In.b_apply _ _ _ _ _ r q).trans ?_
  exact Finset.sum_congr rfl fun k _ => congrArg₂ (· * ·) (hid_eq m c t r k) (read_wb m c t k q)

theorem block_c (t : Fin cfg0.N) (r : Fin 512) (q : Fin 1152) :
    k0_pay1 (F := Ideal) (k0_pay6 (iblk m c 0 t) (iblk m c 1 t) (iblk m c 2 t) (iblk m c 3 t) (iblk m c 4 t) (iblk m c 5 t) (iblk m c 6 t)) (iblk m c 5 t) (ix2 r q)
      = Cert.Reference5Ideal.Read.val_main_v33 (F := Ideal) (m ((c : Thread nD τ).loc main_arg0))
      (m ((c : Thread nD τ).loc main_arg1)) (m ((c : Thread nD τ).loc main_arg2)) (m ((c : Thread nD τ).loc main_arg3)) (ix2 (row t r) q) := by
  rw [Cert.Reference5Ideal.In.c_apply]
  refine (Cert.Kernel3Ideal.In.c_apply _ _ r q).trans ?_
  refine (Finset.sum_congr rfl fun k _ => congrArg₂ (· * ·) (hid_eq' m c t r k) ((read_wc m c t k q).trans (slab_c m c k q))).trans ?_
  by_cases h : q.val < 1040
  · simp only [dif_pos h, proj]
  · simp only [dif_neg h, mul_zero, Finset.sum_const_zero]

theorem block_d (t : Fin cfg0.N) (r : Fin 512) (q : Fin 768) :
    k0_pay2 (F := Ideal) (k0_pay6 (iblk m c 0 t) (iblk m c 1 t) (iblk m c 2 t) (iblk m c 3 t) (iblk m c 4 t) (iblk m c 5 t) (iblk m c 6 t)) (iblk m c 6 t) (ix2 r q)
      = Cert.Reference5Ideal.Read.val_main_v34 (F := Ideal) (m ((c : Thread nD τ).loc main_arg0))
      (m ((c : Thread nD τ).loc main_arg1)) (m ((c : Thread nD τ).loc main_arg2)) (m ((c : Thread nD τ).loc main_arg3)) (ix2 (row t r) q) := by
  rw [Cert.Reference5Ideal.In.d_apply]
  refine (Cert.Kernel3Ideal.In.d_apply _ _ r q).trans ?_
  exact Finset.sum_congr rfl fun k _ => congrArg₂ (· * ·) (hid_eq' m c t r k) (read_wd m c t k q)

theorem arr_a : (dats m 0 c).arrAt 7 cfg0.N = Cert.Reference5Ideal.Read.val_main_v30 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 7 _ (by decide +kernel) fun t hf y => ?_
  obtain ⟨r, q, rfl⟩ : ∃ (r : Fin 512) (q : Fin 1152), y = ix2 r q := ⟨y 0, y 1, by funext a; fin_cases a <;> rfl⟩
  have he : ((cfg0.win 7).blk t).view.emb (ix2 r q) = ix2 (row t r) q := by
    funext a; fin_cases a <;> apply Fin.ext <;> blk_simp <;> simp [idx t]
  rw [he]
  blk_simp
  rw [after0_7]
  frame_out
  exact block_a m c t r q

theorem arr_b : (dats m 0 c).arrAt 8 cfg0.N = Cert.Reference5Ideal.Read.val_main_v31 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 8 _ (by decide +kernel) fun t hf y => ?_
  obtain ⟨r, q, rfl⟩ : ∃ (r : Fin 512) (q : Fin 1280), y = ix2 r q := ⟨y 0, y 1, by funext a; fin_cases a <;> rfl⟩
  have he : ((cfg0.win 8).blk t).view.emb (ix2 r q) = ix2 (row t r) q := by
    funext a; fin_cases a <;> apply Fin.ext <;> blk_simp <;> simp [idx t]
  rw [he]
  blk_simp
  rw [after0_8]
  frame_out
  exact block_b m c t r q

theorem arr_c : (dats m 0 c).arrAt 9 cfg0.N = Cert.Reference5Ideal.Read.val_main_v33 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 9 _ (by decide +kernel) fun t hf y => ?_
  obtain ⟨r, q, rfl⟩ : ∃ (r : Fin 512) (q : Fin 1152), y = ix2 r q := ⟨y 0, y 1, by funext a; fin_cases a <;> rfl⟩
  have he : ((cfg0.win 9).blk t).view.emb (ix2 r q) = ix2 (row t r) q := by
    funext a; fin_cases a <;> apply Fin.ext <;> blk_simp <;> simp [idx t]
  rw [he]
  blk_simp
  rw [after0_9]
  frame_out
  exact block_c m c t r q

theorem arr_d : (dats m 0 c).arrAt 10 cfg0.N = Cert.Reference5Ideal.Read.val_main_v34 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 10 _ (by decide +kernel) fun t hf y => ?_
  obtain ⟨r, q, rfl⟩ : ∃ (r : Fin 512) (q : Fin 768), y = ix2 r q := ⟨y 0, y 1, by funext a; fin_cases a <;> rfl⟩
  have he : ((cfg0.win 10).blk t).view.emb (ix2 r q) = ix2 (row t r) q := by
    funext a; fin_cases a <;> apply Fin.ext <;> blk_simp <;> simp [idx t]
  rw [he]
  blk_simp
  rw [after0_10]
  frame_out
  exact block_d m c t r q

end Cert.Kernel5Ideal.In

end
-- ==== Proof.PromptIn.lean ====
module

public import proofs.«01_k».proof.Defs
public import proofs.«01_k».proof.Proof.PromptInArr
public import Idealize.ShloMosaic.Lib.Claim

/-! The input projection on the prompt: the kernel and its reference leave the same four arrays. -/

@[expose] public section

noncomputable section

namespace Cert.PromptIn

open Idealize.ShloMosaic Idealize.ShloMosaic.TcCoe Idealize.SL.Sem

theorem algebraic : Cert.algebraic_Kernel5Ideal_Reference5Ideal := by
  intro m g m' g' _ hagree
  refine ⟨_, _, _, _, Cert.Kernel5Ideal.Value.run_blocks m g, ?_⟩
  refine (θ_run Cert.Reference5Ideal.defs _ _).mono (fun _ h c => ?_) (Cert.Reference5Ideal.Value.run (F := Ideal) m' g')
  obtain ⟨h0, h1, h2, h3⟩ := hagree c
  obtain ⟨ha, hb, hc, hd, hk⟩ := h c
  rw [Cert.Reference5Ideal.Read.val_main_v30_eq, h0, h1, h2, h3] at ha
  rw [Cert.Reference5Ideal.Read.val_main_v31_eq, h0, h1, h2, h3] at hb
  rw [Cert.Reference5Ideal.Read.val_main_v33_eq, h0, h1, h2, h3] at hc
  rw [Cert.Reference5Ideal.Read.val_main_v34_eq, h0, h1, h2, h3] at hd
  exact ⟨ha.trans (Cert.Kernel5Ideal.In.arr_a m c).symm, hb.trans (Cert.Kernel5Ideal.In.arr_b m c).symm,
    hc.trans (Cert.Kernel5Ideal.In.arr_c m c).symm, hd.trans (Cert.Kernel5Ideal.In.arr_d m c).symm, hk⟩

end Cert.PromptIn

end
-- ==== Proof.PromptOutReads.lean ====
module

public import proofs.«01_k».proof.Proof.Gen.Kernel6Ideal.Value
public import proofs.«01_k».proof.Proof.OutReads
public import Idealize.ShloMosaic.Lib.Pipeline.ValueKit
public import Idealize.ShloMosaic.Lib.Pointwise
public import Idealize.ShloMosaic.Lib.Routing.OpsOne

/-! Which elements of the arguments the blocks of one grid point of the output projection at the prompt's shapes hold: point `t` works on rows
    `512 * t` to `512 * t + 511`; the router's weights and its bias are widened from 64 columns to 128. -/

@[expose] public section

set_option maxRecDepth 16384

noncomputable section

namespace Cert.Kernel6Ideal.Out

open Cert.Kernel6Ideal Cert.Kernel6Ideal.Gen Idealize.ShloMosaic Idealize.ShloMosaic.TcCoe Idealize.SL.Sem
open Cert.Kernel2Ideal.Out (wide widened widened_row ofBits_ninf)

variable (m : (ℓ : Loc nD τ sig) → Buf (Elt Ideal) ℓ) (c : Dev nD)

/-- The block indices of the windows. -/
theorem idx : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 3) = 0 ∧ win0_6.index t (1 : Fin 3) = 0 ∧ win0_6.index t (2 : Fin 3) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0) := by
  decide +kernel

theorem lt_N (t : Fin cfg0.N) : t.val < 16 := lt_of_lt_of_eq t.isLt N_0

/-- The row of the arrays that row `r` of point `t`'s tile is. -/
abbrev row (t : Fin cfg0.N) (r : Fin 512) : Fin 8192 := ⟨t.val * 512 + r.val, by have := lt_N t; omega⟩

theorem read_x (t : Fin cfg0.N) (r : Fin 512) (k : Fin 1024) :
    iblk m c 0 t (ix2 r k) = m ((c : Thread nD τ).loc main_arg0) (ix2 (row t r) k) := by
  blk_ext [iblk, V, idx t]

theorem read_ya (t : Fin cfg0.N) (r : Fin 512) (k : Fin 256) :
    iblk m c 1 t (ix2 r k) = m ((c : Thread nD τ).loc main_arg1) (ix2 (row t r) k) := by
  blk_ext [iblk, V, idx t]

theorem read_yb (t : Fin cfg0.N) (r : Fin 512) (k : Fin 256) :
    iblk m c 2 t (ix2 r k) = m ((c : Thread nD τ).loc main_arg2) (ix2 (row t r) k) := by
  blk_ext [iblk, V, idx t]

theorem read_yc (t : Fin cfg0.N) (r : Fin 512) (k : Fin 256) :
    iblk m c 3 t (ix2 r k) = m ((c : Thread nD τ).loc main_arg3) (ix2 (row t r) k) := by
  blk_ext [iblk, V, idx t]

theorem read_yd (t : Fin cfg0.N) (r : Fin 512) (k : Fin 256) :
    iblk m c 4 t (ix2 r k) = m ((c : Thread nD τ).loc main_arg4) (ix2 (row t r) k) := by
  blk_ext [iblk, V, idx t]

theorem read_w (t : Fin cfg0.N) (j k : Fin 1024) :
    iblk m c 5 t (ix2 j k) = m ((c : Thread nD τ).loc main_arg5) (ix2 j k) := by
  blk_ext! [iblk, V, idx t]

theorem read_mod (t : Fin cfg0.N) (s : Fin 6) (k : Fin 1024) :
    iblk m c 6 t (ix3 0 s k) = m ((c : Thread nD τ).loc main_arg6) (ix3 (0 : Fin 1) s k) := by
  blk_ext [iblk, V, idx t]

theorem read_g (t : Fin cfg0.N) (k : Fin 1024) :
    iblk m c 7 t (ix2 0 k) = m ((c : Thread nD τ).loc main_arg7) (ix1 k) := by
  blk_ext! [iblk, V, idx t]

theorem columns : scatter_S1024x128_S1_S1024x64_01_n_1_0 = Cert.Kernel2Ideal.scatter_S1024x128_S1_S1024x64_01_n_1_0 := rfl

theorem lanes : scatter_S1x128_S2_S64_0_0_01_0 = Cert.Kernel2Ideal.scatter_S1x128_S2_S64_0_0_01_0 := rfl

theorem slab_h (k : Fin 1024) (q : Fin 128) : V m c main_v4 (ix2 k q) = wide (m ((c : Thread nD τ).loc main_arg8)) k q := by
  entry_read
  pointwise []
  rw [columns, widened]
  · pointwise [wide]
  · intro _; rfl

theorem slab_l (k : Fin 1024) (q : Fin 128) :
    V m c main_v7 (ix2 k q) = wide (m ((c : Thread nD τ).loc main_arg8)) k q - wide (m ((c : Thread nD τ).loc main_arg8)) k q := by
  entry_read
  pointwise []
  rw [columns, widened]
  · pointwise [wide]
  · intro _; rfl

theorem bias_row (q : Fin 128) :
    V m c main_v12 (ix2 0 q) = if h : q.val < 64 then m ((c : Thread nD τ).loc main_arg9) (ix1 ⟨q.val, h⟩) else (⊥ : EReal) := by
  entry_read
  pointwise []
  rw [lanes, widened_row]
  · pointwise []
    rw [ofBits_ninf]
  · intro a; pointwise []; split <;> rfl

theorem read_rwh (t : Fin cfg0.N) (k : Fin 1024) (q : Fin 128) : iblk m c 8 t (ix2 k q) = V m c main_v4 (ix2 k q) := by
  show V m c main_v4 (((cfg0.win 8).blk t).view.emb (ix2 k q)) = _
  congr 1
  funext a; fin_cases a <;> apply Fin.ext <;> blk_simp <;> simp [idx t]

theorem read_rwl (t : Fin cfg0.N) (k : Fin 1024) (q : Fin 128) : iblk m c 9 t (ix2 k q) = V m c main_v7 (ix2 k q) := by
  show V m c main_v7 (((cfg0.win 9).blk t).view.emb (ix2 k q)) = _
  congr 1
  funext a; fin_cases a <;> apply Fin.ext <;> blk_simp <;> simp [idx t]

theorem read_rb (t : Fin cfg0.N) (q : Fin 128) : iblk m c 10 t (ix2 0 q) = V m c main_v12 (ix2 0 q) := by
  show V m c main_v12 (((cfg0.win 10).blk t).view.emb (ix2 0 q)) = _
  congr 1
  funext a; fin_cases a <;> apply Fin.ext <;> blk_simp <;> simp [idx t]

end Cert.Kernel6Ideal.Out

end
-- ==== Proof.PromptOutRef.lean ====
module

public import proofs.«01_k».proof.Proof.Gen.Reference6Ideal.Read
public import proofs.«01_k».proof.Proof.OutRef

/-! The reference of the output projection at the prompt's shapes computes what the sample's does, when each of the sample's
    sequences is given the prompt's one modulation: tokens are treated one by one, and the shapes differ only in how they are grouped. -/

@[expose] public section

set_option maxRecDepth 16384

noncomputable section

namespace Cert.Reference6Ideal.Out

open Cert.Reference6Ideal Cert.Reference6Ideal.Read Idealize.ShloMosaic Idealize.SL.Sem
open Cert.Kernel3Ideal.In (modulated)
open Cert.Reference2Ideal.Out (x1 h2 cat)

variable (x : Vec Ideal S8192x1024 .f32) (ya yb yc yd : Vec Ideal S8192x256 .bf16) (w : Vec Ideal S1024x1024 .f32) (mod : Vec Ideal S1x6x1024 .f32)
  (g : Vec Ideal S1024 .f32) (rw_ : Vec Ideal S1024x64 .f32) (rb : Vec Ideal S64 .f32)

/-- The prompt's modulation, once for each of eight sequences. -/
def spread : Vec Ideal Cert.Reference2Ideal.S8x6x1024 .f32 := fun i => mod (ix3 0 (i 1) (i 2))

theorem cat_apply (t : Fin 8192) (k : Fin 1024) : val_main_v1 (F := Ideal) ya yb yc yd (ix2 t k) = cat ya yb yc yd t k :=
  Cert.Reference2Ideal.Out.cat_apply ya yb yc yd t k

theorem x1_apply (t : Fin 8192) (k : Fin 1024) :
    val_main_v10 (F := Ideal) x ya yb yc yd w mod (ix3 (n0 := 32) (n1 := 256) ⟨t.val / 256, by omega⟩ ⟨t.val % 256, by omega⟩ k)
      = x1 x ya yb yc yd w (spread mod) t k := by
  have ht : (⟨t.val / 256 * 256 + t.val % 256, by omega⟩ : Fin 8192) = t := Fin.ext (Nat.div_add_mod' ..)
  pointwise [val_main_v10, val_main_v9, val_main_v8, val_main_v7, val_main_v6, val_main_v5, val_main_v4, val_main_v3, val_main_v2]
  simp only [cat_apply, x1, ht]
  rfl

theorem h2_apply (t : Fin 8192) (k : Fin 1024) : val_main_v36 (F := Ideal) x ya yb yc yd w mod g (ix2 t k) = h2 x ya yb yc yd w (spread mod) g t k := by
  pointwise [val_main_v36, val_main_v35, val_main_v34, val_main_v33, val_main_v32, val_main_v31, val_main_v30, val_main_v29, val_main_v28, val_main_v27,
    val_main_v26, val_main_v25, val_main_v24, val_main_v23, val_main_v22, val_main_v21, val_main_v20, val_main_v19, val_main_v18, val_main_v17, val_main_v16,
    val_main_v15, val_main_v14, val_main_v13, val_main_v12, val_main_v11, val_main_cst, val_main_cst_0, val_main_cst_1, val_main_cst_2]
  simp only [x1_apply, h2, modulated]
  rfl

theorem normed : val_main_v36 (F := Ideal) x ya yb yc yd w mod g
    = Cert.Reference2Ideal.Read.val_main_v36 (F := Ideal) x ya yb yc yd w (spread mod) g := by
  funext i
  obtain ⟨t, k, rfl⟩ : ∃ (t : Fin 8192) (k : Fin 1024), i = ix2 t k := ⟨i 0, i 1, by funext a; fin_cases a <;> rfl⟩
  exact (h2_apply x ya yb yc yd w mod g t k).trans (Cert.Reference2Ideal.Out.h2_apply x ya yb yc yd w (spread mod) g t k).symm

theorem out1 : val_main_v56 (F := Ideal) x ya yb yc yd w mod
    = Cert.Reference2Ideal.Read.val_main_v56 (F := Ideal) x ya yb yc yd w (spread mod) := by
  funext i
  obtain ⟨t, k, rfl⟩ : ∃ (t : Fin 8192) (k : Fin 1024), i = ix2 t k := ⟨i 0, i 1, by funext a; fin_cases a <;> rfl⟩
  refine Eq.trans ?_ (Cert.Reference2Ideal.Out.out1_apply x ya yb yc yd w (spread mod) t k).symm
  pointwise [val_main_v56]
  simp only [x1_apply]

theorem out2 : val_main_v57 (F := Ideal) x ya yb yc yd w mod g
    = Cert.Reference2Ideal.Read.val_main_v57 (F := Ideal) x ya yb yc yd w (spread mod) g := by
  rw [val_main_v57, normed]
  rfl

theorem scores : val_main_v43 (F := Ideal) x ya yb yc yd w mod g rw_
    = Cert.Reference2Ideal.Read.val_main_v43 (F := Ideal) x ya yb yc yd w (spread mod) g rw_ := by
  rw [val_main_v43, val_main_v42, val_main_v41, val_main_v40, val_main_v39, val_main_v38, val_main_v37, normed]
  rfl

theorem biased : val_main_v46 (F := Ideal) x ya yb yc yd w mod g rw_ rb
    = Cert.Reference2Ideal.Read.val_main_v46 (F := Ideal) x ya yb yc yd w (spread mod) g rw_ rb := by
  rw [val_main_v46, scores]
  rfl

/-- The listed experts are the same, and so are their scores, and with them the row of gates. -/
theorem listed : val_main_indices (F := Ideal) x ya yb yc yd w mod g rw_ rb
    = Cert.Reference2Ideal.Read.val_main_indices (F := Ideal) x ya yb yc yd w (spread mod) g rw_ rb := by
  rw [val_main_indices, biased]
  rfl

theorem places : val_main_call0_v5 (F := Ideal) x ya yb yc yd w mod g rw_ rb
    = Cert.Reference2Ideal.Read.val_main_call0_v5 (F := Ideal) x ya yb yc yd w (spread mod) g rw_ rb := by
  simp only [val_main_call0_v5, val_main_call0_v4, val_main_call0_v3, val_main_call0_v1, listed]
  rfl

theorem within : val_main_call0_v11 (F := Ideal) x ya yb yc yd w mod g rw_ rb
    = Cert.Reference2Ideal.Read.val_main_call0_v11 (F := Ideal) x ya yb yc yd w (spread mod) g rw_ rb := by
  rw [val_main_call0_v11, val_main_call0_v10, val_main_call0_v7, places]
  rfl

theorem allWithin : val_main_call0_v12 (F := Ideal) x ya yb yc yd w mod g rw_ rb
    = Cert.Reference2Ideal.Read.val_main_call0_v12 (F := Ideal) x ya yb yc yd w (spread mod) g rw_ rb := by
  rw [val_main_call0_v12, within]
  rfl

theorem gathered : val_main_call0_v13 (F := Ideal) x ya yb yc yd w mod g rw_ rb
    = Cert.Reference2Ideal.Read.val_main_call0_v13 (F := Ideal) x ya yb yc yd w (spread mod) g rw_ rb := by
  rw [val_main_call0_v13, places, scores]
  rfl

theorem taken : val_main_v47 (F := Ideal) x ya yb yc yd w mod g rw_ rb
    = Cert.Reference2Ideal.Read.val_main_v47 (F := Ideal) x ya yb yc yd w (spread mod) g rw_ rb := by
  rw [val_main_v47, allWithin, gathered]
  rfl

theorem total : val_main_v48 (F := Ideal) x ya yb yc yd w mod g rw_ rb
    = Cert.Reference2Ideal.Read.val_main_v48 (F := Ideal) x ya yb yc yd w (spread mod) g rw_ rb := by
  rw [val_main_v48, taken]
  rfl

theorem weights : val_main_v53 (F := Ideal) x ya yb yc yd w mod g rw_ rb
    = Cert.Reference2Ideal.Read.val_main_v53 (F := Ideal) x ya yb yc yd w (spread mod) g rw_ rb := by
  rw [val_main_v53, val_main_v51, val_main_v50, val_main_v49, total, taken]
  rfl

theorem hot : val_main_v54 (F := Ideal) x ya yb yc yd w mod g rw_ rb
    = Cert.Reference2Ideal.Read.val_main_v54 (F := Ideal) x ya yb yc yd w (spread mod) g rw_ rb := by
  rw [val_main_v54, val_main_call1_v4, val_main_call1_v2, val_main_call1_v0, listed]
  rfl

theorem gates : val_main_v55 (F := Ideal) x ya yb yc yd w mod g rw_ rb
    = Cert.Reference2Ideal.Read.val_main_v55 (F := Ideal) x ya yb yc yd w (spread mod) g rw_ rb := by
  rw [val_main_v55, weights, hot]
  rfl

theorem out3 : val_main_v59 (F := Ideal) x ya yb yc yd w mod g rw_ rb
    = Cert.Reference2Ideal.Read.val_main_v59 (F := Ideal) x ya yb yc yd w (spread mod) g rw_ rb := by
  rw [val_main_v59, gates]
  rfl

end Cert.Reference6Ideal.Out

end
-- ==== Proof.PromptOutArr.lean ====
module

public import proofs.«01_k».proof.Proof.OutBlock
public import proofs.«01_k».proof.Proof.PromptOutReads
public import proofs.«01_k».proof.Proof.PromptOutRef

/-! At the prompt's shapes, too, the three result arrays of the output projection and router hold what the reference says. -/

@[expose] public section

set_option maxRecDepth 16384

noncomputable section

namespace Cert.Kernel6Ideal.Out

open Cert.Kernel6Ideal Cert.Kernel6Ideal.Gen Idealize.ShloMosaic Idealize.ShloMosaic.TcCoe Idealize.SL.Sem
open Cert.Reference6Ideal.Out (spread)
open Cert.Kernel2Ideal.Out (Holds AllReal block_x1 row_h2 block_gates hh_apply)

variable (m : (ℓ : Loc nD τ sig) → Buf (Elt Ideal) ℓ) (c : Dev nD)

/-- The ten arguments. -/
abbrev A0 : Vec Ideal S8192x1024 .f32 := m ((c : Thread nD τ).loc main_arg0)
abbrev A1 : Vec Ideal S8192x256 .bf16 := m ((c : Thread nD τ).loc main_arg1)
abbrev A2 : Vec Ideal S8192x256 .bf16 := m ((c : Thread nD τ).loc main_arg2)
abbrev A3 : Vec Ideal S8192x256 .bf16 := m ((c : Thread nD τ).loc main_arg3)
abbrev A4 : Vec Ideal S8192x256 .bf16 := m ((c : Thread nD τ).loc main_arg4)
abbrev A5 : Vec Ideal S1024x1024 .f32 := m ((c : Thread nD τ).loc main_arg5)
abbrev A6 : Vec Ideal S1x6x1024 .f32 := m ((c : Thread nD τ).loc main_arg6)
abbrev A7 : Vec Ideal S1024 .f32 := m ((c : Thread nD τ).loc main_arg7)
abbrev A8 : Vec Ideal S1024x64 .f32 := m ((c : Thread nD τ).loc main_arg8)
abbrev A9 : Vec Ideal S64 .f32 := m ((c : Thread nD τ).loc main_arg9)

theorem holds (t : Fin cfg0.N) :
    Holds (iblk m c 0 t) (iblk m c 1 t) (iblk m c 2 t) (iblk m c 3 t) (iblk m c 4 t) (iblk m c 5 t) (iblk m c 6 t) (iblk m c 7 t)
      (iblk m c 8 t) (iblk m c 9 t) (iblk m c 10 t) (A0 m c) (A1 m c) (A2 m c) (A3 m c) (A4 m c) (A5 m c) (spread (A6 m c)) (A7 m c) (A8 m c)
      (A9 m c) (row t) where
  x := read_x m c t
  ya := read_ya m c t
  yb := read_yb m c t
  yc := read_yc m c t
  yd := read_yd m c t
  w := read_w m c t
  mod _ s k := read_mod m c t s k
  g := read_g m c t
  rh k q := (read_rwh m c t k q).trans (slab_h m c k q)
  rl k q := (read_rwl m c t k q).trans (slab_l m c k q)
  rb q := (read_rb m c t q).trans (bias_row m c q)

theorem arr_x1 : (dats m 0 c).arrAt 11 cfg0.N
    = Cert.Reference6Ideal.Read.val_main_v56 (F := Ideal) (A0 m c) (A1 m c) (A2 m c) (A3 m c) (A4 m c) (A5 m c) (A6 m c) := by
  rw [Cert.Reference6Ideal.Out.out1]
  refine (dats m 0 c).arrAt_eq_of_covers 11 _ (by decide +kernel) fun t hf y => ?_
  obtain ⟨r, q, rfl⟩ : ∃ (r : Fin 512) (q : Fin 1024), y = ix2 r q := ⟨y 0, y 1, by funext a; fin_cases a <;> rfl⟩
  have he : ((cfg0.win 11).blk t).view.emb (ix2 r q) = ix2 (row t r) q := by
    funext a; fin_cases a <;> apply Fin.ext <;> blk_simp <;> simp [idx t]
  rw [he]
  blk_simp
  rw [after0_11]
  frame_out
  exact (block_x1 (holds m c t) r q).trans (Cert.Reference2Ideal.Out.out1_apply _ _ _ _ _ _ _ _ _).symm

theorem arr_h2 : (dats m 0 c).arrAt 12 cfg0.N
    = Cert.Reference6Ideal.Read.val_main_v57 (F := Ideal) (A0 m c) (A1 m c) (A2 m c) (A3 m c) (A4 m c) (A5 m c) (A6 m c) (A7 m c) := by
  rw [Cert.Reference6Ideal.Out.out2]
  refine (dats m 0 c).arrAt_eq_of_covers 12 _ (by decide +kernel) fun t hf y => ?_
  obtain ⟨r, q, rfl⟩ : ∃ (r : Fin 512) (q : Fin 1024), y = ix2 r q := ⟨y 0, y 1, by funext a; fin_cases a <;> rfl⟩
  have he : ((cfg0.win 12).blk t).view.emb (ix2 r q) = ix2 (row t r) q := by
    funext a; fin_cases a <;> apply Fin.ext <;> blk_simp <;> simp [idx t]
  rw [he]
  blk_simp
  rw [after0_12]
  frame_out
  exact (hh_apply _ _ _ _ r q).trans ((row_h2 (holds m c t) r q).trans (Cert.Reference2Ideal.Out.out2_apply _ _ _ _ _ _ _ _ _ _).symm)

theorem arr_gates (H : AllReal (A0 m c) (A1 m c) (A2 m c) (A3 m c) (A4 m c) (A5 m c) (spread (A6 m c)) (A7 m c) (A8 m c) (A9 m c)) : (dats m 0 c).arrAt 13 cfg0.N
    = Cert.Reference6Ideal.Read.val_main_v59 (F := Ideal) (A0 m c) (A1 m c) (A2 m c) (A3 m c) (A4 m c) (A5 m c) (A6 m c) (A7 m c) (A8 m c) (A9 m c) := by
  rw [Cert.Reference6Ideal.Out.out3]
  refine (dats m 0 c).arrAt_eq_of_covers 13 _ (by decide +kernel) fun t hf y => ?_
  obtain ⟨r, q, rfl⟩ : ∃ (r : Fin 512) (q : Fin 128), y = ix2 r q := ⟨y 0, y 1, by funext a; fin_cases a <;> rfl⟩
  have he : ((cfg0.win 13).blk t).view.emb (ix2 r q) = ix2 (row t r) q := by
    funext a; fin_cases a <;> apply Fin.ext <;> blk_simp <;> simp [idx t]
  rw [he]
  blk_simp
  rw [after0_13]
  frame_out
  exact block_gates (holds m c t) H r q

end Cert.Kernel6Ideal.Out

end
-- ==== Proof.PromptOut.lean ====
module

public import proofs.«01_k».proof.Defs
public import proofs.«01_k».proof.Proof.PromptOutArr
public import proofs.«01_k».proof.Proof.Gen.Pre_finite_prompt_out
public import Idealize.ShloMosaic.Lib.Claim

/-! The output projection with the router, at the prompt's shapes: the kernel and its reference leave the same three arrays. -/

@[expose] public section

noncomputable section

namespace Cert.PromptOut

open Idealize.ShloMosaic Idealize.ShloMosaic.TcCoe Idealize.SL.Sem

theorem algebraic : Cert.algebraic_Kernel6Ideal_Reference6Ideal_pre_finite_prompt_out := by
  intro m g m' g' hpre hagree
  refine ⟨_, _, _, Cert.Kernel6Ideal.Value.run_blocks m g, ?_⟩
  refine (θ_run Cert.Reference6Ideal.defs _ _).mono (fun _ h c => ?_) (Cert.Reference6Ideal.Value.run (F := Ideal) m' g')
  obtain ⟨h0, h1, h2, h3, h4, h5, h6, h7, h8, h9⟩ := hagree c
  obtain ⟨ha, hb, hc, hk⟩ := h c
  have e1 := ha.trans (Cert.Reference6Ideal.Read.val_main_v56_eq _)
  have e2 := hb.trans (Cert.Reference6Ideal.Read.val_main_v57_eq _)
  have e3 := hc.trans (Cert.Reference6Ideal.Read.val_main_v59_eq _)
  simp only [StableHlo.launchContents] at e1 e2 e3
  rw [h0, h1, h2, h3, h4, h5, h6] at e1
  rw [h0, h1, h2, h3, h4, h5, h6, h7] at e2
  rw [h0, h1, h2, h3, h4, h5, h6, h7, h8, h9] at e3
  obtain ⟨r0, r1, r2, r3, r4, r5, r6, r7, r8, r9⟩ := Cert.Finite.prompt_out (hpre c)
  exact ⟨e1.trans (Cert.Kernel6Ideal.Out.arr_x1 m c).symm, e2.trans (Cert.Kernel6Ideal.Out.arr_h2 m c).symm,
    e3.trans (Cert.Kernel6Ideal.Out.arr_gates m c ⟨r0, r1, r2, r3, r4, r5, fun _ => r6 _, r7, r8, r9⟩).symm, hk⟩

end Cert.PromptOut

end
-- ==== Proof.ModArr.lean ====
module

public import proofs.«01_k».proof.Proof.Gen.Kernel7Ideal.Value
public import proofs.«01_k».proof.Proof.Gen.Reference7Ideal.Read
public import proofs.«01_k».proof.Proof.OutBlock
public import Idealize.ShloMosaic.Lib.Pipeline.ValueKit
public import Idealize.ShloMosaic.Lib.Pointwise

/-! The modulation: point `t` computes columns `1536 * t` to `1536 * t + 1535` of the product of the activated conditions with the
    weights. The body takes the product in three parts, of which one remains when the conditions and the weights are finite. -/

@[expose] public section

set_option maxRecDepth 16384

noncomputable section

namespace Cert.Kernel7Ideal.Mod

open Cert.Kernel7Ideal Cert.Kernel7Ideal.Gen Idealize.ShloMosaic Idealize.ShloMosaic.TcCoe Idealize.SL.Sem
open Cert.Kernel2Ideal.Out (score three_sums)
open Cert.Finite

variable (m : (ℓ : Loc nD τ sig) → Buf (Elt Ideal) ℓ) (c : Dev nD)

/-- The block indices of the windows. -/
theorem idx : ∀ t : Fin cfg0.N,
    (win0_0.index t (0 : Fin 2) = 0 ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val) := by
  decide +kernel

theorem lt_N (t : Fin cfg0.N) : t.val < 4 := lt_of_lt_of_eq t.isLt N_0

/-- The column of the arrays that column `q` of point `t`'s tile is. -/
abbrev col (t : Fin cfg0.N) (q : Fin 1536) : Fin 6144 := ⟨t.val * 1536 + q.val, by have := lt_N t; omega⟩

/-- The three arguments. -/
abbrev A0 : Vec Ideal S16x1024 .f32 := m ((c : Thread nD τ).loc main_arg0)
abbrev A1 : Vec Ideal S1024x6144 .f32 := m ((c : Thread nD τ).loc main_arg1)
abbrev A2 : Vec Ideal S6144 .f32 := m ((c : Thread nD τ).loc main_arg2)

theorem read_c (t : Fin cfg0.N) (r : Fin 16) (k : Fin 1024) : iblk m c 0 t (ix2 r k) = A0 m c (ix2 r k) := by
  blk_ext [iblk, V, idx t]

theorem read_w (t : Fin cfg0.N) (k : Fin 1024) (q : Fin 1536) : iblk m c 1 t (ix2 k q) = A1 m c (ix2 k (col t q)) := by
  blk_ext [iblk, V, idx t]

theorem read_b (t : Fin cfg0.N) (q : Fin 1536) : iblk m c 2 t (ix2 0 q) = A2 m c (ix1 (col t q)) := by
  blk_ext! [iblk, V, idx t]

/-- A condition through its activation. -/
def act (x : EReal) : EReal := x * score x

theorem act_real {x : EReal} (h : IsReal x) : IsReal (act x) := h.mul h.score.1

theorem body_apply (x : Vec Ideal S16x1024 .f32) (w : Vec Ideal S1024x1536 .f32) (b : Vec Ideal S1x1536 .f32) (r : Fin 16) (q : Fin 1536) :
    k0_pay1 (F := Ideal) x w b (ix2 r q)
      = ((∑ k : Fin 1024, act (x (ix2 r k)) * w (ix2 k q)) + (∑ k : Fin 1024, (act (x (ix2 r k)) - act (x (ix2 r k))) * w (ix2 k q))
        + ∑ k : Fin 1024, act (x (ix2 r k)) * (w (ix2 k q) - w (ix2 k q))) + b (ix2 0 q) := by
  pointwise [k0_pay1]
  simp only [act, score, zero_sub]

theorem result_apply (x : Vec Ideal S16x1024 .f32) (w : Vec Ideal S1024x6144 .f32) (b : Vec Ideal S6144 .f32) (r : Fin 16) (q : Fin 6144) :
    Cert.Reference7Ideal.Read.val_main_v4 (F := Ideal) x w b (ix2 r q) = (∑ k : Fin 1024, act (x (ix2 r k)) * w (ix2 k q)) + b (ix1 q) := by
  open Cert.Reference7Ideal.Read in
  pointwise [val_main_v4, val_main_v3, val_main_v2, val_main_v1, val_main_v0, val_main_call0_v5, val_main_call0_v4, val_main_call0_v3,
    val_main_call0_v2, val_main_call0_v1, val_main_call0_v0, val_main_call0_cst, val_main_call0_cst_0]
  simp only [act, score]

variable (hx : ∀ i, IsReal (A0 m c i)) (hw : ∀ i, IsReal (A1 m c i))
include hx hw

theorem block (t : Fin cfg0.N) (r : Fin 16) (q : Fin 1536) :
    k0_pay1 (F := Ideal) (iblk m c 0 t) (iblk m c 1 t) (iblk m c 2 t) (ix2 r q)
      = Cert.Reference7Ideal.Read.val_main_v4 (F := Ideal) (A0 m c) (A1 m c) (A2 m c) (ix2 r (col t q)) := by
  rw [body_apply, result_apply]
  simp only [read_c, read_w, read_b]
  exact congrArg (· + _) (three_sums _ _ _ _ _ (fun _ => rfl) (fun _ => rfl) (fun _ => (hw _).sub_self) fun _ => (act_real (hx _)).sub_self)

theorem arr : (dats m 0 c).arrAt 3 cfg0.N = Cert.Reference7Ideal.Read.val_main_v4 (F := Ideal) (A0 m c) (A1 m c) (A2 m c) := by
  refine (dats m 0 c).arrAt_eq_of_covers 3 _ (by decide +kernel) fun t hf y => ?_
  obtain ⟨r, q, rfl⟩ : ∃ (r : Fin 16) (q : Fin 1536), y = ix2 r q := ⟨y 0, y 1, by funext a; fin_cases a <;> rfl⟩
  have he : ((cfg0.win 3).blk t).view.emb (ix2 r q) = ix2 r (col t q) := by
    funext a; fin_cases a <;> apply Fin.ext <;> blk_simp <;> simp [idx t]
  rw [he]
  blk_simp
  rw [after0_3]
  frame_out
  exact block m c hx hw t r q

end Cert.Kernel7Ideal.Mod

end
-- ==== Proof.Mod.lean ====
module

public import proofs.«01_k».proof.Defs
public import proofs.«01_k».proof.Proof.ModArr
public import proofs.«01_k».proof.Proof.Gen.Pre_finite_mod
public import Idealize.ShloMosaic.Lib.Claim

/-! The modulation: the kernel and its reference leave the same array. -/

@[expose] public section

noncomputable section

namespace Cert.Mod

open Idealize.ShloMosaic Idealize.ShloMosaic.TcCoe Idealize.SL.Sem

theorem algebraic : Cert.algebraic_Kernel7Ideal_Reference7Ideal_pre_finite_mod := by
  intro m g m' g' hpre hagree
  refine ⟨_, Cert.Kernel7Ideal.Value.run_blocks m g, ?_⟩
  refine (θ_run Cert.Reference7Ideal.defs _ _).mono (fun _ h c => ?_) (Cert.Reference7Ideal.Value.run (F := Ideal) m' g')
  obtain ⟨h0, h1, h2⟩ := hagree c
  obtain ⟨ha, hk⟩ := h c
  rw [Cert.Reference7Ideal.Read.val_main_v4_eq, h0, h1, h2] at ha
  obtain ⟨hx, hw⟩ := Cert.Finite.modulation (hpre c)
  exact ⟨ha.trans (Cert.Kernel7Ideal.Mod.arr m c hx hw).symm, hk⟩

end Cert.Mod

end
-- ==== Proof.FilterMath.lean ====
module

public import proofs.«01_k».proof.Proof.Reals

/-! The arithmetic of the Hyena filter over the extended reals. A product split into bf16 parts differs from the plain one only
    where both are infinite (`Alike`); a sine doesn't tell the infinities apart, and a column that holds one has an infinite sum
    of squares, so that its scale is zero. -/

@[expose] public section

noncomputable section

namespace Cert.Filter

open Idealize.ShloMosaic Cert.Finite

/-- The same finite number, or both not finite. -/
def Alike (x y : EReal) : Prop := (IsReal x ∧ x = y) ∨ (¬ IsReal x ∧ ¬ IsReal y)

theorem not_isReal {x : EReal} : ¬ IsReal x ↔ x = ⊤ ∨ x = ⊥ := by
  induction x using EReal.rec with
  | bot => simp [IsReal]
  | coe r => simp [IsReal]
  | top => simp [IsReal]

theorem Alike.refl (x : EReal) : Alike x x := by
  by_cases h : IsReal x
  · exact .inl ⟨h, rfl⟩
  · exact .inr ⟨h, h⟩

/-- A product with an infinite factor is finite only where the other factor is zero. -/
theorem not_isReal_mul {x y : EReal} (hx : ¬ IsReal x) (hy : y ≠ 0) : ¬ IsReal (x * y) := by
  rw [not_isReal] at hx ⊢
  rcases lt_or_gt_of_ne hy with h | h <;> rcases hx with rfl | rfl
  · exact .inr (EReal.top_mul_of_neg h)
  · exact .inl (EReal.bot_mul_of_neg h)
  · exact .inl (EReal.top_mul_of_pos h)
  · exact .inr (EReal.bot_mul_of_pos h)

theorem not_isReal_add {x y : EReal} (hx : ¬ IsReal x) : ¬ IsReal (x + y) := by
  rw [not_isReal] at hx ⊢
  rcases hx with rfl | rfl
  · by_cases h : y = ⊥
    · exact .inr (by rw [h, EReal.add_bot])
    · exact .inl (EReal.top_add_of_ne_bot h)
  · exact .inr (EReal.bot_add y)

theorem Alike.add_right {x y : EReal} (h : Alike x y) (c : EReal) : Alike (x + c) (y + c) := by
  rcases h with ⟨_, rfl⟩ | ⟨hx, hy⟩
  · exact .refl _
  · exact .inr ⟨not_isReal_add hx, not_isReal_add hy⟩

theorem Alike.mul_right {x y : EReal} (h : Alike x y) (c : EReal) : Alike (x * c) (y * c) := by
  rcases h with ⟨_, rfl⟩ | ⟨hx, hy⟩
  · exact .refl _
  · by_cases h0 : c = 0
    · rw [h0, mul_zero, mul_zero]; exact .refl _
    · exact .inr ⟨not_isReal_mul hx h0, not_isReal_mul hy h0⟩

theorem Alike.mul_left {x y : EReal} (h : Alike x y) (c : EReal) : Alike (c * x) (c * y) := by
  rw [mul_comm c x, mul_comm c y]; exact h.mul_right c

theorem Alike.sin_eq {x y : EReal} (h : Alike x y) : Ideal.sin x = Ideal.sin y := by
  rcases h with ⟨_, rfl⟩ | ⟨hx, hy⟩
  · rfl
  · rw [not_isReal] at hx hy
    rcases hx with rfl | rfl <;> rcases hy with rfl | rfl <;> rfl

theorem not_isReal_sum {n : ℕ} {f : Fin n → EReal} {k : Fin n} (h : ¬ IsReal (f k)) : ¬ IsReal (∑ k, f k) := by
  rw [← Finset.add_sum_erase _ _ (Finset.mem_univ k)]
  exact not_isReal_add h

/-- A product of a row with a column, each split into what a narrowing keeps and what it leaves over. -/
def split3 {n : ℕ} (x w : Fin n → EReal) : EReal :=
  ((∑ k, x k * w k) + ∑ k, (x k - x k) * w k) + ∑ k, x k * (w k - w k)

/-- Nothing is left over of a product that is finite. -/
theorem left_over {x w : EReal} (h : IsReal (x * w)) : (x - x) * w = 0 ∧ x * (w - w) = 0 := by
  have hc (a : EReal) : IsReal a ∨ ¬ IsReal a := em _
  constructor
  · rcases hc x with hx | hx
    · rw [hx.sub_self, zero_mul]
    · by_cases h0 : w = 0
      · rw [h0, mul_zero]
      · exact absurd h (not_isReal_mul hx h0)
  · rcases hc w with hw | hw
    · rw [hw.sub_self, mul_zero]
    · by_cases h0 : x = 0
      · rw [h0, zero_mul]
      · exact absurd (mul_comm x w ▸ h) (not_isReal_mul hw h0)

theorem split3_alike {n : ℕ} (x w : Fin n → EReal) : Alike (split3 x w) (∑ k, x k * w k) := by
  by_cases h : ∀ k, IsReal (x k * w k)
  · have e : split3 x w = ∑ k, x k * w k := by
      simp only [split3, fun k => (left_over (h k)).1, fun k => (left_over (h k)).2, Finset.sum_const_zero, add_zero]
    rw [e]; exact .refl _
  · obtain ⟨k, hk⟩ := not_forall.mp h
    have hs : ¬ IsReal (∑ k, x k * w k) := not_isReal_sum hk
    exact .inr ⟨not_isReal_add (not_isReal_add hs), hs⟩

/-- A sine layer: the split product against the plain one. -/
theorem layer_eq {n : ℕ} {f f' b b' : EReal} {x x' w w' : Fin n → EReal} (hf : f = f') (hx : ∀ k, x k = x' k) (hw : ∀ k, w k = w' k)
    (hb : b = b') : Ideal.sin (f * (split3 x w + b)) = Ideal.sin (f' * ((∑ k, x' k * w' k) + b')) := by
  obtain rfl : x = x' := funext hx
  obtain rfl : w = w' := funext hw
  subst hf hb
  exact (((split3_alike _ _).add_right _).mul_left _).sin_eq

theorem product_alike {n : ℕ} {x x' w w' : Fin n → EReal} (hx : ∀ k, x k = x' k) (hw : ∀ k, w k = w' k) :
    Alike (split3 x w) (∑ k, x' k * w' k) := by
  obtain rfl : x = x' := funext hx
  obtain rfl : w = w' := funext hw
  exact split3_alike _ _

/-- A column's scale. -/
def root (s : EReal) : EReal := Ideal.rsqrt (s + Ideal.ofBits .f32 897988541#32)

theorem root_top : root ⊤ = 0 := by
  obtain ⟨e, -, he⟩ := ofBits_eps
  rw [root, he, EReal.top_add_coe, Ideal.rsqrt_top]

theorem root_real {a : ℝ} (ha : 0 ≤ a) : IsReal (root a) := by
  obtain ⟨e, hp, he⟩ := ofBits_eps
  have h : 0 < a + e := by linarith
  rw [root, he, ← EReal.coe_add, Ideal.rsqrt_coe, if_neg h.le.not_gt, if_neg h.ne']
  exact ⟨_, rfl⟩

theorem square_top {x : EReal} (h : ¬ IsReal x) : x * x = ⊤ := by
  rcases not_isReal.mp h with rfl | rfl
  · exact EReal.top_mul_top
  · exact EReal.bot_mul_bot

theorem square_nonneg (x : EReal) : 0 ≤ x * x := by
  by_cases h : IsReal x
  · obtain ⟨r, rfl⟩ := h
    rw [← EReal.coe_mul]
    exact_mod_cast mul_self_nonneg r
  · rw [square_top h]; exact le_top

theorem sum_top {n : ℕ} {f : Fin n → EReal} (h0 : ∀ k, 0 ≤ f k) {k : Fin n} (h : f k = ⊤) : ∑ k, f k = ⊤ :=
  top_le_iff.mp (h ▸ Finset.single_le_sum (fun k _ => h0 k) (Finset.mem_univ k))

/-- The sum of squares of the two sides of a column. -/
def power {n : ℕ} (p q : Fin n → EReal) : EReal := ∑ k, (p k * p k + q k * q k)

theorem power_top {n : ℕ} {p q : Fin n → EReal} {k : Fin n} (h : ¬ (IsReal (p k) ∧ IsReal (q k))) : power p q = ⊤ := by
  have nn (k : Fin n) := add_nonneg (square_nonneg (p k)) (square_nonneg (q k))
  refine sum_top nn (k := k) ?_
  have nb (x : EReal) : x * x ≠ ⊥ := fun h => absurd (h ▸ square_nonneg x) (by simp)
  by_cases hp : IsReal (p k)
  · rw [square_top fun hq => h ⟨hp, hq⟩, EReal.add_top_of_ne_bot (nb _)]
  · rw [square_top hp, EReal.top_add_of_ne_bot (nb _)]

/-- Scaled, the two sides of a column are finite; what the kernel adds up first and scales then is what the reference scales
first. -/
theorem scaled {n : ℕ} {p q p' q' : Fin n → EReal} (hp : ∀ k, Alike (p k) (p' k)) (hq : ∀ k, Alike (q k) (q' k)) :
    ∃ P Q : Fin n → ℝ, (∀ k, p' k * root (power p' q') = P k) ∧ (∀ k, q' k * root (power p' q') = Q k)
      ∧ (∀ k, (p k + q k) * root (power p q) = ((P k + Q k : ℝ) : EReal))
      ∧ ∀ k, (p k - q k) * root (power p q) = ((P k - Q k : ℝ) : EReal) := by
  by_cases h : ∀ k, IsReal (p k) ∧ IsReal (q k)
  · have ep : p' = p := funext fun k => ((hp k).resolve_right fun hn => hn.1 (h k).1).2.symm
    have eq : q' = q := funext fun k => ((hq k).resolve_right fun hn => hn.1 (h k).2).2.symm
    subst ep eq
    choose a ha using fun k => (h k).1
    choose b hb using fun k => (h k).2
    have e : power p' q' = ((∑ k, (a k * a k + b k * b k) : ℝ) : EReal) := by
      rw [power, coe_sum]
      exact Finset.sum_congr rfl fun k _ => by rw [ha k, hb k, EReal.coe_add, EReal.coe_mul, EReal.coe_mul]
    obtain ⟨r, hr⟩ := root_real (Finset.sum_nonneg fun k (_ : k ∈ Finset.univ) => add_nonneg (mul_self_nonneg (a k)) (mul_self_nonneg (b k)))
    rw [e, hr]
    refine ⟨fun k => a k * r, fun k => b k * r, fun k => ?_, fun k => ?_, fun k => ?_, fun k => ?_⟩
    · rw [ha k, EReal.coe_mul]
    · rw [hb k, EReal.coe_mul]
    · rw [ha k, hb k, ← EReal.coe_add, ← EReal.coe_mul, add_mul]
    · rw [ha k, hb k, ← EReal.coe_sub, ← EReal.coe_mul, sub_mul]
  · obtain ⟨k, hk⟩ := not_forall.mp h
    have hk' : ¬ (IsReal (p' k) ∧ IsReal (q' k)) := fun ⟨h1, h2⟩ =>
      hk ⟨((hp k).resolve_right fun hn => hn.2 h1).1, ((hq k).resolve_right fun hn => hn.2 h2).1⟩
    rw [power_top hk, power_top hk', root_top]
    exact ⟨fun _ => 0, fun _ => 0, by simp, by simp, by simp, by simp⟩

/-- What the anti-causal side holds at a position: nothing at the first. -/
def later (r : Fin 256) (x : EReal) : EReal := Scalar.select (IntOp.cmpi .sgt (BitVec.ofNat 32 r.val) 0#32) x 0

/-- Whether a row of the transform is the first. -/
def first {n : ℕ} (r : Fin n) : BitVec 1 := IntOp.cmpi .eq (BitVec.ofNat 32 r.val) 0#32

theorem Alike.later {x y : EReal} (h : Alike x y) (r : Fin 256) : Alike (Filter.later r x) (Filter.later r y) := by
  unfold Filter.later Scalar.select
  split
  · exact h
  · exact .refl 0

/-- A transform of a column: the table in two parts, the column in two. -/
def transform {n : ℕ} (f g y : Fin n → EReal) : EReal :=
  ((∑ k, f k * y k) + ∑ k, g k * y k) + ∑ k, f k * (y k - y k)

theorem transform_eq {n : ℕ} {f g y : Fin n → EReal} {Y : Fin n → ℝ} (hf : ∀ k, IsReal (f k)) (hg : ∀ k, g k = f k - f k)
    (hy : ∀ k, y k = Y k) : transform f g y = ∑ k, f k * (Y k : EReal) := by
  have h0 k : (Y k : EReal) - Y k = 0 := IsReal.sub_self ⟨Y k, rfl⟩
  simp only [transform, hy, hg, fun k => (hf k).sub_self, h0, zero_mul, mul_zero, Finset.sum_const_zero, add_zero]

section
variable {n : ℕ} {p q p' q' f g : Fin n → EReal} (hp : ∀ k, Alike (p k) (p' k)) (hq : ∀ k, Alike (q k) (q' k))
  (hf : ∀ k, IsReal (f k)) (hg : ∀ k, g k = f k - f k)
include hp hq hf hg

theorem transform_add : transform f g (fun k => (p k + q k) * root (power p q))
    = (∑ k, f k * (p' k * root (power p' q'))) + ∑ k, f k * (q' k * root (power p' q')) := by
  obtain ⟨P, Q, h1, h2, h3, -⟩ := scaled hp hq
  choose F hF using hf
  rw [transform_eq (fun k => ⟨F k, hF k⟩) hg h3]
  simp only [h1, h2, hF, ← EReal.coe_mul, ← coe_sum, ← EReal.coe_add, ← Finset.sum_add_distrib, mul_add]

theorem transform_sub : transform f g (fun k => (p k - q k) * root (power p q))
    = (∑ k, f k * (p' k * root (power p' q'))) - ∑ k, f k * (q' k * root (power p' q')) := by
  obtain ⟨P, Q, h1, h2, -, h4⟩ := scaled hp hq
  choose F hF using hf
  rw [transform_eq (fun k => ⟨F k, hF k⟩) hg h4]
  simp only [h1, h2, hF, ← EReal.coe_mul, ← coe_sum, ← EReal.coe_sub, ← Finset.sum_sub_distrib, mul_sub]

end

end Cert.Filter

end
-- ==== Proof.FilterPay.lean ====
module

public import proofs.«01_k».proof.Proof.Gen.Kernel8Ideal.Skeleton
public import proofs.«01_k».proof.Proof.FilterMath
public import Idealize.ShloMosaic.Lib.Pointwise

/-! What the body of the Hyena filter computes, element by element. -/

@[expose] public section

set_option maxRecDepth 16384

noncomputable section

namespace Cert.Kernel8Ideal.Filter

open Cert.Kernel8Ideal Cert.Kernel8Ideal.Gen Idealize.ShloMosaic Idealize.SL.Sem
open Cert.Filter

theorem second_apply (v0 : Vec Ideal S1x64 .f32) (v2 : Vec Ideal S256x128 .f32) (v3 : Vec Ideal S128x64 .f32) (v18 : Vec Ideal S1x64 .f32)
    (v25 : Vec Ideal S64x64 .f32) (r : Fin 256) (q : Fin 64) :
    k0_pay4 (F := Ideal) v0 v2 v3 v18 v25 (ix2 r q)
      = split3 (fun k => Ideal.sin (v0 (ix2 0 k) * (split3 (fun j => v2 (ix2 r j)) (fun j => v3 (ix2 j k)) + v18 (ix2 0 k))))
          fun k => v25 (ix2 k q) := by
  pointwise [k0_pay4, k0_pay3]
  simp only [split3]

theorem third_apply (v1 : FVec Ideal S1x64 .f32) (v38 v41 : FVec Ideal S256x64 .f32) (v46 : Vec Ideal S64x1024 .f32) (r : Fin 256) (q : Fin 1024) :
    k0_pay6 (F := Ideal) v1 v38 v41 v46 (ix2 r q)
      = split3 (fun k => Ideal.sin (v1 (ix2 0 k) * (v38 (ix2 r k) + v41 (ix2 r k)))) fun k => v46 (ix2 k q) := by
  pointwise [k0_pay6]
  simp only [split3]

section
variable (v1 : FVec Ideal S1x64 .f32) (v38 v41 : FVec Ideal S256x64 .f32) (v46 : Vec Ideal S64x1024 .f32) (v60 : Vec Ideal S256x256 .f32)

theorem causal_apply (r q : Fin 256) :
    k0_pay9 (F := Ideal) v1 v38 v41 v46 v60 (ix2 r q) = k0_pay6 (F := Ideal) v1 v38 v41 v46 (ix2 r ⟨q.val, by omega⟩) * v60 (ix2 r q) := by
  pointwise [k0_pay9]

theorem anti_apply (r q : Fin 256) :
    k0_pay10 (F := Ideal) v1 v38 v41 v46 v60 (ix2 r q)
      = later r (k0_pay6 (F := Ideal) v1 v38 v41 v46 (ix2 r ⟨256 + q.val, by omega⟩) * v60 (ix2 r q)) := by
  pointwise [k0_pay10, k0_pay7, later]

theorem sum_apply (r q : Fin 256) :
    k0_pay14 (F := Ideal) v1 v38 v41 v46 v60 (ix2 r q)
      = k0_pay9 (F := Ideal) v1 v38 v41 v46 v60 (ix2 r q) + k0_pay10 (F := Ideal) v1 v38 v41 v46 v60 (ix2 r q) := by
  pointwise [k0_pay14]

theorem scale_apply (q : Fin 256) :
    k0_pay11 (F := Ideal) v1 v38 v41 v46 v60 (ix2 0 q)
      = root (power (fun k => k0_pay9 (F := Ideal) v1 v38 v41 v46 v60 (ix2 k q)) fun k => k0_pay10 (F := Ideal) v1 v38 v41 v46 v60 (ix2 k q)) := by
  pointwise [k0_pay11]
  simp only [root, power]

end

theorem sides_apply (v80 : FVec Ideal S1x256 .f32) (v82 v84 : FVec Ideal S512x256 .bf16) (v85 : FVec Ideal S256x256 .f32) (w : Fin 512) (q : Fin 256) :
    k0_pay15 (F := Ideal) v80 v82 v84 v85 (ix2 w q)
      = transform (fun k => v82 (ix2 w k)) (fun k => v84 (ix2 w k)) fun k => v85 (ix2 k q) * v80 (ix2 0 q) := by
  pointwise [k0_pay15]
  simp only [transform]

theorem upper_apply (v80 : FVec Ideal S1x256 .f32) (v82 v84 : FVec Ideal S512x256 .bf16) (v85 : FVec Ideal S256x256 .f32) (r q : Fin 256) :
    k0_pay16 (F := Ideal) v80 v82 v84 v85 (ix3 0 r q) = k0_pay15 (F := Ideal) v80 v82 v84 v85 (ix2 ⟨r.val, by omega⟩ q) := by
  pointwise [k0_pay16]

theorem lower_apply (v66 : IVec S256x256 1) (v68 v72 : FVec Ideal S256x256 .f32) (v80 : FVec Ideal S1x256 .f32) (v82 v84 : FVec Ideal S512x256 .bf16)
    (v85 : FVec Ideal S256x256 .f32) (v97 v99 : FVec Ideal S512x256 .bf16) (r q : Fin 256) :
    k0_pay17 (F := Ideal) v66 v68 v72 v80 v82 v84 v85 v97 v99 (ix3 0 r q)
      = Scalar.select (v66 (ix2 r q)) (k0_pay15 (F := Ideal) v80 v82 v84 v85 (ix2 ⟨256 + r.val, by omega⟩ q))
          (transform (fun k => v97 (ix2 ⟨256 + r.val, by omega⟩ k)) (fun k => v99 (ix2 ⟨256 + r.val, by omega⟩ k))
            fun k => (v68 (ix2 k q) - v72 (ix2 k q)) * v80 (ix2 0 q)) := by
  pointwise [k0_pay17]
  simp only [transform]

theorem causal1_apply (v59 : FVec Ideal S256x1024 .f32) (v60 : Vec Ideal S256x256 .f32) (r q : Fin 256) :
    k0_pay18 (F := Ideal) v59 v60 (ix2 r q) = v59 (ix2 r ⟨512 + q.val, by omega⟩) * v60 (ix2 r q) := by
  pointwise [k0_pay18]

theorem anti1_apply (v59 : FVec Ideal S256x1024 .f32) (v60 : Vec Ideal S256x256 .f32) (r q : Fin 256) :
    k0_pay20 (F := Ideal) k0_pay7 (k0_pay19 (F := Ideal) v59 v60) (Scalar.ofBits .f32 0x00000000#32) (ix2 r q)
      = later r (v59 (ix2 r ⟨768 + q.val, by omega⟩) * v60 (ix2 r q)) := by
  pointwise [k0_pay20, k0_pay19, k0_pay7, later]

theorem first_apply (r q : Fin 256) : k0_pay8 (ix2 r q) = first r := by
  pointwise [k0_pay8, first]

section
variable (v63 : IVec S256x256 1) (v124 v126 : FVec Ideal S256x256 .f32) (z : Ideal .f32) (h l : FVec Ideal S512x256 .bf16)

theorem scale1_apply (q : Fin 256) :
    k0_pay21 (F := Ideal) v63 v124 v126 z (ix2 0 q)
      = root (power (fun k => v124 (ix2 k q)) fun k => k0_pay20 (F := Ideal) v63 v126 z (ix2 k q)) := by
  pointwise [k0_pay21]
  simp only [root, power]

theorem sides1_apply (w : Fin 512) (q : Fin 256) :
    k0_pay22 (F := Ideal) v63 v124 v126 z h l (ix2 w q)
      = transform (fun k => h (ix2 w k)) (fun k => l (ix2 w k))
          fun k => (v124 (ix2 k q) + k0_pay20 (F := Ideal) v63 v126 z (ix2 k q)) * k0_pay21 (F := Ideal) v63 v124 v126 z (ix2 0 q) := by
  pointwise [k0_pay22]
  simp only [transform]

theorem differences1_apply (w : Fin 512) (q : Fin 256) :
    k0_pay23 (F := Ideal) v63 v124 v126 z h l (ix2 w q)
      = transform (fun k => h (ix2 w k)) (fun k => l (ix2 w k))
          fun k => (v124 (ix2 k q) - k0_pay20 (F := Ideal) v63 v126 z (ix2 k q)) * k0_pay21 (F := Ideal) v63 v124 v126 z (ix2 0 q) := by
  pointwise [k0_pay23]
  simp only [transform]

theorem upper1_apply (r q : Fin 256) :
    k0_pay1 (F := Ideal) (k0_pay24 (F := Ideal) v63 v124 v126 z h l) (ix3 0 r q)
      = k0_pay22 (F := Ideal) v63 v124 v126 z h l (ix2 ⟨r.val, by omega⟩ q) := by
  pointwise [k0_pay1, k0_pay24]

theorem lower1_apply (v66 : IVec S256x256 1) (v152 v168 : FVec Ideal S512x256 .f32) (r q : Fin 256) :
    k0_pay2 (F := Ideal) v66 v152 v168 (ix3 0 r q)
      = Scalar.select (v66 (ix2 r q)) (v152 (ix2 ⟨256 + r.val, by omega⟩ q)) (v168 (ix2 ⟨256 + r.val, by omega⟩ q)) := by
  pointwise [k0_pay2]

end

end Cert.Kernel8Ideal.Filter

end
-- ==== Proof.FilterRef.lean ====
module

public import proofs.«01_k».proof.Proof.Gen.Reference8Ideal.Read
public import proofs.«01_k».proof.Proof.FilterMath
public import Idealize.ShloMosaic.Lib.Pointwise

/-! The reference of the Hyena filter, element by element. -/

@[expose] public section

set_option maxRecDepth 16384

noncomputable section

namespace Cert.Reference8Ideal.Filter

open Cert.Reference8Ideal Cert.Reference8Ideal.Gen Cert.Reference8Ideal.Read Idealize.ShloMosaic Idealize.SL.Sem
open Cert.Filter

variable (x0 : Vec Ideal S256x128 .f32) (x1 : Vec Ideal S256x256 .f32) (x2 : Vec Ideal S33x64 .f32) (x3 : Vec Ideal S64 .f32)
  (x4 : Vec Ideal S64x64 .f32) (x5 : Vec Ideal S64 .f32) (x6 : Vec Ideal S64x1024 .f32) (x7 : Vec Ideal S64 .f32)
  (x8 : Vec Ideal S512x256 .f32)

theorem hid_apply (r : Fin 256) (k : Fin 64) :
    val_main_v8 (F := Ideal) x0 x2 x3 x7 (ix2 r k)
      = Ideal.sin (x7 (ix1 k) * ((∑ j : Fin 33, x0 (ix2 r ⟨j.val, by omega⟩) * x2 (ix2 j k)) + x3 (ix1 k))) := by
  pointwise [val_main_v8, val_main_v7, val_main_v6, val_main_v5, val_main_v4, val_main_v3, val_main_v2, val_main_v1, val_main_v0]

theorem hid2_apply (r : Fin 256) (k : Fin 64) :
    val_main_v16 (F := Ideal) x0 x2 x3 x4 x5 x7 (ix2 r k)
      = Ideal.sin (x7 (ix1 k) * ((∑ j : Fin 64, val_main_v8 (F := Ideal) x0 x2 x3 x7 (ix2 r j) * x4 (ix2 j k)) + x5 (ix1 k))) := by
  pointwise [val_main_v16, val_main_v15, val_main_v14, val_main_v13, val_main_v12, val_main_v11, val_main_v10, val_main_v9]

theorem taps_apply (r : Fin 256) (q : Fin 1024) :
    val_main_v17 (F := Ideal) x0 x2 x3 x4 x5 x6 x7 (ix2 r q)
      = ∑ j : Fin 64, val_main_v16 (F := Ideal) x0 x2 x3 x4 x5 x7 (ix2 r j) * x6 (ix2 j q) := by
  pointwise [val_main_v17]

theorem causal_apply (r q : Fin 256) :
    val_main_v22 (F := Ideal) x0 x1 x2 x3 x4 x5 x6 x7 (ix2 r q)
      = val_main_v17 (F := Ideal) x0 x2 x3 x4 x5 x6 x7 (ix2 r ⟨q.val, by omega⟩) * x1 (ix2 r q) := by
  pointwise [val_main_v22, val_main_v21]

theorem anti_apply (r q : Fin 256) :
    val_main_v27 (F := Ideal) x0 x1 x2 x3 x4 x5 x6 x7 (ix2 r q)
      = later r (val_main_v17 (F := Ideal) x0 x2 x3 x4 x5 x6 x7 (ix2 r ⟨256 + q.val, by omega⟩) * x1 (ix2 r q)) := by
  pointwise [val_main_v27, val_main_v26, val_main_v25, val_main_v24, val_main_v23, val_main_v18, val_main_c, val_main_call0_v1,
    val_main_call0_v0, val_main_cst, later]
  simp only [id]
  pointwise []

theorem causal1_apply (r q : Fin 256) :
    val_main_v58 (F := Ideal) x0 x1 x2 x3 x4 x5 x6 x7 (ix2 r q)
      = val_main_v17 (F := Ideal) x0 x2 x3 x4 x5 x6 x7 (ix2 r ⟨512 + q.val, by omega⟩) * x1 (ix2 r q) := by
  pointwise [val_main_v58, val_main_v57]

theorem anti1_apply (r q : Fin 256) :
    val_main_v63 (F := Ideal) x0 x1 x2 x3 x4 x5 x6 x7 (ix2 r q)
      = later r (val_main_v17 (F := Ideal) x0 x2 x3 x4 x5 x6 x7 (ix2 r ⟨768 + q.val, by omega⟩) * x1 (ix2 r q)) := by
  pointwise [val_main_v63, val_main_v62, val_main_v61, val_main_v60, val_main_v59, val_main_v18, val_main_c_5, val_main_call2_v1,
    val_main_call2_v0, val_main_cst_6, later]
  simp only [id]
  pointwise []

/-- The scale of a column of order 0. -/
def scale (q : Fin 256) : EReal :=
  root (power (fun k => val_main_v22 (F := Ideal) x0 x1 x2 x3 x4 x5 x6 x7 (ix2 k q)) fun k => val_main_v27 (F := Ideal) x0 x1 x2 x3 x4 x5 x6 x7 (ix2 k q))

theorem causal_scaled (r q : Fin 256) :
    val_main_v38 (F := Ideal) x0 x1 x2 x3 x4 x5 x6 x7 (ix2 r q) = val_main_v22 (F := Ideal) x0 x1 x2 x3 x4 x5 x6 x7 (ix2 r q) * scale x0 x1 x2 x3 x4 x5 x6 x7 q := by
  pointwise [val_main_v38, val_main_v37, val_main_v36, val_main_v35, val_main_v34, val_main_v33, val_main_v32, val_main_v29, val_main_v31,
    val_main_v28, val_main_v30, val_main_cst_0, val_main_cst_1, val_main_cst_2]
  simp only [scale, root, power, Finset.sum_add_distrib]

theorem anti_scaled (r q : Fin 256) :
    val_main_v44 (F := Ideal) x0 x1 x2 x3 x4 x5 x6 x7 (ix2 r q) = val_main_v27 (F := Ideal) x0 x1 x2 x3 x4 x5 x6 x7 (ix2 r q) * scale x0 x1 x2 x3 x4 x5 x6 x7 q := by
  pointwise [val_main_v44, val_main_v43, val_main_v42, val_main_v41, val_main_v40, val_main_v39, val_main_v32, val_main_v29, val_main_v31,
    val_main_v28, val_main_v30, val_main_cst_0, val_main_cst_1, val_main_cst_3]
  simp only [scale, root, power, Finset.sum_add_distrib]

/-- The scale of a column of order 1. -/
def scale1 (q : Fin 256) : EReal :=
  root (power (fun k => val_main_v58 (F := Ideal) x0 x1 x2 x3 x4 x5 x6 x7 (ix2 k q)) fun k => val_main_v63 (F := Ideal) x0 x1 x2 x3 x4 x5 x6 x7 (ix2 k q))

theorem causal_scaled1 (r q : Fin 256) :
    val_main_v74 (F := Ideal) x0 x1 x2 x3 x4 x5 x6 x7 (ix2 r q) = val_main_v58 (F := Ideal) x0 x1 x2 x3 x4 x5 x6 x7 (ix2 r q) * scale1 x0 x1 x2 x3 x4 x5 x6 x7 q := by
  pointwise [val_main_v74, val_main_v73, val_main_v72, val_main_v71, val_main_v70, val_main_v69, val_main_v68, val_main_v65, val_main_v67,
    val_main_v64, val_main_v66, val_main_cst_7, val_main_cst_8, val_main_cst_9]
  simp only [scale1, root, power, Finset.sum_add_distrib]

theorem anti_scaled1 (r q : Fin 256) :
    val_main_v80 (F := Ideal) x0 x1 x2 x3 x4 x5 x6 x7 (ix2 r q) = val_main_v63 (F := Ideal) x0 x1 x2 x3 x4 x5 x6 x7 (ix2 r q) * scale1 x0 x1 x2 x3 x4 x5 x6 x7 q := by
  pointwise [val_main_v80, val_main_v79, val_main_v78, val_main_v77, val_main_v76, val_main_v75, val_main_v68, val_main_v65, val_main_v67,
    val_main_v64, val_main_v66, val_main_cst_7, val_main_cst_8, val_main_cst_10]
  simp only [scale1, root, power, Finset.sum_add_distrib]

theorem real0 (r q : Fin 256) :
    val_main_v47 (F := Ideal) x0 x1 x2 x3 x4 x5 x6 x7 x8 (ix2 r q)
      = (∑ k : Fin 256, x8 (ix2 ⟨r.val, by omega⟩ k) * val_main_v38 (F := Ideal) x0 x1 x2 x3 x4 x5 x6 x7 (ix2 k q))
        + ∑ k : Fin 256, x8 (ix2 ⟨r.val, by omega⟩ k) * val_main_v44 (F := Ideal) x0 x1 x2 x3 x4 x5 x6 x7 (ix2 k q) := by
  pointwise [val_main_v47, val_main_v45, val_main_v46, val_main_v19]

theorem imaginary0 (r q : Fin 256) :
    val_main_v56 (F := Ideal) x0 x1 x2 x3 x4 x5 x6 x7 x8 (ix2 r q)
      = Scalar.select (first r)
          ((∑ k : Fin 256, x8 (ix2 ⟨256 + r.val, by omega⟩ k) * val_main_v38 (F := Ideal) x0 x1 x2 x3 x4 x5 x6 x7 (ix2 k q))
            + ∑ k : Fin 256, x8 (ix2 ⟨256 + r.val, by omega⟩ k) * val_main_v44 (F := Ideal) x0 x1 x2 x3 x4 x5 x6 x7 (ix2 k q))
          ((∑ k : Fin 256, x8 (ix2 ⟨256 + r.val, by omega⟩ k) * val_main_v38 (F := Ideal) x0 x1 x2 x3 x4 x5 x6 x7 (ix2 k q))
            - ∑ k : Fin 256, x8 (ix2 ⟨256 + r.val, by omega⟩ k) * val_main_v44 (F := Ideal) x0 x1 x2 x3 x4 x5 x6 x7 (ix2 k q)) := by
  pointwise [val_main_v56, val_main_v52, val_main_v50, val_main_v51, val_main_v55, val_main_v53, val_main_v54, val_main_v49, val_main_v48, val_main_v20, val_main_v18, val_main_c_4, first]

theorem real1 (r q : Fin 256) :
    val_main_v83 (F := Ideal) x0 x1 x2 x3 x4 x5 x6 x7 x8 (ix2 r q)
      = (∑ k : Fin 256, x8 (ix2 ⟨r.val, by omega⟩ k) * val_main_v74 (F := Ideal) x0 x1 x2 x3 x4 x5 x6 x7 (ix2 k q))
        + ∑ k : Fin 256, x8 (ix2 ⟨r.val, by omega⟩ k) * val_main_v80 (F := Ideal) x0 x1 x2 x3 x4 x5 x6 x7 (ix2 k q) := by
  pointwise [val_main_v83, val_main_v81, val_main_v82, val_main_v19]

theorem imaginary1 (r q : Fin 256) :
    val_main_v92 (F := Ideal) x0 x1 x2 x3 x4 x5 x6 x7 x8 (ix2 r q)
      = Scalar.select (first r)
          ((∑ k : Fin 256, x8 (ix2 ⟨256 + r.val, by omega⟩ k) * val_main_v74 (F := Ideal) x0 x1 x2 x3 x4 x5 x6 x7 (ix2 k q))
            + ∑ k : Fin 256, x8 (ix2 ⟨256 + r.val, by omega⟩ k) * val_main_v80 (F := Ideal) x0 x1 x2 x3 x4 x5 x6 x7 (ix2 k q))
          ((∑ k : Fin 256, x8 (ix2 ⟨256 + r.val, by omega⟩ k) * val_main_v74 (F := Ideal) x0 x1 x2 x3 x4 x5 x6 x7 (ix2 k q))
            - ∑ k : Fin 256, x8 (ix2 ⟨256 + r.val, by omega⟩ k) * val_main_v80 (F := Ideal) x0 x1 x2 x3 x4 x5 x6 x7 (ix2 k q)) := by
  pointwise [val_main_v92, val_main_v88, val_main_v86, val_main_v87, val_main_v91, val_main_v89, val_main_v90, val_main_v85, val_main_v84, val_main_v20, val_main_v18, val_main_c_11, first]

theorem real_stack0 (r q : Fin 256) :
    val_main_v95 (F := Ideal) x0 x1 x2 x3 x4 x5 x6 x7 x8 (ix3 0 r q) = val_main_v47 (F := Ideal) x0 x1 x2 x3 x4 x5 x6 x7 x8 (ix2 r q) := by
  pointwise [val_main_v95, val_main_v93, val_main_v94]

theorem real_stack1 (r q : Fin 256) :
    val_main_v95 (F := Ideal) x0 x1 x2 x3 x4 x5 x6 x7 x8 (ix3 1 r q) = val_main_v83 (F := Ideal) x0 x1 x2 x3 x4 x5 x6 x7 x8 (ix2 r q) := by
  pointwise [val_main_v95, val_main_v93, val_main_v94]

theorem imaginary_stack0 (r q : Fin 256) :
    val_main_v98 (F := Ideal) x0 x1 x2 x3 x4 x5 x6 x7 x8 (ix3 0 r q) = val_main_v56 (F := Ideal) x0 x1 x2 x3 x4 x5 x6 x7 x8 (ix2 r q) := by
  pointwise [val_main_v98, val_main_v96, val_main_v97]

theorem imaginary_stack1 (r q : Fin 256) :
    val_main_v98 (F := Ideal) x0 x1 x2 x3 x4 x5 x6 x7 x8 (ix3 1 r q) = val_main_v92 (F := Ideal) x0 x1 x2 x3 x4 x5 x6 x7 x8 (ix2 r q) := by
  pointwise [val_main_v98, val_main_v96, val_main_v97]

end Cert.Reference8Ideal.Filter

end
-- ==== Proof.FilterReads.lean ====
module

public import proofs.«01_k».proof.Proof.Gen.Kernel8Ideal.Value
public import Idealize.ShloMosaic.Lib.Pipeline.ValueKit
public import Idealize.ShloMosaic.Lib.Pointwise
public import Idealize.ShloMosaic.Lib.Routing.OpsOne

/-! What the blocks of the Hyena filter hold: the arguments whole, the first weights with rows of zeros after their own 33, and the
    table in two parts. -/

@[expose] public section

set_option maxRecDepth 16384

noncomputable section

namespace Cert.Kernel8Ideal.Filter

open Cert.Kernel8Ideal Cert.Kernel8Ideal.Gen Idealize.ShloMosaic Idealize.ShloMosaic.TcCoe Idealize.SL.Sem

variable (m : (ℓ : Loc nD τ sig) → Buf (Elt Ideal) ℓ) (c : Dev nD)

/-- The block indices of the windows. -/
theorem idx : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 3) = 0 ∧ win0_10.index t (1 : Fin 3) = 0 ∧ win0_10.index t (2 : Fin 3) = 0)
    ∧ (win0_11.index t (0 : Fin 3) = 0 ∧ win0_11.index t (1 : Fin 3) = 0 ∧ win0_11.index t (2 : Fin 3) = 0) := by
  decide +kernel

/-- The nine arguments. -/
abbrev A0 : Vec Ideal S256x128 .f32 := m ((c : Thread nD τ).loc main_arg0)
abbrev A1 : Vec Ideal S256x256 .f32 := m ((c : Thread nD τ).loc main_arg1)
abbrev A2 : Vec Ideal S33x64 .f32 := m ((c : Thread nD τ).loc main_arg2)
abbrev A3 : Vec Ideal S64 .f32 := m ((c : Thread nD τ).loc main_arg3)
abbrev A4 : Vec Ideal S64x64 .f32 := m ((c : Thread nD τ).loc main_arg4)
abbrev A5 : Vec Ideal S64 .f32 := m ((c : Thread nD τ).loc main_arg5)
abbrev A6 : Vec Ideal S64x1024 .f32 := m ((c : Thread nD τ).loc main_arg6)
abbrev A7 : Vec Ideal S64 .f32 := m ((c : Thread nD τ).loc main_arg7)
abbrev A8 : Vec Ideal S512x256 .f32 := m ((c : Thread nD τ).loc main_arg8)

theorem read_feats (t : Fin cfg0.N) (r : Fin 256) (k : Fin 128) : iblk m c 0 t (ix2 r k) = A0 m c (ix2 r k) := by
  blk_ext [iblk, V, idx t]

theorem read_env (t : Fin cfg0.N) (r k : Fin 256) : iblk m c 1 t (ix2 r k) = A1 m c (ix2 r k) := by
  blk_ext [iblk, V, idx t]

theorem read_b1 (t : Fin cfg0.N) (k : Fin 64) : iblk m c 3 t (ix2 0 k) = A3 m c (ix1 k) := by
  blk_ext! [iblk, V, idx t]

theorem read_w2 (t : Fin cfg0.N) (j k : Fin 64) : iblk m c 4 t (ix2 j k) = A4 m c (ix2 j k) := by
  blk_ext [iblk, V, idx t]

theorem read_b2 (t : Fin cfg0.N) (k : Fin 64) : iblk m c 5 t (ix2 0 k) = A5 m c (ix1 k) := by
  blk_ext! [iblk, V, idx t]

theorem read_w3 (t : Fin cfg0.N) (j : Fin 64) (k : Fin 1024) : iblk m c 6 t (ix2 j k) = A6 m c (ix2 j k) := by
  blk_ext [iblk, V, idx t]

theorem read_freq (t : Fin cfg0.N) (k : Fin 64) : iblk m c 7 t (ix2 0 k) = A7 m c (ix1 k) := by
  blk_ext! [iblk, V, idx t]

theorem read_hi (t : Fin cfg0.N) (r : Fin 512) (k : Fin 256) : iblk m c 8 t (ix2 r k) = A8 m c (ix2 r k) := by
  blk_ext! [iblk, V, idx t]

theorem read_lo (t : Fin cfg0.N) (r : Fin 512) (k : Fin 256) : iblk m c 9 t (ix2 r k) = A8 m c (ix2 r k) - A8 m c (ix2 r k) := by
  blk_ext! [iblk, V, idx t]

theorem start_zero {s si u : Shape} (d : ScatterDims s si u) (idx : IVec si 32) (h : ∀ i, idx i = 0#32) (j : u.Idx) (a : Fin s.rank) :
    d.start j idx a = 0 := by
  unfold ScatterDims.start
  split
  · rw [h]; rfl
  · rfl

/-- A matrix of 33 rows written over the first rows of one of 128. -/
theorem lengthened (x : S128x64.Idx → EReal) (i : IVec S1 32) (hi : ∀ a, i a = 0#32) (u : S33x64.Idx → EReal) (k : Fin 128) (q : Fin 64) :
    Host.scatter scatter_S128x64_S1_S33x64_01_n_0_0 (fun _ b => b) x i u (ix2 k q)
      = if h : k.val < 33 then u (ix2 ⟨k.val, h⟩ q) else x (ix2 k q) := by
  have w0 (a : Fin 33) (b : Fin 64) : scatter_S128x64_S1_S33x64_01_n_0_0.window (ix2 a b) 0 = a.val := rfl
  have w1 (a : Fin 33) (b : Fin 64) : scatter_S128x64_S1_S33x64_01_n_0_0.window (ix2 a b) 1 = b.val := rfl
  have lands (a : Fin 33) (b : Fin 64) :
      scatter_S128x64_S1_S33x64_01_n_0_0.resultIdx? (ix2 a b) i = some (ix2 k q) ↔ a.val = k.val ∧ b = q := by
    refine (Routing.resultIdx?_ix2 _ _ _ k q).trans ?_
    rw [start_zero _ _ hi, start_zero _ _ hi, w0, w1, Fin.ext_iff]
    omega
  by_cases h : k.val < 33
  · rw [dif_pos h]
    refine Routing.scatter_set_hit _ x i u _ _ (fun j hj => ?_) (ix2 ⟨k.val, h⟩ q) ((lands _ _).mpr ⟨rfl, rfl⟩)
    obtain ⟨a, b, rfl⟩ : ∃ (a : Fin 33) (b : Fin 64), j = ix2 a b := ⟨j 0, j 1, by funext a; fin_cases a <;> rfl⟩
    obtain ⟨ha, rfl⟩ := (lands a b).mp hj
    rw [show a = ⟨k.val, h⟩ from Fin.ext ha]
  · rw [dif_neg h]
    refine Routing.scatter_set_miss _ x i u _ fun j hj => ?_
    obtain ⟨a, b, rfl⟩ : ∃ (a : Fin 33) (b : Fin 64), j = ix2 a b := ⟨j 0, j 1, by funext a; fin_cases a <;> rfl⟩
    have := ((lands a b).mp hj).1
    omega

/-- The first weights, then rows of zeros. -/
def long (w : Vec Ideal S33x64 .f32) (k : Fin 128) (q : Fin 64) : EReal := if h : k.val < 33 then w (ix2 ⟨k.val, h⟩ q) else 0

theorem slab (k : Fin 128) (q : Fin 64) : V m c main_v6 (ix2 k q) = long (A2 m c) k q := by
  entry_read
  pointwise []
  rw [lengthened]
  · pointwise [long]
  · intro _; rfl

theorem read_w1 (t : Fin cfg0.N) (k : Fin 128) (q : Fin 64) : iblk m c 2 t (ix2 k q) = long (A2 m c) k q := by
  rw [← slab]
  show V m c main_v6 (((cfg0.win 2).blk t).view.emb (ix2 k q)) = _
  congr 1
  funext a; fin_cases a <;> apply Fin.ext <;> blk_simp <;> simp [idx t]

/-- The rows of zeros add nothing. -/
theorem sum_long (x : Fin 128 → EReal) (w : Vec Ideal S33x64 .f32) (q : Fin 64) :
    ∑ k : Fin 128, x k * long w k q = ∑ k : Fin 33, x ⟨k.val, by omega⟩ * w (ix2 k q) := by
  rw [show (∑ k : Fin 128, x k * long w k q) = ∑ k : Fin (33 + 95), x k * long w k q from rfl, Fin.sum_univ_add]
  have h0 : ∑ k : Fin 95, x (Fin.natAdd 33 k) * long w (Fin.natAdd 33 k) q = 0 :=
    Finset.sum_eq_zero fun k _ => by
      rw [long, dif_neg (by simp [Fin.natAdd]), mul_zero]
  rw [h0, add_zero]
  refine Finset.sum_congr rfl fun k _ => ?_
  rw [long, dif_pos (by simp)]
  rfl

end Cert.Kernel8Ideal.Filter

end
-- ==== Proof.FilterBlock.lean ====
module

public import proofs.«01_k».proof.Proof.FilterPay
public import proofs.«01_k».proof.Proof.FilterRef
public import proofs.«01_k».proof.Proof.FilterReads

/-! The Hyena filter: one grid point computes both orders' transforms. The taps, which pass two sine layers, are the reference's up
    to which infinity they hold; scaled, the columns are finite and the same. -/

@[expose] public section

set_option maxRecDepth 16384

noncomputable section

namespace Cert.Kernel8Ideal.Filter

open Cert.Kernel8Ideal Cert.Kernel8Ideal.Gen Idealize.ShloMosaic Idealize.ShloMosaic.TcCoe Idealize.SL.Sem
open Cert.Filter Cert.Finite
open Cert.Reference8Ideal.Read

variable (m : (ℓ : Loc nD τ sig) → Buf (Elt Ideal) ℓ) (c : Dev nD) (t : Fin cfg0.N)

/-! The body loads its windows whole. -/

theorem ld_row (y : Vec Ideal S1x64 .f32) : View.ld y r0_0 = y := View.ld_unit_zero (by funext a; fin_cases a <;> rfl) _ y
theorem ld_feats (y : Vec Ideal S256x128 .f32) : View.ld y r0_1 = y := View.ld_unit_zero (by funext a; fin_cases a <;> rfl) _ y
theorem ld_w1 (y : Vec Ideal S128x64 .f32) : View.ld y r0_2 = y := View.ld_unit_zero (by funext a; fin_cases a <;> rfl) _ y
theorem ld_w2 (y : Vec Ideal S64x64 .f32) : View.ld y r0_3 = y := View.ld_unit_zero (by funext a; fin_cases a <;> rfl) _ y
theorem ld_w3 (y : Vec Ideal S64x1024 .f32) : View.ld y r0_4 = y := View.ld_unit_zero (by funext a; fin_cases a <;> rfl) _ y
theorem ld_env (y : Vec Ideal S256x256 .f32) : View.ld y r0_5 = y := View.ld_unit_zero (by funext a; fin_cases a <;> rfl) _ y
theorem ld_table (y : Vec Ideal S512x256 .bf16) : View.ld y r0_6 = y := View.ld_unit_zero (by funext a; fin_cases a <;> rfl) _ y

theorem freq_apply (y : Vec Ideal S1x64 .f32) (k : Fin 64) : k0_pay3 (F := Ideal) y (ix2 0 k) = y (ix2 0 k) := by
  pointwise [k0_pay3]

theorem bias_apply (y : Vec Ideal S1x64 .f32) (r : Fin 256) (k : Fin 64) : k0_pay5 (F := Ideal) y (ix2 r k) = y (ix2 0 k) := by
  pointwise [k0_pay5]

theorem hi_apply (y : Vec Ideal S512x256 .bf16) (r : Fin 512) (k : Fin 256) : k0_pay12 (F := Ideal) y (ix2 r k) = y (ix2 r k) := by
  pointwise [k0_pay12]

theorem lo_apply (y : Vec Ideal S512x256 .bf16) (r : Fin 512) (k : Fin 256) : k0_pay13 (F := Ideal) y (ix2 r k) = y (ix2 r k) := by
  pointwise [k0_pay13]

/-- The blocks of the features and of the first layer's weights. -/
abbrev X0 : Vec Ideal S256x128 .f32 := iblk m c 0 t
abbrev X2 : Vec Ideal S128x64 .f32 := iblk m c 2 t
abbrev X3 : Vec Ideal S1x64 .f32 := iblk m c 3 t
abbrev X7 : Vec Ideal S1x64 .f32 := iblk m c 7 t

/-- The first sine layer. -/
theorem hid_eq (r : Fin 256) (k : Fin 64) :
    Ideal.sin (X7 m c t (ix2 0 k) * (split3 (fun j => X0 m c t (ix2 r j)) (fun j => X2 m c t (ix2 j k)) + X3 m c t (ix2 0 k)))
      = val_main_v8 (F := Ideal) (A0 m c) (A2 m c) (A3 m c) (A7 m c) (ix2 r k) := by
  rw [Cert.Reference8Ideal.Filter.hid_apply]
  simp only [read_freq, read_feats, read_w1, read_b1]
  rw [← sum_long (fun j => A0 m c (ix2 r j))]
  exact (((split3_alike _ _).add_right _).mul_left _).sin_eq

/-- The second. -/
theorem hid2_eq (r : Fin 256) (k : Fin 64) :
    Ideal.sin (k0_pay25 (F := Ideal) (iblk m c 0 t) (iblk m c 1 t) (iblk m c 2 t) (iblk m c 3 t) (iblk m c 4 t) (iblk m c 5 t) (iblk m c 6 t) (iblk m c 7 t) (iblk m c 8 t) (iblk m c 9 t) (ix2 0 k)
        * (k0_pay26 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r k) + k0_pay27 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r k)))
      = val_main_v16 (F := Ideal) (A0 m c) (A2 m c) (A3 m c) (A4 m c) (A5 m c) (A7 m c) (ix2 r k) := by
  rw [k0_pay25, k0_pay26, k0_pay27, ld_row, ld_row, ld_row, ld_feats, ld_w1, ld_w2, freq_apply, bias_apply, second_apply,
    Cert.Reference8Ideal.Filter.hid2_apply]
  exact layer_eq (read_freq m c t k) (hid_eq m c t r) (fun j => read_w2 m c t j k) (read_b2 m c t k)

theorem taps_alike (r : Fin 256) (q : Fin 1024) :
    Alike (k0_pay28 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r q))
      (val_main_v17 (F := Ideal) (A0 m c) (A2 m c) (A3 m c) (A4 m c) (A5 m c) (A6 m c) (A7 m c) (ix2 r q)) := by
  rw [k0_pay28, ld_w3, third_apply, Cert.Reference8Ideal.Filter.taps_apply]
  exact product_alike (hid2_eq m c t r) fun j => read_w3 m c t j q

/-! The columns of the body. -/

/-- The causal side of the first order. -/
def causal : FVec Ideal S256x256 .f32 := k0_pay9 (F := Ideal) (k0_pay25 (F := Ideal) (iblk m c 0 t) (iblk m c 1 t) (iblk m c 2 t) (iblk m c 3 t) (iblk m c 4 t) (iblk m c 5 t) (iblk m c 6 t) (iblk m c 7 t) (iblk m c 8 t) (iblk m c 9 t)) (k0_pay26 (F := Ideal) (iblk m c 0 t) (iblk m c 1 t) (iblk m c 2 t) (iblk m c 3 t) (iblk m c 4 t) (iblk m c 5 t) (iblk m c 6 t) (iblk m c 7 t) (iblk m c 8 t) (iblk m c 9 t))
  (k0_pay27 (F := Ideal) (iblk m c 0 t) (iblk m c 1 t) (iblk m c 2 t) (iblk m c 3 t) (iblk m c 4 t) (iblk m c 5 t) (iblk m c 6 t) (iblk m c 7 t) (iblk m c 8 t) (iblk m c 9 t)) (iblk m c 6 t) (iblk m c 1 t)

/-- The anti-causal side. -/
def anti : FVec Ideal S256x256 .f32 := k0_pay10 (F := Ideal) (k0_pay25 (F := Ideal) (iblk m c 0 t) (iblk m c 1 t) (iblk m c 2 t) (iblk m c 3 t) (iblk m c 4 t) (iblk m c 5 t) (iblk m c 6 t) (iblk m c 7 t) (iblk m c 8 t) (iblk m c 9 t)) (k0_pay26 (F := Ideal) (iblk m c 0 t) (iblk m c 1 t) (iblk m c 2 t) (iblk m c 3 t) (iblk m c 4 t) (iblk m c 5 t) (iblk m c 6 t) (iblk m c 7 t) (iblk m c 8 t) (iblk m c 9 t))
  (k0_pay27 (F := Ideal) (iblk m c 0 t) (iblk m c 1 t) (iblk m c 2 t) (iblk m c 3 t) (iblk m c 4 t) (iblk m c 5 t) (iblk m c 6 t) (iblk m c 7 t) (iblk m c 8 t) (iblk m c 9 t)) (iblk m c 6 t) (iblk m c 1 t)

/-- The causal side of the second order. -/
def causal1 : FVec Ideal S256x256 .f32 := k0_pay18 (F := Ideal) (k0_pay28 (F := Ideal) (iblk m c 0 t) (iblk m c 1 t) (iblk m c 2 t) (iblk m c 3 t) (iblk m c 4 t) (iblk m c 5 t) (iblk m c 6 t) (iblk m c 7 t) (iblk m c 8 t) (iblk m c 9 t)) (iblk m c 1 t)

/-- Its anti-causal side. -/
def anti1 : FVec Ideal S256x256 .f32 := k0_pay20 (F := Ideal) k0_pay7 (k0_pay19 (F := Ideal) (k0_pay28 (F := Ideal) (iblk m c 0 t) (iblk m c 1 t) (iblk m c 2 t) (iblk m c 3 t) (iblk m c 4 t) (iblk m c 5 t) (iblk m c 6 t) (iblk m c 7 t) (iblk m c 8 t) (iblk m c 9 t)) (iblk m c 1 t))
  (Scalar.ofBits .f32 0x00000000#32)

theorem taps_eq : k0_pay6 (F := Ideal) (k0_pay25 (F := Ideal) (iblk m c 0 t) (iblk m c 1 t) (iblk m c 2 t) (iblk m c 3 t) (iblk m c 4 t) (iblk m c 5 t) (iblk m c 6 t) (iblk m c 7 t) (iblk m c 8 t) (iblk m c 9 t)) (k0_pay26 (F := Ideal) (iblk m c 0 t) (iblk m c 1 t) (iblk m c 2 t) (iblk m c 3 t) (iblk m c 4 t) (iblk m c 5 t) (iblk m c 6 t) (iblk m c 7 t) (iblk m c 8 t) (iblk m c 9 t))
    (k0_pay27 (F := Ideal) (iblk m c 0 t) (iblk m c 1 t) (iblk m c 2 t) (iblk m c 3 t) (iblk m c 4 t) (iblk m c 5 t) (iblk m c 6 t) (iblk m c 7 t) (iblk m c 8 t) (iblk m c 9 t)) (iblk m c 6 t) = k0_pay28 (F := Ideal) (iblk m c 0 t) (iblk m c 1 t) (iblk m c 2 t) (iblk m c 3 t) (iblk m c 4 t) (iblk m c 5 t) (iblk m c 6 t) (iblk m c 7 t) (iblk m c 8 t) (iblk m c 9 t) := by
  rw [k0_pay28, ld_w3]

theorem causal_alike (r q : Fin 256) : Alike (causal m c t (ix2 r q)) (val_main_v22 (F := Ideal) (A0 m c) (A1 m c) (A2 m c) (A3 m c) (A4 m c) (A5 m c) (A6 m c) (A7 m c) (ix2 r q)) := by
  rw [causal, causal_apply, Cert.Reference8Ideal.Filter.causal_apply, taps_eq, read_env]
  exact (taps_alike m c t r _).mul_right _

theorem anti_alike (r q : Fin 256) : Alike (anti m c t (ix2 r q)) (val_main_v27 (F := Ideal) (A0 m c) (A1 m c) (A2 m c) (A3 m c) (A4 m c) (A5 m c) (A6 m c) (A7 m c) (ix2 r q)) := by
  rw [anti, anti_apply, Cert.Reference8Ideal.Filter.anti_apply, taps_eq, read_env]
  exact ((taps_alike m c t r _).mul_right _).later r

theorem causal1_alike (r q : Fin 256) : Alike (causal1 m c t (ix2 r q)) (val_main_v58 (F := Ideal) (A0 m c) (A1 m c) (A2 m c) (A3 m c) (A4 m c) (A5 m c) (A6 m c) (A7 m c) (ix2 r q)) := by
  rw [causal1, causal1_apply, Cert.Reference8Ideal.Filter.causal1_apply, read_env]
  exact (taps_alike m c t r _).mul_right _

theorem anti1_alike (r q : Fin 256) : Alike (anti1 m c t (ix2 r q)) (val_main_v63 (F := Ideal) (A0 m c) (A1 m c) (A2 m c) (A3 m c) (A4 m c) (A5 m c) (A6 m c) (A7 m c) (ix2 r q)) := by
  rw [anti1, anti1_apply, Cert.Reference8Ideal.Filter.anti1_apply, read_env]
  exact ((taps_alike m c t r _).mul_right _).later r

/-! The transforms of the body against those of the reference. -/

variable (hT : ∀ i, IsReal (A8 m c i))
include hT

theorem sums (w : Fin 512) (q : Fin 256) :
    transform (fun k => A8 m c (ix2 w k)) (fun k => A8 m c (ix2 w k) - A8 m c (ix2 w k))
        (fun k => (causal m c t (ix2 k q) + anti m c t (ix2 k q))
          * root (power (fun k => causal m c t (ix2 k q)) fun k => anti m c t (ix2 k q)))
      = (∑ k : Fin 256, A8 m c (ix2 w k) * val_main_v38 (F := Ideal) (A0 m c) (A1 m c) (A2 m c) (A3 m c) (A4 m c) (A5 m c) (A6 m c) (A7 m c) (ix2 k q))
        + ∑ k : Fin 256, A8 m c (ix2 w k) * val_main_v44 (F := Ideal) (A0 m c) (A1 m c) (A2 m c) (A3 m c) (A4 m c) (A5 m c) (A6 m c) (A7 m c) (ix2 k q) := by
  simp only [Cert.Reference8Ideal.Filter.causal_scaled, Cert.Reference8Ideal.Filter.anti_scaled]
  exact transform_add (fun k => causal_alike m c t k q) (fun k => anti_alike m c t k q) (fun k => hT _) fun _ => rfl

theorem differences (w : Fin 512) (q : Fin 256) :
    transform (fun k => A8 m c (ix2 w k)) (fun k => A8 m c (ix2 w k) - A8 m c (ix2 w k))
        (fun k => (causal m c t (ix2 k q) - anti m c t (ix2 k q))
          * root (power (fun k => causal m c t (ix2 k q)) fun k => anti m c t (ix2 k q)))
      = (∑ k : Fin 256, A8 m c (ix2 w k) * val_main_v38 (F := Ideal) (A0 m c) (A1 m c) (A2 m c) (A3 m c) (A4 m c) (A5 m c) (A6 m c) (A7 m c) (ix2 k q))
        - ∑ k : Fin 256, A8 m c (ix2 w k) * val_main_v44 (F := Ideal) (A0 m c) (A1 m c) (A2 m c) (A3 m c) (A4 m c) (A5 m c) (A6 m c) (A7 m c) (ix2 k q) := by
  simp only [Cert.Reference8Ideal.Filter.causal_scaled, Cert.Reference8Ideal.Filter.anti_scaled]
  exact transform_sub (fun k => causal_alike m c t k q) (fun k => anti_alike m c t k q) (fun k => hT _) fun _ => rfl

theorem sums1 (w : Fin 512) (q : Fin 256) :
    transform (fun k => A8 m c (ix2 w k)) (fun k => A8 m c (ix2 w k) - A8 m c (ix2 w k))
        (fun k => (causal1 m c t (ix2 k q) + anti1 m c t (ix2 k q))
          * root (power (fun k => causal1 m c t (ix2 k q)) fun k => anti1 m c t (ix2 k q)))
      = (∑ k : Fin 256, A8 m c (ix2 w k) * val_main_v74 (F := Ideal) (A0 m c) (A1 m c) (A2 m c) (A3 m c) (A4 m c) (A5 m c) (A6 m c) (A7 m c) (ix2 k q))
        + ∑ k : Fin 256, A8 m c (ix2 w k) * val_main_v80 (F := Ideal) (A0 m c) (A1 m c) (A2 m c) (A3 m c) (A4 m c) (A5 m c) (A6 m c) (A7 m c) (ix2 k q) := by
  simp only [Cert.Reference8Ideal.Filter.causal_scaled1, Cert.Reference8Ideal.Filter.anti_scaled1]
  exact transform_add (fun k => causal1_alike m c t k q) (fun k => anti1_alike m c t k q) (fun k => hT _) fun _ => rfl

theorem differences1 (w : Fin 512) (q : Fin 256) :
    transform (fun k => A8 m c (ix2 w k)) (fun k => A8 m c (ix2 w k) - A8 m c (ix2 w k))
        (fun k => (causal1 m c t (ix2 k q) - anti1 m c t (ix2 k q))
          * root (power (fun k => causal1 m c t (ix2 k q)) fun k => anti1 m c t (ix2 k q)))
      = (∑ k : Fin 256, A8 m c (ix2 w k) * val_main_v74 (F := Ideal) (A0 m c) (A1 m c) (A2 m c) (A3 m c) (A4 m c) (A5 m c) (A6 m c) (A7 m c) (ix2 k q))
        - ∑ k : Fin 256, A8 m c (ix2 w k) * val_main_v80 (F := Ideal) (A0 m c) (A1 m c) (A2 m c) (A3 m c) (A4 m c) (A5 m c) (A6 m c) (A7 m c) (ix2 k q) := by
  simp only [Cert.Reference8Ideal.Filter.causal_scaled1, Cert.Reference8Ideal.Filter.anti_scaled1]
  exact transform_sub (fun k => causal1_alike m c t k q) (fun k => anti1_alike m c t k q) (fun k => hT _) fun _ => rfl

/-! The four stored tiles. -/

theorem tile_real0 (r q : Fin 256) :
    k0_pay16 (F := Ideal) (k0_pay31 (F := Ideal) (iblk m c 0 t) (iblk m c 1 t) (iblk m c 2 t) (iblk m c 3 t) (iblk m c 4 t) (iblk m c 5 t) (iblk m c 6 t) (iblk m c 7 t) (iblk m c 8 t) (iblk m c 9 t)) (k0_pay32 (F := Ideal) (iblk m c 0 t) (iblk m c 1 t) (iblk m c 2 t) (iblk m c 3 t) (iblk m c 4 t) (iblk m c 5 t) (iblk m c 6 t) (iblk m c 7 t) (iblk m c 8 t) (iblk m c 9 t)) (k0_pay33 (F := Ideal) (iblk m c 0 t) (iblk m c 1 t) (iblk m c 2 t) (iblk m c 3 t) (iblk m c 4 t) (iblk m c 5 t) (iblk m c 6 t) (iblk m c 7 t) (iblk m c 8 t) (iblk m c 9 t)) (k0_pay34 (F := Ideal) (iblk m c 0 t) (iblk m c 1 t) (iblk m c 2 t) (iblk m c 3 t) (iblk m c 4 t) (iblk m c 5 t) (iblk m c 6 t) (iblk m c 7 t) (iblk m c 8 t) (iblk m c 9 t)) (ix3 0 r q)
      = val_main_v47 (F := Ideal) (A0 m c) (A1 m c) (A2 m c) (A3 m c) (A4 m c) (A5 m c) (A6 m c) (A7 m c) (A8 m c) (ix2 r q) := by
  rw [k0_pay31, k0_pay32, k0_pay33, k0_pay34, ld_table, ld_table, ld_w3, ld_env, upper_apply, sides_apply, scale_apply,
    Cert.Reference8Ideal.Filter.real0, ← sums m c t hT]
  simp only [sum_apply, hi_apply, lo_apply, read_hi, read_lo, causal, anti]

theorem tile_imaginary0 (r q : Fin 256) :
    k0_pay17 (F := Ideal) (k0_pay30 (iblk m c 0 t) (iblk m c 1 t) (iblk m c 2 t) (iblk m c 3 t) (iblk m c 4 t) (iblk m c 5 t) (iblk m c 6 t) (iblk m c 7 t) (iblk m c 8 t) (iblk m c 9 t)) (causal m c t) (anti m c t)
        (k0_pay31 (F := Ideal) (iblk m c 0 t) (iblk m c 1 t) (iblk m c 2 t) (iblk m c 3 t) (iblk m c 4 t) (iblk m c 5 t) (iblk m c 6 t) (iblk m c 7 t) (iblk m c 8 t) (iblk m c 9 t)) (k0_pay32 (F := Ideal) (iblk m c 0 t) (iblk m c 1 t) (iblk m c 2 t) (iblk m c 3 t) (iblk m c 4 t) (iblk m c 5 t) (iblk m c 6 t) (iblk m c 7 t) (iblk m c 8 t) (iblk m c 9 t)) (k0_pay33 (F := Ideal) (iblk m c 0 t) (iblk m c 1 t) (iblk m c 2 t) (iblk m c 3 t) (iblk m c 4 t) (iblk m c 5 t) (iblk m c 6 t) (iblk m c 7 t) (iblk m c 8 t) (iblk m c 9 t)) (k0_pay34 (F := Ideal) (iblk m c 0 t) (iblk m c 1 t) (iblk m c 2 t) (iblk m c 3 t) (iblk m c 4 t) (iblk m c 5 t) (iblk m c 6 t) (iblk m c 7 t) (iblk m c 8 t) (iblk m c 9 t))
        (iblk m c 8 t) (iblk m c 9 t) (ix3 0 r q)
      = val_main_v56 (F := Ideal) (A0 m c) (A1 m c) (A2 m c) (A3 m c) (A4 m c) (A5 m c) (A6 m c) (A7 m c) (A8 m c) (ix2 r q) := by
  rw [k0_pay30, k0_pay31, k0_pay32, k0_pay33, k0_pay34, ld_table, ld_table, ld_w3, ld_env, lower_apply, sides_apply, scale_apply, first_apply,
    Cert.Reference8Ideal.Filter.imaginary0, ← sums m c t hT, ← differences m c t hT]
  simp only [sum_apply, hi_apply, lo_apply, read_hi, read_lo, causal, anti]

theorem tile_real1 (r q : Fin 256) :
    k0_pay1 (F := Ideal) (k0_pay24 (F := Ideal) (k0_pay29 (iblk m c 0 t) (iblk m c 1 t) (iblk m c 2 t) (iblk m c 3 t) (iblk m c 4 t) (iblk m c 5 t) (iblk m c 6 t) (iblk m c 7 t) (iblk m c 8 t) (iblk m c 9 t)) (k0_pay35 (F := Ideal) (iblk m c 0 t) (iblk m c 1 t) (iblk m c 2 t) (iblk m c 3 t) (iblk m c 4 t) (iblk m c 5 t) (iblk m c 6 t) (iblk m c 7 t) (iblk m c 8 t) (iblk m c 9 t)) (k0_pay36 (F := Ideal) (iblk m c 0 t) (iblk m c 1 t) (iblk m c 2 t) (iblk m c 3 t) (iblk m c 4 t) (iblk m c 5 t) (iblk m c 6 t) (iblk m c 7 t) (iblk m c 8 t) (iblk m c 9 t))
        (Scalar.ofBits .f32 0x00000000#32) (iblk m c 8 t) (iblk m c 9 t)) (ix3 0 r q)
      = val_main_v83 (F := Ideal) (A0 m c) (A1 m c) (A2 m c) (A3 m c) (A4 m c) (A5 m c) (A6 m c) (A7 m c) (A8 m c) (ix2 r q) := by
  rw [k0_pay29, k0_pay35, k0_pay36, ld_env, upper1_apply, sides1_apply, scale1_apply,
    Cert.Reference8Ideal.Filter.real1, ← sums1 m c t hT]
  simp only [read_hi, read_lo, causal1, anti1]

theorem tile_imaginary1 (r q : Fin 256) :
    k0_pay2 (F := Ideal) (k0_pay30 (iblk m c 0 t) (iblk m c 1 t) (iblk m c 2 t) (iblk m c 3 t) (iblk m c 4 t) (iblk m c 5 t) (iblk m c 6 t) (iblk m c 7 t) (iblk m c 8 t) (iblk m c 9 t))
        (k0_pay22 (F := Ideal) (k0_pay29 (iblk m c 0 t) (iblk m c 1 t) (iblk m c 2 t) (iblk m c 3 t) (iblk m c 4 t) (iblk m c 5 t) (iblk m c 6 t) (iblk m c 7 t) (iblk m c 8 t) (iblk m c 9 t)) (k0_pay35 (F := Ideal) (iblk m c 0 t) (iblk m c 1 t) (iblk m c 2 t) (iblk m c 3 t) (iblk m c 4 t) (iblk m c 5 t) (iblk m c 6 t) (iblk m c 7 t) (iblk m c 8 t) (iblk m c 9 t)) (k0_pay36 (F := Ideal) (iblk m c 0 t) (iblk m c 1 t) (iblk m c 2 t) (iblk m c 3 t) (iblk m c 4 t) (iblk m c 5 t) (iblk m c 6 t) (iblk m c 7 t) (iblk m c 8 t) (iblk m c 9 t))
          (Scalar.ofBits .f32 0x00000000#32) (iblk m c 8 t) (iblk m c 9 t))
        (k0_pay23 (F := Ideal) (k0_pay29 (iblk m c 0 t) (iblk m c 1 t) (iblk m c 2 t) (iblk m c 3 t) (iblk m c 4 t) (iblk m c 5 t) (iblk m c 6 t) (iblk m c 7 t) (iblk m c 8 t) (iblk m c 9 t)) (k0_pay35 (F := Ideal) (iblk m c 0 t) (iblk m c 1 t) (iblk m c 2 t) (iblk m c 3 t) (iblk m c 4 t) (iblk m c 5 t) (iblk m c 6 t) (iblk m c 7 t) (iblk m c 8 t) (iblk m c 9 t)) (k0_pay36 (F := Ideal) (iblk m c 0 t) (iblk m c 1 t) (iblk m c 2 t) (iblk m c 3 t) (iblk m c 4 t) (iblk m c 5 t) (iblk m c 6 t) (iblk m c 7 t) (iblk m c 8 t) (iblk m c 9 t))
          (Scalar.ofBits .f32 0x00000000#32) (iblk m c 8 t) (iblk m c 9 t)) (ix3 0 r q)
      = val_main_v92 (F := Ideal) (A0 m c) (A1 m c) (A2 m c) (A3 m c) (A4 m c) (A5 m c) (A6 m c) (A7 m c) (A8 m c) (ix2 r q) := by
  rw [k0_pay29, k0_pay30, k0_pay35, k0_pay36, ld_env, lower1_apply, sides1_apply, differences1_apply, scale1_apply, first_apply,
    Cert.Reference8Ideal.Filter.imaginary1, ← sums1 m c t hT, ← differences1 m c t hT]
  simp only [read_hi, read_lo, causal1, anti1]

end Cert.Kernel8Ideal.Filter

end
-- ==== Proof.FilterArr.lean ====
module

public import proofs.«01_k».proof.Proof.FilterBlock

/-! The two arrays of the Hyena filter, each written as one tile for each order. -/

@[expose] public section

set_option maxRecDepth 16384

noncomputable section

namespace Cert.Kernel8Ideal.Filter

open Cert.Kernel8Ideal Cert.Kernel8Ideal.Gen Idealize.ShloMosaic Idealize.ShloMosaic.TcCoe Idealize.SL.Sem
open Cert.Finite

theorem emb0 (r q : Fin 256) : r0_7.emb (ix3 0 r q) = ix3 0 r q := by
  funext a; fin_cases a <;> apply Fin.ext <;> simp [Rect.emb_apply]

theorem emb1 (r q : Fin 256) : r0_8.emb (ix3 0 r q) = ix3 1 r q := by
  funext a; fin_cases a <;> apply Fin.ext <;> simp [Rect.emb_apply]

/-- The second order's tile, stored last. -/
theorem tile1 (p w : Vec Ideal S1x256x256 .f32) (r q : Fin 256) :
    View.canon (Val := Elt Ideal) (s := S2x256x256) (e := .f32) [⟨r0_8, p⟩, ⟨r0_7, w⟩] (ix3 1 r q) = p (ix3 0 r q) := by
  rw [← emb1 r q]
  exact View.canon_cons_emb (Val := Elt Ideal) (e := .f32) r0_8 p _ (ix3 0 r q)

theorem not_mem (r q : Fin 256) : (ix3 0 r q : S2x256x256.Idx) ∉ r0_8.set := fun h => by
  have h1 : 1 ≤ 0 := (Rect.mem_set_unit.mp h 0).1
  omega

/-- The first order's, stored before it. -/
theorem tile0 (p w : Vec Ideal S1x256x256 .f32) (r q : Fin 256) :
    View.canon (Val := Elt Ideal) (s := S2x256x256) (e := .f32) [⟨r0_8, p⟩, ⟨r0_7, w⟩] (ix3 0 r q) = w (ix3 0 r q) := by
  refine (View.canon_cons_of_not_mem (Val := Elt Ideal) (⟨r0_8, p⟩ : View.Piece (Elt Ideal) S2x256x256 .f32) [⟨r0_7, w⟩] (not_mem r q)).trans ?_
  rw [← emb0 r q]
  exact View.canon_cons_emb (Val := Elt Ideal) (e := .f32) r0_7 w _ (ix3 0 r q)

variable (m : (ℓ : Loc nD τ sig) → Buf (Elt Ideal) ℓ) (c : Dev nD) (hT : ∀ i, IsReal (A8 m c i))
include hT

theorem out_real (t : Fin cfg0.N) (o : Fin 2) (r q : Fin 256) : out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix3 o r q) = Cert.Reference8Ideal.Read.val_main_v95 (F := Ideal) (A0 m c) (A1 m c) (A2 m c) (A3 m c) (A4 m c) (A5 m c) (A6 m c) (A7 m c) (A8 m c) (ix3 o r q) := by
  rw [out0_10, ld_table, ld_table]
  fin_cases o
  · exact (tile0 _ _ r q).trans ((tile_real0 m c t hT r q).trans (Cert.Reference8Ideal.Filter.real_stack0 _ _ _ _ _ _ _ _ _ r q).symm)
  · exact (tile1 _ _ r q).trans ((tile_real1 m c t hT r q).trans (Cert.Reference8Ideal.Filter.real_stack1 _ _ _ _ _ _ _ _ _ r q).symm)

theorem out_imaginary (t : Fin cfg0.N) (o : Fin 2) (r q : Fin 256) : out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ix3 o r q) = Cert.Reference8Ideal.Read.val_main_v98 (F := Ideal) (A0 m c) (A1 m c) (A2 m c) (A3 m c) (A4 m c) (A5 m c) (A6 m c) (A7 m c) (A8 m c) (ix3 o r q) := by
  rw [out0_11, ld_table, ld_table, ld_w3, ld_env]
  fin_cases o
  · exact (tile0 _ _ r q).trans ((tile_imaginary0 m c t hT r q).trans (Cert.Reference8Ideal.Filter.imaginary_stack0 _ _ _ _ _ _ _ _ _ r q).symm)
  · exact (tile1 _ _ r q).trans ((tile_imaginary1 m c t hT r q).trans (Cert.Reference8Ideal.Filter.imaginary_stack1 _ _ _ _ _ _ _ _ _ r q).symm)

theorem arr_real : (dats m 0 c).arrAt 10 cfg0.N = Cert.Reference8Ideal.Read.val_main_v95 (F := Ideal) (A0 m c) (A1 m c) (A2 m c) (A3 m c) (A4 m c) (A5 m c) (A6 m c) (A7 m c) (A8 m c) := by
  refine (dats m 0 c).arrAt_eq_of_covers 10 _ (by decide +kernel) fun t hf y => ?_
  obtain ⟨o, r, q, rfl⟩ : ∃ (o : Fin 2) (r q : Fin 256), y = ix3 o r q := ⟨y 0, y 1, y 2, by funext a; fin_cases a <;> rfl⟩
  have he : ((cfg0.win 10).blk t).view.emb (ix3 o r q) = ix3 o r q := by
    funext a; fin_cases a <;> apply Fin.ext <;> blk_simp <;> simp [idx t]
  rw [he]
  blk_simp
  rw [after0_10]
  exact out_real m c hT t o r q

theorem arr_imaginary : (dats m 0 c).arrAt 11 cfg0.N = Cert.Reference8Ideal.Read.val_main_v98 (F := Ideal) (A0 m c) (A1 m c) (A2 m c) (A3 m c) (A4 m c) (A5 m c) (A6 m c) (A7 m c) (A8 m c) := by
  refine (dats m 0 c).arrAt_eq_of_covers 11 _ (by decide +kernel) fun t hf y => ?_
  obtain ⟨o, r, q, rfl⟩ : ∃ (o : Fin 2) (r q : Fin 256), y = ix3 o r q := ⟨y 0, y 1, y 2, by funext a; fin_cases a <;> rfl⟩
  have he : ((cfg0.win 11).blk t).view.emb (ix3 o r q) = ix3 o r q := by
    funext a; fin_cases a <;> apply Fin.ext <;> blk_simp <;> simp [idx t]
  rw [he]
  blk_simp
  rw [after0_11]
  exact out_imaginary m c hT t o r q

end Cert.Kernel8Ideal.Filter

end
-- ==== Proof.Filter.lean ====
module

public import proofs.«01_k».proof.Defs
public import proofs.«01_k».proof.Proof.FilterArr
public import proofs.«01_k».proof.Proof.Gen.Pre_finite_table
public import Idealize.ShloMosaic.Lib.Claim

/-! The Hyena filter: the kernel and its reference leave the same two arrays. -/

@[expose] public section

noncomputable section

namespace Cert.Filter

open Idealize.ShloMosaic Idealize.ShloMosaic.TcCoe Idealize.SL.Sem
open Cert.Finite

instance : Subsingleton (Cert.Pre_finite_table.S_).Idx := ⟨fun a b => funext fun i => i.elim0⟩

/-- The stated precondition: the table is finite. -/
theorem table [Cert.Pre_finite_table.Facts] {a0 a1 a2 a3 a4 a5 a6 a7 a8}
    (h : Cert.Pre_finite_table.fn (F := Ideal) a0 a1 a2 a3 a4 a5 a6 a7 a8 = fun _ => 1#1) : ∀ i, IsReal (a8 i) :=
  fun i => isReal_of_cmp _ (Host.reduce_andi_all _ _ _ _ _ (congrFun h fun i => i.elim0) i)

theorem algebraic : Cert.algebraic_Kernel8Ideal_Reference8Ideal_pre_finite_table := by
  intro m g m' g' hpre hagree
  refine ⟨_, _, Cert.Kernel8Ideal.Value.run_blocks m g, ?_⟩
  refine (θ_run Cert.Reference8Ideal.defs _ _).mono (fun _ h c => ?_) (Cert.Reference8Ideal.Value.run (F := Ideal) m' g')
  obtain ⟨h0, h1, h2, h3, h4, h5, h6, h7, h8⟩ := hagree c
  obtain ⟨ha, hb, hk⟩ := h c
  rw [Cert.Reference8Ideal.Read.val_main_v95_eq, h0, h1, h2, h3, h4, h5, h6, h7, h8] at ha
  rw [Cert.Reference8Ideal.Read.val_main_v98_eq, h0, h1, h2, h3, h4, h5, h6, h7, h8] at hb
  have hT := table (hpre c)
  exact ⟨ha.trans (Cert.Kernel8Ideal.Filter.arr_real m c hT).symm, hb.trans (Cert.Kernel8Ideal.Filter.arr_imaginary m c hT).symm, hk⟩

end Cert.Filter

end
-- ==== Proof.HyenaMath.lean ====
module

public import proofs.«01_k».proof.Proof.FilterMath

/-! The arithmetic of the Hyena mixer: a long convolution of a finite column by way of its transform. Split into two parts, the table
    and the column leave nothing over, so that the split transform is the plain one. -/

@[expose] public section

noncomputable section

namespace Cert.Hyena

open Idealize.ShloMosaic Cert.Finite Cert.Filter

/-- The rows of the transform: the first half holds the real parts, the second the imaginary ones. -/
abbrev upper (k : Fin 256) : Fin 512 := ⟨k.val, by omega⟩
abbrev lower (k : Fin 256) : Fin 512 := ⟨256 + k.val, by omega⟩

/-- The product of a column's transform with the filter's: the real part. -/
def re (k : Fin 256) (a b h s : EReal) : EReal := a * h - Scalar.select (first k) 0 (b * s)

/-- The imaginary part. The first row holds two real ones instead. -/
def im (k : Fin 256) (a b h s : EReal) : EReal := Scalar.select (first k) (b * s) (a * s + b * h)

/-- The long convolution of the column `z`. -/
def longconv (f : Fin 512 → Fin 256 → EReal) (i : Fin 256 → Fin 512 → EReal) (h s : Fin 256 → EReal) (d : EReal)
    (z : Fin 256 → EReal) (r : Fin 256) : EReal :=
  ((∑ k, re k (∑ j, z j * f (upper k) j) (∑ j, z j * f (lower k) j) (h k) (s k) * i r (upper k))
    + ∑ k, im k (∑ j, z j * f (upper k) j) (∑ j, z j * f (lower k) j) (h k) (s k) * i r (lower k)) + d * z r

/-- The filter's part of a product, written out with a sign and two selections. -/
theorem re_eq (k : Fin 256) (a b h s : EReal) : a * h + b * (-Scalar.select (first k) 0 s) = re k a b h s := by
  unfold re Scalar.select
  split
  · rw [neg_zero, mul_zero, sub_eq_add_neg, neg_zero]
  · rw [mul_neg, sub_eq_add_neg]

theorem im_eq (k : Fin 256) (a b h s : EReal) : b * Scalar.select (first k) s h + a * Scalar.select (first k) 0 s = im k a b h s := by
  unfold im Scalar.select
  split
  · rw [mul_zero, add_zero]
  · rw [add_comm]

/-- Two columns of 256, one after the other. -/
def stack (x y : Fin 256 → EReal) (w : Fin 512) : EReal := if h : w.val < 256 then x ⟨w.val, h⟩ else y ⟨w.val - 256, by omega⟩

/-- The same, the tables and the columns in two parts. -/
def split_longconv (f g : Fin 512 → Fin 256 → EReal) (i j : Fin 256 → Fin 512 → EReal) (h s : Fin 256 → EReal) (d : EReal)
    (z : Fin 256 → EReal) (r : Fin 256) : EReal :=
  transform (i r) (j r)
    (stack (fun k => re k (transform (f (upper k)) (g (upper k)) z) (transform (f (lower k)) (g (lower k)) z) (h k) (s k))
      fun k => im k (transform (f (upper k)) (g (upper k)) z) (transform (f (lower k)) (g (lower k)) z) (h k) (s k)) + d * z r

theorem transform_plain {n : ℕ} {f g y : Fin n → EReal} (hf : ∀ k, IsReal (f k)) (hg : ∀ k, g k = f k - f k) (hy : ∀ k, IsReal (y k)) :
    transform f g y = ∑ k, y k * f k := by
  choose Y hY using hy
  rw [transform_eq hf hg hY]
  exact Finset.sum_congr rfl fun k _ => by rw [hY k, mul_comm]

theorem _root_.Cert.Finite.IsReal.sub {x y : EReal} : IsReal x → IsReal y → IsReal (x - y)
  | ⟨a, ha⟩, ⟨b, hb⟩ => ⟨a - b, by rw [ha, hb, EReal.coe_sub]⟩

theorem real_select {b : BitVec 1} {x y : EReal} (hx : IsReal x) (hy : IsReal y) : IsReal (Scalar.select b x y) := by
  unfold Scalar.select
  split
  · exact hx
  · exact hy

theorem real_re {k : Fin 256} {a b h s : EReal} (ha : IsReal a) (hb : IsReal b) (hh : IsReal h) (hs : IsReal s) : IsReal (re k a b h s) :=
  (ha.mul hh).sub (real_select isReal_zero (hb.mul hs))

theorem real_im {k : Fin 256} {a b h s : EReal} (ha : IsReal a) (hb : IsReal b) (hh : IsReal h) (hs : IsReal s) : IsReal (im k a b h s) :=
  real_select (hb.mul hs) ((ha.mul hs).add (hb.mul hh))

theorem stack_upper (x y : Fin 256 → EReal) (k : Fin 256) : stack x y (upper k) = x k := dif_pos k.isLt

theorem stack_lower (x y : Fin 256 → EReal) (k : Fin 256) : stack x y (lower k) = y k := by
  rw [stack, dif_neg (by simp)]
  simp

/-- A column whose halves are known. -/
theorem eq_stack {y : Fin 512 → EReal} {a b : Fin 256 → EReal} (ha : ∀ k, y (upper k) = a k) (hb : ∀ k, y (lower k) = b k) : y = stack a b := by
  funext w
  by_cases h : w.val < 256
  · exact (ha ⟨w.val, h⟩).trans (stack_upper a b ⟨w.val, h⟩).symm
  · have e : lower ⟨w.val - 256, by omega⟩ = w := Fin.ext (by simp; omega)
    rw [← e, hb, stack_lower]

theorem sum_stack (x y : Fin 256 → EReal) (i : Fin 512 → EReal) :
    ∑ w, stack x y w * i w = (∑ k, x k * i (upper k)) + ∑ k, y k * i (lower k) := by
  rw [show (∑ w : Fin 512, stack x y w * i w) = ∑ w : Fin (256 + 256), stack x y w * i w from rfl, Fin.sum_univ_add]
  exact congrArg₂ (· + ·) (Finset.sum_congr rfl fun k _ => congrArg (· * i (upper k)) (stack_upper x y k))
    (Finset.sum_congr rfl fun k _ => congrArg (· * i (lower k)) (stack_lower x y k))

theorem sum_halves {y : Fin 512 → EReal} {a b : Fin 256 → EReal} (ha : ∀ k, y (upper k) = a k) (hb : ∀ k, y (lower k) = b k) (i : Fin 512 → EReal) :
    ∑ w, y w * i w = (∑ k, a k * i (upper k)) + ∑ k, b k * i (lower k) := by
  rw [eq_stack ha hb, sum_stack]

theorem transform_stack (f g : Fin 512 → EReal) (a b : Fin 256 → EReal) :
    transform f g (stack a b)
      = ((∑ k, f (upper k) * a k) + ∑ k, f (lower k) * b k) + ((∑ k, g (upper k) * a k) + ∑ k, g (lower k) * b k)
        + ((∑ k, f (upper k) * (a k - a k)) + ∑ k, f (lower k) * (b k - b k)) := by
  have h (f : Fin 512 → EReal) (a b : Fin 256 → EReal) : ∑ w, f w * stack a b w = (∑ k, f (upper k) * a k) + ∑ k, f (lower k) * b k := by
    simp only [mul_comm (f _)]
    exact sum_stack a b f
  have e w : stack a b w - stack a b w = stack (fun k => a k - a k) (fun k => b k - b k) w := by
    unfold stack; split <;> rfl
  simp only [transform, e, h]

theorem real_stack {x y : Fin 256 → EReal} (hx : ∀ k, IsReal (x k)) (hy : ∀ k, IsReal (y k)) (w : Fin 512) : IsReal (stack x y w) := by
  unfold stack
  split
  · exact hx _
  · exact hy _

section
variable {f g : Fin 512 → Fin 256 → EReal} {i j : Fin 256 → Fin 512 → EReal} {h s : Fin 256 → EReal} {d : EReal} {z : Fin 256 → EReal}
  (hf : ∀ w k, IsReal (f w k)) (hg : ∀ w k, g w k = f w k - f w k) (hi : ∀ r w, IsReal (i r w)) (hj : ∀ r w, j r w = i r w - i r w)
  (hh : ∀ k, IsReal (h k)) (hs : ∀ k, IsReal (s k)) (hd : IsReal d) (hz : ∀ k, IsReal (z k))
include hf hi hh hs hz

include hd in
theorem real_longconv (r : Fin 256) : IsReal (longconv f i h s d z r) := by
  have ht w : IsReal (∑ j, z j * f w j) := .sum fun k => (hz k).mul (hf w k)
  exact ((IsReal.sum fun k => (real_re (ht _) (ht _) (hh k) (hs k)).mul (hi _ _)).add
    (.sum fun k => (real_im (ht _) (ht _) (hh k) (hs k)).mul (hi _ _))).add (hd.mul (hz r))

include hg hj in
theorem split_eq (r : Fin 256) : split_longconv f g i j h s d z r = longconv f i h s d z r := by
  have ht w : IsReal (∑ j, z j * f w j) := .sum fun k => (hz k).mul (hf w k)
  have e w : transform (f w) (g w) z = ∑ j, z j * f w j := transform_plain (hf w) (hg w) hz
  simp only [split_longconv, longconv, e]
  rw [transform_plain (hi r) (hj r) (real_stack (fun k => real_re (ht _) (ht _) (hh k) (hs k)) fun k => real_im (ht _) (ht _) (hh k) (hs k)), sum_stack]

end

end Cert.Hyena

end
-- ==== Proof.HyenaPay.lean ====
module

public import proofs.«01_k».proof.Proof.Gen.Kernel9Ideal.Skeleton
public import proofs.«01_k».proof.Proof.HyenaMath
public import Idealize.ShloMosaic.Lib.Pointwise

/-! What the body of the Hyena mixer computes, element by element. -/

@[expose] public section

set_option maxRecDepth 16384

noncomputable section

namespace Cert.Kernel9Ideal.Hyena

open Cert.Kernel9Ideal Cert.Kernel9Ideal.Gen Idealize.ShloMosaic Idealize.SL.Sem
open Cert.Filter Cert.Hyena

theorem first_apply (r q : Fin 256) : k0_pay6 (ix2 r q) = first r := by
  pointwise [k0_pay6, first]

section
variable (b u a : Vec Ideal S256x768 .f32) (w0 w1 w2 : Vec Ideal S1x768 .f32)

/-- The short convolution: three rows, three weights. -/
theorem short_apply (r : Fin 256) (q : Fin 768) :
    k0_pay5 (F := Ideal) b w0 u w1 a w2 (ix2 r q) = b (ix2 r q) * w0 (ix2 0 q) + u (ix2 r q) * w1 (ix2 0 q) + a (ix2 r q) * w2 (ix2 0 q) := by
  pointwise [k0_pay5]

theorem v_apply (r q : Fin 256) :
    k0_pay7 (F := Ideal) b w0 u w1 a w2 (ix2 r q) = k0_pay5 (F := Ideal) b w0 u w1 a w2 (ix2 r ⟨q.val, by omega⟩) := by
  pointwise [k0_pay7]

theorem x1_apply (r q : Fin 256) :
    k0_pay8 (F := Ideal) b w0 u w1 a w2 (ix2 r q) = k0_pay5 (F := Ideal) b w0 u w1 a w2 (ix2 r ⟨256 + q.val, by omega⟩) := by
  pointwise [k0_pay8]

theorem x2_apply (y : FVec Ideal S256x768 .f32) (r q : Fin 256) :
    k0_pay9 (F := Ideal) y (ix2 r q) = y (ix2 r ⟨512 + q.val, by omega⟩) := by
  pointwise [k0_pay9]

end

section
variable (z : FVec Ideal S256x256 .f32) (f g : Vec Ideal S512x256 .bf16) (h s : Vec Ideal S1x256x256 .f32)

theorem sides_upper (k q : Fin 256) :
    k0_pay12 (F := Ideal) k0_pay6 z f g h s (ix2 (upper k) q)
      = re k (transform (fun j => f (ix2 (upper k) j)) (fun j => g (ix2 (upper k) j)) fun j => z (ix2 j q))
          (transform (fun j => f (ix2 (lower k) j)) (fun j => g (ix2 (lower k) j)) fun j => z (ix2 j q)) (h (ix3 0 k q)) (s (ix3 0 k q)) := by
  pointwise [k0_pay12, k0_pay6, re, first, transform]

theorem sides_lower (k q : Fin 256) :
    k0_pay12 (F := Ideal) k0_pay6 z f g h s (ix2 (lower k) q)
      = im k (transform (fun j => f (ix2 (upper k) j)) (fun j => g (ix2 (upper k) j)) fun j => z (ix2 j q))
          (transform (fun j => f (ix2 (lower k) j)) (fun j => g (ix2 (lower k) j)) fun j => z (ix2 j q)) (h (ix3 0 k q)) (s (ix3 0 k q)) := by
  pointwise [k0_pay12, k0_pay6, im, first, transform]

/-- The column that the second transform takes. -/
theorem sides_column (q : Fin 256) :
    (fun w => k0_pay12 (F := Ideal) k0_pay6 z f g h s (ix2 w q))
      = stack (fun k => re k (transform (fun j => f (ix2 (upper k) j)) (fun j => g (ix2 (upper k) j)) fun j => z (ix2 j q))
          (transform (fun j => f (ix2 (lower k) j)) (fun j => g (ix2 (lower k) j)) fun j => z (ix2 j q)) (h (ix3 0 k q)) (s (ix3 0 k q)))
        fun k => im k (transform (fun j => f (ix2 (upper k) j)) (fun j => g (ix2 (upper k) j)) fun j => z (ix2 j q))
          (transform (fun j => f (ix2 (lower k) j)) (fun j => g (ix2 (lower k) j)) fun j => z (ix2 j q)) (h (ix3 0 k q)) (s (ix3 0 k q)) :=
  eq_stack (fun k => sides_upper z f g h s k q) fun k => sides_lower z f g h s k q

variable (x : FVec Ideal S256x256 .f32) (i j : Vec Ideal S256x512 .bf16) (d : Vec Ideal S1x256 .f32)

/-- The first order, times the first gate. -/
def gated : FVec Ideal S256x256 .f32 :=
  k0_pay16 (F := Ideal) z x (k0_pay10 i) (k0_pay11 j) (k0_pay13 k0_pay6 z f g h s) (k0_pay14 k0_pay6 z f g h s) (k0_pay15 k0_pay6 z f g h s i)
    (constant S256x256 .f32 0x00000000#32) d

theorem gated_transform (r q : Fin 256) :
    gated z f g h s x i j d (ix2 r q)
      = x (ix2 r q) * (transform (fun w => i (ix2 r w)) (fun w => j (ix2 r w)) (fun w => k0_pay12 (F := Ideal) k0_pay6 z f g h s (ix2 w q))
          + d (ix2 0 q) * z (ix2 r q)) := by
  pointwise [gated, k0_pay16, k0_pay15, k0_pay14, k0_pay13, k0_pay11, k0_pay10, transform]

theorem gated_apply (r q : Fin 256) :
    gated z f g h s x i j d (ix2 r q)
      = x (ix2 r q) * split_longconv (fun w k => f (ix2 w k)) (fun w k => g (ix2 w k)) (fun k w => i (ix2 k w)) (fun k w => j (ix2 k w))
          (fun k => h (ix3 0 k q)) (fun k => s (ix3 0 k q)) (d (ix2 0 q)) (fun k => z (ix2 k q)) r := by
  rw [gated_transform, sides_column, split_longconv]

/-- The second order's two sides. -/
abbrev sides (h' s' : Vec Ideal S1x256x256 .f32) : FVec Ideal S256x256 .f32 × FVec Ideal S256x256 .f32 :=
  (k0_pay22 (F := Ideal) k0_pay6 z x (k0_pay10 i) (k0_pay11 j) (k0_pay13 k0_pay6 z f g h s) (k0_pay14 k0_pay6 z f g h s)
      (k0_pay15 k0_pay6 z f g h s i) (constant S256x256 .f32 0x00000000#32) d f g h' s',
    k0_pay23 (F := Ideal) k0_pay6 z x (k0_pay10 i) (k0_pay11 j) (k0_pay13 k0_pay6 z f g h s) (k0_pay14 k0_pay6 z f g h s)
      (k0_pay15 k0_pay6 z f g h s i) (constant S256x256 .f32 0x00000000#32) d f g h' s')

variable (h' s' : Vec Ideal S1x256x256 .f32) (d' : Vec Ideal S1x256 .f32) (y : FVec Ideal S256x256 .f32)

theorem second_column (w : Fin 512) (q : Fin 256) :
    k0_pay17 (F := Ideal) z x (k0_pay10 i) (k0_pay11 j) (k0_pay13 k0_pay6 z f g h s) (k0_pay14 k0_pay6 z f g h s)
      (k0_pay15 k0_pay6 z f g h s i) (constant S256x256 .f32 0x00000000#32) d f g (ix2 w q)
      = transform (fun k => f (ix2 w k)) (fun k => g (ix2 w k)) fun k => gated z f g h s x i j d (ix2 k q) := by
  pointwise [k0_pay17, transform, gated]

theorem second_re (k q : Fin 256) :
    (sides z f g h s x i j d h' s').1 (ix2 k q)
      = re k (transform (fun j => f (ix2 (upper k) j)) (fun j => g (ix2 (upper k) j)) fun k => gated z f g h s x i j d (ix2 k q))
          (transform (fun j => f (ix2 (lower k) j)) (fun j => g (ix2 (lower k) j)) fun k => gated z f g h s x i j d (ix2 k q))
          (h' (ix3 0 k q)) (s' (ix3 0 k q)) := by
  rw [← second_column, ← second_column]
  pointwise [k0_pay22, k0_pay18, k0_pay19, k0_pay20, k0_pay21, k0_pay6, re, first]

theorem second_im (k q : Fin 256) :
    (sides z f g h s x i j d h' s').2 (ix2 k q)
      = im k (transform (fun j => f (ix2 (upper k) j)) (fun j => g (ix2 (upper k) j)) fun k => gated z f g h s x i j d (ix2 k q))
          (transform (fun j => f (ix2 (lower k) j)) (fun j => g (ix2 (lower k) j)) fun k => gated z f g h s x i j d (ix2 k q))
          (h' (ix3 0 k q)) (s' (ix3 0 k q)) := by
  rw [← second_column, ← second_column]
  pointwise [k0_pay23, k0_pay18, k0_pay19, k0_pay20, k0_pay21, k0_pay6, im, first]

/-- The last transform takes the two sides, one after the other. -/
theorem stored_transform (A B : FVec Ideal S256x256 .f32) (r q : Fin 256) :
    k0_pay1 (F := Ideal) y x A B (k0_pay24 i) j d' (ix3 0 r q)
      = y (ix2 r q) * (transform (fun w => i (ix2 r w)) (fun w => j (ix2 r w)) (stack (fun k => A (ix2 k q)) fun k => B (ix2 k q))
          + d' (ix2 0 q) * x (ix2 r q)) := by
  rw [transform_stack]
  pointwise [k0_pay1, k0_pay24]

theorem stored_gated (r q : Fin 256) :
    k0_pay1 (F := Ideal) y (gated z f g h s x i j d) (sides z f g h s x i j d h' s').1 (sides z f g h s x i j d h' s').2 (k0_pay24 i) j d' (ix3 0 r q)
      = y (ix2 r q) * split_longconv (fun w k => f (ix2 w k)) (fun w k => g (ix2 w k)) (fun k w => i (ix2 k w)) (fun k w => j (ix2 k w))
          (fun k => h' (ix3 0 k q)) (fun k => s' (ix3 0 k q)) (d' (ix2 0 q)) (fun k => gated z f g h s x i j d (ix2 k q)) r := by
  rw [stored_transform, split_longconv, funext fun k => second_re z f g h s x i j d h' s' k q, funext fun k => second_im z f g h s x i j d h' s' k q]

/-- What the body stores. -/
theorem stored_apply (r q : Fin 256) :
    k0_pay1 (F := Ideal) y (gated z f g h s x i j d) (sides z f g h s x i j d h' s').1 (sides z f g h s x i j d h' s').2 (k0_pay24 i) j d' (ix3 0 r q)
      = y (ix2 r q) * split_longconv (fun w k => f (ix2 w k)) (fun w k => g (ix2 w k)) (fun k w => i (ix2 k w)) (fun k w => j (ix2 k w))
          (fun k => h' (ix3 0 k q)) (fun k => s' (ix3 0 k q)) (d' (ix2 0 q))
          (fun k => x (ix2 k q) * split_longconv (fun w k => f (ix2 w k)) (fun w k => g (ix2 w k)) (fun k w => i (ix2 k w)) (fun k w => j (ix2 k w))
            (fun k => h (ix3 0 k q)) (fun k => s (ix3 0 k q)) (d (ix2 0 q)) (fun k => z (ix2 k q)) k) r := by
  rw [stored_gated, funext fun k => gated_apply z f g h s x i j d k q]

end

end Cert.Kernel9Ideal.Hyena

end
-- ==== Proof.HyenaPad.lean ====
module

public import proofs.«01_k».proof.Proof.Gen.Kernel9Ideal.Value
public import proofs.«01_k».proof.Proof.HyenaPay
public import Idealize.ShloMosaic.Lib.Pipeline.ValueKit

/-! The sequence of the Hyena mixer, laid between rows of zeros: read one row earlier it gives the row before, one row later the row
    after. And the loads of one order's filters. -/

@[expose] public section

set_option maxRecDepth 16384

noncomputable section

namespace Cert.Kernel9Ideal.Hyena

open Cert.Kernel9Ideal Cert.Kernel9Ideal.Gen Idealize.ShloMosaic Idealize.ShloMosaic.TcCoe Idealize.SL.Sem

/-- Where the sequence lies, and the rows before and after it. -/
abbrev middle : Rect S272x768 := Rect.unit (s := S272x768) ![8, 0] S256x768.size inb_S272x768_S256x768_8_0
abbrev bottom : Rect S272x768 := Rect.unit (s := S272x768) ![264, 0] S8x768.size inb_S272x768_S8x768_264_0
abbrev top : Rect S272x768 := Rect.unit (s := S272x768) ![0, 0] S8x768.size inb_S272x768_S8x768_0_0

/-- The sequence between its rows of zeros. -/
def padded (x : Vec Ideal S1x256x768 .f32) : Vec Ideal S272x768 .f32 :=
  View.canon (Val := Elt Ideal) (s := S272x768) (e := .f32) [⟨middle, k0_pay4 (F := Ideal) x⟩, ⟨bottom, k0_pay3 (F := Ideal)⟩, ⟨top, k0_pay2 (F := Ideal)⟩]

theorem middle_emb (r : Fin 256) (q : Fin 768) : middle.emb (ix2 r q) = ix2 ⟨8 + r.val, by omega⟩ q := by
  funext a; fin_cases a <;> apply Fin.ext <;> simp [Rect.emb_apply]

theorem bottom_emb (r : Fin 8) (q : Fin 768) : bottom.emb (ix2 r q) = ix2 ⟨264 + r.val, by omega⟩ q := by
  funext a; fin_cases a <;> apply Fin.ext <;> simp [Rect.emb_apply]

theorem top_emb (r : Fin 8) (q : Fin 768) : top.emb (ix2 r q) = ix2 ⟨r.val, by omega⟩ q := by
  funext a; fin_cases a <;> apply Fin.ext <;> simp [Rect.emb_apply]

theorem pay4_apply (x : Vec Ideal S1x256x768 .f32) (r : Fin 256) (q : Fin 768) : k0_pay4 (F := Ideal) x (ix2 r q) = x (ix3 0 r q) := by
  pointwise [k0_pay4]

theorem pay3_apply (r : Fin 8) (q : Fin 768) : k0_pay3 (F := Ideal) (ix2 r q) = 0 := by
  pointwise [k0_pay3]

theorem pay2_apply (r : Fin 8) (q : Fin 768) : k0_pay2 (F := Ideal) (ix2 r q) = 0 := by
  pointwise [k0_pay2]

theorem padded_middle (x : Vec Ideal S1x256x768 .f32) (r : Fin 256) (q : Fin 768) : padded x (ix2 ⟨8 + r.val, by omega⟩ q) = x (ix3 0 r q) := by
  rw [← middle_emb, ← pay4_apply x r q]
  exact View.canon_cons_emb (Val := Elt Ideal) (e := .f32) middle (k0_pay4 (F := Ideal) x) _ (ix2 r q)

theorem padded_bottom (x : Vec Ideal S1x256x768 .f32) (r : Fin 8) (q : Fin 768) : padded x (ix2 ⟨264 + r.val, by omega⟩ q) = 0 := by
  have h : (ix2 ⟨264 + r.val, by omega⟩ q : S272x768.Idx) ∉ middle.set := fun h => by
    have h1 : 264 + r.val < 8 + 256 := (Rect.mem_set_unit.mp h 0).2
    omega
  refine (View.canon_cons_of_not_mem (Val := Elt Ideal) (⟨middle, k0_pay4 (F := Ideal) x⟩ : View.Piece (Elt Ideal) S272x768 .f32) _ h).trans ?_
  rw [← bottom_emb, ← pay3_apply r q]
  exact View.canon_cons_emb (Val := Elt Ideal) (e := .f32) bottom (k0_pay3 (F := Ideal)) _ (ix2 r q)

theorem padded_top (x : Vec Ideal S1x256x768 .f32) (r : Fin 8) (q : Fin 768) : padded x (ix2 ⟨r.val, by omega⟩ q) = 0 := by
  have h : (ix2 ⟨r.val, by omega⟩ q : S272x768.Idx) ∉ middle.set := fun h => by
    have h1 : 8 ≤ r.val := (Rect.mem_set_unit.mp h 0).1
    omega
  have h' : (ix2 ⟨r.val, by omega⟩ q : S272x768.Idx) ∉ bottom.set := fun h => by
    have h1 : 264 ≤ r.val := (Rect.mem_set_unit.mp h 0).1
    omega
  refine (View.canon_cons_of_not_mem (Val := Elt Ideal) (⟨middle, k0_pay4 (F := Ideal) x⟩ : View.Piece (Elt Ideal) S272x768 .f32) _ h).trans ?_
  refine (View.canon_cons_of_not_mem (Val := Elt Ideal) (⟨bottom, k0_pay3 (F := Ideal)⟩ : View.Piece (Elt Ideal) S272x768 .f32) _ h').trans ?_
  rw [← top_emb, ← pay2_apply r q]
  exact View.canon_cons_emb (Val := Elt Ideal) (e := .f32) top (k0_pay2 (F := Ideal)) _ (ix2 r q)

/-- The rows read from an offset on. -/
def rows7 (x : Vec Ideal S1x256x768 .f32) : Vec Ideal S256x768 .f32 :=
  fun j => padded x ((Rect.unit (s := S272x768) ![7, 0] S256x768.size inb_S272x768_S256x768_7_0).toLoadRect.idx j)
def rows8 (x : Vec Ideal S1x256x768 .f32) : Vec Ideal S256x768 .f32 := fun j => padded x (middle.toLoadRect.idx j)
def rows9 (x : Vec Ideal S1x256x768 .f32) : Vec Ideal S256x768 .f32 :=
  fun j => padded x ((Rect.unit (s := S272x768) ![9, 0] S256x768.size inb_S272x768_S256x768_9_0).toLoadRect.idx j)

theorem idx7 (r : Fin 256) (q : Fin 768) :
    (Rect.unit (s := S272x768) ![7, 0] S256x768.size inb_S272x768_S256x768_7_0).toLoadRect.idx (ix2 r q) = ix2 ⟨7 + r.val, by omega⟩ q := by
  funext a; fin_cases a <;> apply Fin.ext <;> simp

theorem idx8 (r : Fin 256) (q : Fin 768) : middle.toLoadRect.idx (ix2 r q) = ix2 ⟨8 + r.val, by omega⟩ q := by
  funext a; fin_cases a <;> apply Fin.ext <;> simp

theorem idx9 (r : Fin 256) (q : Fin 768) :
    (Rect.unit (s := S272x768) ![9, 0] S256x768.size inb_S272x768_S256x768_9_0).toLoadRect.idx (ix2 r q) = ix2 ⟨9 + r.val, by omega⟩ q := by
  funext a; fin_cases a <;> apply Fin.ext <;> simp

theorem rows8_apply (x : Vec Ideal S1x256x768 .f32) (r : Fin 256) (q : Fin 768) : rows8 x (ix2 r q) = x (ix3 0 r q) := by
  rw [rows8, idx8, padded_middle]

theorem rows7_apply (x : Vec Ideal S1x256x768 .f32) (r : Fin 256) (q : Fin 768) :
    rows7 x (ix2 r q) = if h : r.val < 1 then 0 else x (ix3 0 ⟨r.val - 1, by omega⟩ q) := by
  rw [rows7, idx7]
  split
  · rw [show (⟨7 + r.val, by omega⟩ : Fin 272) = ⟨(⟨7 + r.val, by omega⟩ : Fin 8).val, by omega⟩ from rfl, padded_top]
  · rw [show (⟨7 + r.val, by omega⟩ : Fin 272) = ⟨8 + (⟨r.val - 1, by omega⟩ : Fin 256).val, by dsimp; omega⟩ from Fin.ext (by dsimp; omega), padded_middle]

theorem rows9_apply (x : Vec Ideal S1x256x768 .f32) (r : Fin 256) (q : Fin 768) :
    rows9 x (ix2 r q) = if h : r.val < 255 then x (ix3 0 ⟨1 + r.val, by omega⟩ q) else 0 := by
  rw [rows9, idx9]
  split
  · rw [show (⟨9 + r.val, by omega⟩ : Fin 272) = ⟨8 + (⟨1 + r.val, by omega⟩ : Fin 256).val, by dsimp; omega⟩ from Fin.ext (by dsimp; omega), padded_middle]
  · rw [show (⟨9 + r.val, by omega⟩ : Fin 272) = ⟨264 + (⟨r.val - 255, by omega⟩ : Fin 8).val, by dsimp; omega⟩ from Fin.ext (by dsimp; omega), padded_bottom]

/-! The loads of one row of the weights, of one order's filters and of its bias. -/

variable (w : Vec Ideal S3x768 .f32) (h : Vec Ideal S2x256x256 .f32) (d : Vec Ideal S2x256 .f32)

def conv0 : Vec Ideal S1x768 .f32 := View.ld w (Rect.unit (s := S3x768) ![0, 0] S1x768.size inb_S3x768_S1x768_0_0)
def conv1 : Vec Ideal S1x768 .f32 := View.ld w (Rect.unit (s := S3x768) ![1, 0] S1x768.size inb_S3x768_S1x768_1_0)
def conv2 : Vec Ideal S1x768 .f32 := View.ld w (Rect.unit (s := S3x768) ![2, 0] S1x768.size inb_S3x768_S1x768_2_0)
def filter0 : Vec Ideal S1x256x256 .f32 := View.ld h (Rect.unit (s := S2x256x256) ![0, 0, 0] S1x256x256.size inb_S2x256x256_S1x256x256_0_0_0)
def filter1 : Vec Ideal S1x256x256 .f32 := View.ld h (Rect.unit (s := S2x256x256) ![1, 0, 0] S1x256x256.size inb_S2x256x256_S1x256x256_1_0_0)
def bias0 : Vec Ideal S1x256 .f32 := View.ld d (Rect.unit (s := S2x256) ![0, 0] S1x256.size inb_S2x256_S1x256_0_0)
def bias1 : Vec Ideal S1x256 .f32 := View.ld d (Rect.unit (s := S2x256) ![1, 0] S1x256.size inb_S2x256_S1x256_1_0)

theorem conv0_apply (q : Fin 768) : conv0 w (ix2 0 q) = w (ix2 0 q) :=
  congrArg w (by funext a; fin_cases a <;> apply Fin.ext <;> simp [Rect.emb_apply])
theorem conv1_apply (q : Fin 768) : conv1 w (ix2 0 q) = w (ix2 1 q) :=
  congrArg w (by funext a; fin_cases a <;> apply Fin.ext <;> simp [Rect.emb_apply])
theorem conv2_apply (q : Fin 768) : conv2 w (ix2 0 q) = w (ix2 2 q) :=
  congrArg w (by funext a; fin_cases a <;> apply Fin.ext <;> simp [Rect.emb_apply])
theorem filter0_apply (k q : Fin 256) : filter0 h (ix3 0 k q) = h (ix3 0 k q) :=
  congrArg h (by funext a; fin_cases a <;> apply Fin.ext <;> simp [Rect.emb_apply])
theorem filter1_apply (k q : Fin 256) : filter1 h (ix3 0 k q) = h (ix3 1 k q) :=
  congrArg h (by funext a; fin_cases a <;> apply Fin.ext <;> simp [Rect.emb_apply])
theorem bias0_apply (q : Fin 256) : bias0 d (ix2 0 q) = d (ix2 0 q) :=
  congrArg d (by funext a; fin_cases a <;> apply Fin.ext <;> simp [Rect.emb_apply])
theorem bias1_apply (q : Fin 256) : bias1 d (ix2 0 q) = d (ix2 1 q) :=
  congrArg d (by funext a; fin_cases a <;> apply Fin.ext <;> simp [Rect.emb_apply])

end Cert.Kernel9Ideal.Hyena

end
-- ==== Proof.HyenaReads.lean ====
module

public import proofs.«01_k».proof.Proof.Gen.Kernel9Ideal.Value
public import Idealize.ShloMosaic.Lib.Pipeline.ValueKit
public import Idealize.ShloMosaic.Lib.Pointwise

/-! What the blocks of the Hyena mixer hold: one sequence at a time, the weights and the filters whole, each table in two parts. -/

@[expose] public section

set_option maxRecDepth 16384

noncomputable section

namespace Cert.Kernel9Ideal.Hyena

open Cert.Kernel9Ideal Cert.Kernel9Ideal.Gen Idealize.ShloMosaic Idealize.ShloMosaic.TcCoe Idealize.SL.Sem

variable (m : (ℓ : Loc nD τ sig) → Buf (Elt Ideal) ℓ) (c : Dev nD)

/-- The block indices of the windows. -/
theorem idx : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 3) = t.val ∧ win0_9.index t (1 : Fin 3) = 0 ∧ win0_9.index t (2 : Fin 3) = 0) := by
  decide +kernel

/-- The seven arguments. -/
abbrev A0 : Vec Ideal S32x256x768 .f32 := m ((c : Thread nD τ).loc main_arg0)
abbrev A1 : Vec Ideal S3x768 .f32 := m ((c : Thread nD τ).loc main_arg1)
abbrev A2 : Vec Ideal S2x256x256 .f32 := m ((c : Thread nD τ).loc main_arg2)
abbrev A3 : Vec Ideal S2x256x256 .f32 := m ((c : Thread nD τ).loc main_arg3)
abbrev A4 : Vec Ideal S2x256 .f32 := m ((c : Thread nD τ).loc main_arg4)
abbrev A5 : Vec Ideal S512x256 .f32 := m ((c : Thread nD τ).loc main_arg5)
abbrev A6 : Vec Ideal S256x512 .f32 := m ((c : Thread nD τ).loc main_arg6)

/-- The sequence of a step. -/
abbrev slab (t : Fin cfg0.N) : Fin 32 := ⟨t.val, t.isLt⟩

theorem read_slab (t : Fin cfg0.N) (r : Fin 256) (q : Fin 768) : iblk m c 0 t (ix3 0 r q) = A0 m c (ix3 (slab t) r q) := by
  blk_ext [iblk, V, idx t]

theorem read_conv (t : Fin cfg0.N) (k : Fin 3) (q : Fin 768) : iblk m c 1 t (ix2 k q) = A1 m c (ix2 k q) := by
  blk_ext [iblk, V, idx t]

theorem read_hr (t : Fin cfg0.N) (o : Fin 2) (k q : Fin 256) : iblk m c 2 t (ix3 o k q) = A2 m c (ix3 o k q) := by
  blk_ext [iblk, V, idx t]

theorem read_hs (t : Fin cfg0.N) (o : Fin 2) (k q : Fin 256) : iblk m c 3 t (ix3 o k q) = A3 m c (ix3 o k q) := by
  blk_ext [iblk, V, idx t]

theorem read_bias (t : Fin cfg0.N) (o : Fin 2) (q : Fin 256) : iblk m c 4 t (ix2 o q) = A4 m c (ix2 o q) := by
  blk_ext [iblk, V, idx t]

theorem read_fwd_hi (t : Fin cfg0.N) (w : Fin 512) (k : Fin 256) : iblk m c 5 t (ix2 w k) = A5 m c (ix2 w k) := by
  blk_ext! [iblk, V, idx t]

theorem read_fwd_lo (t : Fin cfg0.N) (w : Fin 512) (k : Fin 256) : iblk m c 6 t (ix2 w k) = A5 m c (ix2 w k) - A5 m c (ix2 w k) := by
  blk_ext! [iblk, V, idx t]

theorem read_inv_hi (t : Fin cfg0.N) (k : Fin 256) (w : Fin 512) : iblk m c 7 t (ix2 k w) = A6 m c (ix2 k w) := by
  blk_ext! [iblk, V, idx t]

theorem read_inv_lo (t : Fin cfg0.N) (k : Fin 256) (w : Fin 512) : iblk m c 8 t (ix2 k w) = A6 m c (ix2 k w) - A6 m c (ix2 k w) := by
  blk_ext! [iblk, V, idx t]

end Cert.Kernel9Ideal.Hyena

end
-- ==== Proof.HyenaBlock.lean ====
module

public import proofs.«01_k».proof.Proof.HyenaPad
public import proofs.«01_k».proof.Proof.HyenaReads
public import Idealize.ShloMosaic.Lib.Pointwise

/-! The block one step of the Hyena mixer stores, as a value of the blocks it reads. -/

@[expose] public section

set_option maxRecDepth 16384

noncomputable section

namespace Cert.Kernel9Ideal.Hyena

open Cert.Kernel9Ideal Cert.Kernel9Ideal.Gen Idealize.ShloMosaic Idealize.ShloMosaic.TcCoe Idealize.SL.Sem
open Idealize.ShloMosaic.Tactic

theorem hz3 : (![0, 0, 0] : Fin 3 → ℕ) = fun _ => 0 := by funext a; fin_cases a <;> rfl
theorem hz2 : (![0, 0] : Fin 2 → ℕ) = fun _ => 0 := by funext a; fin_cases a <;> rfl

section
variable (x0 : Vec Ideal S1x256x768 .f32) (x1 : Vec Ideal S3x768 .f32) (x2 : Vec Ideal S2x256x256 .f32) (x3 : Vec Ideal S2x256x256 .f32) (x4 : Vec Ideal S2x256 .f32) (x5 : Vec Ideal S512x256 .bf16) (x6 : Vec Ideal S512x256 .bf16) (x7 : Vec Ideal S256x512 .bf16) (x8 : Vec Ideal S256x512 .bf16)

/-- The three parts of the short convolution. -/
abbrev partV : Vec Ideal S256x256 .f32 := k0_pay7 (F := Ideal) (rows7 x0) (conv0 x1) (rows8 x0) (conv1 x1) (rows9 x0) (conv2 x1)
abbrev partX : Vec Ideal S256x256 .f32 := k0_pay8 (F := Ideal) (rows7 x0) (conv0 x1) (rows8 x0) (conv1 x1) (rows9 x0) (conv2 x1)
abbrev partY : Vec Ideal S256x256 .f32 := k0_pay9 (F := Ideal) (k0_pay5 (F := Ideal) (rows7 x0) (conv0 x1) (rows8 x0) (conv1 x1) (rows9 x0) (conv2 x1))

/-- What the step stores. -/
abbrev stored : Vec Ideal S1x256x256 .bf16 :=
  k0_pay1 (F := Ideal) (partY x0 x1) (gated (partV x0 x1) x5 x6 (filter0 x2) (filter0 x3) (partX x0 x1) x7 x8 (bias0 x4))
    (sides (partV x0 x1) x5 x6 (filter0 x2) (filter0 x3) (partX x0 x1) x7 x8 (bias0 x4) (filter1 x2) (filter1 x3)).1
    (sides (partV x0 x1) x5 x6 (filter0 x2) (filter0 x3) (partX x0 x1) x7 x8 (bias0 x4) (filter1 x2) (filter1 x3)).2
    (k0_pay24 (F := Ideal) x7) x8 (bias1 x4)

variable (c : Dev nD) (i : grid0.Coords) (arg1 : Memref sig .tc .vmem S1x256x768 .f32) (harg1 : arg1.IsWhole) (arg2 : Memref sig .tc .vmem S3x768 .f32) (harg2 : arg2.IsWhole) (arg3 : Memref sig .tc .vmem S2x256x256 .f32) (harg3 : arg3.IsWhole) (arg4 : Memref sig .tc .vmem S2x256x256 .f32) (harg4 : arg4.IsWhole) (arg5 : Memref sig .tc .vmem S2x256 .f32) (harg5 : arg5.IsWhole) (arg6 : Memref sig .tc .vmem S512x256 .bf16) (harg6 : arg6.IsWhole) (arg7 : Memref sig .tc .vmem S512x256 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S1x256x256 .bf16) (harg10 : arg10.IsWhole) (arg11 : Memref sig .tc .vmem S272x768 .f32) (harg11 : arg11.IsWhole)

theorem out_stored :
    out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8
      = stored x0 x1 x2 x3 x4 x5 x6 x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7 x8)]
  unfold kernelRun0_A
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread,
    View.ld_unit_zero (S := S1x256x768) hz3, View.ld_unit_zero (S := S512x256) hz2, View.ld_unit_zero (S := S256x512) hz2, View.readCov_eq_canon']
  rfl

end

end Cert.Kernel9Ideal.Hyena

end
-- ==== Proof.HyenaRef.lean ====
module

public import proofs.«01_k».proof.Proof.Gen.Reference9Ideal.Read
public import proofs.«01_k».proof.Proof.HyenaMath
public import Idealize.ShloMosaic.Lib.Pointwise

/-! The reference of the Hyena mixer, element by element. -/

@[expose] public section

set_option maxRecDepth 16384

noncomputable section

namespace Cert.Reference9Ideal.Hyena

open Cert.Reference9Ideal Cert.Reference9Ideal.Gen Cert.Reference9Ideal.Read Idealize.ShloMosaic Idealize.SL.Sem
open Cert.Filter Cert.Hyena

variable (x0 : Vec Ideal S32x256x768 .f32) (x1 : Vec Ideal S3x768 .f32) (x2 x3 : Vec Ideal S2x256x256 .f32) (x4 : Vec Ideal S2x256 .f32)
  (x5 : Vec Ideal S512x256 .f32) (x6 : Vec Ideal S256x512 .f32)

/-- The row before, and the row after; zeros beyond the ends. -/
def before (b : Fin 32) (r : Fin 256) (q : Fin 768) : EReal := if h : r.val < 1 then 0 else x0 (ix3 b ⟨r.val - 1, by omega⟩ q)
def after (b : Fin 32) (r : Fin 256) (q : Fin 768) : EReal := if h : r.val < 255 then x0 (ix3 b ⟨1 + r.val, by omega⟩ q) else 0

/-- The short convolution. -/
def short (b : Fin 32) (r : Fin 256) (q : Fin 768) : EReal :=
  before x0 b r q * x1 (ix2 0 q) + x0 (ix3 b r q) * x1 (ix2 1 q) + after x0 b r q * x1 (ix2 2 q)

theorem before_apply (b : Fin 32) (r : Fin 256) (q : Fin 768) : val_main_v2 (F := Ideal) x0 (ix3 b r q) = before x0 b r q := by
  pointwise [val_main_v2, val_main_v1, val_main_v0, val_main_cst, before]

theorem after_apply (b : Fin 32) (r : Fin 256) (q : Fin 768) : val_main_v4 (F := Ideal) x0 (ix3 b r q) = after x0 b r q := by
  pointwise [val_main_v4, val_main_v3, val_main_v0, val_main_cst, after]

theorem short_apply (b : Fin 32) (r : Fin 256) (q : Fin 768) : val_main_v21 (F := Ideal) x0 x1 (ix3 b r q) = short x0 x1 b r q := by
  rw [short, ← before_apply, ← after_apply]
  pointwise [val_main_v21, val_main_v20, val_main_v19, val_main_v18, val_main_v17, val_main_v16, val_main_v15, val_main_v14, val_main_v13, val_main_v12,
    val_main_v11, val_main_v10, val_main_v9, val_main_v8, val_main_v7, val_main_v6, val_main_v5]

theorem v_apply (b : Fin 32) (r q : Fin 256) : val_main_v22 (F := Ideal) x0 x1 (ix3 b r q) = short x0 x1 b r ⟨q.val, by omega⟩ := by
  rw [← short_apply]
  pointwise [val_main_v22]

theorem x1_apply (b : Fin 32) (r q : Fin 256) : val_main_v23 (F := Ideal) x0 x1 (ix3 b r q) = short x0 x1 b r ⟨256 + q.val, by omega⟩ := by
  rw [← short_apply]
  pointwise [val_main_v23]

theorem x2_apply (b : Fin 32) (r q : Fin 256) : val_main_v24 (F := Ideal) x0 x1 (ix3 b r q) = short x0 x1 b r ⟨512 + q.val, by omega⟩ := by
  rw [← short_apply]
  pointwise [val_main_v24]

theorem product_upper (b : Fin 32) (k q : Fin 256) :
    val_main_v50 (F := Ideal) x0 x1 x2 x3 x5 (ix3 b (upper k) q)
      = re k (∑ j : Fin 256, val_main_v22 (F := Ideal) x0 x1 (ix3 b j q) * x5 (ix2 (upper k) j))
          (∑ j : Fin 256, val_main_v22 (F := Ideal) x0 x1 (ix3 b j q) * x5 (ix2 (lower k) j)) (x2 (ix3 0 k q)) (x3 (ix3 0 k q)) := by
  rw [← re_eq]
  pointwise [val_main_v50, val_main_v49, val_main_v48, val_main_v47, val_main_v46, val_main_v45, val_main_v44, val_main_v43, val_main_v42, val_main_v41,
    val_main_v40, val_main_v39, val_main_v38, val_main_v37, val_main_v36, val_main_v35, val_main_v34, val_main_v33, val_main_v32, val_main_v31,
    val_main_v30, val_main_v29, val_main_v28, val_main_v27, val_main_v26, val_main_v25, val_main_c, val_main_cst_0, val_main_call0_v0,
    val_main_call0_v1, first]
  simp only [id]
  pointwise []

theorem product_lower (b : Fin 32) (k q : Fin 256) :
    val_main_v50 (F := Ideal) x0 x1 x2 x3 x5 (ix3 b (lower k) q)
      = im k (∑ j : Fin 256, val_main_v22 (F := Ideal) x0 x1 (ix3 b j q) * x5 (ix2 (upper k) j))
          (∑ j : Fin 256, val_main_v22 (F := Ideal) x0 x1 (ix3 b j q) * x5 (ix2 (lower k) j)) (x2 (ix3 0 k q)) (x3 (ix3 0 k q)) := by
  rw [← im_eq]
  pointwise [val_main_v50, val_main_v49, val_main_v48, val_main_v47, val_main_v46, val_main_v45, val_main_v44, val_main_v43, val_main_v42, val_main_v41,
    val_main_v40, val_main_v39, val_main_v38, val_main_v37, val_main_v36, val_main_v35, val_main_v34, val_main_v33, val_main_v32, val_main_v31,
    val_main_v30, val_main_v29, val_main_v28, val_main_v27, val_main_v26, val_main_v25, val_main_c, val_main_cst_0, val_main_call0_v0,
    val_main_call0_v1, first]
  simp only [id]
  pointwise []

theorem first_order (b : Fin 32) (r q : Fin 256) :
    val_main_v58 (F := Ideal) x0 x1 x2 x3 x4 x5 x6 (ix3 b r q)
      = (∑ w : Fin 512, val_main_v50 (F := Ideal) x0 x1 x2 x3 x5 (ix3 b w q) * x6 (ix2 r w))
        + x4 (ix2 0 q) * val_main_v22 (F := Ideal) x0 x1 (ix3 b r q) := by
  pointwise [val_main_v58, val_main_v57, val_main_v56, val_main_v55, val_main_v54, val_main_v53, val_main_v52, val_main_v51]

theorem conv_apply (b : Fin 32) (r q : Fin 256) :
    val_main_v58 (F := Ideal) x0 x1 x2 x3 x4 x5 x6 (ix3 b r q)
      = longconv (fun w k => x5 (ix2 w k)) (fun k w => x6 (ix2 k w)) (fun k => x2 (ix3 0 k q)) (fun k => x3 (ix3 0 k q)) (x4 (ix2 0 q))
          (fun k => val_main_v22 (F := Ideal) x0 x1 (ix3 b k q)) r := by
  rw [first_order, longconv]
  exact congrArg (· + _) (sum_halves (y := fun w => val_main_v50 (F := Ideal) x0 x1 x2 x3 x5 (ix3 b w q)) (product_upper x0 x1 x2 x3 x5 b · q)
    (product_lower x0 x1 x2 x3 x5 b · q) fun w => x6 (ix2 r w))

theorem product1_upper (b : Fin 32) (k q : Fin 256) :
    val_main_v79 (F := Ideal) x0 x1 x2 x3 x4 x5 x6 (ix3 b (upper k) q)
      = re k (∑ j : Fin 256, val_main_v59 (F := Ideal) x0 x1 x2 x3 x4 x5 x6 (ix3 b j q) * x5 (ix2 (upper k) j))
          (∑ j : Fin 256, val_main_v59 (F := Ideal) x0 x1 x2 x3 x4 x5 x6 (ix3 b j q) * x5 (ix2 (lower k) j)) (x2 (ix3 1 k q)) (x3 (ix3 1 k q)) := by
  rw [← re_eq]
  pointwise [val_main_v79, val_main_v78, val_main_v77, val_main_v76, val_main_v75, val_main_v74, val_main_v73, val_main_v72, val_main_v71, val_main_v70,
    val_main_v69, val_main_v68, val_main_v67, val_main_v66, val_main_v65, val_main_v64, val_main_v63, val_main_v62, val_main_v61, val_main_v60,
    val_main_v30, val_main_v29, val_main_v28, val_main_v27, val_main_v26, val_main_v25, val_main_c, val_main_cst_1, val_main_call2_v0,
    val_main_call2_v1, first]
  simp only [id]
  pointwise []

theorem product1_lower (b : Fin 32) (k q : Fin 256) :
    val_main_v79 (F := Ideal) x0 x1 x2 x3 x4 x5 x6 (ix3 b (lower k) q)
      = im k (∑ j : Fin 256, val_main_v59 (F := Ideal) x0 x1 x2 x3 x4 x5 x6 (ix3 b j q) * x5 (ix2 (upper k) j))
          (∑ j : Fin 256, val_main_v59 (F := Ideal) x0 x1 x2 x3 x4 x5 x6 (ix3 b j q) * x5 (ix2 (lower k) j)) (x2 (ix3 1 k q)) (x3 (ix3 1 k q)) := by
  rw [← im_eq]
  pointwise [val_main_v79, val_main_v78, val_main_v77, val_main_v76, val_main_v75, val_main_v74, val_main_v73, val_main_v72, val_main_v71, val_main_v70,
    val_main_v69, val_main_v68, val_main_v67, val_main_v66, val_main_v65, val_main_v64, val_main_v63, val_main_v62, val_main_v61, val_main_v60,
    val_main_v30, val_main_v29, val_main_v28, val_main_v27, val_main_v26, val_main_v25, val_main_c, val_main_cst_1, val_main_call2_v0,
    val_main_call2_v1, first]
  simp only [id]
  pointwise []

theorem second_order (b : Fin 32) (r q : Fin 256) :
    val_main_v87 (F := Ideal) x0 x1 x2 x3 x4 x5 x6 (ix3 b r q)
      = (∑ w : Fin 512, val_main_v79 (F := Ideal) x0 x1 x2 x3 x4 x5 x6 (ix3 b w q) * x6 (ix2 r w))
        + x4 (ix2 1 q) * val_main_v59 (F := Ideal) x0 x1 x2 x3 x4 x5 x6 (ix3 b r q) := by
  pointwise [val_main_v87, val_main_v86, val_main_v85, val_main_v84, val_main_v83, val_main_v82, val_main_v81, val_main_v80]

theorem conv1_apply (b : Fin 32) (r q : Fin 256) :
    val_main_v87 (F := Ideal) x0 x1 x2 x3 x4 x5 x6 (ix3 b r q)
      = longconv (fun w k => x5 (ix2 w k)) (fun k w => x6 (ix2 k w)) (fun k => x2 (ix3 1 k q)) (fun k => x3 (ix3 1 k q)) (x4 (ix2 1 q))
          (fun k => val_main_v59 (F := Ideal) x0 x1 x2 x3 x4 x5 x6 (ix3 b k q)) r := by
  rw [second_order, longconv]
  exact congrArg (· + _) (sum_halves (y := fun w => val_main_v79 (F := Ideal) x0 x1 x2 x3 x4 x5 x6 (ix3 b w q)) (product1_upper x0 x1 x2 x3 x4 x5 x6 b · q)
    (product1_lower x0 x1 x2 x3 x4 x5 x6 b · q) fun w => x6 (ix2 r w))

theorem gated_apply (b : Fin 32) (r q : Fin 256) :
    val_main_v59 (F := Ideal) x0 x1 x2 x3 x4 x5 x6 (ix3 b r q)
      = val_main_v23 (F := Ideal) x0 x1 (ix3 b r q) * val_main_v58 (F := Ideal) x0 x1 x2 x3 x4 x5 x6 (ix3 b r q) := by
  pointwise [val_main_v59]

theorem result_apply (b : Fin 32) (r q : Fin 256) :
    val_main_v89 (F := Ideal) x0 x1 x2 x3 x4 x5 x6 (ix3 b r q)
      = val_main_v24 (F := Ideal) x0 x1 (ix3 b r q) * val_main_v87 (F := Ideal) x0 x1 x2 x3 x4 x5 x6 (ix3 b r q) := by
  pointwise [val_main_v89, val_main_v88]

/-- The reference, whole. -/
theorem whole (b : Fin 32) (r q : Fin 256) :
    val_main_v89 (F := Ideal) x0 x1 x2 x3 x4 x5 x6 (ix3 b r q)
      = short x0 x1 b r ⟨512 + q.val, by omega⟩
        * longconv (fun w k => x5 (ix2 w k)) (fun k w => x6 (ix2 k w)) (fun k => x2 (ix3 1 k q)) (fun k => x3 (ix3 1 k q)) (x4 (ix2 1 q))
            (fun k => short x0 x1 b k ⟨256 + q.val, by omega⟩
              * longconv (fun w k => x5 (ix2 w k)) (fun k w => x6 (ix2 k w)) (fun k => x2 (ix3 0 k q)) (fun k => x3 (ix3 0 k q)) (x4 (ix2 0 q))
                  (fun j => short x0 x1 b j ⟨q.val, by omega⟩) k) r := by
  rw [result_apply, conv1_apply, x2_apply]
  simp only [gated_apply, conv_apply, x1_apply, v_apply]

end Cert.Reference9Ideal.Hyena

end
-- ==== Proof.HyenaArr.lean ====
module

public import proofs.«01_k».proof.Proof.HyenaBlock
public import proofs.«01_k».proof.Proof.HyenaRef

/-! The array the Hyena mixer leaves is the reference's. Its arguments are finite, so the low parts of the tables are zero. -/

@[expose] public section

set_option maxRecDepth 16384

noncomputable section

namespace Cert.Kernel9Ideal.Hyena

open Cert.Kernel9Ideal Cert.Kernel9Ideal.Gen Idealize.ShloMosaic Idealize.ShloMosaic.TcCoe Idealize.SL.Sem
open Cert.Finite Cert.Hyena
open Cert.Reference9Ideal.Hyena (before after short whole)

variable (m : (ℓ : Loc nD τ sig) → Buf (Elt Ideal) ℓ) (c : Dev nD)

/-- The short convolution of one sequence. -/
theorem short_block (t : Fin cfg0.N) (r : Fin 256) (q : Fin 768) :
    k0_pay5 (F := Ideal) (rows7 (iblk m c 0 t)) (conv0 (iblk m c 1 t)) (rows8 (iblk m c 0 t)) (conv1 (iblk m c 1 t)) (rows9 (iblk m c 0 t)) (conv2 (iblk m c 1 t)) (ix2 r q)
      = short (A0 m c) (A1 m c) (slab t) r q := by
  rw [short_apply, rows7_apply, rows8_apply, rows9_apply, conv0_apply, conv1_apply, conv2_apply, read_conv, read_conv, read_conv, short, before, after]
  simp only [read_slab]

/-- The arguments are finite. -/
def Args : Prop :=
  (∀ i, IsReal (A0 m c i)) ∧ (∀ i, IsReal (A1 m c i)) ∧ (∀ i, IsReal (A2 m c i)) ∧ (∀ i, IsReal (A3 m c i)) ∧ (∀ i, IsReal (A4 m c i))
    ∧ (∀ i, IsReal (A5 m c i)) ∧ ∀ i, IsReal (A6 m c i)

variable (hA : Args m c)
include hA

theorem real_short (b : Fin 32) (r : Fin 256) (q : Fin 768) : IsReal (short (A0 m c) (A1 m c) b r q) := by
  obtain ⟨h0, h1, -⟩ := hA
  have hb : IsReal (before (A0 m c) b r q) := by
    unfold before
    split
    · exact isReal_zero
    · exact h0 _
  have ha : IsReal (after (A0 m c) b r q) := by
    unfold after
    split
    · exact h0 _
    · exact isReal_zero
  exact ((hb.mul (h1 _)).add ((h0 _).mul (h1 _))).add (ha.mul (h1 _))

/-- One element of the stored block. -/
theorem block_apply (t : Fin cfg0.N) (r q : Fin 256) :
    stored (iblk m c 0 t) (iblk m c 1 t) (iblk m c 2 t) (iblk m c 3 t) (iblk m c 4 t) (iblk m c 5 t) (iblk m c 6 t) (iblk m c 7 t) (iblk m c 8 t) (ix3 0 r q)
      = Cert.Reference9Ideal.Read.val_main_v89 (F := Ideal) (A0 m c) (A1 m c) (A2 m c) (A3 m c) (A4 m c) (A5 m c) (A6 m c) (ix3 (slab t) r q) := by
  have hs := real_short m c hA (slab t)
  obtain ⟨-, -, h2, h3, h4, h5, h6⟩ := hA
  refine (stored_apply _ _ _ _ _ _ _ _ _ _ _ _ _ r q).trans ?_
  rw [whole]
  simp only [x2_apply, x1_apply, v_apply, short_block, filter0_apply, filter1_apply, bias0_apply, bias1_apply, read_hr, read_hs, read_bias,
    read_fwd_hi, read_fwd_lo, read_inv_hi, read_inv_lo]
  have e1 : ∀ k : Fin 256, _ := fun k =>
    split_eq (f := fun w k => A5 m c (ix2 w k)) (g := fun w k => A5 m c (ix2 w k) - A5 m c (ix2 w k)) (i := fun k w => A6 m c (ix2 k w))
      (j := fun k w => A6 m c (ix2 k w) - A6 m c (ix2 k w)) (h := fun k => A2 m c (ix3 0 k q)) (s := fun k => A3 m c (ix3 0 k q)) (d := A4 m c (ix2 0 q))
      (z := fun j => short (A0 m c) (A1 m c) (slab t) j ⟨q.val, by omega⟩)
      (fun w k => h5 _) (fun w k => rfl) (fun k w => h6 _) (fun k w => rfl) (fun k => h2 _) (fun k => h3 _) (fun k => hs k _) k
  simp only [e1]
  refine congrArg _ (split_eq (f := fun w k => A5 m c (ix2 w k)) (i := fun k w => A6 m c (ix2 k w)) (fun w k => h5 _) (fun w k => rfl) (fun k w => h6 _) (fun k w => rfl) (fun k => h2 _) (fun k => h3 _) (fun k => (hs k _).mul ?_) r)
  exact real_longconv (f := fun w k => A5 m c (ix2 w k)) (i := fun k w => A6 m c (ix2 k w)) (fun w k => h5 _) (fun k w => h6 _) (fun k => h2 _) (fun k => h3 _) (h4 _) (fun k => hs k _) k

theorem arr : (dats m 0 c).arrAt 9 cfg0.N = Cert.Reference9Ideal.Read.val_main_v89 (F := Ideal) (A0 m c) (A1 m c) (A2 m c) (A3 m c) (A4 m c) (A5 m c) (A6 m c) := by
  refine (dats m 0 c).arrAt_eq_of_covers 9 _ (by decide +kernel) fun t hf y => ?_
  obtain ⟨o, r, q, rfl⟩ : ∃ (o : Fin 1) (r q : Fin 256), y = ix3 o r q := ⟨y 0, y 1, y 2, by funext a; fin_cases a <;> rfl⟩
  obtain rfl : o = 0 := Subsingleton.elim _ _
  have he : ((cfg0.win 9).blk t).view.emb (ix3 0 r q) = ix3 (slab t) r q := by
    funext a; fin_cases a <;> apply Fin.ext <;> blk_simp <;> simp [idx t]
  rw [he]
  blk_simp
  rw [after0_9, outsAt0, out_stored]
  exact block_apply m c hA t r q

end Cert.Kernel9Ideal.Hyena

end
-- ==== Proof.Hyena.lean ====
module

public import proofs.«01_k».proof.Defs
public import proofs.«01_k».proof.Proof.HyenaArr
public import proofs.«01_k».proof.Proof.Gen.Pre_finite_hyena
public import Idealize.ShloMosaic.Lib.Claim

/-! The Hyena mixer at the prompt: the kernel and its reference leave the same array. -/

@[expose] public section

noncomputable section

namespace Cert.Hyena

open Idealize.ShloMosaic Idealize.ShloMosaic.TcCoe Idealize.SL.Sem
open Cert.Finite

instance : Subsingleton (Cert.Pre_finite_hyena.S_).Idx := ⟨fun a b => funext fun i => i.elim0⟩

/-- The stated precondition: the arguments are finite. -/
theorem finite [Cert.Pre_finite_hyena.Facts] {a0 a1 a2 a3 a4 a5 a6}
    (h : Cert.Pre_finite_hyena.fn (F := Ideal) a0 a1 a2 a3 a4 a5 a6 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ ∀ i, IsReal (a6 i) := by
  have h := congrFun h fun i => i.elim0
  obtain ⟨h, h6⟩ := (andi_eq_one _ _).mp h
  obtain ⟨h, h5⟩ := (andi_eq_one _ _).mp h
  obtain ⟨h, h4⟩ := (andi_eq_one _ _).mp h
  obtain ⟨h, h3⟩ := (andi_eq_one _ _).mp h
  obtain ⟨h, h2⟩ := (andi_eq_one _ _).mp h
  obtain ⟨h0, h1⟩ := (andi_eq_one _ _).mp h
  exact ⟨fun i => isReal_of_cmp _ (Host.reduce_andi_all _ _ _ _ _ h0 i), fun i => isReal_of_cmp _ (Host.reduce_andi_all _ _ _ _ _ h1 i),
    fun i => isReal_of_cmp _ (Host.reduce_andi_all _ _ _ _ _ h2 i), fun i => isReal_of_cmp _ (Host.reduce_andi_all _ _ _ _ _ h3 i),
    fun i => isReal_of_cmp _ (Host.reduce_andi_all _ _ _ _ _ h4 i), fun i => isReal_of_cmp _ (Host.reduce_andi_all _ _ _ _ _ h5 i),
    fun i => isReal_of_cmp _ (Host.reduce_andi_all _ _ _ _ _ h6 i)⟩

theorem algebraic : Cert.algebraic_Kernel9Ideal_Reference9Ideal_pre_finite_hyena := by
  intro m g m' g' hpre hagree
  refine ⟨_, Cert.Kernel9Ideal.Value.run_blocks m g, ?_⟩
  refine (θ_run Cert.Reference9Ideal.defs _ _).mono (fun _ h c => ?_) (Cert.Reference9Ideal.Value.run (F := Ideal) m' g')
  obtain ⟨h0, h1, h2, h3, h4, h5, h6⟩ := hagree c
  obtain ⟨ha, hk⟩ := h c
  rw [Cert.Reference9Ideal.Read.val_main_v89_eq, h0, h1, h2, h3, h4, h5, h6] at ha
  exact ⟨ha.trans (Cert.Kernel9Ideal.Hyena.arr m c (finite (hpre c))).symm, hk⟩

end Cert.Hyena

end
-- ==== Proof.LongHyenaMath.lean ====
module

public import proofs.«01_k».proof.Proof.FilterMath

/-! The arithmetic of the Hyena mixer at the sample's length: a long convolution of a finite column by way of its transform. Split into two parts, the table
    and the column leave nothing over, so that the split transform is the plain one. -/

@[expose] public section

noncomputable section

namespace Cert.LongHyena

open Idealize.ShloMosaic Cert.Finite Cert.Filter

/-- The rows of the transform: the first half holds the real parts, the second the imaginary ones. -/
abbrev upper (k : Fin 1024) : Fin 2048 := ⟨k.val, by omega⟩
abbrev lower (k : Fin 1024) : Fin 2048 := ⟨1024 + k.val, by omega⟩

/-- The product of a column's transform with the filter's: the real part. -/
def re (k : Fin 1024) (a b h s : EReal) : EReal := a * h - Scalar.select (first k) 0 (b * s)

/-- The imaginary part. The first row holds two real ones instead. -/
def im (k : Fin 1024) (a b h s : EReal) : EReal := Scalar.select (first k) (b * s) (a * s + b * h)

/-- The long convolution of the column `z`. -/
def longconv (f : Fin 2048 → Fin 1024 → EReal) (i : Fin 1024 → Fin 2048 → EReal) (h s : Fin 1024 → EReal) (d : EReal)
    (z : Fin 1024 → EReal) (r : Fin 1024) : EReal :=
  ((∑ k, re k (∑ j, z j * f (upper k) j) (∑ j, z j * f (lower k) j) (h k) (s k) * i r (upper k))
    + ∑ k, im k (∑ j, z j * f (upper k) j) (∑ j, z j * f (lower k) j) (h k) (s k) * i r (lower k)) + d * z r

/-- The filter's part of a product, written out with a sign and two selections. -/
theorem re_eq (k : Fin 1024) (a b h s : EReal) : a * h + b * (-Scalar.select (first k) 0 s) = re k a b h s := by
  unfold re Scalar.select
  split
  · rw [neg_zero, mul_zero, sub_eq_add_neg, neg_zero]
  · rw [mul_neg, sub_eq_add_neg]

theorem im_eq (k : Fin 1024) (a b h s : EReal) : b * Scalar.select (first k) s h + a * Scalar.select (first k) 0 s = im k a b h s := by
  unfold im Scalar.select
  split
  · rw [mul_zero, add_zero]
  · rw [add_comm]

/-- Two columns of 1024, one after the other. -/
def stack (x y : Fin 1024 → EReal) (w : Fin 2048) : EReal := if h : w.val < 1024 then x ⟨w.val, h⟩ else y ⟨w.val - 1024, by omega⟩

/-- The same, the tables and the columns in two parts. -/
def split_longconv (f g : Fin 2048 → Fin 1024 → EReal) (i j : Fin 1024 → Fin 2048 → EReal) (h s : Fin 1024 → EReal) (d : EReal)
    (z : Fin 1024 → EReal) (r : Fin 1024) : EReal :=
  transform (i r) (j r)
    (stack (fun k => re k (transform (f (upper k)) (g (upper k)) z) (transform (f (lower k)) (g (lower k)) z) (h k) (s k))
      fun k => im k (transform (f (upper k)) (g (upper k)) z) (transform (f (lower k)) (g (lower k)) z) (h k) (s k)) + d * z r

theorem transform_plain {n : ℕ} {f g y : Fin n → EReal} (hf : ∀ k, IsReal (f k)) (hg : ∀ k, g k = f k - f k) (hy : ∀ k, IsReal (y k)) :
    transform f g y = ∑ k, y k * f k := by
  choose Y hY using hy
  rw [transform_eq hf hg hY]
  exact Finset.sum_congr rfl fun k _ => by rw [hY k, mul_comm]

theorem _root_.Cert.Finite.IsReal.sub {x y : EReal} : IsReal x → IsReal y → IsReal (x - y)
  | ⟨a, ha⟩, ⟨b, hb⟩ => ⟨a - b, by rw [ha, hb, EReal.coe_sub]⟩

theorem real_select {b : BitVec 1} {x y : EReal} (hx : IsReal x) (hy : IsReal y) : IsReal (Scalar.select b x y) := by
  unfold Scalar.select
  split
  · exact hx
  · exact hy

theorem real_re {k : Fin 1024} {a b h s : EReal} (ha : IsReal a) (hb : IsReal b) (hh : IsReal h) (hs : IsReal s) : IsReal (re k a b h s) :=
  (ha.mul hh).sub (real_select isReal_zero (hb.mul hs))

theorem real_im {k : Fin 1024} {a b h s : EReal} (ha : IsReal a) (hb : IsReal b) (hh : IsReal h) (hs : IsReal s) : IsReal (im k a b h s) :=
  real_select (hb.mul hs) ((ha.mul hs).add (hb.mul hh))

theorem stack_upper (x y : Fin 1024 → EReal) (k : Fin 1024) : stack x y (upper k) = x k := dif_pos k.isLt

theorem stack_lower (x y : Fin 1024 → EReal) (k : Fin 1024) : stack x y (lower k) = y k := by
  rw [stack, dif_neg (by simp)]
  simp

/-- A column whose halves are known. -/
theorem eq_stack {y : Fin 2048 → EReal} {a b : Fin 1024 → EReal} (ha : ∀ k, y (upper k) = a k) (hb : ∀ k, y (lower k) = b k) : y = stack a b := by
  funext w
  by_cases h : w.val < 1024
  · exact (ha ⟨w.val, h⟩).trans (stack_upper a b ⟨w.val, h⟩).symm
  · have e : lower ⟨w.val - 1024, by omega⟩ = w := Fin.ext (by simp; omega)
    rw [← e, hb, stack_lower]

theorem sum_stack (x y : Fin 1024 → EReal) (i : Fin 2048 → EReal) :
    ∑ w, stack x y w * i w = (∑ k, x k * i (upper k)) + ∑ k, y k * i (lower k) := by
  rw [show (∑ w : Fin 2048, stack x y w * i w) = ∑ w : Fin (1024 + 1024), stack x y w * i w from rfl, Fin.sum_univ_add]
  exact congrArg₂ (· + ·) (Finset.sum_congr rfl fun k _ => congrArg (· * i (upper k)) (stack_upper x y k))
    (Finset.sum_congr rfl fun k _ => congrArg (· * i (lower k)) (stack_lower x y k))

theorem sum_halves {y : Fin 2048 → EReal} {a b : Fin 1024 → EReal} (ha : ∀ k, y (upper k) = a k) (hb : ∀ k, y (lower k) = b k) (i : Fin 2048 → EReal) :
    ∑ w, y w * i w = (∑ k, a k * i (upper k)) + ∑ k, b k * i (lower k) := by
  rw [eq_stack ha hb, sum_stack]

theorem transform_stack (f g : Fin 2048 → EReal) (a b : Fin 1024 → EReal) :
    transform f g (stack a b)
      = ((∑ k, f (upper k) * a k) + ∑ k, f (lower k) * b k) + ((∑ k, g (upper k) * a k) + ∑ k, g (lower k) * b k)
        + ((∑ k, f (upper k) * (a k - a k)) + ∑ k, f (lower k) * (b k - b k)) := by
  have h (f : Fin 2048 → EReal) (a b : Fin 1024 → EReal) : ∑ w, f w * stack a b w = (∑ k, f (upper k) * a k) + ∑ k, f (lower k) * b k := by
    simp only [mul_comm (f _)]
    exact sum_stack a b f
  have e w : stack a b w - stack a b w = stack (fun k => a k - a k) (fun k => b k - b k) w := by
    unfold stack; split <;> rfl
  simp only [transform, e, h]

theorem real_stack {x y : Fin 1024 → EReal} (hx : ∀ k, IsReal (x k)) (hy : ∀ k, IsReal (y k)) (w : Fin 2048) : IsReal (stack x y w) := by
  unfold stack
  split
  · exact hx _
  · exact hy _

section
variable {f g : Fin 2048 → Fin 1024 → EReal} {i j : Fin 1024 → Fin 2048 → EReal} {h s : Fin 1024 → EReal} {d : EReal} {z : Fin 1024 → EReal}
  (hf : ∀ w k, IsReal (f w k)) (hg : ∀ w k, g w k = f w k - f w k) (hi : ∀ r w, IsReal (i r w)) (hj : ∀ r w, j r w = i r w - i r w)
  (hh : ∀ k, IsReal (h k)) (hs : ∀ k, IsReal (s k)) (hd : IsReal d) (hz : ∀ k, IsReal (z k))
include hf hi hh hs hz

include hd in
theorem real_longconv (r : Fin 1024) : IsReal (longconv f i h s d z r) := by
  have ht w : IsReal (∑ j, z j * f w j) := .sum fun k => (hz k).mul (hf w k)
  exact ((IsReal.sum fun k => (real_re (ht _) (ht _) (hh k) (hs k)).mul (hi _ _)).add
    (.sum fun k => (real_im (ht _) (ht _) (hh k) (hs k)).mul (hi _ _))).add (hd.mul (hz r))

include hg hj in
theorem split_eq (r : Fin 1024) : split_longconv f g i j h s d z r = longconv f i h s d z r := by
  have ht w : IsReal (∑ j, z j * f w j) := .sum fun k => (hz k).mul (hf w k)
  have e w : transform (f w) (g w) z = ∑ j, z j * f w j := transform_plain (hf w) (hg w) hz
  simp only [split_longconv, longconv, e]
  rw [transform_plain (hi r) (hj r) (real_stack (fun k => real_re (ht _) (ht _) (hh k) (hs k)) fun k => real_im (ht _) (ht _) (hh k) (hs k)), sum_stack]

end

end Cert.LongHyena

end
-- ==== Proof.LongHyenaPay.lean ====
module

public import proofs.«01_k».proof.Proof.Gen.Kernel10Ideal.Skeleton
public import proofs.«01_k».proof.Proof.LongHyenaMath
public import Idealize.ShloMosaic.Lib.Pointwise

/-! What the body of the Hyena mixer at the sample's length computes, element by element. -/

@[expose] public section

set_option maxRecDepth 16384

noncomputable section

namespace Cert.Kernel10Ideal.LongHyena

open Cert.Kernel10Ideal Cert.Kernel10Ideal.Gen Idealize.ShloMosaic Idealize.SL.Sem
open Cert.Filter Cert.LongHyena

theorem first_apply (r : Fin 1024) (q : Fin 256) : k0_pay6 (ix2 r q) = first r := by
  pointwise [k0_pay6, first]

section
variable (b u a : Vec Ideal S1024x768 .f32) (w0 w1 w2 : Vec Ideal S1x768 .f32)

/-- The short convolution: three rows, three weights. -/
theorem short_apply (r : Fin 1024) (q : Fin 768) :
    k0_pay5 (F := Ideal) b w0 u w1 a w2 (ix2 r q) = b (ix2 r q) * w0 (ix2 0 q) + u (ix2 r q) * w1 (ix2 0 q) + a (ix2 r q) * w2 (ix2 0 q) := by
  pointwise [k0_pay5]

theorem v_apply (r : Fin 1024) (q : Fin 256) :
    k0_pay7 (F := Ideal) b w0 u w1 a w2 (ix2 r q) = k0_pay5 (F := Ideal) b w0 u w1 a w2 (ix2 r ⟨q.val, by omega⟩) := by
  pointwise [k0_pay7]

theorem x1_apply (r : Fin 1024) (q : Fin 256) :
    k0_pay8 (F := Ideal) b w0 u w1 a w2 (ix2 r q) = k0_pay5 (F := Ideal) b w0 u w1 a w2 (ix2 r ⟨256 + q.val, by omega⟩) := by
  pointwise [k0_pay8]

theorem x2_apply (y : FVec Ideal S1024x768 .f32) (r : Fin 1024) (q : Fin 256) :
    k0_pay9 (F := Ideal) y (ix2 r q) = y (ix2 r ⟨512 + q.val, by omega⟩) := by
  pointwise [k0_pay9]

end

section
variable (z : FVec Ideal S1024x256 .f32) (f g : Vec Ideal S2048x1024 .bf16) (h s : Vec Ideal S1x1024x256 .f32)

theorem sides_upper (k : Fin 1024) (q : Fin 256) :
    k0_pay12 (F := Ideal) k0_pay6 z f g h s (ix2 (upper k) q)
      = re k (transform (fun j => f (ix2 (upper k) j)) (fun j => g (ix2 (upper k) j)) fun j => z (ix2 j q))
          (transform (fun j => f (ix2 (lower k) j)) (fun j => g (ix2 (lower k) j)) fun j => z (ix2 j q)) (h (ix3 0 k q)) (s (ix3 0 k q)) := by
  pointwise [k0_pay12, k0_pay6, re, first, transform]

theorem sides_lower (k : Fin 1024) (q : Fin 256) :
    k0_pay12 (F := Ideal) k0_pay6 z f g h s (ix2 (lower k) q)
      = im k (transform (fun j => f (ix2 (upper k) j)) (fun j => g (ix2 (upper k) j)) fun j => z (ix2 j q))
          (transform (fun j => f (ix2 (lower k) j)) (fun j => g (ix2 (lower k) j)) fun j => z (ix2 j q)) (h (ix3 0 k q)) (s (ix3 0 k q)) := by
  pointwise [k0_pay12, k0_pay6, im, first, transform]

/-- The column that the second transform takes. -/
theorem sides_column (q : Fin 256) :
    (fun w => k0_pay12 (F := Ideal) k0_pay6 z f g h s (ix2 w q))
      = stack (fun k => re k (transform (fun j => f (ix2 (upper k) j)) (fun j => g (ix2 (upper k) j)) fun j => z (ix2 j q))
          (transform (fun j => f (ix2 (lower k) j)) (fun j => g (ix2 (lower k) j)) fun j => z (ix2 j q)) (h (ix3 0 k q)) (s (ix3 0 k q)))
        fun k => im k (transform (fun j => f (ix2 (upper k) j)) (fun j => g (ix2 (upper k) j)) fun j => z (ix2 j q))
          (transform (fun j => f (ix2 (lower k) j)) (fun j => g (ix2 (lower k) j)) fun j => z (ix2 j q)) (h (ix3 0 k q)) (s (ix3 0 k q)) :=
  eq_stack (fun k => sides_upper z f g h s k q) fun k => sides_lower z f g h s k q

variable (x : FVec Ideal S1024x256 .f32) (i j : Vec Ideal S1024x2048 .bf16) (d : Vec Ideal S1x256 .f32)

/-- The first order, times the first gate. -/
def gated : FVec Ideal S1024x256 .f32 :=
  k0_pay16 (F := Ideal) z x (k0_pay10 i) (k0_pay11 j) (k0_pay13 k0_pay6 z f g h s) (k0_pay14 k0_pay6 z f g h s) (k0_pay15 k0_pay6 z f g h s i)
    (constant S1024x256 .f32 0x00000000#32) d

theorem gated_transform (r : Fin 1024) (q : Fin 256) :
    gated z f g h s x i j d (ix2 r q)
      = x (ix2 r q) * (transform (fun w => i (ix2 r w)) (fun w => j (ix2 r w)) (fun w => k0_pay12 (F := Ideal) k0_pay6 z f g h s (ix2 w q))
          + d (ix2 0 q) * z (ix2 r q)) := by
  pointwise [gated, k0_pay16, k0_pay15, k0_pay14, k0_pay13, k0_pay11, k0_pay10, transform]

theorem gated_apply (r : Fin 1024) (q : Fin 256) :
    gated z f g h s x i j d (ix2 r q)
      = x (ix2 r q) * split_longconv (fun w k => f (ix2 w k)) (fun w k => g (ix2 w k)) (fun k w => i (ix2 k w)) (fun k w => j (ix2 k w))
          (fun k => h (ix3 0 k q)) (fun k => s (ix3 0 k q)) (d (ix2 0 q)) (fun k => z (ix2 k q)) r := by
  rw [gated_transform, sides_column, split_longconv]

/-- The second order's two sides. -/
abbrev sides (h' s' : Vec Ideal S1x1024x256 .f32) : FVec Ideal S1024x256 .f32 × FVec Ideal S1024x256 .f32 :=
  (k0_pay22 (F := Ideal) k0_pay6 z x (k0_pay10 i) (k0_pay11 j) (k0_pay13 k0_pay6 z f g h s) (k0_pay14 k0_pay6 z f g h s)
      (k0_pay15 k0_pay6 z f g h s i) (constant S1024x256 .f32 0x00000000#32) d f g h' s',
    k0_pay23 (F := Ideal) k0_pay6 z x (k0_pay10 i) (k0_pay11 j) (k0_pay13 k0_pay6 z f g h s) (k0_pay14 k0_pay6 z f g h s)
      (k0_pay15 k0_pay6 z f g h s i) (constant S1024x256 .f32 0x00000000#32) d f g h' s')

variable (h' s' : Vec Ideal S1x1024x256 .f32) (d' : Vec Ideal S1x256 .f32) (y : FVec Ideal S1024x256 .f32)

theorem second_column (w : Fin 2048) (q : Fin 256) :
    k0_pay17 (F := Ideal) z x (k0_pay10 i) (k0_pay11 j) (k0_pay13 k0_pay6 z f g h s) (k0_pay14 k0_pay6 z f g h s)
      (k0_pay15 k0_pay6 z f g h s i) (constant S1024x256 .f32 0x00000000#32) d f g (ix2 w q)
      = transform (fun k => f (ix2 w k)) (fun k => g (ix2 w k)) fun k => gated z f g h s x i j d (ix2 k q) := by
  pointwise [k0_pay17, transform, gated]

theorem second_re (k : Fin 1024) (q : Fin 256) :
    (sides z f g h s x i j d h' s').1 (ix2 k q)
      = re k (transform (fun j => f (ix2 (upper k) j)) (fun j => g (ix2 (upper k) j)) fun k => gated z f g h s x i j d (ix2 k q))
          (transform (fun j => f (ix2 (lower k) j)) (fun j => g (ix2 (lower k) j)) fun k => gated z f g h s x i j d (ix2 k q))
          (h' (ix3 0 k q)) (s' (ix3 0 k q)) := by
  rw [← second_column, ← second_column]
  pointwise [k0_pay22, k0_pay18, k0_pay19, k0_pay20, k0_pay21, k0_pay6, re, first]

theorem second_im (k : Fin 1024) (q : Fin 256) :
    (sides z f g h s x i j d h' s').2 (ix2 k q)
      = im k (transform (fun j => f (ix2 (upper k) j)) (fun j => g (ix2 (upper k) j)) fun k => gated z f g h s x i j d (ix2 k q))
          (transform (fun j => f (ix2 (lower k) j)) (fun j => g (ix2 (lower k) j)) fun k => gated z f g h s x i j d (ix2 k q))
          (h' (ix3 0 k q)) (s' (ix3 0 k q)) := by
  rw [← second_column, ← second_column]
  pointwise [k0_pay23, k0_pay18, k0_pay19, k0_pay20, k0_pay21, k0_pay6, im, first]

/-- The last transform takes the two sides, one after the other. -/
theorem stored_transform (A B : FVec Ideal S1024x256 .f32) (r : Fin 1024) (q : Fin 256) :
    k0_pay1 (F := Ideal) y x A B (k0_pay24 i) j d' (ix3 0 r q)
      = y (ix2 r q) * (transform (fun w => i (ix2 r w)) (fun w => j (ix2 r w)) (stack (fun k => A (ix2 k q)) fun k => B (ix2 k q))
          + d' (ix2 0 q) * x (ix2 r q)) := by
  rw [transform_stack]
  pointwise [k0_pay1, k0_pay24]

theorem stored_gated (r : Fin 1024) (q : Fin 256) :
    k0_pay1 (F := Ideal) y (gated z f g h s x i j d) (sides z f g h s x i j d h' s').1 (sides z f g h s x i j d h' s').2 (k0_pay24 i) j d' (ix3 0 r q)
      = y (ix2 r q) * split_longconv (fun w k => f (ix2 w k)) (fun w k => g (ix2 w k)) (fun k w => i (ix2 k w)) (fun k w => j (ix2 k w))
          (fun k => h' (ix3 0 k q)) (fun k => s' (ix3 0 k q)) (d' (ix2 0 q)) (fun k => gated z f g h s x i j d (ix2 k q)) r := by
  rw [stored_transform, split_longconv, funext fun k => second_re z f g h s x i j d h' s' k q, funext fun k => second_im z f g h s x i j d h' s' k q]

/-- What the body stores. -/
theorem stored_apply (r : Fin 1024) (q : Fin 256) :
    k0_pay1 (F := Ideal) y (gated z f g h s x i j d) (sides z f g h s x i j d h' s').1 (sides z f g h s x i j d h' s').2 (k0_pay24 i) j d' (ix3 0 r q)
      = y (ix2 r q) * split_longconv (fun w k => f (ix2 w k)) (fun w k => g (ix2 w k)) (fun k w => i (ix2 k w)) (fun k w => j (ix2 k w))
          (fun k => h' (ix3 0 k q)) (fun k => s' (ix3 0 k q)) (d' (ix2 0 q))
          (fun k => x (ix2 k q) * split_longconv (fun w k => f (ix2 w k)) (fun w k => g (ix2 w k)) (fun k w => i (ix2 k w)) (fun k w => j (ix2 k w))
            (fun k => h (ix3 0 k q)) (fun k => s (ix3 0 k q)) (d (ix2 0 q)) (fun k => z (ix2 k q)) k) r := by
  rw [stored_gated, funext fun k => gated_apply z f g h s x i j d k q]

end

end Cert.Kernel10Ideal.LongHyena

end
-- ==== Proof.LongHyenaPad.lean ====
module

public import proofs.«01_k».proof.Proof.Gen.Kernel10Ideal.Value
public import proofs.«01_k».proof.Proof.LongHyenaPay
public import Idealize.ShloMosaic.Lib.Pipeline.ValueKit

/-! The sequence of the Hyena mixer at the sample's length, laid between rows of zeros: read one row earlier it gives the row before, one row later the row
    after. And the loads of one order's filters. -/

@[expose] public section

set_option maxRecDepth 16384

noncomputable section

namespace Cert.Kernel10Ideal.LongHyena

open Cert.Kernel10Ideal Cert.Kernel10Ideal.Gen Idealize.ShloMosaic Idealize.ShloMosaic.TcCoe Idealize.SL.Sem

/-- Where the sequence lies, and the rows before and after it. -/
abbrev middle : Rect S1040x768 := Rect.unit (s := S1040x768) ![8, 0] S1024x768.size inb_S1040x768_S1024x768_8_0
abbrev bottom : Rect S1040x768 := Rect.unit (s := S1040x768) ![1032, 0] S8x768.size inb_S1040x768_S8x768_1032_0
abbrev top : Rect S1040x768 := Rect.unit (s := S1040x768) ![0, 0] S8x768.size inb_S1040x768_S8x768_0_0

/-- The sequence between its rows of zeros. -/
def padded (x : Vec Ideal S1x1024x768 .f32) : Vec Ideal S1040x768 .f32 :=
  View.canon (Val := Elt Ideal) (s := S1040x768) (e := .f32) [⟨middle, k0_pay4 (F := Ideal) x⟩, ⟨bottom, k0_pay3 (F := Ideal)⟩, ⟨top, k0_pay2 (F := Ideal)⟩]

theorem middle_emb (r : Fin 1024) (q : Fin 768) : middle.emb (ix2 r q) = ix2 ⟨8 + r.val, by omega⟩ q := by
  funext a; fin_cases a <;> apply Fin.ext <;> simp [Rect.emb_apply]

theorem bottom_emb (r : Fin 8) (q : Fin 768) : bottom.emb (ix2 r q) = ix2 ⟨1032 + r.val, by omega⟩ q := by
  funext a; fin_cases a <;> apply Fin.ext <;> simp [Rect.emb_apply]

theorem top_emb (r : Fin 8) (q : Fin 768) : top.emb (ix2 r q) = ix2 ⟨r.val, by omega⟩ q := by
  funext a; fin_cases a <;> apply Fin.ext <;> simp [Rect.emb_apply]

theorem pay4_apply (x : Vec Ideal S1x1024x768 .f32) (r : Fin 1024) (q : Fin 768) : k0_pay4 (F := Ideal) x (ix2 r q) = x (ix3 0 r q) := by
  pointwise [k0_pay4]

theorem pay3_apply (r : Fin 8) (q : Fin 768) : k0_pay3 (F := Ideal) (ix2 r q) = 0 := by
  pointwise [k0_pay3]

theorem pay2_apply (r : Fin 8) (q : Fin 768) : k0_pay2 (F := Ideal) (ix2 r q) = 0 := by
  pointwise [k0_pay2]

theorem padded_middle (x : Vec Ideal S1x1024x768 .f32) (r : Fin 1024) (q : Fin 768) : padded x (ix2 ⟨8 + r.val, by omega⟩ q) = x (ix3 0 r q) := by
  rw [← middle_emb, ← pay4_apply x r q]
  exact View.canon_cons_emb (Val := Elt Ideal) (e := .f32) middle (k0_pay4 (F := Ideal) x) _ (ix2 r q)

theorem padded_bottom (x : Vec Ideal S1x1024x768 .f32) (r : Fin 8) (q : Fin 768) : padded x (ix2 ⟨1032 + r.val, by omega⟩ q) = 0 := by
  have h : (ix2 ⟨1032 + r.val, by omega⟩ q : S1040x768.Idx) ∉ middle.set := fun h => by
    have h1 : 1032 + r.val < 8 + 1024 := (Rect.mem_set_unit.mp h 0).2
    omega
  refine (View.canon_cons_of_not_mem (Val := Elt Ideal) (⟨middle, k0_pay4 (F := Ideal) x⟩ : View.Piece (Elt Ideal) S1040x768 .f32) _ h).trans ?_
  rw [← bottom_emb, ← pay3_apply r q]
  exact View.canon_cons_emb (Val := Elt Ideal) (e := .f32) bottom (k0_pay3 (F := Ideal)) _ (ix2 r q)

theorem padded_top (x : Vec Ideal S1x1024x768 .f32) (r : Fin 8) (q : Fin 768) : padded x (ix2 ⟨r.val, by omega⟩ q) = 0 := by
  have h : (ix2 ⟨r.val, by omega⟩ q : S1040x768.Idx) ∉ middle.set := fun h => by
    have h1 : 8 ≤ r.val := (Rect.mem_set_unit.mp h 0).1
    omega
  have h' : (ix2 ⟨r.val, by omega⟩ q : S1040x768.Idx) ∉ bottom.set := fun h => by
    have h1 : 1032 ≤ r.val := (Rect.mem_set_unit.mp h 0).1
    omega
  refine (View.canon_cons_of_not_mem (Val := Elt Ideal) (⟨middle, k0_pay4 (F := Ideal) x⟩ : View.Piece (Elt Ideal) S1040x768 .f32) _ h).trans ?_
  refine (View.canon_cons_of_not_mem (Val := Elt Ideal) (⟨bottom, k0_pay3 (F := Ideal)⟩ : View.Piece (Elt Ideal) S1040x768 .f32) _ h').trans ?_
  rw [← top_emb, ← pay2_apply r q]
  exact View.canon_cons_emb (Val := Elt Ideal) (e := .f32) top (k0_pay2 (F := Ideal)) _ (ix2 r q)

/-- The rows read from an offset on. -/
def rows7 (x : Vec Ideal S1x1024x768 .f32) : Vec Ideal S1024x768 .f32 :=
  fun j => padded x ((Rect.unit (s := S1040x768) ![7, 0] S1024x768.size inb_S1040x768_S1024x768_7_0).toLoadRect.idx j)
def rows8 (x : Vec Ideal S1x1024x768 .f32) : Vec Ideal S1024x768 .f32 := fun j => padded x (middle.toLoadRect.idx j)
def rows9 (x : Vec Ideal S1x1024x768 .f32) : Vec Ideal S1024x768 .f32 :=
  fun j => padded x ((Rect.unit (s := S1040x768) ![9, 0] S1024x768.size inb_S1040x768_S1024x768_9_0).toLoadRect.idx j)

theorem idx7 (r : Fin 1024) (q : Fin 768) :
    (Rect.unit (s := S1040x768) ![7, 0] S1024x768.size inb_S1040x768_S1024x768_7_0).toLoadRect.idx (ix2 r q) = ix2 ⟨7 + r.val, by omega⟩ q := by
  funext a; fin_cases a <;> apply Fin.ext <;> simp

theorem idx8 (r : Fin 1024) (q : Fin 768) : middle.toLoadRect.idx (ix2 r q) = ix2 ⟨8 + r.val, by omega⟩ q := by
  funext a; fin_cases a <;> apply Fin.ext <;> simp

theorem idx9 (r : Fin 1024) (q : Fin 768) :
    (Rect.unit (s := S1040x768) ![9, 0] S1024x768.size inb_S1040x768_S1024x768_9_0).toLoadRect.idx (ix2 r q) = ix2 ⟨9 + r.val, by omega⟩ q := by
  funext a; fin_cases a <;> apply Fin.ext <;> simp

theorem rows8_apply (x : Vec Ideal S1x1024x768 .f32) (r : Fin 1024) (q : Fin 768) : rows8 x (ix2 r q) = x (ix3 0 r q) := by
  rw [rows8, idx8, padded_middle]

theorem rows7_apply (x : Vec Ideal S1x1024x768 .f32) (r : Fin 1024) (q : Fin 768) :
    rows7 x (ix2 r q) = if h : r.val < 1 then 0 else x (ix3 0 ⟨r.val - 1, by omega⟩ q) := by
  rw [rows7, idx7]
  split
  · rw [show (⟨7 + r.val, by omega⟩ : Fin 1040) = ⟨(⟨7 + r.val, by omega⟩ : Fin 8).val, by omega⟩ from rfl, padded_top]
  · rw [show (⟨7 + r.val, by omega⟩ : Fin 1040) = ⟨8 + (⟨r.val - 1, by omega⟩ : Fin 1024).val, by dsimp; omega⟩ from Fin.ext (by dsimp; omega), padded_middle]

theorem rows9_apply (x : Vec Ideal S1x1024x768 .f32) (r : Fin 1024) (q : Fin 768) :
    rows9 x (ix2 r q) = if h : r.val < 1023 then x (ix3 0 ⟨1 + r.val, by omega⟩ q) else 0 := by
  rw [rows9, idx9]
  split
  · rw [show (⟨9 + r.val, by omega⟩ : Fin 1040) = ⟨8 + (⟨1 + r.val, by omega⟩ : Fin 1024).val, by dsimp; omega⟩ from Fin.ext (by dsimp; omega), padded_middle]
  · rw [show (⟨9 + r.val, by omega⟩ : Fin 1040) = ⟨1032 + (⟨r.val - 1023, by omega⟩ : Fin 8).val, by dsimp; omega⟩ from Fin.ext (by dsimp; omega), padded_bottom]

/-! The loads of one row of the weights, of one order's filters and of its bias. -/

variable (w : Vec Ideal S3x768 .f32) (h : Vec Ideal S2x1024x256 .f32) (d : Vec Ideal S2x256 .f32)

def conv0 : Vec Ideal S1x768 .f32 := View.ld w (Rect.unit (s := S3x768) ![0, 0] S1x768.size inb_S3x768_S1x768_0_0)
def conv1 : Vec Ideal S1x768 .f32 := View.ld w (Rect.unit (s := S3x768) ![1, 0] S1x768.size inb_S3x768_S1x768_1_0)
def conv2 : Vec Ideal S1x768 .f32 := View.ld w (Rect.unit (s := S3x768) ![2, 0] S1x768.size inb_S3x768_S1x768_2_0)
def filter0 : Vec Ideal S1x1024x256 .f32 := View.ld h (Rect.unit (s := S2x1024x256) ![0, 0, 0] S1x1024x256.size inb_S2x1024x256_S1x1024x256_0_0_0)
def filter1 : Vec Ideal S1x1024x256 .f32 := View.ld h (Rect.unit (s := S2x1024x256) ![1, 0, 0] S1x1024x256.size inb_S2x1024x256_S1x1024x256_1_0_0)
def bias0 : Vec Ideal S1x256 .f32 := View.ld d (Rect.unit (s := S2x256) ![0, 0] S1x256.size inb_S2x256_S1x256_0_0)
def bias1 : Vec Ideal S1x256 .f32 := View.ld d (Rect.unit (s := S2x256) ![1, 0] S1x256.size inb_S2x256_S1x256_1_0)

theorem conv0_apply (q : Fin 768) : conv0 w (ix2 0 q) = w (ix2 0 q) :=
  congrArg w (by funext a; fin_cases a <;> apply Fin.ext <;> simp [Rect.emb_apply])
theorem conv1_apply (q : Fin 768) : conv1 w (ix2 0 q) = w (ix2 1 q) :=
  congrArg w (by funext a; fin_cases a <;> apply Fin.ext <;> simp [Rect.emb_apply])
theorem conv2_apply (q : Fin 768) : conv2 w (ix2 0 q) = w (ix2 2 q) :=
  congrArg w (by funext a; fin_cases a <;> apply Fin.ext <;> simp [Rect.emb_apply])
theorem filter0_apply (k : Fin 1024) (q : Fin 256) : filter0 h (ix3 0 k q) = h (ix3 0 k q) :=
  congrArg h (by funext a; fin_cases a <;> apply Fin.ext <;> simp [Rect.emb_apply])
theorem filter1_apply (k : Fin 1024) (q : Fin 256) : filter1 h (ix3 0 k q) = h (ix3 1 k q) :=
  congrArg h (by funext a; fin_cases a <;> apply Fin.ext <;> simp [Rect.emb_apply])
theorem bias0_apply (q : Fin 256) : bias0 d (ix2 0 q) = d (ix2 0 q) :=
  congrArg d (by funext a; fin_cases a <;> apply Fin.ext <;> simp [Rect.emb_apply])
theorem bias1_apply (q : Fin 256) : bias1 d (ix2 0 q) = d (ix2 1 q) :=
  congrArg d (by funext a; fin_cases a <;> apply Fin.ext <;> simp [Rect.emb_apply])

end Cert.Kernel10Ideal.LongHyena

end
-- ==== Proof.LongHyenaReads.lean ====
module

public import proofs.«01_k».proof.Proof.Gen.Kernel10Ideal.Value
public import Idealize.ShloMosaic.Lib.Pipeline.ValueKit
public import Idealize.ShloMosaic.Lib.Pointwise

/-! What the blocks of the Hyena mixer at the sample's length hold: one sequence at a time, the weights and the filters whole, each table in two parts. -/

@[expose] public section

set_option maxRecDepth 16384

noncomputable section

namespace Cert.Kernel10Ideal.LongHyena

open Cert.Kernel10Ideal Cert.Kernel10Ideal.Gen Idealize.ShloMosaic Idealize.ShloMosaic.TcCoe Idealize.SL.Sem

variable (m : (ℓ : Loc nD τ sig) → Buf (Elt Ideal) ℓ) (c : Dev nD)

/-- The block indices of the windows. -/
theorem idx : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 3) = t.val ∧ win0_9.index t (1 : Fin 3) = 0 ∧ win0_9.index t (2 : Fin 3) = 0) := by
  decide +kernel

/-- The seven arguments. -/
abbrev A0 : Vec Ideal S8x1024x768 .f32 := m ((c : Thread nD τ).loc main_arg0)
abbrev A1 : Vec Ideal S3x768 .f32 := m ((c : Thread nD τ).loc main_arg1)
abbrev A2 : Vec Ideal S2x1024x256 .f32 := m ((c : Thread nD τ).loc main_arg2)
abbrev A3 : Vec Ideal S2x1024x256 .f32 := m ((c : Thread nD τ).loc main_arg3)
abbrev A4 : Vec Ideal S2x256 .f32 := m ((c : Thread nD τ).loc main_arg4)
abbrev A5 : Vec Ideal S2048x1024 .f32 := m ((c : Thread nD τ).loc main_arg5)
abbrev A6 : Vec Ideal S1024x2048 .f32 := m ((c : Thread nD τ).loc main_arg6)

/-- The sequence of a step. -/
abbrev slab (t : Fin cfg0.N) : Fin 8 := ⟨t.val, t.isLt⟩

theorem read_slab (t : Fin cfg0.N) (r : Fin 1024) (q : Fin 768) : iblk m c 0 t (ix3 0 r q) = A0 m c (ix3 (slab t) r q) := by
  blk_ext [iblk, V, idx t]

theorem read_conv (t : Fin cfg0.N) (k : Fin 3) (q : Fin 768) : iblk m c 1 t (ix2 k q) = A1 m c (ix2 k q) := by
  blk_ext [iblk, V, idx t]

theorem read_hr (t : Fin cfg0.N) (o : Fin 2) (k : Fin 1024) (q : Fin 256) : iblk m c 2 t (ix3 o k q) = A2 m c (ix3 o k q) := by
  blk_ext [iblk, V, idx t]

theorem read_hs (t : Fin cfg0.N) (o : Fin 2) (k : Fin 1024) (q : Fin 256) : iblk m c 3 t (ix3 o k q) = A3 m c (ix3 o k q) := by
  blk_ext [iblk, V, idx t]

theorem read_bias (t : Fin cfg0.N) (o : Fin 2) (q : Fin 256) : iblk m c 4 t (ix2 o q) = A4 m c (ix2 o q) := by
  blk_ext [iblk, V, idx t]

theorem read_fwd_hi (t : Fin cfg0.N) (w : Fin 2048) (k : Fin 1024) : iblk m c 5 t (ix2 w k) = A5 m c (ix2 w k) := by
  blk_ext! [iblk, V, idx t]

theorem read_fwd_lo (t : Fin cfg0.N) (w : Fin 2048) (k : Fin 1024) : iblk m c 6 t (ix2 w k) = A5 m c (ix2 w k) - A5 m c (ix2 w k) := by
  blk_ext! [iblk, V, idx t]

theorem read_inv_hi (t : Fin cfg0.N) (k : Fin 1024) (w : Fin 2048) : iblk m c 7 t (ix2 k w) = A6 m c (ix2 k w) := by
  blk_ext! [iblk, V, idx t]

theorem read_inv_lo (t : Fin cfg0.N) (k : Fin 1024) (w : Fin 2048) : iblk m c 8 t (ix2 k w) = A6 m c (ix2 k w) - A6 m c (ix2 k w) := by
  blk_ext! [iblk, V, idx t]

end Cert.Kernel10Ideal.LongHyena

end
-- ==== Proof.LongHyenaBlock.lean ====
module

public import proofs.«01_k».proof.Proof.LongHyenaPad
public import proofs.«01_k».proof.Proof.LongHyenaReads
public import Idealize.ShloMosaic.Lib.Pointwise

/-! The block one step of the Hyena mixer at the sample's length stores, as a value of the blocks it reads. -/

@[expose] public section

set_option maxRecDepth 16384

noncomputable section

namespace Cert.Kernel10Ideal.LongHyena

open Cert.Kernel10Ideal Cert.Kernel10Ideal.Gen Idealize.ShloMosaic Idealize.ShloMosaic.TcCoe Idealize.SL.Sem
open Idealize.ShloMosaic.Tactic

theorem hz3 : (![0, 0, 0] : Fin 3 → ℕ) = fun _ => 0 := by funext a; fin_cases a <;> rfl
theorem hz2 : (![0, 0] : Fin 2 → ℕ) = fun _ => 0 := by funext a; fin_cases a <;> rfl

section
variable (x0 : Vec Ideal S1x1024x768 .f32) (x1 : Vec Ideal S3x768 .f32) (x2 : Vec Ideal S2x1024x256 .f32) (x3 : Vec Ideal S2x1024x256 .f32) (x4 : Vec Ideal S2x256 .f32) (x5 : Vec Ideal S2048x1024 .bf16) (x6 : Vec Ideal S2048x1024 .bf16) (x7 : Vec Ideal S1024x2048 .bf16) (x8 : Vec Ideal S1024x2048 .bf16)

/-- The three parts of the short convolution. -/
abbrev partV : Vec Ideal S1024x256 .f32 := k0_pay7 (F := Ideal) (rows7 x0) (conv0 x1) (rows8 x0) (conv1 x1) (rows9 x0) (conv2 x1)
abbrev partX : Vec Ideal S1024x256 .f32 := k0_pay8 (F := Ideal) (rows7 x0) (conv0 x1) (rows8 x0) (conv1 x1) (rows9 x0) (conv2 x1)
abbrev partY : Vec Ideal S1024x256 .f32 := k0_pay9 (F := Ideal) (k0_pay5 (F := Ideal) (rows7 x0) (conv0 x1) (rows8 x0) (conv1 x1) (rows9 x0) (conv2 x1))

/-- What the step stores. -/
abbrev stored : Vec Ideal S1x1024x256 .bf16 :=
  k0_pay1 (F := Ideal) (partY x0 x1) (gated (partV x0 x1) x5 x6 (filter0 x2) (filter0 x3) (partX x0 x1) x7 x8 (bias0 x4))
    (sides (partV x0 x1) x5 x6 (filter0 x2) (filter0 x3) (partX x0 x1) x7 x8 (bias0 x4) (filter1 x2) (filter1 x3)).1
    (sides (partV x0 x1) x5 x6 (filter0 x2) (filter0 x3) (partX x0 x1) x7 x8 (bias0 x4) (filter1 x2) (filter1 x3)).2
    (k0_pay24 (F := Ideal) x7) x8 (bias1 x4)

variable (c : Dev nD) (i : grid0.Coords) (arg1 : Memref sig .tc .vmem S1x1024x768 .f32) (harg1 : arg1.IsWhole) (arg2 : Memref sig .tc .vmem S3x768 .f32) (harg2 : arg2.IsWhole) (arg3 : Memref sig .tc .vmem S2x1024x256 .f32) (harg3 : arg3.IsWhole) (arg4 : Memref sig .tc .vmem S2x1024x256 .f32) (harg4 : arg4.IsWhole) (arg5 : Memref sig .tc .vmem S2x256 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S1x1024x256 .bf16) (harg10 : arg10.IsWhole) (arg11 : Memref sig .tc .vmem S1040x768 .f32) (harg11 : arg11.IsWhole)

theorem out_stored :
    out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8
      = stored x0 x1 x2 x3 x4 x5 x6 x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7 x8)]
  unfold kernelRun0_A
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread,
    View.ld_unit_zero (S := S1x1024x768) hz3, View.ld_unit_zero (S := S2048x1024) hz2, View.ld_unit_zero (S := S1024x2048) hz2, View.readCov_eq_canon']
  rfl

end

end Cert.Kernel10Ideal.LongHyena

end
-- ==== Proof.LongHyenaRef.lean ====
module

public import proofs.«01_k».proof.Proof.Gen.Reference10Ideal.Read
public import proofs.«01_k».proof.Proof.LongHyenaMath
public import Idealize.ShloMosaic.Lib.Pointwise

/-! The reference of the Hyena mixer at the sample's length, element by element. -/

@[expose] public section

set_option maxRecDepth 16384

noncomputable section

namespace Cert.Reference10Ideal.LongHyena

open Cert.Reference10Ideal Cert.Reference10Ideal.Gen Cert.Reference10Ideal.Read Idealize.ShloMosaic Idealize.SL.Sem
open Cert.Filter Cert.LongHyena

variable (x0 : Vec Ideal S8x1024x768 .f32) (x1 : Vec Ideal S3x768 .f32) (x2 x3 : Vec Ideal S2x1024x256 .f32) (x4 : Vec Ideal S2x256 .f32)
  (x5 : Vec Ideal S2048x1024 .f32) (x6 : Vec Ideal S1024x2048 .f32)

/-- The row before, and the row after; zeros beyond the ends. -/
def before (b : Fin 8) (r : Fin 1024) (q : Fin 768) : EReal := if h : r.val < 1 then 0 else x0 (ix3 b ⟨r.val - 1, by omega⟩ q)
def after (b : Fin 8) (r : Fin 1024) (q : Fin 768) : EReal := if h : r.val < 1023 then x0 (ix3 b ⟨1 + r.val, by omega⟩ q) else 0

/-- The short convolution. -/
def short (b : Fin 8) (r : Fin 1024) (q : Fin 768) : EReal :=
  before x0 b r q * x1 (ix2 0 q) + x0 (ix3 b r q) * x1 (ix2 1 q) + after x0 b r q * x1 (ix2 2 q)

theorem before_apply (b : Fin 8) (r : Fin 1024) (q : Fin 768) : val_main_v2 (F := Ideal) x0 (ix3 b r q) = before x0 b r q := by
  pointwise [val_main_v2, val_main_v1, val_main_v0, val_main_cst, before]

theorem after_apply (b : Fin 8) (r : Fin 1024) (q : Fin 768) : val_main_v4 (F := Ideal) x0 (ix3 b r q) = after x0 b r q := by
  pointwise [val_main_v4, val_main_v3, val_main_v0, val_main_cst, after]

theorem short_apply (b : Fin 8) (r : Fin 1024) (q : Fin 768) : val_main_v21 (F := Ideal) x0 x1 (ix3 b r q) = short x0 x1 b r q := by
  rw [short, ← before_apply, ← after_apply]
  pointwise [val_main_v21, val_main_v20, val_main_v19, val_main_v18, val_main_v17, val_main_v16, val_main_v15, val_main_v14, val_main_v13, val_main_v12,
    val_main_v11, val_main_v10, val_main_v9, val_main_v8, val_main_v7, val_main_v6, val_main_v5]

theorem v_apply (b : Fin 8) (r : Fin 1024) (q : Fin 256) : val_main_v22 (F := Ideal) x0 x1 (ix3 b r q) = short x0 x1 b r ⟨q.val, by omega⟩ := by
  rw [← short_apply]
  pointwise [val_main_v22]

theorem x1_apply (b : Fin 8) (r : Fin 1024) (q : Fin 256) : val_main_v23 (F := Ideal) x0 x1 (ix3 b r q) = short x0 x1 b r ⟨256 + q.val, by omega⟩ := by
  rw [← short_apply]
  pointwise [val_main_v23]

theorem x2_apply (b : Fin 8) (r : Fin 1024) (q : Fin 256) : val_main_v24 (F := Ideal) x0 x1 (ix3 b r q) = short x0 x1 b r ⟨512 + q.val, by omega⟩ := by
  rw [← short_apply]
  pointwise [val_main_v24]

theorem product_upper (b : Fin 8) (k : Fin 1024) (q : Fin 256) :
    val_main_v50 (F := Ideal) x0 x1 x2 x3 x5 (ix3 b (upper k) q)
      = re k (∑ j : Fin 1024, val_main_v22 (F := Ideal) x0 x1 (ix3 b j q) * x5 (ix2 (upper k) j))
          (∑ j : Fin 1024, val_main_v22 (F := Ideal) x0 x1 (ix3 b j q) * x5 (ix2 (lower k) j)) (x2 (ix3 0 k q)) (x3 (ix3 0 k q)) := by
  rw [← re_eq]
  pointwise [val_main_v50, val_main_v49, val_main_v48, val_main_v47, val_main_v46, val_main_v45, val_main_v44, val_main_v43, val_main_v42, val_main_v41,
    val_main_v40, val_main_v39, val_main_v38, val_main_v37, val_main_v36, val_main_v35, val_main_v34, val_main_v33, val_main_v32, val_main_v31,
    val_main_v30, val_main_v29, val_main_v28, val_main_v27, val_main_v26, val_main_v25, val_main_c, val_main_cst_0, val_main_call0_v0,
    val_main_call0_v1, first]
  simp only [id]
  pointwise []

theorem product_lower (b : Fin 8) (k : Fin 1024) (q : Fin 256) :
    val_main_v50 (F := Ideal) x0 x1 x2 x3 x5 (ix3 b (lower k) q)
      = im k (∑ j : Fin 1024, val_main_v22 (F := Ideal) x0 x1 (ix3 b j q) * x5 (ix2 (upper k) j))
          (∑ j : Fin 1024, val_main_v22 (F := Ideal) x0 x1 (ix3 b j q) * x5 (ix2 (lower k) j)) (x2 (ix3 0 k q)) (x3 (ix3 0 k q)) := by
  rw [← im_eq]
  pointwise [val_main_v50, val_main_v49, val_main_v48, val_main_v47, val_main_v46, val_main_v45, val_main_v44, val_main_v43, val_main_v42, val_main_v41,
    val_main_v40, val_main_v39, val_main_v38, val_main_v37, val_main_v36, val_main_v35, val_main_v34, val_main_v33, val_main_v32, val_main_v31,
    val_main_v30, val_main_v29, val_main_v28, val_main_v27, val_main_v26, val_main_v25, val_main_c, val_main_cst_0, val_main_call0_v0,
    val_main_call0_v1, first]
  simp only [id]
  pointwise []

theorem first_order (b : Fin 8) (r : Fin 1024) (q : Fin 256) :
    val_main_v58 (F := Ideal) x0 x1 x2 x3 x4 x5 x6 (ix3 b r q)
      = (∑ w : Fin 2048, val_main_v50 (F := Ideal) x0 x1 x2 x3 x5 (ix3 b w q) * x6 (ix2 r w))
        + x4 (ix2 0 q) * val_main_v22 (F := Ideal) x0 x1 (ix3 b r q) := by
  pointwise [val_main_v58, val_main_v57, val_main_v56, val_main_v55, val_main_v54, val_main_v53, val_main_v52, val_main_v51]

theorem conv_apply (b : Fin 8) (r : Fin 1024) (q : Fin 256) :
    val_main_v58 (F := Ideal) x0 x1 x2 x3 x4 x5 x6 (ix3 b r q)
      = longconv (fun w k => x5 (ix2 w k)) (fun k w => x6 (ix2 k w)) (fun k => x2 (ix3 0 k q)) (fun k => x3 (ix3 0 k q)) (x4 (ix2 0 q))
          (fun k => val_main_v22 (F := Ideal) x0 x1 (ix3 b k q)) r := by
  rw [first_order, longconv]
  exact congrArg (· + _) (sum_halves (y := fun w => val_main_v50 (F := Ideal) x0 x1 x2 x3 x5 (ix3 b w q)) (product_upper x0 x1 x2 x3 x5 b · q)
    (product_lower x0 x1 x2 x3 x5 b · q) fun w => x6 (ix2 r w))

theorem product1_upper (b : Fin 8) (k : Fin 1024) (q : Fin 256) :
    val_main_v79 (F := Ideal) x0 x1 x2 x3 x4 x5 x6 (ix3 b (upper k) q)
      = re k (∑ j : Fin 1024, val_main_v59 (F := Ideal) x0 x1 x2 x3 x4 x5 x6 (ix3 b j q) * x5 (ix2 (upper k) j))
          (∑ j : Fin 1024, val_main_v59 (F := Ideal) x0 x1 x2 x3 x4 x5 x6 (ix3 b j q) * x5 (ix2 (lower k) j)) (x2 (ix3 1 k q)) (x3 (ix3 1 k q)) := by
  rw [← re_eq]
  pointwise [val_main_v79, val_main_v78, val_main_v77, val_main_v76, val_main_v75, val_main_v74, val_main_v73, val_main_v72, val_main_v71, val_main_v70,
    val_main_v69, val_main_v68, val_main_v67, val_main_v66, val_main_v65, val_main_v64, val_main_v63, val_main_v62, val_main_v61, val_main_v60,
    val_main_v30, val_main_v29, val_main_v28, val_main_v27, val_main_v26, val_main_v25, val_main_c, val_main_cst_1, val_main_call2_v0,
    val_main_call2_v1, first]
  simp only [id]
  pointwise []

theorem product1_lower (b : Fin 8) (k : Fin 1024) (q : Fin 256) :
    val_main_v79 (F := Ideal) x0 x1 x2 x3 x4 x5 x6 (ix3 b (lower k) q)
      = im k (∑ j : Fin 1024, val_main_v59 (F := Ideal) x0 x1 x2 x3 x4 x5 x6 (ix3 b j q) * x5 (ix2 (upper k) j))
          (∑ j : Fin 1024, val_main_v59 (F := Ideal) x0 x1 x2 x3 x4 x5 x6 (ix3 b j q) * x5 (ix2 (lower k) j)) (x2 (ix3 1 k q)) (x3 (ix3 1 k q)) := by
  rw [← im_eq]
  pointwise [val_main_v79, val_main_v78, val_main_v77, val_main_v76, val_main_v75, val_main_v74, val_main_v73, val_main_v72, val_main_v71, val_main_v70,
    val_main_v69, val_main_v68, val_main_v67, val_main_v66, val_main_v65, val_main_v64, val_main_v63, val_main_v62, val_main_v61, val_main_v60,
    val_main_v30, val_main_v29, val_main_v28, val_main_v27, val_main_v26, val_main_v25, val_main_c, val_main_cst_1, val_main_call2_v0,
    val_main_call2_v1, first]
  simp only [id]
  pointwise []

theorem second_order (b : Fin 8) (r : Fin 1024) (q : Fin 256) :
    val_main_v87 (F := Ideal) x0 x1 x2 x3 x4 x5 x6 (ix3 b r q)
      = (∑ w : Fin 2048, val_main_v79 (F := Ideal) x0 x1 x2 x3 x4 x5 x6 (ix3 b w q) * x6 (ix2 r w))
        + x4 (ix2 1 q) * val_main_v59 (F := Ideal) x0 x1 x2 x3 x4 x5 x6 (ix3 b r q) := by
  pointwise [val_main_v87, val_main_v86, val_main_v85, val_main_v84, val_main_v83, val_main_v82, val_main_v81, val_main_v80]

theorem conv1_apply (b : Fin 8) (r : Fin 1024) (q : Fin 256) :
    val_main_v87 (F := Ideal) x0 x1 x2 x3 x4 x5 x6 (ix3 b r q)
      = longconv (fun w k => x5 (ix2 w k)) (fun k w => x6 (ix2 k w)) (fun k => x2 (ix3 1 k q)) (fun k => x3 (ix3 1 k q)) (x4 (ix2 1 q))
          (fun k => val_main_v59 (F := Ideal) x0 x1 x2 x3 x4 x5 x6 (ix3 b k q)) r := by
  rw [second_order, longconv]
  exact congrArg (· + _) (sum_halves (y := fun w => val_main_v79 (F := Ideal) x0 x1 x2 x3 x4 x5 x6 (ix3 b w q)) (product1_upper x0 x1 x2 x3 x4 x5 x6 b · q)
    (product1_lower x0 x1 x2 x3 x4 x5 x6 b · q) fun w => x6 (ix2 r w))

theorem gated_apply (b : Fin 8) (r : Fin 1024) (q : Fin 256) :
    val_main_v59 (F := Ideal) x0 x1 x2 x3 x4 x5 x6 (ix3 b r q)
      = val_main_v23 (F := Ideal) x0 x1 (ix3 b r q) * val_main_v58 (F := Ideal) x0 x1 x2 x3 x4 x5 x6 (ix3 b r q) := by
  pointwise [val_main_v59]

theorem result_apply (b : Fin 8) (r : Fin 1024) (q : Fin 256) :
    val_main_v89 (F := Ideal) x0 x1 x2 x3 x4 x5 x6 (ix3 b r q)
      = val_main_v24 (F := Ideal) x0 x1 (ix3 b r q) * val_main_v87 (F := Ideal) x0 x1 x2 x3 x4 x5 x6 (ix3 b r q) := by
  pointwise [val_main_v89, val_main_v88]

/-- The reference, whole. -/
theorem whole (b : Fin 8) (r : Fin 1024) (q : Fin 256) :
    val_main_v89 (F := Ideal) x0 x1 x2 x3 x4 x5 x6 (ix3 b r q)
      = short x0 x1 b r ⟨512 + q.val, by omega⟩
        * longconv (fun w k => x5 (ix2 w k)) (fun k w => x6 (ix2 k w)) (fun k => x2 (ix3 1 k q)) (fun k => x3 (ix3 1 k q)) (x4 (ix2 1 q))
            (fun k => short x0 x1 b k ⟨256 + q.val, by omega⟩
              * longconv (fun w k => x5 (ix2 w k)) (fun k w => x6 (ix2 k w)) (fun k => x2 (ix3 0 k q)) (fun k => x3 (ix3 0 k q)) (x4 (ix2 0 q))
                  (fun j => short x0 x1 b j ⟨q.val, by omega⟩) k) r := by
  rw [result_apply, conv1_apply, x2_apply]
  simp only [gated_apply, conv_apply, x1_apply, v_apply]

end Cert.Reference10Ideal.LongHyena

end
-- ==== Proof.LongHyenaArr.lean ====
module

public import proofs.«01_k».proof.Proof.LongHyenaBlock
public import proofs.«01_k».proof.Proof.LongHyenaRef

/-! The array the Hyena mixer at the sample's length leaves is the reference's. Its arguments are finite, so the low parts of the tables are zero. -/

@[expose] public section

set_option maxRecDepth 16384

noncomputable section

namespace Cert.Kernel10Ideal.LongHyena

open Cert.Kernel10Ideal Cert.Kernel10Ideal.Gen Idealize.ShloMosaic Idealize.ShloMosaic.TcCoe Idealize.SL.Sem
open Cert.Finite Cert.LongHyena
open Cert.Reference10Ideal.LongHyena (before after short whole)

variable (m : (ℓ : Loc nD τ sig) → Buf (Elt Ideal) ℓ) (c : Dev nD)

/-- The short convolution of one sequence. -/
theorem short_block (t : Fin cfg0.N) (r : Fin 1024) (q : Fin 768) :
    k0_pay5 (F := Ideal) (rows7 (iblk m c 0 t)) (conv0 (iblk m c 1 t)) (rows8 (iblk m c 0 t)) (conv1 (iblk m c 1 t)) (rows9 (iblk m c 0 t)) (conv2 (iblk m c 1 t)) (ix2 r q)
      = short (A0 m c) (A1 m c) (slab t) r q := by
  rw [short_apply, rows7_apply, rows8_apply, rows9_apply, conv0_apply, conv1_apply, conv2_apply, read_conv, read_conv, read_conv, short, before, after]
  simp only [read_slab]

/-- The arguments are finite. -/
def Args : Prop :=
  (∀ i, IsReal (A0 m c i)) ∧ (∀ i, IsReal (A1 m c i)) ∧ (∀ i, IsReal (A2 m c i)) ∧ (∀ i, IsReal (A3 m c i)) ∧ (∀ i, IsReal (A4 m c i))
    ∧ (∀ i, IsReal (A5 m c i)) ∧ ∀ i, IsReal (A6 m c i)

variable (hA : Args m c)
include hA

theorem real_short (b : Fin 8) (r : Fin 1024) (q : Fin 768) : IsReal (short (A0 m c) (A1 m c) b r q) := by
  obtain ⟨h0, h1, -⟩ := hA
  have hb : IsReal (before (A0 m c) b r q) := by
    unfold before
    split
    · exact isReal_zero
    · exact h0 _
  have ha : IsReal (after (A0 m c) b r q) := by
    unfold after
    split
    · exact h0 _
    · exact isReal_zero
  exact ((hb.mul (h1 _)).add ((h0 _).mul (h1 _))).add (ha.mul (h1 _))

/-- One element of the stored block. -/
theorem block_apply (t : Fin cfg0.N) (r : Fin 1024) (q : Fin 256) :
    stored (iblk m c 0 t) (iblk m c 1 t) (iblk m c 2 t) (iblk m c 3 t) (iblk m c 4 t) (iblk m c 5 t) (iblk m c 6 t) (iblk m c 7 t) (iblk m c 8 t) (ix3 0 r q)
      = Cert.Reference10Ideal.Read.val_main_v89 (F := Ideal) (A0 m c) (A1 m c) (A2 m c) (A3 m c) (A4 m c) (A5 m c) (A6 m c) (ix3 (slab t) r q) := by
  have hs := real_short m c hA (slab t)
  obtain ⟨-, -, h2, h3, h4, h5, h6⟩ := hA
  refine (stored_apply _ _ _ _ _ _ _ _ _ _ _ _ _ r q).trans ?_
  rw [whole]
  simp only [x2_apply, x1_apply, v_apply, short_block, filter0_apply, filter1_apply, bias0_apply, bias1_apply, read_hr, read_hs, read_bias,
    read_fwd_hi, read_fwd_lo, read_inv_hi, read_inv_lo]
  have e1 : ∀ k : Fin 1024, _ := fun k =>
    split_eq (f := fun w k => A5 m c (ix2 w k)) (g := fun w k => A5 m c (ix2 w k) - A5 m c (ix2 w k)) (i := fun k w => A6 m c (ix2 k w))
      (j := fun k w => A6 m c (ix2 k w) - A6 m c (ix2 k w)) (h := fun k => A2 m c (ix3 0 k q)) (s := fun k => A3 m c (ix3 0 k q)) (d := A4 m c (ix2 0 q))
      (z := fun j => short (A0 m c) (A1 m c) (slab t) j ⟨q.val, by omega⟩)
      (fun w k => h5 _) (fun w k => rfl) (fun k w => h6 _) (fun k w => rfl) (fun k => h2 _) (fun k => h3 _) (fun k => hs k _) k
  simp only [e1]
  refine congrArg _ (split_eq (f := fun w k => A5 m c (ix2 w k)) (i := fun k w => A6 m c (ix2 k w)) (fun w k => h5 _) (fun w k => rfl) (fun k w => h6 _) (fun k w => rfl) (fun k => h2 _) (fun k => h3 _) (fun k => (hs k _).mul ?_) r)
  exact real_longconv (f := fun w k => A5 m c (ix2 w k)) (i := fun k w => A6 m c (ix2 k w)) (fun w k => h5 _) (fun k w => h6 _) (fun k => h2 _) (fun k => h3 _) (h4 _) (fun k => hs k _) k

theorem arr : (dats m 0 c).arrAt 9 cfg0.N = Cert.Reference10Ideal.Read.val_main_v89 (F := Ideal) (A0 m c) (A1 m c) (A2 m c) (A3 m c) (A4 m c) (A5 m c) (A6 m c) := by
  refine (dats m 0 c).arrAt_eq_of_covers 9 _ (by decide +kernel) fun t hf y => ?_
  obtain ⟨o, r, q, rfl⟩ : ∃ (o : Fin 1) (r : Fin 1024) (q : Fin 256), y = ix3 o r q := ⟨y 0, y 1, y 2, by funext a; fin_cases a <;> rfl⟩
  obtain rfl : o = 0 := Subsingleton.elim _ _
  have he : ((cfg0.win 9).blk t).view.emb (ix3 0 r q) = ix3 (slab t) r q := by
    funext a; fin_cases a <;> apply Fin.ext <;> blk_simp <;> simp [idx t]
  rw [he]
  blk_simp
  rw [after0_9, outsAt0, out_stored]
  exact block_apply m c hA t r q

end Cert.Kernel10Ideal.LongHyena

end
-- ==== Proof.LongHyena.lean ====
module

public import proofs.«01_k».proof.Defs
public import proofs.«01_k».proof.Proof.LongHyenaArr
public import proofs.«01_k».proof.Proof.Gen.Pre_finite_sample_hyena
public import Idealize.ShloMosaic.Lib.Claim

/-! The Hyena mixer at the sample: the kernel and its reference leave the same array. -/

@[expose] public section

noncomputable section

namespace Cert.LongHyena

open Idealize.ShloMosaic Idealize.ShloMosaic.TcCoe Idealize.SL.Sem
open Cert.Finite

instance : Subsingleton (Cert.Pre_finite_sample_hyena.S_).Idx := ⟨fun a b => funext fun i => i.elim0⟩

/-- The stated precondition: the arguments are finite. -/
theorem finite [Cert.Pre_finite_sample_hyena.Facts] {a0 a1 a2 a3 a4 a5 a6}
    (h : Cert.Pre_finite_sample_hyena.fn (F := Ideal) a0 a1 a2 a3 a4 a5 a6 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ ∀ i, IsReal (a6 i) := by
  have h := congrFun h fun i => i.elim0
  obtain ⟨h, h6⟩ := (andi_eq_one _ _).mp h
  obtain ⟨h, h5⟩ := (andi_eq_one _ _).mp h
  obtain ⟨h, h4⟩ := (andi_eq_one _ _).mp h
  obtain ⟨h, h3⟩ := (andi_eq_one _ _).mp h
  obtain ⟨h, h2⟩ := (andi_eq_one _ _).mp h
  obtain ⟨h0, h1⟩ := (andi_eq_one _ _).mp h
  exact ⟨fun i => isReal_of_cmp _ (Host.reduce_andi_all _ _ _ _ _ h0 i), fun i => isReal_of_cmp _ (Host.reduce_andi_all _ _ _ _ _ h1 i),
    fun i => isReal_of_cmp _ (Host.reduce_andi_all _ _ _ _ _ h2 i), fun i => isReal_of_cmp _ (Host.reduce_andi_all _ _ _ _ _ h3 i),
    fun i => isReal_of_cmp _ (Host.reduce_andi_all _ _ _ _ _ h4 i), fun i => isReal_of_cmp _ (Host.reduce_andi_all _ _ _ _ _ h5 i),
    fun i => isReal_of_cmp _ (Host.reduce_andi_all _ _ _ _ _ h6 i)⟩

theorem algebraic : Cert.algebraic_Kernel10Ideal_Reference10Ideal_pre_finite_sample_hyena := by
  intro m g m' g' hpre hagree
  refine ⟨_, Cert.Kernel10Ideal.Value.run_blocks m g, ?_⟩
  refine (θ_run Cert.Reference10Ideal.defs _ _).mono (fun _ h c => ?_) (Cert.Reference10Ideal.Value.run (F := Ideal) m' g')
  obtain ⟨h0, h1, h2, h3, h4, h5, h6⟩ := hagree c
  obtain ⟨ha, hk⟩ := h c
  rw [Cert.Reference10Ideal.Read.val_main_v89_eq, h0, h1, h2, h3, h4, h5, h6] at ha
  exact ⟨ha.trans (Cert.Kernel10Ideal.LongHyena.arr m c (finite (hpre c))).symm, hk⟩

end Cert.LongHyena

end
-- ==== Proof.lean ====
/- The certificate, assembled: every program's frame, that each ideal program is its kernel over the extended reals, and that
   kernel and reference leave the same arrays. -/
module

public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.ReferenceIdeal.Read
public import proofs.«01_k».proof.Proof.Gen.Reference2Ideal.Read
public import proofs.«01_k».proof.Proof.Gen.Reference3Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4Ideal.Value
public import proofs.«01_k».proof.Proof.Gen.Reference4Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5Ideal.Value
public import proofs.«01_k».proof.Proof.Gen.Reference5Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Pre_finite_gates
public import proofs.«01_k».proof.Proof.Gen.Pre_finite_prompt_gates
public import proofs.«01_k».proof.Proof.Gen.Pre_finite_out
public import proofs.«01_k».proof.Proof.Gen.Kernel6Ideal.Value
public import proofs.«01_k».proof.Proof.Gen.Reference6Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Pre_finite_prompt_out
public import proofs.«01_k».proof.Proof.Gen.Kernel7Ideal.Value
public import proofs.«01_k».proof.Proof.Gen.Reference7Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Pre_finite_mod
public import proofs.«01_k».proof.Proof.Gen.Kernel8Ideal.Value
public import proofs.«01_k».proof.Proof.Gen.Reference8Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Pre_finite_table
public import proofs.«01_k».proof.Proof.Gen.Kernel9Ideal.Value
public import proofs.«01_k».proof.Proof.Gen.Reference9Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Pre_finite_hyena
public import proofs.«01_k».proof.Proof.Gen.Kernel10Ideal.Value
public import proofs.«01_k».proof.Proof.Gen.Reference10Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Pre_finite_sample_hyena
public import proofs.«01_k».proof.Proof.RefFrames
public import proofs.«01_k».proof.Proof.Moe
public import proofs.«01_k».proof.Proof.In
public import proofs.«01_k».proof.Proof.Out
public import proofs.«01_k».proof.Proof.PromptMoe
public import proofs.«01_k».proof.Proof.PromptIn
public import proofs.«01_k».proof.Proof.PromptOut
public import proofs.«01_k».proof.Proof.Mod
public import proofs.«01_k».proof.Proof.Filter
public import proofs.«01_k».proof.Proof.Hyena
public import proofs.«01_k».proof.Proof.LongHyena
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Pre_finite_gates.Gen.facts, Cert.Pre_finite_out.Gen.facts, Cert.Pre_finite_prompt_gates.Gen.facts,
    Cert.Pre_finite_prompt_out.Gen.facts, Cert.Pre_finite_mod.Gen.facts, Cert.Pre_finite_table.Gen.facts, Cert.Pre_finite_hyena.Gen.facts,
    Cert.Pre_finite_sample_hyena.Gen.facts,
    fun m ρ _ => Cert.Kernel.Gen.frame m ρ,
    fun m ρ _ => Cert.KernelIdeal.Gen.frame m ρ,
    fun m ρ _ => Cert.KernelIdeal.Gen.frame m ρ,
    RefFrames.experts,
    fun m ρ _ => RefFrames.experts m ρ trivial,
    fun m ρ _ => Cert.Kernel2.Gen.frame m ρ,
    fun m ρ _ => Cert.Kernel2Ideal.Gen.frame m ρ,
    fun m ρ _ => Cert.Kernel2Ideal.Gen.frame m ρ,
    RefFrames.routing,
    fun m ρ _ => RefFrames.routing m ρ trivial,
    fun m ρ _ => Cert.Kernel3.Gen.frame m ρ,
    fun m ρ _ => Cert.Kernel3Ideal.Gen.frame m ρ,
    RefFrames.projection,
    fun m ρ _ => Cert.Kernel4.Gen.frame m ρ,
    fun m ρ _ => Cert.Kernel4Ideal.Gen.frame m ρ,
    fun m ρ _ => Cert.Kernel4Ideal.Gen.frame m ρ,
    RefFrames.prompt_experts,
    fun m ρ _ => RefFrames.prompt_experts m ρ trivial,
    fun m ρ _ => Cert.Kernel5.Gen.frame m ρ,
    fun m ρ _ => Cert.Kernel5Ideal.Gen.frame m ρ,
    RefFrames.prompt_projection,
    fun m ρ _ => Cert.Kernel6.Gen.frame m ρ,
    fun m ρ _ => Cert.Kernel6Ideal.Gen.frame m ρ,
    fun m ρ _ => Cert.Kernel6Ideal.Gen.frame m ρ,
    RefFrames.prompt_routing,
    fun m ρ _ => RefFrames.prompt_routing m ρ trivial,
    fun m ρ _ => Cert.Kernel7.Gen.frame m ρ,
    fun m ρ _ => Cert.Kernel7Ideal.Gen.frame m ρ,
    fun m ρ _ => Cert.Kernel7Ideal.Gen.frame m ρ,
    RefFrames.modulation,
    fun m ρ _ => RefFrames.modulation m ρ trivial,
    fun m ρ _ => Cert.Kernel8.Gen.frame m ρ,
    fun m ρ _ => Cert.Kernel8Ideal.Gen.frame m ρ,
    fun m ρ _ => Cert.Kernel8Ideal.Gen.frame m ρ,
    RefFrames.filter,
    fun m ρ _ => RefFrames.filter m ρ trivial,
    fun m ρ _ => Cert.Kernel9.Gen.frame m ρ,
    fun m ρ _ => Cert.Kernel9Ideal.Gen.frame m ρ,
    fun m ρ _ => Cert.Kernel9Ideal.Gen.frame m ρ,
    RefFrames.hyena,
    fun m ρ _ => RefFrames.hyena m ρ trivial,
    fun m ρ _ => Cert.Kernel10.Gen.frame m ρ,
    fun m ρ _ => Cert.Kernel10Ideal.Gen.frame m ρ,
    fun m ρ _ => Cert.Kernel10Ideal.Gen.frame m ρ,
    RefFrames.long_hyena,
    fun m ρ _ => RefFrames.long_hyena m ρ trivial,
    trivial, Cert.Moe.algebraic, trivial, Cert.Out.algebraic, trivial, Cert.In.algebraic,
    trivial, Cert.PromptMoe.algebraic, trivial, Cert.PromptIn.algebraic, trivial, Cert.PromptOut.algebraic,
    trivial, Cert.Mod.algebraic, trivial, Cert.Filter.algebraic, trivial, Cert.Hyena.algebraic,
    trivial, Cert.LongHyena.algebraic⟩

end Cert.Proof

end
